-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_arguments [hPre_finite_arguments : Cert.Pre_finite_arguments.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 = (fun _ => 1#1)
    ∧ (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_arguments [hPre_finite_arguments : Cert.Pre_finite_arguments.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.1 = (fun _ => 1#1)
    ∧ (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_chip_number : Cert.Pre_chip_number.Facts] (m : (ℓ : Loc Cert.Kernel7.nD Cert.Kernel7.τ Cert.Kernel7.sig) → Buf (Elt Bits) ℓ) : Prop :=
  ∀ c : Dev Cert.Kernel7.nD,
    (Cert.Pre_chip_number.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4))) = (fun _ => 1#1)

def Pre_Kernel7Ideal [hPre_chip_number : Cert.Pre_chip_number.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_chip_number.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_chip_number [hPre_chip_number : Cert.Pre_chip_number.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_chip_number.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 [hPre_chip_number8 : Cert.Pre_chip_number8.Facts] (m : (ℓ : Loc Cert.Kernel8.nD Cert.Kernel8.τ Cert.Kernel8.sig) → Buf (Elt Bits) ℓ) : Prop :=
  ∀ c : Dev Cert.Kernel8.nD,
    (Cert.Pre_chip_number8.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_chip_number8 : Cert.Pre_chip_number8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_chip_number8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_chip_number8 [hPre_chip_number8 : Cert.Pre_chip_number8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_chip_number8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_arguments [hKernel2Ideal : Cert.Kernel2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_arguments m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_arguments [hReference2Ideal : Cert.Reference2Ideal.Facts] [hPre_finite_arguments : Cert.Pre_finite_arguments.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_arguments m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29)
      ∧ r.2.mem ((c.tc : Thread Cert.Kernel6.nD Cert.Kernel6.τ).loc Cert.Kernel6.main_arg30) = m ((c.tc : Thread Cert.Kernel6.nD Cert.Kernel6.τ).loc Cert.Kernel6.main_arg30)
      ∧ r.2.mem ((c.tc : Thread Cert.Kernel6.nD Cert.Kernel6.τ).loc Cert.Kernel6.main_arg31) = m ((c.tc : Thread Cert.Kernel6.nD Cert.Kernel6.τ).loc Cert.Kernel6.main_arg31))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31))
      ∧ r.2.sem = fun _ => 0)

def quiescent_Kernel7 [hKernel7 : Cert.Kernel7.Facts] [hPre_chip_number : Cert.Pre_chip_number.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] [hPre_chip_number : Cert.Pre_chip_number.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_chip_number [hReference7Ideal : Cert.Reference7Ideal.Facts] [hPre_chip_number : Cert.Pre_chip_number.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_chip_number m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] [hPre_chip_number8 : Cert.Pre_chip_number8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_chip_number8 : Cert.Pre_chip_number8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_chip_number8 [hReference8Ideal : Cert.Reference8Ideal.Facts] [hPre_chip_number8 : Cert.Pre_chip_number8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_chip_number8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_arguments [hKernel2Ideal : Cert.Kernel2Ideal.Facts] [hReference2Ideal : Cert.Reference2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_arguments m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v6_0)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v10)) (v4 : (c : Dev Cert.Kernel2Ideal.nD) → Buf (Elt Ideal) ((c.tc : Thread Cert.Kernel2Ideal.nD Cert.Kernel2Ideal.τ).loc Cert.Kernel2Ideal.main_v6_2)) (v5 : (c : Dev Cert.Kernel2Ideal.nD) → Buf (Elt Ideal) ((c.tc : Thread Cert.Kernel2Ideal.nD Cert.Kernel2Ideal.τ).loc Cert.Kernel2Ideal.main_v7)) (v6 : (c : Dev Cert.Kernel2Ideal.nD) → Buf (Elt Ideal) ((c.tc : Thread Cert.Kernel2Ideal.nD Cert.Kernel2Ideal.τ).loc Cert.Kernel2Ideal.main_v8)) (v7 : (c : Dev Cert.Kernel2Ideal.nD) → Buf (Elt Ideal) ((c.tc : Thread Cert.Kernel2Ideal.nD Cert.Kernel2Ideal.τ).loc Cert.Kernel2Ideal.main_v3)) (v8 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v6_0) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_v6_2) = v4 c
          ∧ r.2.mem ((c.tc : Thread Cert.Kernel2Ideal.nD Cert.Kernel2Ideal.τ).loc Cert.Kernel2Ideal.main_v7) = v5 c
          ∧ r.2.mem ((c.tc : Thread Cert.Kernel2Ideal.nD Cert.Kernel2Ideal.τ).loc Cert.Kernel2Ideal.main_v8) = v6 c
          ∧ r.2.mem ((c.tc : Thread Cert.Kernel2Ideal.nD Cert.Kernel2Ideal.τ).loc Cert.Kernel2Ideal.main_v3) = v7 c
          ∧ r.2.mem ((c.tc : Thread Cert.Kernel2Ideal.nD Cert.Kernel2Ideal.τ).loc Cert.Kernel2Ideal.main_v2_3) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v117) = v0 c
          ∧ r.2.mem ((c.tc : Thread Cert.Reference2Ideal.nD Cert.Reference2Ideal.τ).loc Cert.Reference2Ideal.main_v113) = v1 c
          ∧ r.2.mem ((c.tc : Thread Cert.Reference2Ideal.nD Cert.Reference2Ideal.τ).loc Cert.Reference2Ideal.main_v116) = v2 c
          ∧ r.2.mem ((c.tc : Thread Cert.Reference2Ideal.nD Cert.Reference2Ideal.τ).loc Cert.Reference2Ideal.main_v115) = v3 c
          ∧ r.2.mem ((c.tc : Thread Cert.Reference2Ideal.nD Cert.Reference2Ideal.τ).loc Cert.Reference2Ideal.main_v96) = v4 c
          ∧ r.2.mem ((c.tc : Thread Cert.Reference2Ideal.nD Cert.Reference2Ideal.τ).loc Cert.Reference2Ideal.main_v93) = v5 c
          ∧ r.2.mem ((c.tc : Thread Cert.Reference2Ideal.nD Cert.Reference2Ideal.τ).loc Cert.Reference2Ideal.main_v87) = v6 c
          ∧ r.2.mem ((c.tc : Thread Cert.Reference2Ideal.nD Cert.Reference2Ideal.τ).loc Cert.Reference2Ideal.main_v80) = v7 c
          ∧ r.2.mem ((c.tc : Thread Cert.Reference2Ideal.nD Cert.Reference2Ideal.τ).loc Cert.Reference2Ideal.main_v62) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v3_0)) (v2 : (c : Dev Cert.Kernel3Ideal.nD) → Buf (Elt Ideal) ((c.tc : Thread Cert.Kernel3Ideal.nD Cert.Kernel3Ideal.τ).loc Cert.Kernel3Ideal.main_v3_1)) (v3 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v3_0) = v1 c
          ∧ r.2.mem ((c.tc : Thread Cert.Kernel3Ideal.nD Cert.Kernel3Ideal.τ).loc Cert.Kernel3Ideal.main_v3_1) = v2 c
          ∧ r.2.mem ((c.tc : Thread Cert.Kernel3Ideal.nD Cert.Kernel3Ideal.τ).loc Cert.Kernel3Ideal.main_v2) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v3)) (v3 : (c : Dev Cert.Kernel4Ideal.nD) → Buf (Elt Ideal) ((c.tc : Thread Cert.Kernel4Ideal.nD Cert.Kernel4Ideal.τ).loc Cert.Kernel4Ideal.main_v4_0)) (v4 : (c : Dev Cert.Kernel4Ideal.nD) → Buf (Elt Ideal) ((c.tc : Thread Cert.Kernel4Ideal.nD Cert.Kernel4Ideal.τ).loc Cert.Kernel4Ideal.main_v10)) (v5 : (c : Dev Cert.Kernel4Ideal.nD) → Buf (Elt Ideal) ((c.tc : Thread Cert.Kernel4Ideal.nD Cert.Kernel4Ideal.τ).loc Cert.Kernel4Ideal.main_v11)) (v6 : (c : Dev Cert.Kernel4Ideal.nD) → Buf (Elt Ideal) ((c.tc : Thread Cert.Kernel4Ideal.nD Cert.Kernel4Ideal.τ).loc Cert.Kernel4Ideal.main_v4_2)) (v7 : (c : Dev Cert.Kernel4Ideal.nD) → Buf (Elt Ideal) ((c.tc : Thread Cert.Kernel4Ideal.nD Cert.Kernel4Ideal.τ).loc Cert.Kernel4Ideal.main_v5)) (v8 : (c : Dev Cert.Kernel4Ideal.nD) → Buf (Elt Ideal) ((c.tc : Thread Cert.Kernel4Ideal.nD Cert.Kernel4Ideal.τ).loc Cert.Kernel4Ideal.main_v9)) (v9 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v3) = v2 c
          ∧ r.2.mem ((c.tc : Thread Cert.Kernel4Ideal.nD Cert.Kernel4Ideal.τ).loc Cert.Kernel4Ideal.main_v4_0) = v3 c
          ∧ r.2.mem ((c.tc : Thread Cert.Kernel4Ideal.nD Cert.Kernel4Ideal.τ).loc Cert.Kernel4Ideal.main_v10) = v4 c
          ∧ r.2.mem ((c.tc : Thread Cert.Kernel4Ideal.nD Cert.Kernel4Ideal.τ).loc Cert.Kernel4Ideal.main_v11) = v5 c
          ∧ r.2.mem ((c.tc : Thread Cert.Kernel4Ideal.nD Cert.Kernel4Ideal.τ).loc Cert.Kernel4Ideal.main_v4_2) = v6 c
          ∧ r.2.mem ((c.tc : Thread Cert.Kernel4Ideal.nD Cert.Kernel4Ideal.τ).loc Cert.Kernel4Ideal.main_v5) = v7 c
          ∧ r.2.mem ((c.tc : Thread Cert.Kernel4Ideal.nD Cert.Kernel4Ideal.τ).loc Cert.Kernel4Ideal.main_v9) = v8 c
          ∧ r.2.mem ((c.tc : Thread Cert.Kernel4Ideal.nD Cert.Kernel4Ideal.τ).loc Cert.Kernel4Ideal.main_v7) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v64) = v3 c
          ∧ r.2.mem ((c.tc : Thread Cert.Reference4Ideal.nD Cert.Reference4Ideal.τ).loc Cert.Reference4Ideal.main_v68) = v4 c
          ∧ r.2.mem ((c.tc : Thread Cert.Reference4Ideal.nD Cert.Reference4Ideal.τ).loc Cert.Reference4Ideal.main_v67) = v5 c
          ∧ r.2.mem ((c.tc : Thread Cert.Reference4Ideal.nD Cert.Reference4Ideal.τ).loc Cert.Reference4Ideal.main_v47) = v6 c
          ∧ r.2.mem ((c.tc : Thread Cert.Reference4Ideal.nD Cert.Reference4Ideal.τ).loc Cert.Reference4Ideal.main_v43) = v7 c
          ∧ r.2.mem ((c.tc : Thread Cert.Reference4Ideal.nD Cert.Reference4Ideal.τ).loc Cert.Reference4Ideal.main_v41) = v8 c
          ∧ r.2.mem ((c.tc : Thread Cert.Reference4Ideal.nD Cert.Reference4Ideal.τ).loc Cert.Reference4Ideal.main_v37) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v1_0)) (v5 : (c : Dev Cert.Kernel6Ideal.nD) → Buf (Elt Ideal) ((c.tc : Thread Cert.Kernel6Ideal.nD Cert.Kernel6Ideal.τ).loc Cert.Kernel6Ideal.main_v1_1)) (v6 : (c : Dev Cert.Kernel6Ideal.nD) → Buf (Elt Ideal) ((c.tc : Thread Cert.Kernel6Ideal.nD Cert.Kernel6Ideal.τ).loc Cert.Kernel6Ideal.main_v1_2)) (v7 : (c : Dev Cert.Kernel6Ideal.nD) → Buf (Elt Ideal) ((c.tc : Thread Cert.Kernel6Ideal.nD Cert.Kernel6Ideal.τ).loc Cert.Kernel6Ideal.main_v1_3)) (v8 : (c : Dev Cert.Kernel6Ideal.nD) → Buf (Elt Ideal) ((c.tc : Thread Cert.Kernel6Ideal.nD Cert.Kernel6Ideal.τ).loc Cert.Kernel6Ideal.main_v2_0)) (v9 : (c : Dev Cert.Kernel6Ideal.nD) → Buf (Elt Ideal) ((c.tc : Thread Cert.Kernel6Ideal.nD Cert.Kernel6Ideal.τ).loc Cert.Kernel6Ideal.main_v2_1)) (v10 : (c : Dev Cert.Kernel6Ideal.nD) → Buf (Elt Ideal) ((c.tc : Thread Cert.Kernel6Ideal.nD Cert.Kernel6Ideal.τ).loc Cert.Kernel6Ideal.main_v2_2)) (v11 : (c : Dev Cert.Kernel6Ideal.nD) → Buf (Elt Ideal) ((c.tc : Thread Cert.Kernel6Ideal.nD Cert.Kernel6Ideal.τ).loc Cert.Kernel6Ideal.main_v2_3)) (v12 : (c : Dev Cert.Kernel6Ideal.nD) → Buf (Elt Ideal) ((c.tc : Thread Cert.Kernel6Ideal.nD Cert.Kernel6Ideal.τ).loc Cert.Kernel6Ideal.main_v3_0)) (v13 : (c : Dev Cert.Kernel6Ideal.nD) → Buf (Elt Ideal) ((c.tc : Thread Cert.Kernel6Ideal.nD Cert.Kernel6Ideal.τ).loc Cert.Kernel6Ideal.main_v3_1)) (v14 : (c : Dev Cert.Kernel6Ideal.nD) → Buf (Elt Ideal) ((c.tc : Thread Cert.Kernel6Ideal.nD Cert.Kernel6Ideal.τ).loc Cert.Kernel6Ideal.main_v3_2)) (v15 : (c : Dev Cert.Kernel6Ideal.nD) → Buf (Elt Ideal) ((c.tc : Thread Cert.Kernel6Ideal.nD Cert.Kernel6Ideal.τ).loc Cert.Kernel6Ideal.main_v3_3)) (v16 : (c : Dev Cert.Kernel6Ideal.nD) → Buf (Elt Ideal) ((c.tc : Thread Cert.Kernel6Ideal.nD Cert.Kernel6Ideal.τ).loc Cert.Kernel6Ideal.main_v4_0)) (v17 : (c : Dev Cert.Kernel6Ideal.nD) → Buf (Elt Ideal) ((c.tc : Thread Cert.Kernel6Ideal.nD Cert.Kernel6Ideal.τ).loc Cert.Kernel6Ideal.main_v4_1)) (v18 : (c : Dev Cert.Kernel6Ideal.nD) → Buf (Elt Ideal) ((c.tc : Thread Cert.Kernel6Ideal.nD Cert.Kernel6Ideal.τ).loc Cert.Kernel6Ideal.main_v4_2)) (v19 : (c : Dev Cert.Kernel6Ideal.nD) → Buf (Elt Ideal) ((c.tc : Thread Cert.Kernel6Ideal.nD Cert.Kernel6Ideal.τ).loc Cert.Kernel6Ideal.main_v4_3)) (v20 : (c : Dev Cert.Kernel6Ideal.nD) → Buf (Elt Ideal) ((c.tc : Thread Cert.Kernel6Ideal.nD Cert.Kernel6Ideal.τ).loc Cert.Kernel6Ideal.main_v5_0)) (v21 : (c : Dev Cert.Kernel6Ideal.nD) → Buf (Elt Ideal) ((c.tc : Thread Cert.Kernel6Ideal.nD Cert.Kernel6Ideal.τ).loc Cert.Kernel6Ideal.main_v5_1)) (v22 : (c : Dev Cert.Kernel6Ideal.nD) → Buf (Elt Ideal) ((c.tc : Thread Cert.Kernel6Ideal.nD Cert.Kernel6Ideal.τ).loc Cert.Kernel6Ideal.main_v5_2)) (v23 : (c : Dev Cert.Kernel6Ideal.nD) → Buf (Elt Ideal) ((c.tc : Thread Cert.Kernel6Ideal.nD Cert.Kernel6Ideal.τ).loc Cert.Kernel6Ideal.main_v5_3)) (v24 : (c : Dev Cert.Kernel6Ideal.nD) → Buf (Elt Ideal) ((c.tc : Thread Cert.Kernel6Ideal.nD Cert.Kernel6Ideal.τ).loc Cert.Kernel6Ideal.main_v6_0)) (v25 : (c : Dev Cert.Kernel6Ideal.nD) → Buf (Elt Ideal) ((c.tc : Thread Cert.Kernel6Ideal.nD Cert.Kernel6Ideal.τ).loc Cert.Kernel6Ideal.main_v6_1)) (v26 : (c : Dev Cert.Kernel6Ideal.nD) → Buf (Elt Ideal) ((c.tc : Thread Cert.Kernel6Ideal.nD Cert.Kernel6Ideal.τ).loc Cert.Kernel6Ideal.main_v6_2)) (v27 : (c : Dev Cert.Kernel6Ideal.nD) → Buf (Elt Ideal) ((c.tc : Thread Cert.Kernel6Ideal.nD Cert.Kernel6Ideal.τ).loc Cert.Kernel6Ideal.main_v6_3)) (v28 : (c : Dev Cert.Kernel6Ideal.nD) → Buf (Elt Ideal) ((c.tc : Thread Cert.Kernel6Ideal.nD Cert.Kernel6Ideal.τ).loc Cert.Kernel6Ideal.main_v7_0)) (v29 : (c : Dev Cert.Kernel6Ideal.nD) → Buf (Elt Ideal) ((c.tc : Thread Cert.Kernel6Ideal.nD Cert.Kernel6Ideal.τ).loc Cert.Kernel6Ideal.main_v7_1)) (v30 : (c : Dev Cert.Kernel6Ideal.nD) → Buf (Elt Ideal) ((c.tc : Thread Cert.Kernel6Ideal.nD Cert.Kernel6Ideal.τ).loc Cert.Kernel6Ideal.main_v7_2)) (v31 : (c : Dev Cert.Kernel6Ideal.nD) → Buf (Elt Ideal) ((c.tc : Thread Cert.Kernel6Ideal.nD Cert.Kernel6Ideal.τ).loc Cert.Kernel6Ideal.main_v7_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v1_0) = v4 c
          ∧ r.2.mem ((c.tc : Thread Cert.Kernel6Ideal.nD Cert.Kernel6Ideal.τ).loc Cert.Kernel6Ideal.main_v1_1) = v5 c
          ∧ r.2.mem ((c.tc : Thread Cert.Kernel6Ideal.nD Cert.Kernel6Ideal.τ).loc Cert.Kernel6Ideal.main_v1_2) = v6 c
          ∧ r.2.mem ((c.tc : Thread Cert.Kernel6Ideal.nD Cert.Kernel6Ideal.τ).loc Cert.Kernel6Ideal.main_v1_3) = v7 c
          ∧ r.2.mem ((c.tc : Thread Cert.Kernel6Ideal.nD Cert.Kernel6Ideal.τ).loc Cert.Kernel6Ideal.main_v2_0) = v8 c
          ∧ r.2.mem ((c.tc : Thread Cert.Kernel6Ideal.nD Cert.Kernel6Ideal.τ).loc Cert.Kernel6Ideal.main_v2_1) = v9 c
          ∧ r.2.mem ((c.tc : Thread Cert.Kernel6Ideal.nD Cert.Kernel6Ideal.τ).loc Cert.Kernel6Ideal.main_v2_2) = v10 c
          ∧ r.2.mem ((c.tc : Thread Cert.Kernel6Ideal.nD Cert.Kernel6Ideal.τ).loc Cert.Kernel6Ideal.main_v2_3) = v11 c
          ∧ r.2.mem ((c.tc : Thread Cert.Kernel6Ideal.nD Cert.Kernel6Ideal.τ).loc Cert.Kernel6Ideal.main_v3_0) = v12 c
          ∧ r.2.mem ((c.tc : Thread Cert.Kernel6Ideal.nD Cert.Kernel6Ideal.τ).loc Cert.Kernel6Ideal.main_v3_1) = v13 c
          ∧ r.2.mem ((c.tc : Thread Cert.Kernel6Ideal.nD Cert.Kernel6Ideal.τ).loc Cert.Kernel6Ideal.main_v3_2) = v14 c
          ∧ r.2.mem ((c.tc : Thread Cert.Kernel6Ideal.nD Cert.Kernel6Ideal.τ).loc Cert.Kernel6Ideal.main_v3_3) = v15 c
          ∧ r.2.mem ((c.tc : Thread Cert.Kernel6Ideal.nD Cert.Kernel6Ideal.τ).loc Cert.Kernel6Ideal.main_v4_0) = v16 c
          ∧ r.2.mem ((c.tc : Thread Cert.Kernel6Ideal.nD Cert.Kernel6Ideal.τ).loc Cert.Kernel6Ideal.main_v4_1) = v17 c
          ∧ r.2.mem ((c.tc : Thread Cert.Kernel6Ideal.nD Cert.Kernel6Ideal.τ).loc Cert.Kernel6Ideal.main_v4_2) = v18 c
          ∧ r.2.mem ((c.tc : Thread Cert.Kernel6Ideal.nD Cert.Kernel6Ideal.τ).loc Cert.Kernel6Ideal.main_v4_3) = v19 c
          ∧ r.2.mem ((c.tc : Thread Cert.Kernel6Ideal.nD Cert.Kernel6Ideal.τ).loc Cert.Kernel6Ideal.main_v5_0) = v20 c
          ∧ r.2.mem ((c.tc : Thread Cert.Kernel6Ideal.nD Cert.Kernel6Ideal.τ).loc Cert.Kernel6Ideal.main_v5_1) = v21 c
          ∧ r.2.mem ((c.tc : Thread Cert.Kernel6Ideal.nD Cert.Kernel6Ideal.τ).loc Cert.Kernel6Ideal.main_v5_2) = v22 c
          ∧ r.2.mem ((c.tc : Thread Cert.Kernel6Ideal.nD Cert.Kernel6Ideal.τ).loc Cert.Kernel6Ideal.main_v5_3) = v23 c
          ∧ r.2.mem ((c.tc : Thread Cert.Kernel6Ideal.nD Cert.Kernel6Ideal.τ).loc Cert.Kernel6Ideal.main_v6_0) = v24 c
          ∧ r.2.mem ((c.tc : Thread Cert.Kernel6Ideal.nD Cert.Kernel6Ideal.τ).loc Cert.Kernel6Ideal.main_v6_1) = v25 c
          ∧ r.2.mem ((c.tc : Thread Cert.Kernel6Ideal.nD Cert.Kernel6Ideal.τ).loc Cert.Kernel6Ideal.main_v6_2) = v26 c
          ∧ r.2.mem ((c.tc : Thread Cert.Kernel6Ideal.nD Cert.Kernel6Ideal.τ).loc Cert.Kernel6Ideal.main_v6_3) = v27 c
          ∧ r.2.mem ((c.tc : Thread Cert.Kernel6Ideal.nD Cert.Kernel6Ideal.τ).loc Cert.Kernel6Ideal.main_v7_0) = v28 c
          ∧ r.2.mem ((c.tc : Thread Cert.Kernel6Ideal.nD Cert.Kernel6Ideal.τ).loc Cert.Kernel6Ideal.main_v7_1) = v29 c
          ∧ r.2.mem ((c.tc : Thread Cert.Kernel6Ideal.nD Cert.Kernel6Ideal.τ).loc Cert.Kernel6Ideal.main_v7_2) = v30 c
          ∧ r.2.mem ((c.tc : Thread Cert.Kernel6Ideal.nD Cert.Kernel6Ideal.τ).loc Cert.Kernel6Ideal.main_v7_3) = v31 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_v25) = v4 c
          ∧ r.2.mem ((c.tc : Thread Cert.Reference6Ideal.nD Cert.Reference6Ideal.τ).loc Cert.Reference6Ideal.main_v49) = v5 c
          ∧ r.2.mem ((c.tc : Thread Cert.Reference6Ideal.nD Cert.Reference6Ideal.τ).loc Cert.Reference6Ideal.main_v30) = v6 c
          ∧ r.2.mem ((c.tc : Thread Cert.Reference6Ideal.nD Cert.Reference6Ideal.τ).loc Cert.Reference6Ideal.main_v36) = v7 c
          ∧ r.2.mem ((c.tc : Thread Cert.Reference6Ideal.nD Cert.Reference6Ideal.τ).loc Cert.Reference6Ideal.main_v50) = v8 c
          ∧ r.2.mem ((c.tc : Thread Cert.Reference6Ideal.nD Cert.Reference6Ideal.τ).loc Cert.Reference6Ideal.main_v74) = v9 c
          ∧ r.2.mem ((c.tc : Thread Cert.Reference6Ideal.nD Cert.Reference6Ideal.τ).loc Cert.Reference6Ideal.main_v55) = v10 c
          ∧ r.2.mem ((c.tc : Thread Cert.Reference6Ideal.nD Cert.Reference6Ideal.τ).loc Cert.Reference6Ideal.main_v61) = v11 c
          ∧ r.2.mem ((c.tc : Thread Cert.Reference6Ideal.nD Cert.Reference6Ideal.τ).loc Cert.Reference6Ideal.main_v75) = v12 c
          ∧ r.2.mem ((c.tc : Thread Cert.Reference6Ideal.nD Cert.Reference6Ideal.τ).loc Cert.Reference6Ideal.main_v99) = v13 c
          ∧ r.2.mem ((c.tc : Thread Cert.Reference6Ideal.nD Cert.Reference6Ideal.τ).loc Cert.Reference6Ideal.main_v80) = v14 c
          ∧ r.2.mem ((c.tc : Thread Cert.Reference6Ideal.nD Cert.Reference6Ideal.τ).loc Cert.Reference6Ideal.main_v86) = v15 c
          ∧ r.2.mem ((c.tc : Thread Cert.Reference6Ideal.nD Cert.Reference6Ideal.τ).loc Cert.Reference6Ideal.main_v100) = v16 c
          ∧ r.2.mem ((c.tc : Thread Cert.Reference6Ideal.nD Cert.Reference6Ideal.τ).loc Cert.Reference6Ideal.main_v124) = v17 c
          ∧ r.2.mem ((c.tc : Thread Cert.Reference6Ideal.nD Cert.Reference6Ideal.τ).loc Cert.Reference6Ideal.main_v105) = v18 c
          ∧ r.2.mem ((c.tc : Thread Cert.Reference6Ideal.nD Cert.Reference6Ideal.τ).loc Cert.Reference6Ideal.main_v111) = v19 c
          ∧ r.2.mem ((c.tc : Thread Cert.Reference6Ideal.nD Cert.Reference6Ideal.τ).loc Cert.Reference6Ideal.main_v125) = v20 c
          ∧ r.2.mem ((c.tc : Thread Cert.Reference6Ideal.nD Cert.Reference6Ideal.τ).loc Cert.Reference6Ideal.main_v149) = v21 c
          ∧ r.2.mem ((c.tc : Thread Cert.Reference6Ideal.nD Cert.Reference6Ideal.τ).loc Cert.Reference6Ideal.main_v130) = v22 c
          ∧ r.2.mem ((c.tc : Thread Cert.Reference6Ideal.nD Cert.Reference6Ideal.τ).loc Cert.Reference6Ideal.main_v136) = v23 c
          ∧ r.2.mem ((c.tc : Thread Cert.Reference6Ideal.nD Cert.Reference6Ideal.τ).loc Cert.Reference6Ideal.main_v150) = v24 c
          ∧ r.2.mem ((c.tc : Thread Cert.Reference6Ideal.nD Cert.Reference6Ideal.τ).loc Cert.Reference6Ideal.main_v174) = v25 c
          ∧ r.2.mem ((c.tc : Thread Cert.Reference6Ideal.nD Cert.Reference6Ideal.τ).loc Cert.Reference6Ideal.main_v155) = v26 c
          ∧ r.2.mem ((c.tc : Thread Cert.Reference6Ideal.nD Cert.Reference6Ideal.τ).loc Cert.Reference6Ideal.main_v161) = v27 c
          ∧ r.2.mem ((c.tc : Thread Cert.Reference6Ideal.nD Cert.Reference6Ideal.τ).loc Cert.Reference6Ideal.main_v175) = v28 c
          ∧ r.2.mem ((c.tc : Thread Cert.Reference6Ideal.nD Cert.Reference6Ideal.τ).loc Cert.Reference6Ideal.main_v199) = v29 c
          ∧ r.2.mem ((c.tc : Thread Cert.Reference6Ideal.nD Cert.Reference6Ideal.τ).loc Cert.Reference6Ideal.main_v180) = v30 c
          ∧ r.2.mem ((c.tc : Thread Cert.Reference6Ideal.nD Cert.Reference6Ideal.τ).loc Cert.Reference6Ideal.main_v186) = v31 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31))

def preserves_Kernel7_Kernel7Ideal : Prop :=
  True

def algebraic_Kernel7Ideal_Reference7Ideal [hKernel7Ideal : Cert.Kernel7Ideal.Facts] [hReference7Ideal : Cert.Reference7Ideal.Facts] [hPre_chip_number : Cert.Pre_chip_number.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v19) = v2 c
          ∧ r.2.mem ((c.tc : Thread Cert.Reference7Ideal.nD Cert.Reference7Ideal.τ).loc Cert.Reference7Ideal.main_v25) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] [hPre_chip_number8 : Cert.Pre_chip_number8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_v25) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_logits : Cert.Pre_finite_logits.Facts) (hPre_finite_arguments : Cert.Pre_finite_arguments.Facts) (hPre_chip_number : Cert.Pre_chip_number.Facts) (hPre_chip_number8 : Cert.Pre_chip_number8.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Kernel2Ideal_pre_finite_arguments (hKernel2Ideal := hKernel2Ideal) (hPre_finite_arguments := hPre_finite_arguments)
    ∧ quiescent_Reference2Ideal (hReference2Ideal := hReference2Ideal)
    ∧ quiescent_Reference2Ideal_pre_finite_arguments (hReference2Ideal := hReference2Ideal) (hPre_finite_arguments := hPre_finite_arguments)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_chip_number := hPre_chip_number)
    ∧ quiescent_Kernel7Ideal (hKernel7Ideal := hKernel7Ideal) (hPre_chip_number := hPre_chip_number)
    ∧ quiescent_Reference7Ideal (hReference7Ideal := hReference7Ideal)
    ∧ quiescent_Reference7Ideal_pre_chip_number (hReference7Ideal := hReference7Ideal) (hPre_chip_number := hPre_chip_number)
    ∧ quiescent_Kernel8 (hKernel8 := hKernel8) (hPre_chip_number8 := hPre_chip_number8)
    ∧ quiescent_Kernel8Ideal (hKernel8Ideal := hKernel8Ideal) (hPre_chip_number8 := hPre_chip_number8)
    ∧ quiescent_Reference8Ideal (hReference8Ideal := hReference8Ideal)
    ∧ quiescent_Reference8Ideal_pre_chip_number8 (hReference8Ideal := hReference8Ideal) (hPre_chip_number8 := hPre_chip_number8)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal_pre_finite_arguments (hKernel2Ideal := hKernel2Ideal) (hReference2Ideal := hReference2Ideal) (hPre_finite_arguments := hPre_finite_arguments)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_chip_number := hPre_chip_number)
    ∧ preserves_Kernel8_Kernel8Ideal
    ∧ algebraic_Kernel8Ideal_Reference8Ideal (hKernel8Ideal := hKernel8Ideal) (hReference8Ideal := hReference8Ideal) (hPre_chip_number8 := hPre_chip_number8)
-- ==== Pre_chip_number.lean ====
abbrev S1 : Shape := ⟨1, ![1]⟩
abbrev S1x4x384 : Shape := ⟨3, ![1, 4, 384]⟩
abbrev S4x1536 : Shape := ⟨2, ![4, 1536]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x4x384 .f32) (main_arg2 : FVec F S4x1536 .f32) (main_arg3 : FVec F S1x4x384 .f32) (main_arg4 : FVec F S1x4x384 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_chip_number8.lean ====
abbrev S1 : Shape := ⟨1, ![1]⟩
abbrev S1x31x256 : Shape := ⟨3, ![1, 31, 256]⟩
abbrev S31x1024 : Shape := ⟨2, ![31, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x31x256 .f32) (main_arg2 : FVec F S31x1024 .f32) (main_arg3 : FVec F S1x31x256 .f32) (main_arg4 : FVec F S1x31x256 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_finite_arguments.lean ====
abbrev S4096x1024 : Shape := ⟨2, ![4096, 1024]⟩
abbrev S1024x1024 : Shape := ⟨2, ![1024, 1024]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S2816x1024 : S_.BroadcastsInDim S2816x1024 (![] : Fin 0 → Fin S2816x1024.rank)

variable [Facts]

def fn_part1 {F : FTy → Type} [FloatOps F] (main_arg6 : FVec F S2816x1024 .bf16) (main_arg7 : FVec F S1x1024 .f32) (main_arg8 : FVec F S4096x1024 .f32) (main_v2 : IVec S4096x1024 1) (main_v5 : IVec S4096x1024 1) (main_v8 : IVec S1024x1024 1) (main_v11 : IVec S1x1024 1) (main_v14 : IVec S2816x1024 1) (main_v17 : IVec S2816x1024 1) : IVec S4096x1024 1 × IVec S4096x1024 1 × IVec S1024x1024 1 × IVec S1x1024 1 × IVec S2816x1024 1 × IVec S2816x1024 1 × IVec S2816x1024 1 × IVec S1x1024 1 × IVec S4096x1024 1 :=
  let main_v18 : FVec F S2816x1024 .bf16 := Host.absf main_arg6
  let main_cst_5 : FVec F S_ .bf16 := constant S_ .bf16 0x7F80#16
  let main_v19 : FVec F S2816x1024 .bf16 := broadcastInDim S2816x1024 ![] bcast_S_S2816x1024 main_cst_5
  let main_v20 : IVec S2816x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x1024 .bf16) (main_arg2 : FVec F S1024x1024 .bf16) (main_arg3 : FVec F S1x1024 .f32) (main_arg4 : FVec F S2816x1024 .bf16) (main_arg5 : FVec F S2816x1024 .bf16) (main_arg6 : FVec F S2816x1024 .bf16) (main_arg7 : FVec F S1x1024 .f32) (main_arg8 : FVec F S4096x1024 .f32) : IVec S4096x1024 1 × IVec S4096x1024 1 × IVec S1024x1024 1 × IVec S1x1024 1 × IVec S2816x1024 1 × IVec S2816x1024 1 × IVec S2816x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S1024x1024 .bf16 := Host.absf main_arg2
  let main_cst_1 : FVec F S_ .bf16 := constant S_ .bf16 0x7F80#16
  let main_v7 : FVec F S1024x1024 .bf16 := broadcastInDim S1024x1024 ![] bcast_S_S1024x1024 main_cst_1
  let main_v8 : IVec S1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2816x1024 .bf16 := Host.absf main_arg4
  let main_cst_3 : FVec F S_ .bf16 := constant S_ .bf16 0x7F80#16
  let main_v13 : FVec F S2816x1024 .bf16 := broadcastInDim S2816x1024 ![] bcast_S_S2816x1024 main_cst_3
  let main_v14 : IVec S2816x1024 1 := cmpf .olt main_v12 main_v13
  let main_v15 : FVec F S2816x1024 .bf16 := Host.absf main_arg5
  let main_cst_4 : FVec F S_ .bf16 := constant S_ .bf16 0x7F80#16
  let main_v16 : FVec F S2816x1024 .bf16 := broadcastInDim S2816x1024 ![] bcast_S_S2816x1024 main_cst_4
  let main_v17 : IVec S2816x1024 1 := cmpf .olt main_v15 main_v16
  fn_part1 (F := F) main_arg6 main_arg7 main_arg8 main_v2 main_v5 main_v8 main_v11 main_v14 main_v17
-- ==== Pre_finite_logits.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bcast_S_S4096x1024 : S_.BroadcastsInDim S4096x1024 (![] : Fin 0 → Fin S4096x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S4096x1024 .f32) (main_arg1 : FVec F S256x2048 .f32) (main_arg2 : FVec F S4096x1024 .f32) : IVec S4096x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x1024 .f32 := (extractStridedSlice S256x1024 ![0, 0] · slices_S256x2048_S256x1024_0_0) main_arg1
  let main_v4 : FVec F S256x1024 .f32 := Host.absf main_v3
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  (main_v2, main_v6)
-- ==== Kernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S4096x1024, .bf16⟩
  | .hbm, ⟨4, _⟩ => ⟨S256x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S256x2048, .f32⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S256x1024, .f32⟩
  | .hbm, ⟨4, _⟩ => ⟨S256x1024, .f32⟩
  | .hbm, ⟨5, _⟩ => ⟨S4096x4x256, .f32⟩
  | .hbm, ⟨6, _⟩ => ⟨S256x4x256, .f32⟩
  | .hbm, ⟨7, _⟩ => ⟨S256x4x256, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x256, .f32⟩
  | .hbm, ⟨16, _⟩ => ⟨S4x4096x256, .i1⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .i1⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x256x4096, .f32⟩
  | .hbm, ⟨51, _⟩ => ⟨S4096x4x256, .f32⟩
  | .hbm, ⟨52, _⟩ => ⟨S4096x1024, .f32⟩
  | .hbm, ⟨53, _⟩ => ⟨S4096x4x256, .f32⟩
  | .hbm, ⟨54, _⟩ => ⟨S4x256x4096, .f32⟩
  | .hbm, ⟨55, _⟩ => ⟨S4x4096x256, .f32⟩
  | .hbm, ⟨56, _⟩ => ⟨S4x256x256, .f32⟩
  | .hbm, ⟨57, _⟩ => ⟨S256x4x256, .f32⟩
  | .hbm, ⟨58, _⟩ => ⟨S4x4096x256, .f32⟩
  | .hbm, ⟨59, _⟩ => ⟨S4x4096x256, .f32⟩
  | .hbm, ⟨60, _⟩ => ⟨S4x4096x256, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x1, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x256, .f32⟩
  | .hbm, ⟨70, _⟩ => ⟨S4x4096x256, .f32⟩
  | .hbm, ⟨71, _⟩ => ⟨S4x4096x256, .f32⟩
  | .hbm, ⟨72, _⟩ => ⟨S_, .f32⟩
  | .hbm, ⟨73, _⟩ => ⟨S4x4096x256, .f32⟩
  | .hbm, ⟨74, _⟩ => ⟨S4x4096x256, .f32⟩
  | .hbm, ⟨75, _⟩ => ⟨S4x256x256, .f32⟩
  | .hbm, ⟨76, _⟩ => ⟨S256x4x256, .f32⟩
  | .hbm, ⟨77, _⟩ => ⟨S4x4096x256, .f32⟩
  | .hbm, ⟨78, _⟩ => ⟨S4096x4x256, .f32⟩
  | .hbm, ⟨79, _⟩ => ⟨S256x1024, .f32⟩
  | .hbm, ⟨80, _⟩ => ⟨S256x1024, .f32⟩
  | .hbm, ⟨81, _⟩ => ⟨S4096x1024, .f32⟩
  | .hbm, ⟨82, _⟩ => ⟨S256x2048, .f32⟩
  | .hbm, ⟨83, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S1x1024 : Shape := ⟨2, ![1, 1024]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S4096x2816 : Shape := ⟨2, ![4096, 2816]⟩
abbrev S1408x1024 : Shape := ⟨2, ![1408, 1024]⟩
abbrev S512x1408 : Shape := ⟨2, ![512, 1408]⟩
abbrev S1x128 : Shape := ⟨2, ![1, 128]⟩
abbrev S512x2816 : Shape := ⟨2, ![512, 2816]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩
abbrev S1024x1408 : Shape := ⟨2, ![1024, 1408]⟩
abbrev S1024x512 : Shape := ⟨2, ![1024, 512]⟩

abbrev nBuf : Space → Nat
  | .hbm => 29
  | .vmem => 97
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S1x128, .f32⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S2816x1024, .f32⟩
  | .hbm, ⟨19, _⟩ => ⟨S4096x2816, .bf16⟩
  | .hbm, ⟨20, _⟩ => ⟨S4096x2816, .bf16⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1x1024, .f32⟩
  | .hbm, ⟨25, _⟩ => ⟨S2816x1024, .f32⟩
  | .hbm, ⟨26, _⟩ => ⟨S2816x1024, .f32⟩
  | .hbm, ⟨27, _⟩ => ⟨S4096x1024, .f32⟩
  | .hbm, ⟨28, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x2816, .bf16⟩
  | .local _ .vmem, ⟨23, _⟩ => ⟨S512x2816, .bf16⟩
  | .local _ .vmem, ⟨24, _⟩ => ⟨S2816x1024, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S1x128, .f32⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S1x1024, .f32⟩
  | .local _ .vmem, ⟨36, _⟩ => ⟨S1024x1408, .bf16⟩
  | .local _ .vmem, ⟨37, _⟩ => ⟨S1024x1408, .bf16⟩
  | .local _ .vmem, ⟨38, _⟩ => ⟨S1024x1024, .bf16⟩
  | .local _ .vmem, ⟨39, _⟩ => ⟨S1024x1024, .bf16⟩
  | .local _ .vmem, ⟨40, _⟩ => ⟨S1408x1024, .f32⟩
  | .local _ .vmem, ⟨41, _⟩ => ⟨S1408x1024, .f32⟩
  | .local _ .vmem, ⟨42, _⟩ => ⟨S512x1024, .bf16⟩
  | .local _ .vmem, ⟨43, _⟩ => ⟨S512x1024, .bf16⟩
  | .local _ .vmem, ⟨44, _⟩ => ⟨S1408x1024, .bf16⟩
  | .local _ .vmem, ⟨45, _⟩ => ⟨S1408x1024, .bf16⟩
  | .local _ .vmem, ⟨46, _⟩ => ⟨S512x1408, .bf16⟩
  | .local _ .vmem, ⟨47, _⟩ => ⟨S512x1408, .bf16⟩
  | .local _ .vmem, ⟨48, _⟩ => ⟨S512x1408, .bf16⟩
  | .local _ .vmem, ⟨49, _⟩ => ⟨S512x1408, .bf16⟩
  | .local _ .vmem, ⟨50, _⟩ => ⟨S512x1408, .bf16⟩
  | .local _ .vmem, ⟨51, _⟩ => ⟨S512x1408, .bf16⟩
  | .local _ .vmem, ⟨52, _⟩ => ⟨S512x1408, .bf16⟩
  | .local _ .vmem, ⟨53, _⟩ => ⟨S512x1408, .bf16⟩
  | .local _ .vmem, ⟨54, _⟩ => ⟨S512x2816, .bf16⟩
  | .local _ .vmem, ⟨55, _⟩ => ⟨S512x2816, .bf16⟩
  | .local _ .vmem, ⟨56, _⟩ => ⟨S2816x1024, .bf16⟩
  | .local _ .vmem, ⟨57, _⟩ => ⟨S512x1024, .f32⟩
  | .local _ .vmem, ⟨58, _⟩ => ⟨S512x1024, .f32⟩
  | .local _ .vmem, ⟨59, _⟩ => ⟨S512x2816, .bf16⟩
  | .local _ .vmem, ⟨60, _⟩ => ⟨S512x2816, .bf16⟩
  | .local _ .vmem, ⟨61, _⟩ => ⟨S2816x1024, .bf16⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S1x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .bf16⟩
  | .local _ .vmem, ⟨72, _⟩ => ⟨S512x1024, .bf16⟩
  | .local _ .vmem, ⟨73, _⟩ => ⟨S1x1024, .f32⟩
  | .local _ .vmem, ⟨74, _⟩ => ⟨S1024x1408, .bf16⟩
  | .local _ .vmem, ⟨75, _⟩ => ⟨S1024x1408, .bf16⟩
  | .local _ .vmem, ⟨76, _⟩ => ⟨S1024x1024, .bf16⟩
  | .local _ .vmem, ⟨77, _⟩ => ⟨S1024x1024, .bf16⟩
  | .local _ .vmem, ⟨78, _⟩ => ⟨S1408x1024, .f32⟩
  | .local _ .vmem, ⟨79, _⟩ => ⟨S1408x1024, .f32⟩
  | .local _ .vmem, ⟨80, _⟩ => ⟨S1024x1408, .bf16⟩
  | .local _ .vmem, ⟨81, _⟩ => ⟨S1024x1408, .bf16⟩
  | .local _ .vmem, ⟨82, _⟩ => ⟨S1024x1024, .bf16⟩
  | .local _ .vmem, ⟨83, _⟩ => ⟨S1024x1024, .bf16⟩
  | .local _ .vmem, ⟨84, _⟩ => ⟨S1408x1024, .f32⟩
  | .local _ .vmem, ⟨85, _⟩ => ⟨S1408x1024, .f32⟩
  | .local _ .vmem, ⟨86, _⟩ => ⟨S512x1024, .bf16⟩
  | .local _ .vmem, ⟨87, _⟩ => ⟨S512x1024, .bf16⟩
  | .local _ .vmem, ⟨88, _⟩ => ⟨S1024x1024, .bf16⟩
  | .local _ .vmem, ⟨89, _⟩ => ⟨S512x1024, .f32⟩
  | .local _ .vmem, ⟨90, _⟩ => ⟨S512x1024, .f32⟩
  | .local _ .vmem, ⟨91, _⟩ => ⟨S1024x512, .bf16⟩
  | .local _ .vmem, ⟨92, _⟩ => ⟨S1024x512, .bf16⟩
  | .local _ .vmem, ⟨93, _⟩ => ⟨S1024x1024, .bf16⟩
  | .local _ .vmem, ⟨94, _⟩ => ⟨S1024x1024, .bf16⟩
  | .local _ .vmem, ⟨95, _⟩ => ⟨S512x1024, .f32⟩
  | .local _ .vmem, ⟨96, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg2_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg2_1 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg6_1 : Ref sig .tc := ⟨.vmem, 70, rfl⟩
abbrev cc6_stg7_0 : Ref sig .tc := ⟨.vmem, 71, rfl⟩
abbrev cc6_stg7_1 : Ref sig .tc := ⟨.vmem, 72, rfl⟩
abbrev cc6_stg8_0 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg2_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg2_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg2_1 : Ref sig .tc := ⟨.vmem, 90, rfl⟩
abbrev cc10_stg0_0 : Ref sig .tc := ⟨.vmem, 91, rfl⟩
abbrev cc10_stg0_1 : Ref sig .tc := ⟨.vmem, 92, rfl⟩
abbrev cc10_stg1_0 : Ref sig .tc := ⟨.vmem, 93, rfl⟩
abbrev cc10_stg1_1 : Ref sig .tc := ⟨.vmem, 94, rfl⟩
abbrev cc10_stg2_0 : Ref sig .tc := ⟨.vmem, 95, rfl⟩
abbrev cc10_stg2_1 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem2_1 : DmaSem sig := 58
abbrev cc6_sem0_0 : DmaSem sig := 59
abbrev cc6_sem0_1 : DmaSem sig := 60
abbrev cc6_sem1_0 : DmaSem sig := 61
abbrev cc6_sem2_0 : DmaSem sig := 62
abbrev cc6_sem2_1 : DmaSem sig := 63
abbrev cc6_sem3_0 : DmaSem sig := 64
abbrev cc6_sem3_1 : DmaSem sig := 65
abbrev cc6_sem4_0 : DmaSem sig := 66
abbrev cc6_sem5_0 : DmaSem sig := 67
abbrev cc6_sem5_1 : DmaSem sig := 68
abbrev cc6_sem6_0 : DmaSem sig := 69
abbrev cc6_sem6_1 : DmaSem sig := 70
abbrev cc6_sem7_0 : DmaSem sig := 71
abbrev cc6_sem7_1 : DmaSem sig := 72
abbrev cc6_sem8_0 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem2_1 : DmaSem sig := 85
abbrev cc9_sem0_0 : DmaSem sig := 86
abbrev cc9_sem0_1 : DmaSem sig := 87
abbrev cc9_sem1_0 : DmaSem sig := 88
abbrev cc9_sem2_0 : DmaSem sig := 89
abbrev cc9_sem2_1 : DmaSem sig := 90
abbrev cc10_sem0_0 : DmaSem sig := 91
abbrev cc10_sem0_1 : DmaSem sig := 92
abbrev cc10_sem1_0 : DmaSem sig := 93
abbrev cc10_sem1_1 : DmaSem sig := 94
abbrev cc10_sem2_0 : DmaSem sig := 95
abbrev cc10_sem2_1 : DmaSem sig := 96

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true, false]

abbrev grid3 : Pipeline.Grid := ⟨3, ![2, 1, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1408x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x1408 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S512x1408 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x1408 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S2816x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S512x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S2816x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true, false]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S512x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev stage6_8 : Fin 1 → Memref sig .tc .vmem S1x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![true, false]

abbrev grid7 : Pipeline.Grid := ⟨3, ![2, 1, 4], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1408 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1408x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 4], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1408 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1408x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨2, ![1, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 1 → Memref sig .tc .vmem S1024x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true, false]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨3, ![2, 1, 4], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference2Ideal.lean ====
abbrev S4096x1024 : Shape := ⟨2, ![4096, 1024]⟩
abbrev S1024x1024 : Shape := ⟨2, ![1024, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1024 : Shape := ⟨1, ![1024]⟩
abbrev S1x128 : Shape := ⟨2, ![1, 128]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S4096x1024, .bf16⟩
  | 2 => ⟨S1024x1024, .bf16⟩
  | 3 => ⟨S1x1024, .f32⟩
  | 4 => ⟨S2816x1024, .bf16⟩
  | 5 => ⟨S2816x1024, .bf16⟩
  | 6 => ⟨S2816x1024, .bf16⟩
  | 7 => ⟨S1x1024, .f32⟩
  | 8 => ⟨S4096x1024, .f32⟩
  | 9 => ⟨S4096x1024, .f32⟩
  | 10 => ⟨S1024x1024, .f32⟩
  | 11 => ⟨S2816x1024, .f32⟩
  | 12 => ⟨S2816x1024, .f32⟩
  | 13 => ⟨S2816x1024, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1024, .f32⟩
  | 32 => ⟨S4096x1024, .f32⟩
  | 33 => ⟨S4096x1024, .f32⟩
  | 34 => ⟨S4096x1024, .f32⟩
  | 35 => ⟨S1024x2816, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S_, .f32⟩
  | 46 => ⟨S4096x2816, .f32⟩
  | 47 => ⟨S4096x2816, .f32⟩
  | 48 => ⟨S4096x2816, .f32⟩
  | 49 => ⟨S4096x2816, .f32⟩
  | 50 => ⟨S1024x2816, .f32⟩
  | 51 => ⟨S4096x2816, .f32⟩
  | 52 => ⟨S4096x2816, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096, .f32⟩
  | 81 => ⟨S_, .f32⟩
  | 82 => ⟨S4096, .f32⟩
  | 83 => ⟨S4096, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S4096, .f32⟩
  | 92 => ⟨S_, .f32⟩
  | 93 => ⟨S4096, .f32⟩
  | 94 => ⟨S4096, .f32⟩
  | 95 => ⟨S4096x1024, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S1024x2816, .f32⟩
  | 121 => ⟨S2816x1024, .f32⟩
  | 122 => ⟨S4096x2816, .f32⟩
  | 123 => ⟨S4096x2816, .f32⟩
  | 124 => ⟨S4096x2816, .f32⟩
  | 125 => ⟨S2816x1024, .f32⟩
  | 126 => ⟨S1024x2816, .f32⟩
  | 127 => ⟨S4096x1024, .f32⟩
  | _ => ⟨S4096x1024, .f32⟩

abbrev hbmTy0_1 (i : Nat) : BufTy := match i % 128 with
  | 0 => ⟨S2816x1024, .f32⟩
  | 1 => ⟨S4096x2816, .f32⟩
  | 2 => ⟨S4096x2816, .f32⟩
  | 3 => ⟨S4096x2816, .f32⟩
  | 4 => ⟨S4096x2816, .f32⟩
  | 5 => ⟨S2816x1024, .f32⟩
  | 6 => ⟨S1024x2816, .f32⟩
  | 7 => ⟨S4096x1024, .f32⟩
  | 8 => ⟨S4096x1024, .f32⟩
  | 9 => ⟨S2816x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S4096x1024, .f32⟩
  | 21 => ⟨S4096x1024, .f32⟩
  | 22 => ⟨S4096x1024, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S1024x1024, .f32⟩
  | 35 => ⟨S1024x1024, .f32⟩
  | 36 => ⟨S4096x1024, .f32⟩
  | 37 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v24_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v24_1 : Ref sig .tc := ⟨.hbm, 48, rfl⟩
abbrev main_v24_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_cst_12 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_15 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_16 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_17 : Ref sig .tc := ⟨.hbm, 110, rfl⟩
abbrev main_v71 : Ref sig .tc := ⟨.hbm, 111, rfl⟩
abbrev main_v72 : Ref sig .tc := ⟨.hbm, 112, rfl⟩
abbrev main_cst_18 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_19 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_20 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_cst_22 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x4736 : Shape := ⟨2, ![1024, 4736]⟩
abbrev S4096x1536 : Shape := ⟨2, ![4096, 1536]⟩
abbrev S4096x128 : Shape := ⟨2, ![4096, 128]⟩
abbrev S512x1024 : Shape := ⟨2, ![512, 1024]⟩
abbrev S512 : Shape := ⟨1, ![512]⟩
abbrev S512x1 : Shape := ⟨2, ![512, 1]⟩
abbrev S4096x4736 : Shape := ⟨2, ![4096, 4736]⟩
abbrev S256x1024 : Shape := ⟨2, ![256, 1024]⟩
abbrev S256x4736 : Shape := ⟨2, ![256, 4736]⟩
abbrev S512x512 : Shape := ⟨2, ![512, 512]⟩
abbrev S512x1536 : Shape := ⟨2, ![512, 1536]⟩
abbrev S512x128 : Shape := ⟨2, ![512, 128]⟩
abbrev S512x4736 : Shape := ⟨2, ![512, 4736]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 14
  | .vmem => 43
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4736, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1536, .bf16⟩
  | .hbm, ⟨7, _⟩ => ⟨S4096x128, .bf16⟩
  | .hbm, ⟨8, _⟩ => ⟨S4096x1024, .f32⟩
  | .hbm, ⟨9, _⟩ => ⟨S4096x1024, .bf16⟩
  | .hbm, ⟨10, _⟩ => ⟨S4096x4736, .f32⟩
  | .hbm, ⟨11, _⟩ => ⟨S1024x4736, .f32⟩
  | .hbm, ⟨12, _⟩ => ⟨S4096x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x4736, .bf16⟩
  | .local _ .vmem, ⟨8, _⟩ => ⟨S256x4736, .f32⟩
  | .local _ .vmem, ⟨9, _⟩ => ⟨S256x4736, .f32⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1536, .bf16⟩
  | .local _ .vmem, ⟨19, _⟩ => ⟨S512x1536, .bf16⟩
  | .local _ .vmem, ⟨20, _⟩ => ⟨S512x128, .bf16⟩
  | .local _ .vmem, ⟨21, _⟩ => ⟨S512x128, .bf16⟩
  | .local _ .vmem, ⟨22, _⟩ => ⟨S512x4736, .f32⟩
  | .local _ .vmem, ⟨23, _⟩ => ⟨S512x4736, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1536, .bf16⟩
  | .local _ .vmem, ⟨31, _⟩ => ⟨S256x1536, .bf16⟩
  | .local _ .vmem, ⟨32, _⟩ => ⟨S256x128, .bf16⟩
  | .local _ .vmem, ⟨33, _⟩ => ⟨S256x128, .bf16⟩
  | .local _ .vmem, ⟨34, _⟩ => ⟨S1024x4736, .bf16⟩
  | .local _ .vmem, ⟨35, _⟩ => ⟨S256x1024, .f32⟩
  | .local _ .vmem, ⟨36, _⟩ => ⟨S256x1024, .f32⟩
  | .local _ .vmem, ⟨37, _⟩ => ⟨S1x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc3_stg9_0 : Ref sig .tc := ⟨.vmem, 40, rfl⟩
abbrev cc3_stg9_1 : Ref sig .tc := ⟨.vmem, 41, rfl⟩
abbrev cc3_stg10_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem6_0 : DmaSem sig := 35
abbrev cc3_sem6_1 : DmaSem sig := 36
abbrev cc3_sem7_0 : DmaSem sig := 37
abbrev cc3_sem8_0 : DmaSem sig := 38
abbrev cc3_sem8_1 : DmaSem sig := 39
abbrev cc3_sem9_0 : DmaSem sig := 40
abbrev cc3_sem9_1 : DmaSem sig := 41
abbrev cc3_sem10_0 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x4736 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x4736 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![2, 1, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 2 → Memref sig .tc .vmem S512x1536 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, false, true]

abbrev stage2_5 : Fin 2 → Memref sig .tc .vmem S512x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, false, true]

abbrev stage2_6 : Fin 2 → Memref sig .tc .vmem S512x4736 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨2, ![1, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S256x1536 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S256x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 1 → Memref sig .tc .vmem S1024x4736 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, false]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, false]

abbrev stage3_8 : Fin 2 → Memref sig .tc .vmem S256x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S256x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true, false]
-- ==== Reference3Ideal.lean ====
abbrev S4096x1024 : Shape := ⟨2, ![4096, 1024]⟩
abbrev S1x1024 : Shape := ⟨2, ![1, 1024]⟩
abbrev S1024x4736 : Shape := ⟨2, ![1024, 4736]⟩
abbrev S4096x1536 : Shape := ⟨2, ![4096, 1536]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x4736 : Shape := ⟨2, ![4096, 4736]⟩
abbrev S4736x1024 : Shape := ⟨2, ![4736, 1024]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4736, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1536, .bf16⟩
  | .hbm, ⟨7, _⟩ => ⟨S4096x128, .bf16⟩
  | .hbm, ⟨8, _⟩ => ⟨S4096x1024, .f32⟩
  | .hbm, ⟨9, _⟩ => ⟨S1024x4736, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1536, .f32⟩
  | .hbm, ⟨14, _⟩ => ⟨S4096x128, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4736, .f32⟩
  | .hbm, ⟨35, _⟩ => ⟨S4096x4736, .f32⟩
  | .hbm, ⟨36, _⟩ => ⟨S4736x1024, .f32⟩
  | .hbm, ⟨37, _⟩ => ⟨S1024x4736, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel4.lean ====
abbrev S4096x1024 : Shape := ⟨2, ![4096, 1024]⟩
abbrev S4096x2048 : Shape := ⟨2, ![4096, 2048]⟩
abbrev S2048x1024 : Shape := ⟨2, ![2048, 1024]⟩
abbrev S1x1024 : Shape := ⟨2, ![1, 1024]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S256x1 : Shape := ⟨2, ![256, 1]⟩
abbrev S1024 : Shape := ⟨1, ![1024]⟩
abbrev S1024x512 : Shape := ⟨2, ![1024, 512]⟩
abbrev S256x512 : Shape := ⟨2, ![256, 512]⟩

abbrev nBuf : Space → Nat
  | .hbm => 26
  | .vmem => 67
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .bf16⟩
  | .hbm, ⟨3, _⟩ => ⟨S1x1024, .f32⟩
  | .hbm, ⟨4, _⟩ => ⟨S1024x1024, .bf16⟩
  | .hbm, ⟨5, _⟩ => ⟨S1x1024, .f32⟩
  | .hbm, ⟨6, _⟩ => ⟨S1024x2048, .bf16⟩
  | .hbm, ⟨7, _⟩ => ⟨S256x1024, .f32⟩
  | .hbm, ⟨8, _⟩ => ⟨S4096x1024, .bf16⟩
  | .hbm, ⟨9, _⟩ => ⟨S256x2048, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S256x1024, .bf16⟩
  | .hbm, ⟨15, _⟩ => ⟨S256x2048, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S1024x1024, .f32⟩
  | .hbm, ⟨20, _⟩ => ⟨S256x2048, .bf16⟩
  | .hbm, ⟨21, _⟩ => ⟨S1024x2048, .f32⟩
  | .hbm, ⟨22, _⟩ => ⟨S256x1024, .f32⟩
  | .hbm, ⟨23, _⟩ => ⟨S1x1024, .f32⟩
  | .hbm, ⟨24, _⟩ => ⟨S4096x2048, .f32⟩
  | .hbm, ⟨25, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S1024x1024, .bf16⟩
  | .local _ .vmem, ⟨20, _⟩ => ⟨S1024x1024, .bf16⟩
  | .local _ .vmem, ⟨21, _⟩ => ⟨S256x1024, .f32⟩
  | .local _ .vmem, ⟨22, _⟩ => ⟨S256x1024, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S1x1024, .f32⟩
  | .local _ .vmem, ⟨36, _⟩ => ⟨S1024x512, .bf16⟩
  | .local _ .vmem, ⟨37, _⟩ => ⟨S1024x512, .bf16⟩
  | .local _ .vmem, ⟨38, _⟩ => ⟨S1024x1024, .bf16⟩
  | .local _ .vmem, ⟨39, _⟩ => ⟨S1024x1024, .bf16⟩
  | .local _ .vmem, ⟨40, _⟩ => ⟨S512x1024, .f32⟩
  | .local _ .vmem, ⟨41, _⟩ => ⟨S512x1024, .f32⟩
  | .local _ .vmem, ⟨42, _⟩ => ⟨S256x512, .bf16⟩
  | .local _ .vmem, ⟨43, _⟩ => ⟨S256x512, .bf16⟩
  | .local _ .vmem, ⟨44, _⟩ => ⟨S256x1024, .bf16⟩
  | .local _ .vmem, ⟨45, _⟩ => ⟨S256x1024, .bf16⟩
  | .local _ .vmem, ⟨46, _⟩ => ⟨S512x1024, .f32⟩
  | .local _ .vmem, ⟨47, _⟩ => ⟨S512x1024, .f32⟩
  | .local _ .vmem, ⟨48, _⟩ => ⟨S256x2048, .bf16⟩
  | .local _ .vmem, ⟨49, _⟩ => ⟨S1024x2048, .bf16⟩
  | .local _ .vmem, ⟨50, _⟩ => ⟨S256x1024, .f32⟩
  | .local _ .vmem, ⟨51, _⟩ => ⟨S256x1024, .f32⟩
  | .local _ .vmem, ⟨52, _⟩ => ⟨S1x1024, .f32⟩
  | .local _ .vmem, ⟨53, _⟩ => ⟨S256x1024, .f32⟩
  | .local _ .vmem, ⟨54, _⟩ => ⟨S1x1024, .f32⟩
  | .local _ .vmem, ⟨55, _⟩ => ⟨S512x1024, .bf16⟩
  | .local _ .vmem, ⟨56, _⟩ => ⟨S512x1024, .bf16⟩
  | .local _ .vmem, ⟨57, _⟩ => ⟨S1024x1024, .bf16⟩
  | .local _ .vmem, ⟨58, _⟩ => ⟨S1024x1024, .bf16⟩
  | .local _ .vmem, ⟨59, _⟩ => ⟨S512x1024, .f32⟩
  | .local _ .vmem, ⟨60, _⟩ => ⟨S512x1024, .f32⟩
  | .local _ .vmem, ⟨61, _⟩ => ⟨S1024x512, .bf16⟩
  | .local _ .vmem, ⟨62, _⟩ => ⟨S1024x512, .bf16⟩
  | .local _ .vmem, ⟨63, _⟩ => ⟨S1024x1024, .bf16⟩
  | .local _ .vmem, ⟨64, _⟩ => ⟨S1024x1024, .bf16⟩
  | .local _ .vmem, ⟨65, _⟩ => ⟨S512x1024, .f32⟩
  | .local _ .vmem, ⟨66, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc4_stg5_0 : Ref sig .tc := ⟨.vmem, 31, rfl⟩
abbrev cc4_stg5_1 : Ref sig .tc := ⟨.vmem, 32, rfl⟩
abbrev cc4_stg6_0 : Ref sig .tc := ⟨.vmem, 33, rfl⟩
abbrev cc4_stg6_1 : Ref sig .tc := ⟨.vmem, 34, rfl⟩
abbrev cc4_stg7_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc8_stg0_0 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg3_0 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg1_1 : Ref sig .tc := ⟨.vmem, 58, rfl⟩
abbrev cc9_stg2_0 : Ref sig .tc := ⟨.vmem, 59, rfl⟩
abbrev cc9_stg2_1 : Ref sig .tc := ⟨.vmem, 60, rfl⟩
abbrev cc10_stg0_0 : Ref sig .tc := ⟨.vmem, 61, rfl⟩
abbrev cc10_stg0_1 : Ref sig .tc := ⟨.vmem, 62, rfl⟩
abbrev cc10_stg1_0 : Ref sig .tc := ⟨.vmem, 63, rfl⟩
abbrev cc10_stg1_1 : Ref sig .tc := ⟨.vmem, 64, rfl⟩
abbrev cc10_stg2_0 : Ref sig .tc := ⟨.vmem, 65, rfl⟩
abbrev cc10_stg2_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem2_0 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem4_0 : DmaSem sig := 29
abbrev cc4_sem4_1 : DmaSem sig := 30
abbrev cc4_sem5_0 : DmaSem sig := 31
abbrev cc4_sem5_1 : DmaSem sig := 32
abbrev cc4_sem6_0 : DmaSem sig := 33
abbrev cc4_sem6_1 : DmaSem sig := 34
abbrev cc4_sem7_0 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem1_0 : DmaSem sig := 49
abbrev cc7_sem2_0 : DmaSem sig := 50
abbrev cc8_sem0_0 : DmaSem sig := 51
abbrev cc8_sem1_0 : DmaSem sig := 52
abbrev cc8_sem2_0 : DmaSem sig := 53
abbrev cc8_sem3_0 : DmaSem sig := 54
abbrev cc9_sem0_0 : DmaSem sig := 55
abbrev cc9_sem0_1 : DmaSem sig := 56
abbrev cc9_sem1_0 : DmaSem sig := 57
abbrev cc9_sem1_1 : DmaSem sig := 58
abbrev cc9_sem2_0 : DmaSem sig := 59
abbrev cc9_sem2_1 : DmaSem sig := 60
abbrev cc10_sem0_0 : DmaSem sig := 61
abbrev cc10_sem0_1 : DmaSem sig := 62
abbrev cc10_sem1_0 : DmaSem sig := 63
abbrev cc10_sem1_1 : DmaSem sig := 64
abbrev cc10_sem2_0 : DmaSem sig := 65
abbrev cc10_sem2_1 : DmaSem sig := 66

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S256x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, false]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 1 → Memref sig .tc .vmem S1x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true, false]

abbrev grid5 : Pipeline.Grid := ⟨3, ![2, 1, 4], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S256x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S256x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 1 → Memref sig .tc .vmem S256x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, true]

abbrev stage7_1 : Fin 1 → Memref sig .tc .vmem S1024x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 1 → Memref sig .tc .vmem S256x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S1x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨2, ![2, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S1024x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨3, ![4, 1, 4], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference4Ideal.lean ====
abbrev S4096x1024 : Shape := ⟨2, ![4096, 1024]⟩
abbrev S4096x2048 : Shape := ⟨2, ![4096, 2048]⟩
abbrev S2048x1024 : Shape := ⟨2, ![2048, 1024]⟩
abbrev S1x1024 : Shape := ⟨2, ![1, 1024]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .bf16⟩
  | .hbm, ⟨3, _⟩ => ⟨S1x1024, .f32⟩
  | .hbm, ⟨4, _⟩ => ⟨S1024x1024, .bf16⟩
  | .hbm, ⟨5, _⟩ => ⟨S1x1024, .f32⟩
  | .hbm, ⟨6, _⟩ => ⟨S1024x2048, .bf16⟩
  | .hbm, ⟨7, _⟩ => ⟨S256x1024, .f32⟩
  | .hbm, ⟨8, _⟩ => ⟨S4096x1024, .bf16⟩
  | .hbm, ⟨9, _⟩ => ⟨S256x2048, .f32⟩
  | .hbm, ⟨10, _⟩ => ⟨S4096x1024, .f32⟩
  | .hbm, ⟨11, _⟩ => ⟨S4096x2048, .f32⟩
  | .hbm, ⟨12, _⟩ => ⟨S2048x1024, .f32⟩
  | .hbm, ⟨13, _⟩ => ⟨S1024x1024, .f32⟩
  | .hbm, ⟨14, _⟩ => ⟨S1024x2048, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S256x1024, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x2048, .f32⟩
  | .hbm, ⟨54, _⟩ => ⟨S2048x1024, .f32⟩
  | .hbm, ⟨55, _⟩ => ⟨S1024x2048, .f32⟩
  | .hbm, ⟨56, _⟩ => ⟨S256x1024, .f32⟩
  | .hbm, ⟨57, _⟩ => ⟨S256x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1024x1024, .f32⟩
  | .hbm, ⟨62, _⟩ => ⟨S1024x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S1024x2048, .f32⟩
  | .hbm, ⟨90, _⟩ => ⟨S2048x1024, .f32⟩
  | .hbm, ⟨91, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Kernel5.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S256x2048, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S256x1024, .f32⟩
  | .hbm, ⟨3, _⟩ => ⟨S256x1024, .f32⟩
  | .hbm, ⟨4, _⟩ => ⟨S4096x4x256, .f32⟩
  | .hbm, ⟨5, _⟩ => ⟨S256x4x256, .f32⟩
  | .hbm, ⟨6, _⟩ => ⟨S256x4x256, .f32⟩
  | .hbm, ⟨7, _⟩ => ⟨S4x4096x256, .f32⟩
  | .hbm, ⟨8, _⟩ => ⟨S_, .f32⟩
  | .hbm, ⟨9, _⟩ => ⟨S4x4096x256, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x256, .f32⟩
  | .hbm, ⟨24, _⟩ => ⟨S4x4096x256, .f32⟩
  | .hbm, ⟨25, _⟩ => ⟨S4x256x4096, .f32⟩
  | .hbm, ⟨26, _⟩ => ⟨S4096x4x256, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel6.lean ====
abbrev S1x1024x1156 : Shape := ⟨3, ![1, 1024, 1156]⟩
abbrev S2x512x1156 : Shape := ⟨3, ![2, 512, 1156]⟩
abbrev S1x512x1024 : Shape := ⟨3, ![1, 512, 1024]⟩
abbrev S2x256x1024 : Shape := ⟨3, ![2, 256, 1024]⟩
abbrev S1x256x1024 : Shape := ⟨3, ![1, 256, 1024]⟩
abbrev S2x128x1024 : Shape := ⟨3, ![2, 128, 1024]⟩
abbrev S1x1024x512 : Shape := ⟨3, ![1, 1024, 512]⟩
abbrev S2x512x512 : Shape := ⟨3, ![2, 512, 512]⟩
abbrev S1x704x1024 : Shape := ⟨3, ![1, 704, 1024]⟩
abbrev S2x352x1024 : Shape := ⟨3, ![2, 352, 1024]⟩
abbrev S1x256x1156 : Shape := ⟨3, ![1, 256, 1156]⟩
abbrev S256x1156 : Shape := ⟨2, ![256, 1156]⟩
abbrev S256x1024 : Shape := ⟨2, ![256, 1024]⟩
abbrev S1x128x1024 : Shape := ⟨3, ![1, 128, 1024]⟩
abbrev S128x1024 : Shape := ⟨2, ![128, 1024]⟩
abbrev S1x512x512 : Shape := ⟨3, ![1, 512, 512]⟩
abbrev S512x512 : Shape := ⟨2, ![512, 512]⟩
abbrev S1x352x1024 : Shape := ⟨3, ![1, 352, 1024]⟩
abbrev S352x1024 : Shape := ⟨2, ![352, 1024]⟩

abbrev nBuf : Space → Nat
  | .hbm => 64
  | .vmem => 128
  | .smem => 0
  | _ => 0

abbrev bufTy : (tb : Table) → Fin (tcTables nBuf tb) → BufTy
  | .hbm, ⟨0, _⟩ => ⟨S1x1024x1156, .f32⟩
  | .hbm, ⟨1, _⟩ => ⟨S2x512x1156, .f32⟩
  | .hbm, ⟨2, _⟩ => ⟨S1x1024x1156, .f32⟩
  | .hbm, ⟨3, _⟩ => ⟨S1x1024x1156, .f32⟩
  | .hbm, ⟨4, _⟩ => ⟨S1x512x1024, .f32⟩
  | .hbm, ⟨5, _⟩ => ⟨S2x256x1024, .f32⟩
  | .hbm, ⟨6, _⟩ => ⟨S1x512x1024, .f32⟩
  | .hbm, ⟨7, _⟩ => ⟨S1x512x1024, .f32⟩
  | .hbm, ⟨8, _⟩ => ⟨S1x256x1024, .f32⟩
  | .hbm, ⟨9, _⟩ => ⟨S2x128x1024, .f32⟩
  | .hbm, ⟨10, _⟩ => ⟨S1x256x1024, .f32⟩
  | .hbm, ⟨11, _⟩ => ⟨S1x256x1024, .f32⟩
  | .hbm, ⟨12, _⟩ => ⟨S1x1024x512, .f32⟩
  | .hbm, ⟨13, _⟩ => ⟨S2x512x512, .f32⟩
  | .hbm, ⟨14, _⟩ => ⟨S1x1024x512, .f32⟩
  | .hbm, ⟨15, _⟩ => ⟨S1x1024x512, .f32⟩
  | .hbm, ⟨16, _⟩ => ⟨S1x256x1024, .f32⟩
  | .hbm, ⟨17, _⟩ => ⟨S2x128x1024, .f32⟩
  | .hbm, ⟨18, _⟩ => ⟨S1x256x1024, .f32⟩
  | .hbm, ⟨19, _⟩ => ⟨S1x256x1024, .f32⟩
  | .hbm, ⟨20, _⟩ => ⟨S1x704x1024, .f32⟩
  | .hbm, ⟨21, _⟩ => ⟨S2x352x1024, .f32⟩
  | .hbm, ⟨22, _⟩ => ⟨S1x704x1024, .f32⟩
  | .hbm, ⟨23, _⟩ => ⟨S1x704x1024, .f32⟩
  | .hbm, ⟨24, _⟩ => ⟨S1x704x1024, .f32⟩
  | .hbm, ⟨25, _⟩ => ⟨S2x352x1024, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S2x352x1024, .f32⟩
  | .hbm, ⟨30, _⟩ => ⟨S1x704x1024, .f32⟩
  | .hbm, ⟨31, _⟩ => ⟨S1x704x1024, .f32⟩
  | .hbm, ⟨32, _⟩ => ⟨S1x1024x1156, .f32⟩
  | .hbm, ⟨33, _⟩ => ⟨S1x1024x1156, .f32⟩
  | .hbm, ⟨34, _⟩ => ⟨S1x1024x1156, .f32⟩
  | .hbm, ⟨35, _⟩ => ⟨S1x1024x1156, .f32⟩
  | .hbm, ⟨36, _⟩ => ⟨S1x512x1024, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S1x256x1024, .f32⟩
  | .hbm, ⟨41, _⟩ => ⟨S1x256x1024, .f32⟩
  | .hbm, ⟨42, _⟩ => ⟨S1x256x1024, .f32⟩
  | .hbm, ⟨43, _⟩ => ⟨S1x256x1024, .f32⟩
  | .hbm, ⟨44, _⟩ => ⟨S1x1024x512, .f32⟩
  | .hbm, ⟨45, _⟩ => ⟨S1x1024x512, .f32⟩
  | .hbm, ⟨46, _⟩ => ⟨S1x1024x512, .f32⟩
  | .hbm, ⟨47, _⟩ => ⟨S1x1024x512, .f32⟩
  | .hbm, ⟨48, _⟩ => ⟨S1x256x1024, .f32⟩
  | .hbm, ⟨49, _⟩ => ⟨S1x256x1024, .f32⟩
  | .hbm, ⟨50, _⟩ => ⟨S1x256x1024, .f32⟩
  | .hbm, ⟨51, _⟩ => ⟨S1x256x1024, .f32⟩
  | .hbm, ⟨52, _⟩ => ⟨S1x704x1024, .f32⟩
  | .hbm, ⟨53, _⟩ => ⟨S1x704x1024, .f32⟩
  | .hbm, ⟨54, _⟩ => ⟨S1x704x1024, .f32⟩
  | .hbm, ⟨55, _⟩ => ⟨S1x704x1024, .f32⟩
  | .hbm, ⟨56, _⟩ => ⟨S1x704x1024, .f32⟩
  | .hbm, ⟨57, _⟩ => ⟨S1x704x1024, .f32⟩
  | .hbm, ⟨58, _⟩ => ⟨S1x704x1024, .f32⟩
  | .hbm, ⟨59, _⟩ => ⟨S1x704x1024, .f32⟩
  | .hbm, ⟨60, _⟩ => ⟨S1x704x1024, .f32⟩
  | .hbm, ⟨61, _⟩ => ⟨S1x704x1024, .f32⟩
  | .hbm, ⟨62, _⟩ => ⟨S1x704x1024, .f32⟩
  | .hbm, ⟨63, _⟩ => ⟨S1x704x1024, .f32⟩
  | .local _ .vmem, ⟨0, _⟩ => ⟨S1x256x1156, .f32⟩
  | .local _ .vmem, ⟨1, _⟩ => ⟨S1x256x1156, .f32⟩
  | .local _ .vmem, ⟨2, _⟩ => ⟨S1x256x1156, .f32⟩
  | .local _ .vmem, ⟨3, _⟩ => ⟨S1x256x1156, .f32⟩
  | .local _ .vmem, ⟨4, _⟩ => ⟨S1x256x1156, .f32⟩
  | .local _ .vmem, ⟨5, _⟩ => ⟨S1x256x1156, .f32⟩
  | .local _ .vmem, ⟨6, _⟩ => ⟨S1x256x1156, .f32⟩
  | .local _ .vmem, ⟨7, _⟩ => ⟨S1x256x1156, .f32⟩
  | .local _ .vmem, ⟨8, _⟩ => ⟨S1x256x1156, .f32⟩
  | .local _ .vmem, ⟨9, _⟩ => ⟨S1x256x1156, .f32⟩
  | .local _ .vmem, ⟨10, _⟩ => ⟨S1x256x1156, .f32⟩
  | .local _ .vmem, ⟨11, _⟩ => ⟨S1x256x1156, .f32⟩
  | .local _ .vmem, ⟨12, _⟩ => ⟨S1x256x1156, .f32⟩
  | .local _ .vmem, ⟨13, _⟩ => ⟨S1x256x1156, .f32⟩
  | .local _ .vmem, ⟨14, _⟩ => ⟨S1x256x1156, .f32⟩
  | .local _ .vmem, ⟨15, _⟩ => ⟨S1x256x1156, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x128x1024, .f32⟩
  | .local _ .vmem, ⟨33, _⟩ => ⟨S1x128x1024, .f32⟩
  | .local _ .vmem, ⟨34, _⟩ => ⟨S1x128x1024, .f32⟩
  | .local _ .vmem, ⟨35, _⟩ => ⟨S1x128x1024, .f32⟩
  | .local _ .vmem, ⟨36, _⟩ => ⟨S1x128x1024, .f32⟩
  | .local _ .vmem, ⟨37, _⟩ => ⟨S1x128x1024, .f32⟩
  | .local _ .vmem, ⟨38, _⟩ => ⟨S1x128x1024, .f32⟩
  | .local _ .vmem, ⟨39, _⟩ => ⟨S1x128x1024, .f32⟩
  | .local _ .vmem, ⟨40, _⟩ => ⟨S1x128x1024, .f32⟩
  | .local _ .vmem, ⟨41, _⟩ => ⟨S1x128x1024, .f32⟩
  | .local _ .vmem, ⟨42, _⟩ => ⟨S1x128x1024, .f32⟩
  | .local _ .vmem, ⟨43, _⟩ => ⟨S1x128x1024, .f32⟩
  | .local _ .vmem, ⟨44, _⟩ => ⟨S1x128x1024, .f32⟩
  | .local _ .vmem, ⟨45, _⟩ => ⟨S1x128x1024, .f32⟩
  | .local _ .vmem, ⟨46, _⟩ => ⟨S1x128x1024, .f32⟩
  | .local _ .vmem, ⟨47, _⟩ => ⟨S1x128x1024, .f32⟩
  | .local _ .vmem, ⟨48, _⟩ => ⟨S1x512x512, .f32⟩
  | .local _ .vmem, ⟨49, _⟩ => ⟨S1x512x512, .f32⟩
  | .local _ .vmem, ⟨50, _⟩ => ⟨S1x512x512, .f32⟩
  | .local _ .vmem, ⟨51, _⟩ => ⟨S1x512x512, .f32⟩
  | .local _ .vmem, ⟨52, _⟩ => ⟨S1x512x512, .f32⟩
  | .local _ .vmem, ⟨53, _⟩ => ⟨S1x512x512, .f32⟩
  | .local _ .vmem, ⟨54, _⟩ => ⟨S1x512x512, .f32⟩
  | .local _ .vmem, ⟨55, _⟩ => ⟨S1x512x512, .f32⟩
  | .local _ .vmem, ⟨56, _⟩ => ⟨S1x512x512, .f32⟩
  | .local _ .vmem, ⟨57, _⟩ => ⟨S1x512x512, .f32⟩
  | .local _ .vmem, ⟨58, _⟩ => ⟨S1x512x512, .f32⟩
  | .local _ .vmem, ⟨59, _⟩ => ⟨S1x512x512, .f32⟩
  | .local _ .vmem, ⟨60, _⟩ => ⟨S1x512x512, .f32⟩
  | .local _ .vmem, ⟨61, _⟩ => ⟨S1x512x512, .f32⟩
  | .local _ .vmem, ⟨62, _⟩ => ⟨S1x512x512, .f32⟩
  | .local _ .vmem, ⟨63, _⟩ => ⟨S1x512x512, .f32⟩
  | .local _ .vmem, ⟨64, _⟩ => ⟨S1x128x1024, .f32⟩
  | .local _ .vmem, ⟨65, _⟩ => ⟨S1x128x1024, .f32⟩
  | .local _ .vmem, ⟨66, _⟩ => ⟨S1x128x1024, .f32⟩
  | .local _ .vmem, ⟨67, _⟩ => ⟨S1x128x1024, .f32⟩
  | .local _ .vmem, ⟨68, _⟩ => ⟨S1x128x1024, .f32⟩
  | .local _ .vmem, ⟨69, _⟩ => ⟨S1x128x1024, .f32⟩
  | .local _ .vmem, ⟨70, _⟩ => ⟨S1x128x1024, .f32⟩
  | .local _ .vmem, ⟨71, _⟩ => ⟨S1x128x1024, .f32⟩
  | .local _ .vmem, ⟨72, _⟩ => ⟨S1x128x1024, .f32⟩
  | .local _ .vmem, ⟨73, _⟩ => ⟨S1x128x1024, .f32⟩
  | .local _ .vmem, ⟨74, _⟩ => ⟨S1x128x1024, .f32⟩
  | .local _ .vmem, ⟨75, _⟩ => ⟨S1x128x1024, .f32⟩
  | .local _ .vmem, ⟨76, _⟩ => ⟨S1x128x1024, .f32⟩
  | .local _ .vmem, ⟨77, _⟩ => ⟨S1x128x1024, .f32⟩
  | .local _ .vmem, ⟨78, _⟩ => ⟨S1x128x1024, .f32⟩
  | .local _ .vmem, ⟨79, _⟩ => ⟨S1x128x1024, .f32⟩
  | .local _ .vmem, ⟨80, _⟩ => ⟨S1x352x1024, .f32⟩
  | .local _ .vmem, ⟨81, _⟩ => ⟨S1x352x1024, .f32⟩
  | .local _ .vmem, ⟨82, _⟩ => ⟨S1x352x1024, .f32⟩
  | .local _ .vmem, ⟨83, _⟩ => ⟨S1x352x1024, .f32⟩
  | .local _ .vmem, ⟨84, _⟩ => ⟨S1x352x1024, .f32⟩
  | .local _ .vmem, ⟨85, _⟩ => ⟨S1x352x1024, .f32⟩
  | .local _ .vmem, ⟨86, _⟩ => ⟨S1x352x1024, .f32⟩
  | .local _ .vmem, ⟨87, _⟩ => ⟨S1x352x1024, .f32⟩
  | .local _ .vmem, ⟨88, _⟩ => ⟨S1x352x1024, .f32⟩
  | .local _ .vmem, ⟨89, _⟩ => ⟨S1x352x1024, .f32⟩
  | .local _ .vmem, ⟨90, _⟩ => ⟨S1x352x1024, .f32⟩
  | .local _ .vmem, ⟨91, _⟩ => ⟨S1x352x1024, .f32⟩
  | .local _ .vmem, ⟨92, _⟩ => ⟨S1x352x1024, .f32⟩
  | .local _ .vmem, ⟨93, _⟩ => ⟨S1x352x1024, .f32⟩
  | .local _ .vmem, ⟨94, _⟩ => ⟨S1x352x1024, .f32⟩
  | .local _ .vmem, ⟨95, _⟩ => ⟨S1x352x1024, .f32⟩
  | .local _ .vmem, ⟨96, _⟩ => ⟨S1x352x1024, .f32⟩
  | .local _ .vmem, ⟨97, _⟩ => ⟨S1x352x1024, .f32⟩
  | .local _ .vmem, ⟨98, _⟩ => ⟨S1x352x1024, .f32⟩
  | .local _ .vmem, ⟨99, _⟩ => ⟨S1x352x1024, .f32⟩
  | .local _ .vmem, ⟨100, _⟩ => ⟨S1x352x1024, .f32⟩
  | .local _ .vmem, ⟨101, _⟩ => ⟨S1x352x1024, .f32⟩
  | .local _ .vmem, ⟨102, _⟩ => ⟨S1x352x1024, .f32⟩
  | .local _ .vmem, ⟨103, _⟩ => ⟨S1x352x1024, .f32⟩
  | .local _ .vmem, ⟨104, _⟩ => ⟨S1x352x1024, .f32⟩
  | .local _ .vmem, ⟨105, _⟩ => ⟨S1x352x1024, .f32⟩
  | .local _ .vmem, ⟨106, _⟩ => ⟨S1x352x1024, .f32⟩
  | .local _ .vmem, ⟨107, _⟩ => ⟨S1x352x1024, .f32⟩
  | .local _ .vmem, ⟨108, _⟩ => ⟨S1x352x1024, .f32⟩
  | .local _ .vmem, ⟨109, _⟩ => ⟨S1x352x1024, .f32⟩
  | .local _ .vmem, ⟨110, _⟩ => ⟨S1x352x1024, .f32⟩
  | .local _ .vmem, ⟨111, _⟩ => ⟨S1x352x1024, .f32⟩
  | .local _ .vmem, ⟨112, _⟩ => ⟨S1x352x1024, .f32⟩
  | .local _ .vmem, ⟨113, _⟩ => ⟨S1x352x1024, .f32⟩
  | .local _ .vmem, ⟨114, _⟩ => ⟨S1x352x1024, .f32⟩
  | .local _ .vmem, ⟨115, _⟩ => ⟨S1x352x1024, .f32⟩
  | .local _ .vmem, ⟨116, _⟩ => ⟨S1x352x1024, .f32⟩
  | .local _ .vmem, ⟨117, _⟩ => ⟨S1x352x1024, .f32⟩
  | .local _ .vmem, ⟨118, _⟩ => ⟨S1x352x1024, .f32⟩
  | .local _ .vmem, ⟨119, _⟩ => ⟨S1x352x1024, .f32⟩
  | .local _ .vmem, ⟨120, _⟩ => ⟨S1x352x1024, .f32⟩
  | .local _ .vmem, ⟨121, _⟩ => ⟨S1x352x1024, .f32⟩
  | .local _ .vmem, ⟨122, _⟩ => ⟨S1x352x1024, .f32⟩
  | .local _ .vmem, ⟨123, _⟩ => ⟨S1x352x1024, .f32⟩
  | .local _ .vmem, ⟨124, _⟩ => ⟨S1x352x1024, .f32⟩
  | .local _ .vmem, ⟨125, _⟩ => ⟨S1x352x1024, .f32⟩
  | .local _ .vmem, ⟨126, _⟩ => ⟨S1x352x1024, .f32⟩
  | .local _ .vmem, ⟨127, _⟩ => ⟨S1x352x1024, .f32⟩
  | _, _ => ⟨S1x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v1_0 : Ref sig .tc := ⟨.hbm, 36, rfl⟩
abbrev main_v1_1 : Ref sig .tc := ⟨.hbm, 37, rfl⟩
abbrev main_v1_2 : Ref sig .tc := ⟨.hbm, 38, rfl⟩
abbrev main_v1_3 : Ref sig .tc := ⟨.hbm, 39, rfl⟩
abbrev main_v2_0 : Ref sig .tc := ⟨.hbm, 40, rfl⟩
abbrev main_v2_1 : Ref sig .tc := ⟨.hbm, 41, rfl⟩
abbrev main_v2_2 : Ref sig .tc := ⟨.hbm, 42, rfl⟩
abbrev main_v2_3 : Ref sig .tc := ⟨.hbm, 43, rfl⟩
abbrev main_v3_0 : Ref sig .tc := ⟨.hbm, 44, rfl⟩
abbrev main_v3_1 : Ref sig .tc := ⟨.hbm, 45, rfl⟩
abbrev main_v3_2 : Ref sig .tc := ⟨.hbm, 46, rfl⟩
abbrev main_v3_3 : Ref sig .tc := ⟨.hbm, 47, rfl⟩
abbrev main_v4_0 : Ref sig .tc := ⟨.hbm, 48, rfl⟩
abbrev main_v4_1 : Ref sig .tc := ⟨.hbm, 49, rfl⟩
abbrev main_v4_2 : Ref sig .tc := ⟨.hbm, 50, rfl⟩
abbrev main_v4_3 : Ref sig .tc := ⟨.hbm, 51, rfl⟩
abbrev main_v5_0 : Ref sig .tc := ⟨.hbm, 52, rfl⟩
abbrev main_v5_1 : Ref sig .tc := ⟨.hbm, 53, rfl⟩
abbrev main_v5_2 : Ref sig .tc := ⟨.hbm, 54, rfl⟩
abbrev main_v5_3 : Ref sig .tc := ⟨.hbm, 55, rfl⟩
abbrev main_v6_0 : Ref sig .tc := ⟨.hbm, 56, rfl⟩
abbrev main_v6_1 : Ref sig .tc := ⟨.hbm, 57, rfl⟩
abbrev main_v6_2 : Ref sig .tc := ⟨.hbm, 58, rfl⟩
abbrev main_v6_3 : Ref sig .tc := ⟨.hbm, 59, rfl⟩
abbrev main_v7_0 : Ref sig .tc := ⟨.hbm, 60, rfl⟩
abbrev main_v7_1 : Ref sig .tc := ⟨.hbm, 61, rfl⟩
abbrev main_v7_2 : Ref sig .tc := ⟨.hbm, 62, rfl⟩
abbrev main_v7_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc5_stg0_0 : Ref sig .tc := ⟨.vmem, 80, rfl⟩
abbrev cc5_stg0_1 : Ref sig .tc := ⟨.vmem, 81, rfl⟩
abbrev cc5_stg1_0 : Ref sig .tc := ⟨.vmem, 82, rfl⟩
abbrev cc5_stg1_1 : Ref sig .tc := ⟨.vmem, 83, rfl⟩
abbrev cc5_stg2_0 : Ref sig .tc := ⟨.vmem, 84, rfl⟩
abbrev cc5_stg2_1 : Ref sig .tc := ⟨.vmem, 85, rfl⟩
abbrev cc5_stg3_0 : Ref sig .tc := ⟨.vmem, 86, rfl⟩
abbrev cc5_stg3_1 : Ref sig .tc := ⟨.vmem, 87, rfl⟩
abbrev cc5_stg4_0 : Ref sig .tc := ⟨.vmem, 88, rfl⟩
abbrev cc5_stg4_1 : Ref sig .tc := ⟨.vmem, 89, rfl⟩
abbrev cc5_stg5_0 : Ref sig .tc := ⟨.vmem, 90, rfl⟩
abbrev cc5_stg5_1 : Ref sig .tc := ⟨.vmem, 91, rfl⟩
abbrev cc5_stg6_0 : Ref sig .tc := ⟨.vmem, 92, rfl⟩
abbrev cc5_stg6_1 : Ref sig .tc := ⟨.vmem, 93, rfl⟩
abbrev cc5_stg7_0 : Ref sig .tc := ⟨.vmem, 94, rfl⟩
abbrev cc5_stg7_1 : Ref sig .tc := ⟨.vmem, 95, rfl⟩
abbrev cc6_stg0_0 : Ref sig .tc := ⟨.vmem, 96, rfl⟩
abbrev cc6_stg0_1 : Ref sig .tc := ⟨.vmem, 97, rfl⟩
abbrev cc6_stg1_0 : Ref sig .tc := ⟨.vmem, 98, rfl⟩
abbrev cc6_stg1_1 : Ref sig .tc := ⟨.vmem, 99, rfl⟩
abbrev cc6_stg2_0 : Ref sig .tc := ⟨.vmem, 100, rfl⟩
abbrev cc6_stg2_1 : Ref sig .tc := ⟨.vmem, 101, rfl⟩
abbrev cc6_stg3_0 : Ref sig .tc := ⟨.vmem, 102, rfl⟩
abbrev cc6_stg3_1 : Ref sig .tc := ⟨.vmem, 103, rfl⟩
abbrev cc6_stg4_0 : Ref sig .tc := ⟨.vmem, 104, rfl⟩
abbrev cc6_stg4_1 : Ref sig .tc := ⟨.vmem, 105, rfl⟩
abbrev cc6_stg5_0 : Ref sig .tc := ⟨.vmem, 106, rfl⟩
abbrev cc6_stg5_1 : Ref sig .tc := ⟨.vmem, 107, rfl⟩
abbrev cc6_stg6_0 : Ref sig .tc := ⟨.vmem, 108, rfl⟩
abbrev cc6_stg6_1 : Ref sig .tc := ⟨.vmem, 109, rfl⟩
abbrev cc6_stg7_0 : Ref sig .tc := ⟨.vmem, 110, rfl⟩
abbrev cc6_stg7_1 : Ref sig .tc := ⟨.vmem, 111, rfl⟩
abbrev cc7_stg0_0 : Ref sig .tc := ⟨.vmem, 112, rfl⟩
abbrev cc7_stg0_1 : Ref sig .tc := ⟨.vmem, 113, rfl⟩
abbrev cc7_stg1_0 : Ref sig .tc := ⟨.vmem, 114, rfl⟩
abbrev cc7_stg1_1 : Ref sig .tc := ⟨.vmem, 115, rfl⟩
abbrev cc7_stg2_0 : Ref sig .tc := ⟨.vmem, 116, rfl⟩
abbrev cc7_stg2_1 : Ref sig .tc := ⟨.vmem, 117, rfl⟩
abbrev cc7_stg3_0 : Ref sig .tc := ⟨.vmem, 118, rfl⟩
abbrev cc7_stg3_1 : Ref sig .tc := ⟨.vmem, 119, rfl⟩
abbrev cc7_stg4_0 : Ref sig .tc := ⟨.vmem, 120, rfl⟩
abbrev cc7_stg4_1 : Ref sig .tc := ⟨.vmem, 121, rfl⟩
abbrev cc7_stg5_0 : Ref sig .tc := ⟨.vmem, 122, rfl⟩
abbrev cc7_stg5_1 : Ref sig .tc := ⟨.vmem, 123, rfl⟩
abbrev cc7_stg6_0 : Ref sig .tc := ⟨.vmem, 124, rfl⟩
abbrev cc7_stg6_1 : Ref sig .tc := ⟨.vmem, 125, rfl⟩
abbrev cc7_stg7_0 : Ref sig .tc := ⟨.vmem, 126, rfl⟩
abbrev cc7_stg7_1 : Ref sig .tc := ⟨.vmem, 127, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79
abbrev cc5_sem0_0 : DmaSem sig := 80
abbrev cc5_sem0_1 : DmaSem sig := 81
abbrev cc5_sem1_0 : DmaSem sig := 82
abbrev cc5_sem1_1 : DmaSem sig := 83
abbrev cc5_sem2_0 : DmaSem sig := 84
abbrev cc5_sem2_1 : DmaSem sig := 85
abbrev cc5_sem3_0 : DmaSem sig := 86
abbrev cc5_sem3_1 : DmaSem sig := 87
abbrev cc5_sem4_0 : DmaSem sig := 88
abbrev cc5_sem4_1 : DmaSem sig := 89
abbrev cc5_sem5_0 : DmaSem sig := 90
abbrev cc5_sem5_1 : DmaSem sig := 91
abbrev cc5_sem6_0 : DmaSem sig := 92
abbrev cc5_sem6_1 : DmaSem sig := 93
abbrev cc5_sem7_0 : DmaSem sig := 94
abbrev cc5_sem7_1 : DmaSem sig := 95
abbrev cc6_sem0_0 : DmaSem sig := 96
abbrev cc6_sem0_1 : DmaSem sig := 97
abbrev cc6_sem1_0 : DmaSem sig := 98
abbrev cc6_sem1_1 : DmaSem sig := 99
abbrev cc6_sem2_0 : DmaSem sig := 100
abbrev cc6_sem2_1 : DmaSem sig := 101
abbrev cc6_sem3_0 : DmaSem sig := 102
abbrev cc6_sem3_1 : DmaSem sig := 103
abbrev cc6_sem4_0 : DmaSem sig := 104
abbrev cc6_sem4_1 : DmaSem sig := 105
abbrev cc6_sem5_0 : DmaSem sig := 106
abbrev cc6_sem5_1 : DmaSem sig := 107
abbrev cc6_sem6_0 : DmaSem sig := 108
abbrev cc6_sem6_1 : DmaSem sig := 109
abbrev cc6_sem7_0 : DmaSem sig := 110
abbrev cc6_sem7_1 : DmaSem sig := 111
abbrev cc7_sem0_0 : DmaSem sig := 112
abbrev cc7_sem0_1 : DmaSem sig := 113
abbrev cc7_sem1_0 : DmaSem sig := 114
abbrev cc7_sem1_1 : DmaSem sig := 115
abbrev cc7_sem2_0 : DmaSem sig := 116
abbrev cc7_sem2_1 : DmaSem sig := 117
abbrev cc7_sem3_0 : DmaSem sig := 118
abbrev cc7_sem3_1 : DmaSem sig := 119
abbrev cc7_sem4_0 : DmaSem sig := 120
abbrev cc7_sem4_1 : DmaSem sig := 121
abbrev cc7_sem5_0 : DmaSem sig := 122
abbrev cc7_sem5_1 : DmaSem sig := 123
abbrev cc7_sem6_0 : DmaSem sig := 124
abbrev cc7_sem6_1 : DmaSem sig := 125
abbrev cc7_sem7_0 : DmaSem sig := 126
abbrev cc7_sem7_1 : DmaSem sig := 127

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1156 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1156 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1156 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S1x128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x512x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x512x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S1x128x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x128x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x128x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x128x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x128x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x128x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x128x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x128x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![2], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S1x352x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x352x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x352x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x352x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x352x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x352x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x352x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x352x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![2], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S1x352x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x352x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x352x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x352x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x352x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x352x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x352x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x352x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![2], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_7 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S1x352x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x352x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x352x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x352x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x352x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1x352x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x352x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S1x352x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]
-- ==== Reference6Ideal.lean ====
abbrev S1x1024x1156 : Shape := ⟨3, ![1, 1024, 1156]⟩
abbrev S2x512x1156 : Shape := ⟨3, ![2, 512, 1156]⟩
abbrev S1x512x1024 : Shape := ⟨3, ![1, 512, 1024]⟩
abbrev S2x256x1024 : Shape := ⟨3, ![2, 256, 1024]⟩
abbrev S1x256x1024 : Shape := ⟨3, ![1, 256, 1024]⟩
abbrev S2x128x1024 : Shape := ⟨3, ![2, 128, 1024]⟩
abbrev S1x1024x512 : Shape := ⟨3, ![1, 1024, 512]⟩
abbrev S2x512x512 : Shape := ⟨3, ![2, 512, 512]⟩
abbrev S1x704x1024 : Shape := ⟨3, ![1, 704, 1024]⟩
abbrev S2x352x1024 : Shape := ⟨3, ![2, 352, 1024]⟩
abbrev S_ : Shape := ⟨0, ![]⟩

abbrev nBuf : Space → Nat
  | .hbm => 304
  | .vmem => 0
  | .smem => 0
  | _ => 0

abbrev hbmTy0_0 (i : Nat) : BufTy := match i % 128 with
  | 0 => ⟨S1x1024x1156, .f32⟩
  | 1 => ⟨S2x512x1156, .f32⟩
  | 2 => ⟨S1x1024x1156, .f32⟩
  | 3 => ⟨S1x1024x1156, .f32⟩
  | 4 => ⟨S1x512x1024, .f32⟩
  | 5 => ⟨S2x256x1024, .f32⟩
  | 6 => ⟨S1x512x1024, .f32⟩
  | 7 => ⟨S1x512x1024, .f32⟩
  | 8 => ⟨S1x256x1024, .f32⟩
  | 9 => ⟨S2x128x1024, .f32⟩
  | 10 => ⟨S1x256x1024, .f32⟩
  | 11 => ⟨S1x256x1024, .f32⟩
  | 12 => ⟨S1x1024x512, .f32⟩
  | 13 => ⟨S2x512x512, .f32⟩
  | 14 => ⟨S1x1024x512, .f32⟩
  | 15 => ⟨S1x1024x512, .f32⟩
  | 16 => ⟨S1x256x1024, .f32⟩
  | 17 => ⟨S2x128x1024, .f32⟩
  | 18 => ⟨S1x256x1024, .f32⟩
  | 19 => ⟨S1x256x1024, .f32⟩
  | 20 => ⟨S1x704x1024, .f32⟩
  | 21 => ⟨S2x352x1024, .f32⟩
  | 22 => ⟨S1x704x1024, .f32⟩
  | 23 => ⟨S1x704x1024, .f32⟩
  | 24 => ⟨S1x704x1024, .f32⟩
  | 25 => ⟨S2x352x1024, .f32⟩
  | 26 => ⟨S1x704x1024, .f32⟩
  | 27 => ⟨S1x704x1024, .f32⟩
  | 28 => ⟨S1x704x1024, .f32⟩
  | 29 => ⟨S2x352x1024, .f32⟩
  | 30 => ⟨S1x704x1024, .f32⟩
  | 31 => ⟨S1x704x1024, .f32⟩
  | 32 => ⟨S1x1024x1156, .f32⟩
  | 33 => ⟨S_, .f32⟩
  | 34 => ⟨S1x1024x1156, .f32⟩
  | 35 => ⟨S1x1024x1156, .f32⟩
  | 36 => ⟨S_, .f32⟩
  | 37 => ⟨S1x1024x1156, .f32⟩
  | 38 => ⟨S1x1024x1156, .f32⟩
  | 39 => ⟨S1x1024x1156, .f32⟩
  | 40 => ⟨S_, .f32⟩
  | 41 => ⟨S1x1024x1156, .f32⟩
  | 42 => ⟨S1x1024x1156, .f32⟩
  | 43 => ⟨S1x1024x1156, .f32⟩
  | 44 => ⟨S_, .f32⟩
  | 45 => ⟨S1x1024x1156, .f32⟩
  | 46 => ⟨S1x1024x1156, .f32⟩
  | 47 => ⟨S1x1024x1156, .f32⟩
  | 48 => ⟨S_, .f32⟩
  | 49 => ⟨S1x1024x1156, .f32⟩
  | 50 => ⟨S1x1024x1156, .f32⟩
  | 51 => ⟨S_, .f32⟩
  | 52 => ⟨S1x1024x1156, .f32⟩
  | 53 => ⟨S1x1024x1156, .f32⟩
  | 54 => ⟨S1x1024x1156, .f32⟩
  | 55 => ⟨S_, .f32⟩
  | 56 => ⟨S1x1024x1156, .f32⟩
  | 57 => ⟨S1x1024x1156, .f32⟩
  | 58 => ⟨S1x1024x1156, .f32⟩
  | 59 => ⟨S_, .f32⟩
  | 60 => ⟨S1x1024x1156, .f32⟩
  | 61 => ⟨S1x1024x1156, .f32⟩
  | 62 => ⟨S1x1024x1156, .f32⟩
  | 63 => ⟨S_, .f32⟩
  | 64 => ⟨S1x1024x1156, .f32⟩
  | 65 => ⟨S1x1024x1156, .f32⟩
  | 66 => ⟨S1x512x1024, .f32⟩
  | 67 => ⟨S_, .f32⟩
  | 68 => ⟨S1x512x1024, .f32⟩
  | 69 => ⟨S1x512x1024, .f32⟩
  | 70 => ⟨S_, .f32⟩
  | 71 => ⟨S1x512x1024, .f32⟩
  | 72 => ⟨S1x512x1024, .f32⟩
  | 73 => ⟨S1x512x1024, .f32⟩
  | 74 => ⟨S_, .f32⟩
  | 75 => ⟨S1x512x1024, .f32⟩
  | 76 => ⟨S1x512x1024, .f32⟩
  | 77 => ⟨S1x512x1024, .f32⟩
  | 78 => ⟨S_, .f32⟩
  | 79 => ⟨S1x512x1024, .f32⟩
  | 80 => ⟨S1x512x1024, .f32⟩
  | 81 => ⟨S1x512x1024, .f32⟩
  | 82 => ⟨S_, .f32⟩
  | 83 => ⟨S1x512x1024, .f32⟩
  | 84 => ⟨S1x512x1024, .f32⟩
  | 85 => ⟨S_, .f32⟩
  | 86 => ⟨S1x512x1024, .f32⟩
  | 87 => ⟨S1x512x1024, .f32⟩
  | 88 => ⟨S1x512x1024, .f32⟩
  | 89 => ⟨S_, .f32⟩
  | 90 => ⟨S1x512x1024, .f32⟩
  | 91 => ⟨S1x512x1024, .f32⟩
  | 92 => ⟨S1x512x1024, .f32⟩
  | 93 => ⟨S_, .f32⟩
  | 94 => ⟨S1x512x1024, .f32⟩
  | 95 => ⟨S1x512x1024, .f32⟩
  | 96 => ⟨S1x512x1024, .f32⟩
  | 97 => ⟨S_, .f32⟩
  | 98 => ⟨S1x512x1024, .f32⟩
  | 99 => ⟨S1x512x1024, .f32⟩
  | 100 => ⟨S1x256x1024, .f32⟩
  | 101 => ⟨S_, .f32⟩
  | 102 => ⟨S1x256x1024, .f32⟩
  | 103 => ⟨S1x256x1024, .f32⟩
  | 104 => ⟨S_, .f32⟩
  | 105 => ⟨S1x256x1024, .f32⟩
  | 106 => ⟨S1x256x1024, .f32⟩
  | 107 => ⟨S1x256x1024, .f32⟩
  | 108 => ⟨S_, .f32⟩
  | 109 => ⟨S1x256x1024, .f32⟩
  | 110 => ⟨S1x256x1024, .f32⟩
  | 111 => ⟨S1x256x1024, .f32⟩
  | 112 => ⟨S_, .f32⟩
  | 113 => ⟨S1x256x1024, .f32⟩
  | 114 => ⟨S1x256x1024, .f32⟩
  | 115 => ⟨S1x256x1024, .f32⟩
  | 116 => ⟨S_, .f32⟩
  | 117 => ⟨S1x256x1024, .f32⟩
  | 118 => ⟨S1x256x1024, .f32⟩
  | 119 => ⟨S_, .f32⟩
  | 120 => ⟨S1x256x1024, .f32⟩
  | 121 => ⟨S1x256x1024, .f32⟩
  | 122 => ⟨S1x256x1024, .f32⟩
  | 123 => ⟨S_, .f32⟩
  | 124 => ⟨S1x256x1024, .f32⟩
  | 125 => ⟨S1x256x1024, .f32⟩
  | 126 => ⟨S1x256x1024, .f32⟩
  | 127 => ⟨S_, .f32⟩
  | _ => ⟨S1x1024x1156, .f32⟩

abbrev hbmTy0_1 (i : Nat) : BufTy := match i % 128 with
  | 0 => ⟨S1x256x1024, .f32⟩
  | 1 => ⟨S1x256x1024, .f32⟩
  | 2 => ⟨S1x256x1024, .f32⟩
  | 3 => ⟨S_, .f32⟩
  | 4 => ⟨S1x256x1024, .f32⟩
  | 5 => ⟨S1x256x1024, .f32⟩
  | 6 => ⟨S1x1024x512, .f32⟩
  | 7 => ⟨S_, .f32⟩
  | 8 => ⟨S1x1024x512, .f32⟩
  | 9 => ⟨S1x1024x512, .f32⟩
  | 10 => ⟨S_, .f32⟩
  | 11 => ⟨S1x1024x512, .f32⟩
  | 12 => ⟨S1x1024x512, .f32⟩
  | 13 => ⟨S1x1024x512, .f32⟩
  | 14 => ⟨S_, .f32⟩
  | 15 => ⟨S1x1024x512, .f32⟩
  | 16 => ⟨S1x1024x512, .f32⟩
  | 17 => ⟨S1x1024x512, .f32⟩
  | 18 => ⟨S_, .f32⟩
  | 19 => ⟨S1x1024x512, .f32⟩
  | 20 => ⟨S1x1024x512, .f32⟩
  | 21 => ⟨S1x1024x512, .f32⟩
  | 22 => ⟨S_, .f32⟩
  | 23 => ⟨S1x1024x512, .f32⟩
  | 24 => ⟨S1x1024x512, .f32⟩
  | 25 => ⟨S_, .f32⟩
  | 26 => ⟨S1x1024x512, .f32⟩
  | 27 => ⟨S1x1024x512, .f32⟩
  | 28 => ⟨S1x1024x512, .f32⟩
  | 29 => ⟨S_, .f32⟩
  | 30 => ⟨S1x1024x512, .f32⟩
  | 31 => ⟨S1x1024x512, .f32⟩
  | 32 => ⟨S1x1024x512, .f32⟩
  | 33 => ⟨S_, .f32⟩
  | 34 => ⟨S1x1024x512, .f32⟩
  | 35 => ⟨S1x1024x512, .f32⟩
  | 36 => ⟨S1x1024x512, .f32⟩
  | 37 => ⟨S_, .f32⟩
  | 38 => ⟨S1x1024x512, .f32⟩
  | 39 => ⟨S1x1024x512, .f32⟩
  | 40 => ⟨S1x256x1024, .f32⟩
  | 41 => ⟨S_, .f32⟩
  | 42 => ⟨S1x256x1024, .f32⟩
  | 43 => ⟨S1x256x1024, .f32⟩
  | 44 => ⟨S_, .f32⟩
  | 45 => ⟨S1x256x1024, .f32⟩
  | 46 => ⟨S1x256x1024, .f32⟩
  | 47 => ⟨S1x256x1024, .f32⟩
  | 48 => ⟨S_, .f32⟩
  | 49 => ⟨S1x256x1024, .f32⟩
  | 50 => ⟨S1x256x1024, .f32⟩
  | 51 => ⟨S1x256x1024, .f32⟩
  | 52 => ⟨S_, .f32⟩
  | 53 => ⟨S1x256x1024, .f32⟩
  | 54 => ⟨S1x256x1024, .f32⟩
  | 55 => ⟨S1x256x1024, .f32⟩
  | 56 => ⟨S_, .f32⟩
  | 57 => ⟨S1x256x1024, .f32⟩
  | 58 => ⟨S1x256x1024, .f32⟩
  | 59 => ⟨S_, .f32⟩
  | 60 => ⟨S1x256x1024, .f32⟩
  | 61 => ⟨S1x256x1024, .f32⟩
  | 62 => ⟨S1x256x1024, .f32⟩
  | 63 => ⟨S_, .f32⟩
  | 64 => ⟨S1x256x1024, .f32⟩
  | 65 => ⟨S1x256x1024, .f32⟩
  | 66 => ⟨S1x256x1024, .f32⟩
  | 67 => ⟨S_, .f32⟩
  | 68 => ⟨S1x256x1024, .f32⟩
  | 69 => ⟨S1x256x1024, .f32⟩
  | 70 => ⟨S1x256x1024, .f32⟩
  | 71 => ⟨S_, .f32⟩
  | 72 => ⟨S1x256x1024, .f32⟩
  | 73 => ⟨S1x256x1024, .f32⟩
  | 74 => ⟨S1x704x1024, .f32⟩
  | 75 => ⟨S_, .f32⟩
  | 76 => ⟨S1x704x1024, .f32⟩
  | 77 => ⟨S1x704x1024, .f32⟩
  | 78 => ⟨S_, .f32⟩
  | 79 => ⟨S1x704x1024, .f32⟩
  | 80 => ⟨S1x704x1024, .f32⟩
  | 81 => ⟨S1x704x1024, .f32⟩
  | 82 => ⟨S_, .f32⟩
  | 83 => ⟨S1x704x1024, .f32⟩
  | 84 => ⟨S1x704x1024, .f32⟩
  | 85 => ⟨S1x704x1024, .f32⟩
  | 86 => ⟨S_, .f32⟩
  | 87 => ⟨S1x704x1024, .f32⟩
  | 88 => ⟨S1x704x1024, .f32⟩
  | 89 => ⟨S1x704x1024, .f32⟩
  | 90 => ⟨S_, .f32⟩
  | 91 => ⟨S1x704x1024, .f32⟩
  | 92 => ⟨S1x704x1024, .f32⟩
  | 93 => ⟨S_, .f32⟩
  | 94 => ⟨S1x704x1024, .f32⟩
  | 95 => ⟨S1x704x1024, .f32⟩
  | 96 => ⟨S1x704x1024, .f32⟩
  | 97 => ⟨S_, .f32⟩
  | 98 => ⟨S1x704x1024, .f32⟩
  | 99 => ⟨S1x704x1024, .f32⟩
  | 100 => ⟨S1x704x1024, .f32⟩
  | 101 => ⟨S_, .f32⟩
  | 102 => ⟨S1x704x1024, .f32⟩
  | 103 => ⟨S1x704x1024, .f32⟩
  | 104 => ⟨S1x704x1024, .f32⟩
  | 105 => ⟨S_, .f32⟩
  | 106 => ⟨S1x704x1024, .f32⟩
  | 107 => ⟨S1x704x1024, .f32⟩
  | 108 => ⟨S1x704x1024, .f32⟩
  | 109 => ⟨S_, .f32⟩
  | 110 => ⟨S1x704x1024, .f32⟩
  | 111 => ⟨S1x704x1024, .f32⟩
  | 112 => ⟨S_, .f32⟩
  | 113 => ⟨S1x704x1024, .f32⟩
  | 114 => ⟨S1x704x1024, .f32⟩
  | 115 => ⟨S1x704x1024, .f32⟩
  | 116 => ⟨S_, .f32⟩
  | 117 => ⟨S1x704x1024, .f32⟩
  | 118 => ⟨S1x704x1024, .f32⟩
  | 119 => ⟨S1x704x1024, .f32⟩
  | 120 => ⟨S_, .f32⟩
  | 121 => ⟨S1x704x1024, .f32⟩
  | 122 => ⟨S1x704x1024, .f32⟩
  | 123 => ⟨S1x704x1024, .f32⟩
  | 124 => ⟨S_, .f32⟩
  | 125 => ⟨S1x704x1024, .f32⟩
  | 126 => ⟨S1x704x1024, .f32⟩
  | 127 => ⟨S_, .f32⟩
  | _ => ⟨S1x1024x1156, .f32⟩

abbrev hbmTy0_2 (i : Nat) : BufTy := match i % 128 with
  | 0 => ⟨S1x704x1024, .f32⟩
  | 1 => ⟨S1x704x1024, .f32⟩
  | 2 => ⟨S1x704x1024, .f32⟩
  | 3 => ⟨S_, .f32⟩
  | 4 => ⟨S1x704x1024, .f32⟩
  | 5 => ⟨S1x704x1024, .f32⟩
  | 6 => ⟨S1x704x1024, .f32⟩
  | 7 => ⟨S_, .f32⟩
  | 8 => ⟨S1x704x1024, .f32⟩
  | 9 => ⟨S1x704x1024, .f32⟩
  | 10 => ⟨S1x704x1024, .f32⟩
  | 11 => ⟨S_, .f32⟩
  | 12 => ⟨S1x704x1024, .f32⟩
  | 13 => ⟨S1x704x1024, .f32⟩
  | 14 => ⟨S1x704x1024, .f32⟩
  | 15 => ⟨S_, .f32⟩
  | 16 => ⟨S1x704x1024, .f32⟩
  | 17 => ⟨S1x704x1024, .f32⟩
  | 18 => ⟨S_, .f32⟩
  | 19 => ⟨S1x704x1024, .f32⟩
  | 20 => ⟨S1x704x1024, .f32⟩
  | 21 => ⟨S1x704x1024, .f32⟩
  | 22 => ⟨S_, .f32⟩
  | 23 => ⟨S1x704x1024, .f32⟩
  | 24 => ⟨S1x704x1024, .f32⟩
  | 25 => ⟨S1x704x1024, .f32⟩
  | 26 => ⟨S_, .f32⟩
  | 27 => ⟨S1x704x1024, .f32⟩
  | 28 => ⟨S1x704x1024, .f32⟩
  | 29 => ⟨S1x704x1024, .f32⟩
  | 30 => ⟨S_, .f32⟩
  | 31 => ⟨S1x704x1024, .f32⟩
  | 32 => ⟨S1x704x1024, .f32⟩
  | 33 => ⟨S_, .f32⟩
  | 34 => ⟨S1x704x1024, .f32⟩
  | 35 => ⟨S1x704x1024, .f32⟩
  | 36 => ⟨S1x704x1024, .f32⟩
  | 37 => ⟨S_, .f32⟩
  | 38 => ⟨S1x704x1024, .f32⟩
  | 39 => ⟨S1x704x1024, .f32⟩
  | 40 => ⟨S1x704x1024, .f32⟩
  | 41 => ⟨S_, .f32⟩
  | 42 => ⟨S1x704x1024, .f32⟩
  | 43 => ⟨S1x704x1024, .f32⟩
  | 44 => ⟨S1x704x1024, .f32⟩
  | 45 => ⟨S_, .f32⟩
  | 46 => ⟨S1x704x1024, .f32⟩
  | 47 => ⟨S1x704x1024, .f32⟩
  | _ => ⟨S1x1024x1156, .f32⟩

abbrev hbmTy (i : Nat) : BufTy := match i / 128 with
  | 0 => hbmTy0_0 i
  | 1 => hbmTy0_1 i
  | 2 => hbmTy0_2 i
  | _ => ⟨S1x1024x1156, .f32⟩

abbrev bufTy : (tb : Table) → Fin (tcTables nBuf tb) → BufTy
  | .hbm, ⟨i, _⟩ => hbmTy i
  | _, _ => ⟨S1x1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_v2 : Ref sig .tc := ⟨.hbm, 35, rfl⟩
abbrev main_cst_0 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_cst_1 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_2 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_3 : Ref sig .tc := ⟨.hbm, 48, rfl⟩
abbrev main_v12 : Ref sig .tc := ⟨.hbm, 49, rfl⟩
abbrev main_v13 : Ref sig .tc := ⟨.hbm, 50, rfl⟩
abbrev main_cst_4 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_5 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_6 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_7 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_8 : Ref sig .tc := ⟨.hbm, 67, rfl⟩
abbrev main_v26 : Ref sig .tc := ⟨.hbm, 68, rfl⟩
abbrev main_v27 : Ref sig .tc := ⟨.hbm, 69, rfl⟩
abbrev main_cst_9 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_10 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_11 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_12 : Ref sig .tc := ⟨.hbm, 82, rfl⟩
abbrev main_v37 : Ref sig .tc := ⟨.hbm, 83, rfl⟩
abbrev main_v38 : Ref sig .tc := ⟨.hbm, 84, rfl⟩
abbrev main_cst_13 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_14 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_15 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_16 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_17 : Ref sig .tc := ⟨.hbm, 101, rfl⟩
abbrev main_v51 : Ref sig .tc := ⟨.hbm, 102, rfl⟩
abbrev main_v52 : Ref sig .tc := ⟨.hbm, 103, rfl⟩
abbrev main_cst_18 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_19 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_20 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_21 : Ref sig .tc := ⟨.hbm, 116, rfl⟩
abbrev main_v62 : Ref sig .tc := ⟨.hbm, 117, rfl⟩
abbrev main_v63 : Ref sig .tc := ⟨.hbm, 118, rfl⟩
abbrev main_cst_22 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_23 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_24 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_25 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_26 : Ref sig .tc := ⟨.hbm, 135, rfl⟩
abbrev main_v76 : Ref sig .tc := ⟨.hbm, 136, rfl⟩
abbrev main_v77 : Ref sig .tc := ⟨.hbm, 137, rfl⟩
abbrev main_cst_27 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_28 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_29 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_30 : Ref sig .tc := ⟨.hbm, 150, rfl⟩
abbrev main_v87 : Ref sig .tc := ⟨.hbm, 151, rfl⟩
abbrev main_v88 : Ref sig .tc := ⟨.hbm, 152, rfl⟩
abbrev main_cst_31 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_cst_32 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_cst_33 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_34 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_cst_35 : Ref sig .tc := ⟨.hbm, 169, rfl⟩
abbrev main_v101 : Ref sig .tc := ⟨.hbm, 170, rfl⟩
abbrev main_v102 : Ref sig .tc := ⟨.hbm, 171, rfl⟩
abbrev main_cst_36 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_37 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_cst_38 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_39 : Ref sig .tc := ⟨.hbm, 184, rfl⟩
abbrev main_v112 : Ref sig .tc := ⟨.hbm, 185, rfl⟩
abbrev main_v113 : Ref sig .tc := ⟨.hbm, 186, rfl⟩
abbrev main_cst_40 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_cst_41 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_cst_42 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_cst_43 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_cst_44 : Ref sig .tc := ⟨.hbm, 203, rfl⟩
abbrev main_v126 : Ref sig .tc := ⟨.hbm, 204, rfl⟩
abbrev main_v127 : Ref sig .tc := ⟨.hbm, 205, rfl⟩
abbrev main_cst_45 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_cst_46 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_cst_47 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_cst_48 : Ref sig .tc := ⟨.hbm, 218, rfl⟩
abbrev main_v137 : Ref sig .tc := ⟨.hbm, 219, rfl⟩
abbrev main_v138 : Ref sig .tc := ⟨.hbm, 220, rfl⟩
abbrev main_cst_49 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_cst_50 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_51 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_cst_52 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_53 : Ref sig .tc := ⟨.hbm, 237, rfl⟩
abbrev main_v151 : Ref sig .tc := ⟨.hbm, 238, rfl⟩
abbrev main_v152 : Ref sig .tc := ⟨.hbm, 239, rfl⟩
abbrev main_cst_54 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_cst_55 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_cst_56 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_57 : Ref sig .tc := ⟨.hbm, 252, rfl⟩
abbrev main_v162 : Ref sig .tc := ⟨.hbm, 253, rfl⟩
abbrev main_v163 : Ref sig .tc := ⟨.hbm, 254, rfl⟩
abbrev main_cst_58 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_cst_59 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_cst_60 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_61 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_cst_62 : Ref sig .tc := ⟨.hbm, 271, rfl⟩
abbrev main_v176 : Ref sig .tc := ⟨.hbm, 272, rfl⟩
abbrev main_v177 : Ref sig .tc := ⟨.hbm, 273, rfl⟩
abbrev main_cst_63 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_cst_64 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_cst_65 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_cst_66 : Ref sig .tc := ⟨.hbm, 286, rfl⟩
abbrev main_v187 : Ref sig .tc := ⟨.hbm, 287, rfl⟩
abbrev main_v188 : Ref sig .tc := ⟨.hbm, 288, rfl⟩
abbrev main_cst_67 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_cst_68 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_cst_69 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_cst_70 : Ref sig .tc := ⟨.hbm, 301, rfl⟩
abbrev main_v198 : Ref sig .tc := ⟨.hbm, 302, rfl⟩
abbrev main_v199 : Ref sig .tc := ⟨.hbm, 303, rfl⟩

abbrev nD : Nat := 1
abbrev τ : Topo := Topo.v7x

variable {F : FTy → Type} [FloatOps F]
-- ==== Kernel7.lean ====
abbrev S1 : Shape := ⟨1, ![1]⟩
abbrev S1x4x384 : Shape := ⟨3, ![1, 4, 384]⟩
abbrev S4x1536 : Shape := ⟨2, ![4, 1536]⟩
abbrev S4x384 : Shape := ⟨2, ![4, 384]⟩

abbrev nBuf : Space → Nat
  | .hbm => 8
  | .vmem => 8
  | .smem => 1
  | _ => 0

abbrev bufTy : (tb : Table) → Fin (tcTables nBuf tb) → BufTy
  | .hbm, ⟨0, _⟩ => ⟨S1x4x384, .f32⟩
  | .hbm, ⟨1, _⟩ => ⟨S4x1536, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .hbm, ⟨7, _⟩ => ⟨S1x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .smem, ⟨0, _⟩ => ⟨S1, .i32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S1 : Shape := ⟨1, ![1]⟩
abbrev S1x4x384 : Shape := ⟨3, ![1, 4, 384]⟩
abbrev S4x1536 : Shape := ⟨2, ![4, 1536]⟩
abbrev S_ : Shape := ⟨0, ![]⟩
abbrev S4x384 : Shape := ⟨2, ![4, 384]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x4x384, .f32⟩
  | .hbm, ⟨2, _⟩ => ⟨S4x1536, .f32⟩
  | .hbm, ⟨3, _⟩ => ⟨S1x4x384, .f32⟩
  | .hbm, ⟨4, _⟩ => ⟨S1x4x384, .f32⟩
  | .hbm, ⟨5, _⟩ => ⟨S_, .i32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S4x384, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S4x384, .f32⟩
  | .hbm, ⟨21, _⟩ => ⟨S4x384, .f32⟩
  | .hbm, ⟨22, _⟩ => ⟨S1x4x384, .f32⟩
  | .hbm, ⟨23, _⟩ => ⟨S_, .f32⟩
  | .hbm, ⟨24, _⟩ => ⟨S1x4x384, .f32⟩
  | .hbm, ⟨25, _⟩ => ⟨S1x4x384, .f32⟩
  | .hbm, ⟨26, _⟩ => ⟨S_, .f32⟩
  | .hbm, ⟨27, _⟩ => ⟨S1x4x384, .f32⟩
  | .hbm, ⟨28, _⟩ => ⟨S1x4x384, .f32⟩
  | .hbm, ⟨29, _⟩ => ⟨S1x4x384, .f32⟩
  | .hbm, ⟨30, _⟩ => ⟨S_, .f32⟩
  | .hbm, ⟨31, _⟩ => ⟨S1x4x384, .f32⟩
  | .hbm, ⟨32, _⟩ => ⟨S1x4x384, .f32⟩
  | .hbm, ⟨33, _⟩ => ⟨S1x4x384, .f32⟩
  | .hbm, ⟨34, _⟩ => ⟨S_, .f32⟩
  | .hbm, ⟨35, _⟩ => ⟨S1x4x384, .f32⟩
  | .hbm, ⟨36, _⟩ => ⟨S1x4x384, .f32⟩
  | .hbm, ⟨37, _⟩ => ⟨S1x4x384, .f32⟩
  | .hbm, ⟨38, _⟩ => ⟨S_, .f32⟩
  | .hbm, ⟨39, _⟩ => ⟨S1x4x384, .f32⟩
  | .hbm, ⟨40, _⟩ => ⟨S1x4x384, .f32⟩
  | .hbm, ⟨41, _⟩ => ⟨S_, .f32⟩
  | .hbm, ⟨42, _⟩ => ⟨S1x4x384, .f32⟩
  | .hbm, ⟨43, _⟩ => ⟨S1x4x384, .f32⟩
  | .hbm, ⟨44, _⟩ => ⟨S1x4x384, .f32⟩
  | .hbm, ⟨45, _⟩ => ⟨S_, .f32⟩
  | .hbm, ⟨46, _⟩ => ⟨S1x4x384, .f32⟩
  | .hbm, ⟨47, _⟩ => ⟨S1x4x384, .f32⟩
  | .hbm, ⟨48, _⟩ => ⟨S1x4x384, .f32⟩
  | .hbm, ⟨49, _⟩ => ⟨S_, .f32⟩
  | .hbm, ⟨50, _⟩ => ⟨S1x4x384, .f32⟩
  | .hbm, ⟨51, _⟩ => ⟨S1x4x384, .f32⟩
  | .hbm, ⟨52, _⟩ => ⟨S1x4x384, .f32⟩
  | .hbm, ⟨53, _⟩ => ⟨S_, .f32⟩
  | .hbm, ⟨54, _⟩ => ⟨S1x4x384, .f32⟩
  | .hbm, ⟨55, _⟩ => ⟨S1x4x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel8.lean ====
abbrev S1 : Shape := ⟨1, ![1]⟩
abbrev S1x31x256 : Shape := ⟨3, ![1, 31, 256]⟩
abbrev S31x1024 : Shape := ⟨2, ![31, 1024]⟩
abbrev S31x256 : Shape := ⟨2, ![31, 256]⟩

abbrev nBuf : Space → Nat
  | .hbm => 8
  | .vmem => 8
  | .smem => 1
  | _ => 0

abbrev bufTy : (tb : Table) → Fin (tcTables nBuf tb) → BufTy
  | .hbm, ⟨0, _⟩ => ⟨S1x31x256, .f32⟩
  | .hbm, ⟨1, _⟩ => ⟨S31x1024, .f32⟩
  | .hbm, ⟨2, _⟩ => ⟨S1x31x256, .f32⟩
  | .hbm, ⟨3, _⟩ => ⟨S1x31x256, .f32⟩
  | .hbm, ⟨4, _⟩ => ⟨S1x31x256, .f32⟩
  | .hbm, ⟨5, _⟩ => ⟨S1x31x256, .f32⟩
  | .hbm, ⟨6, _⟩ => ⟨S1x31x256, .f32⟩
  | .hbm, ⟨7, _⟩ => ⟨S1x31x256, .f32⟩
  | .local _ .vmem, ⟨0, _⟩ => ⟨S1x31x256, .f32⟩
  | .local _ .vmem, ⟨1, _⟩ => ⟨S31x256, .f32⟩
  | .local _ .vmem, ⟨2, _⟩ => ⟨S1x31x256, .f32⟩
  | .local _ .vmem, ⟨3, _⟩ => ⟨S1x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | .local _ .smem, ⟨0, _⟩ => ⟨S1, .i32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S1 : Shape := ⟨1, ![1]⟩
abbrev S1x31x256 : Shape := ⟨3, ![1, 31, 256]⟩
abbrev S31x1024 : Shape := ⟨2, ![31, 1024]⟩
abbrev S_ : Shape := ⟨0, ![]⟩
abbrev S31x256 : Shape := ⟨2, ![31, 256]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x31x256, .f32⟩
  | .hbm, ⟨2, _⟩ => ⟨S31x1024, .f32⟩
  | .hbm, ⟨3, _⟩ => ⟨S1x31x256, .f32⟩
  | .hbm, ⟨4, _⟩ => ⟨S1x31x256, .f32⟩
  | .hbm, ⟨5, _⟩ => ⟨S_, .i32⟩
  | .hbm, ⟨6, _⟩ => ⟨S31x256, .f32⟩
  | .hbm, ⟨7, _⟩ => ⟨S31x256, .f32⟩
  | .hbm, ⟨8, _⟩ => ⟨S31x256, .f32⟩
  | .hbm, ⟨9, _⟩ => ⟨S31x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S31x256, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S31x256, .f32⟩
  | .hbm, ⟨21, _⟩ => ⟨S31x256, .f32⟩
  | .hbm, ⟨22, _⟩ => ⟨S1x31x256, .f32⟩
  | .hbm, ⟨23, _⟩ => ⟨S_, .f32⟩
  | .hbm, ⟨24, _⟩ => ⟨S1x31x256, .f32⟩
  | .hbm, ⟨25, _⟩ => ⟨S1x31x256, .f32⟩
  | .hbm, ⟨26, _⟩ => ⟨S_, .f32⟩
  | .hbm, ⟨27, _⟩ => ⟨S1x31x256, .f32⟩
  | .hbm, ⟨28, _⟩ => ⟨S1x31x256, .f32⟩
  | .hbm, ⟨29, _⟩ => ⟨S1x31x256, .f32⟩
  | .hbm, ⟨30, _⟩ => ⟨S_, .f32⟩
  | .hbm, ⟨31, _⟩ => ⟨S1x31x256, .f32⟩
  | .hbm, ⟨32, _⟩ => ⟨S1x31x256, .f32⟩
  | .hbm, ⟨33, _⟩ => ⟨S1x31x256, .f32⟩
  | .hbm, ⟨34, _⟩ => ⟨S_, .f32⟩
  | .hbm, ⟨35, _⟩ => ⟨S1x31x256, .f32⟩
  | .hbm, ⟨36, _⟩ => ⟨S1x31x256, .f32⟩
  | .hbm, ⟨37, _⟩ => ⟨S1x31x256, .f32⟩
  | .hbm, ⟨38, _⟩ => ⟨S_, .f32⟩
  | .hbm, ⟨39, _⟩ => ⟨S1x31x256, .f32⟩
  | .hbm, ⟨40, _⟩ => ⟨S1x31x256, .f32⟩
  | .hbm, ⟨41, _⟩ => ⟨S_, .f32⟩
  | .hbm, ⟨42, _⟩ => ⟨S1x31x256, .f32⟩
  | .hbm, ⟨43, _⟩ => ⟨S1x31x256, .f32⟩
  | .hbm, ⟨44, _⟩ => ⟨S1x31x256, .f32⟩
  | .hbm, ⟨45, _⟩ => ⟨S_, .f32⟩
  | .hbm, ⟨46, _⟩ => ⟨S1x31x256, .f32⟩
  | .hbm, ⟨47, _⟩ => ⟨S1x31x256, .f32⟩
  | .hbm, ⟨48, _⟩ => ⟨S1x31x256, .f32⟩
  | .hbm, ⟨49, _⟩ => ⟨S_, .f32⟩
  | .hbm, ⟨50, _⟩ => ⟨S1x31x256, .f32⟩
  | .hbm, ⟨51, _⟩ => ⟨S1x31x256, .f32⟩
  | .hbm, ⟨52, _⟩ => ⟨S1x31x256, .f32⟩
  | .hbm, ⟨53, _⟩ => ⟨S_, .f32⟩
  | .hbm, ⟨54, _⟩ => ⟨S1x31x256, .f32⟩
  | .hbm, ⟨55, _⟩ => ⟨S1x31x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Softmax.lean ====
/-
  One query row of one head of attention, and its gradient, over the extended reals.

  `x` is the query row, `K` and `V` the head's keys and values (one row per memory token), `g` the incoming gradient's row.
  `logit` are the scaled products, `prob` the softmax of a row, `slope` the gradient of the scaled logits as the kernel
  writes it, `prob · (dp − Σ dp · prob) · scale`.
-/
module

public import Idealize.ShloMosaic.Lib.Pointwise
public import Idealize.ShloMosaic.PureOps.Ideal.Laws

@[expose] public section

noncomputable section

namespace Cert.Softmax

open Idealize.ShloMosaic Idealize.ShloMosaic.Pointwise

/-- The factor `1/16 = 256 ^ (-1/2)`, as both programs spell it. -/
def scale : EReal := Ideal.ofBits .f32 0x3D800000#32

/-- Minus infinity, as both programs spell it. -/
def bottom : EReal := Ideal.ofBits .f32 0xFF800000#32

def dotRow (x : Fin 256 → EReal) (K : Fin 256 → Fin 256 → EReal) (m : Fin 256) : EReal := ∑ d, x d * K m d

def logit (x : Fin 256 → EReal) (K : Fin 256 → Fin 256 → EReal) (m : Fin 256) : EReal := dotRow x K m * scale

def top (s : Fin 256 → EReal) : EReal := Finset.univ.fold max bottom s

def weight (s : Fin 256 → EReal) (m : Fin 256) : EReal := Ideal.exp (s m - top s)

def total (s : Fin 256 → EReal) : EReal := ∑ k, weight s k

def prob (s : Fin 256 → EReal) (m : Fin 256) : EReal := Ideal.div (weight s m) (total s)

def slope (s dp : Fin 256 → EReal) (m : Fin 256) : EReal := prob s m * (dp m - ∑ k, dp k * prob s k) * scale

/-! ## Four heads, 256 columns each

`q` and `g` have `n` rows of 1024 columns, head `h` in columns `256h … 256h+255`; `kv` has 256 rows of 2048 columns, the
keys in the first 1024 and the values in the others, divided into heads the same way. -/

abbrev Rows (n : Nat) : Type := (⟨2, ![n, 1024]⟩ : Shape).Idx → EReal
abbrev Tokens : Type := (⟨2, ![256, 2048]⟩ : Shape).Idx → EReal

def col (h : Fin 4) (d : Fin 256) : Fin 1024 := ⟨h.val * 256 + d.val, by omega⟩
def keyCol (h : Fin 4) (d : Fin 256) : Fin 2048 := ⟨h.val * 256 + d.val, by omega⟩
def valueCol (h : Fin 4) (d : Fin 256) : Fin 2048 := ⟨1024 + (h.val * 256 + d.val), by omega⟩

section
variable {n : Nat} (q : Rows n) (kv : Tokens) (g : Rows n) (h : Fin 4)

def rowLogit (r : Fin n) : Fin 256 → EReal := logit (fun d => q (ix2 r (col h d))) fun m d => kv (ix2 m (keyCol h d))

def rowProb (r : Fin n) : Fin 256 → EReal := prob (rowLogit q kv h r)

def rowGrad (r : Fin n) : Fin 256 → EReal := dotRow (fun d => g (ix2 r (col h d))) fun m d => kv (ix2 m (valueCol h d))

def rowSlope (r : Fin n) : Fin 256 → EReal := slope (rowLogit q kv h r) (rowGrad kv g h r)

/-- The gradient of the queries: `ds · k`. -/
def gradQuery (r : Fin n) (d : Fin 256) : EReal := ∑ m, rowSlope q kv g h r m * kv (ix2 m (keyCol h d))

/-- The gradient of the keys: `dsᵀ · q`. -/
def gradKey (m d : Fin 256) : EReal := ∑ r, rowSlope q kv g h r m * q (ix2 r (col h d))

/-- The gradient of the values: `probᵀ · g`. -/
def gradValue (m d : Fin 256) : EReal := ∑ r, rowProb q kv h r m * g (ix2 r (col h d))

end

/-! ## A column names its head and its place there -/

def headOf {w : Nat} (c : Fin w) : Fin 4 := ⟨c.val / 256 % 4, by omega⟩
def placeOf {w : Nat} (c : Fin w) : Fin 256 := ⟨c.val % 256, by omega⟩

@[simp] theorem headOf_col (h : Fin 4) (d : Fin 256) : headOf (col h d) = h := Fin.ext (by simp only [headOf, col]; omega)
@[simp] theorem placeOf_col (h : Fin 4) (d : Fin 256) : placeOf (col h d) = d := Fin.ext (by simp only [placeOf, col]; omega)
@[simp] theorem headOf_keyCol (h : Fin 4) (d : Fin 256) : headOf (keyCol h d) = h :=
  Fin.ext (by simp only [headOf, keyCol]; omega)
@[simp] theorem placeOf_keyCol (h : Fin 4) (d : Fin 256) : placeOf (keyCol h d) = d :=
  Fin.ext (by simp only [placeOf, keyCol]; omega)
@[simp] theorem headOf_valueCol (h : Fin 4) (d : Fin 256) : headOf (valueCol h d) = h :=
  Fin.ext (by simp only [headOf, valueCol]; omega)
@[simp] theorem placeOf_valueCol (h : Fin 4) (d : Fin 256) : placeOf (valueCol h d) = d :=
  Fin.ext (by simp only [placeOf, valueCol]; omega)

/-- The gradient of `q`, by row and column. -/
def gradRows {n : Nat} (q : Rows n) (kv : Tokens) (g : Rows n) : Rows n := fun j =>
  gradQuery q kv g (headOf (j 1)) (j 0) (placeOf (j 1))

/-- The gradient of `kv`, by row and column. -/
def gradTokens {n : Nat} (q : Rows n) (kv : Tokens) (g : Rows n) : Tokens := fun j =>
  if (j 1).val < 1024 then gradKey q kv g (headOf (j 1)) (j 0) (placeOf (j 1))
  else gradValue q kv g (headOf (j 1)) (j 0) (placeOf (j 1))

/-- The attention's result, by row and column: `prob · v`. -/
def attended {n : Nat} (q : Rows n) (kv : Tokens) : Rows n := fun j =>
  ∑ m, rowProb q kv (headOf (j 1)) (j 0) m * kv (ix2 m (valueCol (headOf (j 1)) (placeOf (j 1))))

theorem attended_col {n : Nat} (q : Rows n) (kv : Tokens) (h : Fin 4) (r : Fin n) (d : Fin 256) :
    attended q kv (ix2 r (col h d)) = ∑ m, rowProb q kv h r m * kv (ix2 m (valueCol h d)) := by
  show ∑ m, rowProb q kv (headOf (col h d)) r m * kv (ix2 m (valueCol (headOf (col h d)) (placeOf (col h d)))) = _
  rw [headOf_col, placeOf_col]

theorem gradRows_col {n : Nat} (q : Rows n) (kv : Tokens) (g : Rows n) (h : Fin 4) (r : Fin n) (d : Fin 256) :
    gradRows q kv g (ix2 r (col h d)) = gradQuery q kv g h r d := by
  show gradQuery q kv g (headOf (col h d)) r (placeOf (col h d)) = _
  rw [headOf_col, placeOf_col]

theorem gradTokens_key {n : Nat} (q : Rows n) (kv : Tokens) (g : Rows n) (h : Fin 4) (m d : Fin 256) :
    gradTokens q kv g (ix2 m (keyCol h d)) = gradKey q kv g h m d := by
  show (if (keyCol h d).val < 1024 then gradKey q kv g (headOf (keyCol h d)) m (placeOf (keyCol h d)) else _) = _
  rw [if_pos (by simp only [keyCol]; omega), headOf_keyCol, placeOf_keyCol]

theorem gradTokens_value {n : Nat} (q : Rows n) (kv : Tokens) (g : Rows n) (h : Fin 4) (m d : Fin 256) :
    gradTokens q kv g (ix2 m (valueCol h d)) = gradValue q kv g h m d := by
  show (if (valueCol h d).val < 1024 then _ else gradValue q kv g (headOf (valueCol h d)) m (placeOf (valueCol h d))) = _
  rw [if_neg (by simp only [valueCol]; omega), headOf_valueCol, placeOf_valueCol]

end Cert.Softmax

end
-- ==== Proof.KernelBlock.lean ====
/-
  What one grid point leaves in its two output blocks, at an index.

  The queries' block: 4 stores, one per head, and each is a block of `gradRows`. The tokens' block: 8 stores, keys and
  values of each head, each the old contents of its columns plus a block of `gradTokens`; the old contents are zero at the
  first point, which fills the block with zeros before.
-/
module

public import proofs.«01_k».proof.Proof.Gen.KernelIdeal.Value
public import proofs.«01_k».proof.Proof.Softmax
public import Idealize.ShloMosaic.Lib.Pipeline.ReadBack

@[expose] public section

noncomputable section

namespace Cert.KernelIdeal.Block

open Cert.KernelIdeal Cert.KernelIdeal.Gen Cert.Softmax Idealize.ShloMosaic Idealize.ShloMosaic.TcCoe Idealize.SL.Sem
open Idealize.ShloMosaic.Pointwise

/-! ## The four heads are one text -/

section
variable {F : FTy → Type} [FloatOps F]
variable (A G : Vec F S512x256 .f32) (B C acc : Vec F S256x256 .f32)

theorem query_1 : k0_pay12 B (k0_pay9 A B) (k0_pay10 G C) = k0_pay6 A B G C := rfl
theorem query_2 : k0_pay19 B (k0_pay15 A B) (k0_pay16 A B) G C = k0_pay6 A B G C := rfl
theorem query_3 : k0_pay24 A B G C = k0_pay6 A B G C := rfl
theorem key_1 : k0_pay13 A (k0_pay9 A B) (k0_pay10 G C) acc = k0_pay7 A (k0_pay5 A B G C) acc := rfl
theorem key_2 : k0_pay20 A (k0_pay15 A B) (k0_pay16 A B) G C acc = k0_pay7 A (k0_pay5 A B G C) acc := rfl
theorem key_3 : k0_pay1 A (k0_pay23 A B G C) acc = k0_pay7 A (k0_pay5 A B G C) acc := rfl
theorem value_1 : k0_pay14 (k0_pay9 A B) G acc = k0_pay8 (k0_pay4 A B) G acc := rfl
theorem value_2 : k0_pay21 (k0_pay15 A B) (k0_pay16 A B) G acc = k0_pay8 (k0_pay4 A B) G acc := rfl
theorem value_3 : k0_pay2 (k0_pay22 A B) G acc = k0_pay8 (k0_pay4 A B) G acc := rfl

end

/-! ## One head's three stores at an index -/

section
variable (A G : Vec Ideal S512x256 .f32) (B C acc : Vec Ideal S256x256 .f32)

/-- Row `r` of the head's scaled products. -/
def tileLogit (r : Fin 512) : Fin 256 → EReal := logit (fun d => A (ix2 r d)) fun m d => B (ix2 m d)

/-- Row `r` of the head's slopes. -/
def tileSlope (A : Vec Ideal S512x256 .f32) (B : Vec Ideal S256x256 .f32) (G : Vec Ideal S512x256 .f32) (C : Vec Ideal S256x256 .f32) (r : Fin 512) : Fin 256 → EReal :=
  slope (tileLogit A B r) (dotRow (fun d => G (ix2 r d)) fun m d => C (ix2 m d))

theorem prob_apply (r : Fin 512) (m : Fin 256) : k0_pay4 (F := Ideal) A B (ix2 r m) = prob (tileLogit A B r) m := by
  unfold_payloads
  pointwise [dot_S512x256_S256x256_S512x256_1_1_0_0_n_n]
  rfl

theorem slope_apply (r : Fin 512) (m : Fin 256) : k0_pay5 (F := Ideal) A B G C (ix2 r m) = tileSlope A B G C r m := by
  unfold k0_pay5
  pointwise [dot_S512x256_S256x256_S512x256_1_1_0_0_n_n]
  simp only [prob_apply]
  rfl

theorem query_apply (r : Fin 512) (d : Fin 256) :
    k0_pay6 (F := Ideal) A B G C (ix2 r d) = ∑ m, tileSlope A B G C r m * B (ix2 m d) := by
  unfold k0_pay6
  pointwise [dot_S512x256_S256x256_S512x256_1_0_0_1_n_n]
  simp only [slope_apply]

theorem key_apply (m d : Fin 256) :
    k0_pay7 (F := Ideal) A (k0_pay5 A B G C) acc (ix2 m d) = acc (ix2 m d) + ∑ r, tileSlope A B G C r m * A (ix2 r d) := by
  unfold k0_pay7
  pointwise [dot_S512x256_S512x256_S256x256_0_0_1_1_n_n]
  simp only [slope_apply]

theorem value_apply (m d : Fin 256) :
    k0_pay8 (F := Ideal) (k0_pay4 A B) G acc (ix2 m d) = acc (ix2 m d) + ∑ r, prob (tileLogit A B r) m * G (ix2 r d) := by
  unfold k0_pay8
  pointwise [dot_S512x256_S512x256_S256x256_0_0_1_1_n_n]
  simp only [prob_apply]

end

/-! ## A head's columns of the blocks -/

/-- The rectangle of `n` rows and 256 columns from column `o` puts `(r, d)` at `(r, o + d)`. -/
theorem emb_strip {n w o : Nat}
    (inb : ∀ a, (![0, o] : Fin 2 → Nat) a + (![n, 256] : Fin 2 → Nat) a ≤ (⟨2, ![n, w]⟩ : Shape).size a) (r : Fin n) (d : Fin 256)
    (c : Fin w) (hc : c.val = o + d.val) : (Rect.unit (s := ⟨2, ![n, w]⟩) ![0, o] ![n, 256] inb).emb (ix2 r d) = ix2 r c := by
  funext a
  apply Fin.ext
  match a with
  | ⟨0, _⟩ => show 0 + 1 * r.val = r.val; omega
  | ⟨1, _⟩ => show o + 1 * d.val = c.val; omega

theorem ld_strip {n w o : Nat} (X : (⟨2, ![n, w]⟩ : Shape).Idx → EReal)
    (inb : ∀ a, (![0, o] : Fin 2 → Nat) a + (![n, 256] : Fin 2 → Nat) a ≤ (⟨2, ![n, w]⟩ : Shape).size a) (r : Fin n) (d : Fin 256)
    (c : Fin w) (hc : c.val = o + d.val) :
    View.ld (Val := Elt Ideal) (e' := .f32) X (Rect.unit (s := ⟨2, ![n, w]⟩) ![0, o] ![n, 256] inb) (ix2 r d) = X (ix2 r c) :=
  congrArg X (emb_strip inb r d c hc)

section
variable (q g : Vec Ideal S512x1024 .f32) (kv acc : Vec Ideal S256x2048 .f32) (h : Fin 4) {o o' : Nat} (ho : o = h.val * 256)
  (ho' : o' = 1024 + (h.val * 256))
  (inb : ∀ a, (![0, o] : Fin 2 → Nat) a + S512x256.size a ≤ S512x1024.size a)
  (inbK : ∀ a, (![0, o] : Fin 2 → Nat) a + S256x256.size a ≤ S256x2048.size a)
  (inbV : ∀ a, (![0, o'] : Fin 2 → Nat) a + S256x256.size a ≤ S256x2048.size a)

abbrev strip (X : Vec Ideal S512x1024 .f32) : Vec Ideal S512x256 .f32 := View.ld X (Rect.unit ![0, o] S512x256.size inb)
abbrev stripK (X : Vec Ideal S256x2048 .f32) : Vec Ideal S256x256 .f32 := View.ld X (Rect.unit ![0, o] S256x256.size inbK)

include ho in
theorem strip_logit (r : Fin 512) : tileLogit (strip inb q) (stripK inbK kv) r = rowLogit q kv h r := by
  unfold tileLogit rowLogit
  congr 1
  · funext d; exact ld_strip q inb r d (col h d) (by simp only [col]; omega)
  · funext m d; exact ld_strip kv inbK m d (keyCol h d) (by simp only [keyCol]; omega)

include ho ho' in
theorem strip_slope (r : Fin 512) :
    tileSlope (strip inb q) (stripK inbK kv) (strip inb g) (stripK inbV kv) r = rowSlope q kv g h r := by
  unfold tileSlope rowSlope
  rw [strip_logit q kv h ho inb inbK]
  congr 1
  unfold rowGrad
  congr 1
  · funext d; exact ld_strip g inb r d (col h d) (by simp only [col]; omega)
  · funext m d; exact ld_strip kv inbV m d (valueCol h d) (by simp only [valueCol]; omega)

include ho ho' in
/-- The head's store into the queries' block is a block of `gradRows`. -/
theorem at_query (x : S512x256.Idx) :
    k0_pay6 (F := Ideal) (strip inb q) (stripK inbK kv) (strip inb g) (stripK inbV kv) x
      = gradRows q kv g ((Rect.unit (s := S512x1024) ![0, o] S512x256.size inb).emb x) := by
  obtain ⟨r, d, rfl⟩ : ∃ (r : Fin 512) (d : Fin 256), x = ix2 r d := ⟨x 0, x 1, eq_ix2 x⟩
  refine (query_apply _ _ _ _ r d).trans ?_
  refine Eq.trans ?_ (congrArg (gradRows q kv g) (emb_strip inb r d (col h d) (by simp only [col]; omega))).symm
  rw [gradRows_col, strip_slope q g kv h ho ho' inb inbK inbV]
  exact Finset.sum_congr rfl fun m _ =>
    congrArg (_ * ·) (ld_strip kv inbK m d (keyCol h d) (by simp only [keyCol]; omega))

include ho ho' in
/-- The head's store into the keys' columns is the old contents there plus a block of `gradTokens`. -/
theorem at_key (x : S256x256.Idx) :
    k0_pay7 (F := Ideal) (strip inb q) (k0_pay5 (strip inb q) (stripK inbK kv) (strip inb g) (stripK inbV kv)) (stripK inbK acc) x
      = (fun j => acc j + gradTokens q kv g j) ((Rect.unit (s := S256x2048) ![0, o] S256x256.size inbK).emb x) := by
  obtain ⟨m, d, rfl⟩ : ∃ (m d : Fin 256), x = ix2 m d := ⟨x 0, x 1, eq_ix2 x⟩
  refine (key_apply _ _ _ _ _ m d).trans ?_
  have e := emb_strip inbK m d (keyCol h d) (by simp only [keyCol]; omega)
  refine Eq.trans ?_ (congrArg (fun j => acc j + gradTokens q kv g j) e).symm
  refine congrArg₂ (· + ·) (congrArg acc e) ?_
  rw [gradTokens_key]
  refine Finset.sum_congr rfl fun r _ => ?_
  rw [strip_slope q g kv h ho ho' inb inbK inbV]
  exact congrArg (_ * ·) (ld_strip q inb r d (col h d) (by simp only [col]; omega))

include ho ho' in
/-- The head's store into the values' columns likewise. -/
theorem at_value (x : S256x256.Idx) :
    k0_pay8 (F := Ideal) (k0_pay4 (strip inb q) (stripK inbK kv)) (strip inb g) (stripK inbV acc) x
      = (fun j => acc j + gradTokens q kv g j) ((Rect.unit (s := S256x2048) ![0, o'] S256x256.size inbV).emb x) := by
  obtain ⟨m, d, rfl⟩ : ∃ (m d : Fin 256), x = ix2 m d := ⟨x 0, x 1, eq_ix2 x⟩
  refine (value_apply _ _ _ _ m d).trans ?_
  have e := emb_strip inbV m d (valueCol h d) (by simp only [valueCol]; omega)
  refine Eq.trans ?_ (congrArg (fun j => acc j + gradTokens q kv g j) e).symm
  refine congrArg₂ (· + ·) (congrArg acc e) ?_
  rw [gradTokens_value]
  refine Finset.sum_congr rfl fun r _ => ?_
  rw [strip_logit q kv h ho inb inbK]
  exact congrArg (_ * ·) (ld_strip g inb r d (col h d) (by simp only [col]; omega))

end

/-- The zeros the first point fills the tokens' block with. -/
abbrev zeros : Vec Ideal S256x2048 .f32 := k0_pay3 (F := Ideal)

/-! ## What a point leaves -/

section
variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S256x2048 .f32)
  (harg3 : arg3.IsWhole) (arg4 : Memref sig .tc .vmem S512x1024 .bf16) (harg4 : arg4.IsWhole)
  (arg5 : Memref sig .tc .vmem S256x2048 .f32) (harg5 : arg5.IsWhole)
  (x0 x1 : Vec Ideal S512x1024 .f32) (x2 xo4 : Vec Ideal S256x2048 .f32)

/-- The four stores of the queries' block. -/
theorem query_pieces (L : List (View.Piece (Elt Ideal) S512x1024 .bf16))
    (hL : L = [⟨Rect.unit ![0, 768] ![512, 256] inb_S512x1024_S512x256_0_768, k0_pay6
          (strip inb_S512x1024_S512x256_0_768 x1) (stripK inb_S256x2048_S256x256_0_768 x2)
          (strip inb_S512x1024_S512x256_0_768 x0) (stripK inb_S256x2048_S256x256_0_1792 x2)⟩,
        ⟨Rect.unit ![0, 512] ![512, 256] inb_S512x1024_S512x256_0_512, k0_pay6
          (strip inb_S512x1024_S512x256_0_512 x1) (stripK inb_S256x2048_S256x256_0_512 x2)
          (strip inb_S512x1024_S512x256_0_512 x0) (stripK inb_S256x2048_S256x256_0_1536 x2)⟩,
        ⟨Rect.unit ![0, 256] ![512, 256] inb_S512x1024_S512x256_0_256, k0_pay6
          (strip inb_S512x1024_S512x256_0_256 x1) (stripK inb_S256x2048_S256x256_0_256 x2)
          (strip inb_S512x1024_S512x256_0_256 x0) (stripK inb_S256x2048_S256x256_0_1280 x2)⟩,
        ⟨Rect.unit ![0, 0] ![512, 256] inb_S512x1024_S512x256_0_0, k0_pay6
          (strip inb_S512x1024_S512x256_0_0 x1) (stripK inb_S256x2048_S256x256_0_0 x2)
          (strip inb_S512x1024_S512x256_0_0 x0) (stripK inb_S256x2048_S256x256_0_1024 x2)⟩]) :
    ∀ p ∈ L, ∀ x : p.1.shape.Idx, p.2 x = gradRows x1 x2 x0 (p.1.emb x) := by
  subst hL
  refine View.PiecesOf.mem ?_
  exact
    ⟨at_query x1 x0 x2 3 rfl rfl inb_S512x1024_S512x256_0_768 inb_S256x2048_S256x256_0_768 inb_S256x2048_S256x256_0_1792,
      at_query x1 x0 x2 2 rfl rfl inb_S512x1024_S512x256_0_512 inb_S256x2048_S256x256_0_512 inb_S256x2048_S256x256_0_1536,
      at_query x1 x0 x2 1 rfl rfl inb_S512x1024_S512x256_0_256 inb_S256x2048_S256x256_0_256 inb_S256x2048_S256x256_0_1280,
      at_query x1 x0 x2 0 rfl rfl inb_S512x1024_S512x256_0_0 inb_S256x2048_S256x256_0_0 inb_S256x2048_S256x256_0_1024, trivial⟩

/-- The first point's block of the queries' gradient. -/
theorem out_A_3 (hc0 : cond0_0 i) :
    out0_A_3 c i arg1 harg1 arg2 harg2 arg3 harg3 arg4 harg4 arg5 harg5 hc0 x0 x1 x2 = gradRows x1 x2 x0 := by
  funext y
  unfold out0_A_3
  rw [View.read_writes_junk_eq_canon]
  refine View.canon_apply_of_pieces (gradRows x1 x2 x0) _ (query_pieces x0 x1 x2 _ ?_) y
    (cover0_A_3 c i arg1 harg1 arg2 harg2 arg3 harg3 arg4 harg4 arg5 harg5 hc0 x0 x1 x2 y)
  unfold kernelRun0_A
  dsimp only
  sl_unfold_words
  simp only [View.readAt_eq_ld, harg1.read_unread, harg2.read_unread, harg3.read_unread]
  rfl

/-- Every later point's block of the queries' gradient. -/
theorem out_B_3 (hc0 : ¬cond0_0 i) :
    out0_B_3 c i arg1 harg1 arg2 harg2 arg3 harg3 arg4 harg4 arg5 harg5 hc0 x0 x1 x2 xo4 = gradRows x1 x2 x0 := by
  funext y
  unfold out0_B_3
  rw [View.read_writes_junk_eq_canon]
  refine View.canon_apply_of_pieces (gradRows x1 x2 x0) _ (query_pieces x0 x1 x2 _ ?_) y
    (cover0_B_3 c i arg1 harg1 arg2 harg2 arg3 harg3 arg4 harg4 arg5 harg5 hc0 x0 x1 x2 xo4 y)
  unfold kernelRun0_B
  dsimp only
  sl_unfold_words
  simp only [View.readAt_eq_ld, harg1.read_unread, harg2.read_unread, harg3.read_unread]
  rfl

/-- A later point adds its rows' share to the tokens' gradient. -/
theorem out_B_4 (hc0 : ¬cond0_0 i) :
    out0_B_4 c i arg1 harg1 arg2 harg2 arg3 harg3 arg4 harg4 arg5 harg5 hc0 x0 x1 x2 xo4
      = fun j => xo4 j + gradTokens x1 x2 x0 j := by
  funext y
  unfold out0_B_4
  rw [View.read_writes_junk_eq_canon]
  refine View.canon_apply_of_pieces (fun j => xo4 j + gradTokens x1 x2 x0 j) _ ?_ y
    (cover0_B_4 c i arg1 harg1 arg2 harg2 arg3 harg3 arg4 harg4 arg5 harg5 hc0 x0 x1 x2 xo4 y)
  unfold kernelRun0_B
  dsimp only
  sl_unfold_words
  simp only [View.readAt_eq_ld, harg1.read_unread, harg2.read_unread, harg3.read_unread, harg5.read_unread,
    key_1, key_2, key_3, value_1, value_2, value_3]
  refine View.PiecesOf.mem
    (G := fun j : S256x2048.Idx => xo4 j + gradTokens x1 x2 x0 j) ?_
  exact
    ⟨at_value x1 x0 x2 xo4 3 rfl rfl inb_S512x1024_S512x256_0_768 inb_S256x2048_S256x256_0_768 inb_S256x2048_S256x256_0_1792,
      at_key x1 x0 x2 xo4 3 rfl rfl inb_S512x1024_S512x256_0_768 inb_S256x2048_S256x256_0_768 inb_S256x2048_S256x256_0_1792,
      at_value x1 x0 x2 xo4 2 rfl rfl inb_S512x1024_S512x256_0_512 inb_S256x2048_S256x256_0_512 inb_S256x2048_S256x256_0_1536,
      at_key x1 x0 x2 xo4 2 rfl rfl inb_S512x1024_S512x256_0_512 inb_S256x2048_S256x256_0_512 inb_S256x2048_S256x256_0_1536,
      at_value x1 x0 x2 xo4 1 rfl rfl inb_S512x1024_S512x256_0_256 inb_S256x2048_S256x256_0_256 inb_S256x2048_S256x256_0_1280,
      at_key x1 x0 x2 xo4 1 rfl rfl inb_S512x1024_S512x256_0_256 inb_S256x2048_S256x256_0_256 inb_S256x2048_S256x256_0_1280,
      at_value x1 x0 x2 xo4 0 rfl rfl inb_S512x1024_S512x256_0_0 inb_S256x2048_S256x256_0_0 inb_S256x2048_S256x256_0_1024,
      at_key x1 x0 x2 xo4 0 rfl rfl inb_S512x1024_S512x256_0_0 inb_S256x2048_S256x256_0_0 inb_S256x2048_S256x256_0_1024, trivial⟩

/-- The first point leaves its rows' share over the zeros it filled the block with. -/
theorem out_A_4 (hc0 : cond0_0 i) :
    out0_A_4 c i arg1 harg1 arg2 harg2 arg3 harg3 arg4 harg4 arg5 harg5 hc0 x0 x1 x2
      = fun j => zeros j + gradTokens x1 x2 x0 j := by
  funext y
  unfold out0_A_4
  rw [View.read_writes_junk_eq_canon]
  unfold kernelRun0_A
  dsimp only
  sl_unfold_words
  simp (disch := decide) only [↓View.readCov_skip, ↓View.readCov_fill]
  simp only [View.readAt_eq_ld, harg1.read_unread, harg2.read_unread, harg3.read_unread,
    key_1, key_2, key_3, value_1, value_2, value_3]
  rw [← List.dropLast_append_getLast (List.cons_ne_nil _ _)]
  simp only [List.dropLast_cons₂, List.dropLast_singleton]
  refine View.canon_append_of_piecesOf (Val := Elt Ideal) (e := .f32) (fun j => zeros j + gradTokens x1 x2 x0 j)
    _ _ ?_ y (View.cover_of_tiledL (s := S256x2048) _ ![256, 256] (by sl_kernel_rfl) y)
  exact
    ⟨at_value x1 x0 x2 zeros 3 rfl rfl inb_S512x1024_S512x256_0_768 inb_S256x2048_S256x256_0_768 inb_S256x2048_S256x256_0_1792,
      at_key x1 x0 x2 zeros 3 rfl rfl inb_S512x1024_S512x256_0_768 inb_S256x2048_S256x256_0_768 inb_S256x2048_S256x256_0_1792,
      at_value x1 x0 x2 zeros 2 rfl rfl inb_S512x1024_S512x256_0_512 inb_S256x2048_S256x256_0_512 inb_S256x2048_S256x256_0_1536,
      at_key x1 x0 x2 zeros 2 rfl rfl inb_S512x1024_S512x256_0_512 inb_S256x2048_S256x256_0_512 inb_S256x2048_S256x256_0_1536,
      at_value x1 x0 x2 zeros 1 rfl rfl inb_S512x1024_S512x256_0_256 inb_S256x2048_S256x256_0_256 inb_S256x2048_S256x256_0_1280,
      at_key x1 x0 x2 zeros 1 rfl rfl inb_S512x1024_S512x256_0_256 inb_S256x2048_S256x256_0_256 inb_S256x2048_S256x256_0_1280,
      at_value x1 x0 x2 zeros 0 rfl rfl inb_S512x1024_S512x256_0_0 inb_S256x2048_S256x256_0_0 inb_S256x2048_S256x256_0_1024,
      at_key x1 x0 x2 zeros 0 rfl rfl inb_S512x1024_S512x256_0_0 inb_S256x2048_S256x256_0_0 inb_S256x2048_S256x256_0_1024, trivial⟩

end

end Cert.KernelIdeal.Block

end
-- ==== Proof.KernelValue.lean ====
/-
  What the attention-gradient kernel leaves in its two result arrays, over the extended reals: `gradRows` of the three
  arguments in the first, `gradTokens` of them in the second (Softmax.lean). The grid's eight points take 512 rows each;
  each writes its own rows of the first result, and all of them add to the one block of the second.
-/
module

public import proofs.«01_k».proof.Proof.KernelBlock
public import proofs.«01_k».proof.Proof.Gen.KernelIdeal.Value
public import Idealize.ShloMosaic.Lib.Pipeline.ValueKit

@[expose] public section

noncomputable section

open Idealize.ShloMosaic Idealize.ShloMosaic.TcCoe Idealize.ShloMosaic.Pointwise Idealize.SL.Sem
open Idealize.ShloMosaic.Pipeline (Dat)
open Cert.KernelIdeal Cert.KernelIdeal.Gen Cert.KernelIdeal.Block Cert.Softmax

namespace Cert.KernelIdeal.Arrays

variable (m : (ℓ : Loc nD τ sig) → Buf (Elt Ideal) ℓ) (c : Dev nD)

abbrev queries : Rows 4096 := m ((c : Thread nD τ).loc main_arg0)
abbrev tokens : Tokens := m ((c : Thread nD τ).loc main_arg1)
abbrev grads : Rows 4096 := m ((c : Thread nD τ).loc main_arg2)

/-- Which block each window takes at a point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] := by decide +kernel

/-- The array's row that is row `r` of point `t`'s block. -/
def row (t : Fin cfg0.N) (r : Fin 512) : Fin 4096 :=
  ⟨t.val * 512 + r.val, by have := t.isLt; have h : cfg0.N = 8 := rfl; omega⟩

theorem read_grads (t : Fin cfg0.N) (r : Fin 512) (k : Fin 1024) :
    iblk m c 0 t (ix2 r k) = grads m c (ix2 (row t r) k) := by
  unfold row
  blk_ext [iblk, V, idx t]

theorem read_queries (t : Fin cfg0.N) (r : Fin 512) (k : Fin 1024) :
    iblk m c 1 t (ix2 r k) = queries m c (ix2 (row t r) k) := by
  unfold row
  blk_ext [iblk, V, idx t]

theorem read_tokens (t : Fin cfg0.N) : iblk m c 2 t = tokens m c := by
  funext y
  blk_ext [iblk, V, idx t]

section
variable (t : Fin cfg0.N) (h : Fin 4)

theorem block_slope (r : Fin 512) :
    rowSlope (iblk m c 1 t) (tokens m c) (iblk m c 0 t) h r
      = rowSlope (queries m c) (tokens m c) (grads m c) h (row t r) := by
  unfold rowSlope rowLogit rowGrad
  simp only [read_grads, read_queries]

theorem block_prob (r : Fin 512) :
    rowProb (iblk m c 1 t) (tokens m c) h r = rowProb (queries m c) (tokens m c) h (row t r) := by
  unfold rowProb rowLogit
  simp only [read_queries]

end

/-- A point's block of the queries' gradient is its rows of the whole gradient. -/
theorem block_rows (t : Fin cfg0.N) (r : Fin 512) (k : Fin 1024) :
    gradRows (iblk m c 1 t) (iblk m c 2 t) (iblk m c 0 t) (ix2 r k)
      = gradRows (queries m c) (tokens m c) (grads m c) (ix2 (row t r) k) := by
  show gradQuery _ _ _ (headOf k) r (placeOf k) = gradQuery _ _ _ (headOf k) (row t r) (placeOf k)
  unfold gradQuery
  simp only [block_slope, read_tokens]

/-- The tokens' gradient is the sum of the points' shares. -/
theorem sum_tokens (j : S256x2048.Idx) :
    ∑ t : Fin cfg0.N, gradTokens (iblk m c 1 t) (iblk m c 2 t) (iblk m c 0 t) j
      = gradTokens (queries m c) (tokens m c) (grads m c) j := by
  unfold gradTokens gradKey gradValue
  split_ifs
  · simp only [read_tokens, block_slope, read_queries]
    exact Fin.sum_mul_add_fin 8 512 (fun r => rowSlope (queries m c) (tokens m c) (grads m c) (headOf (j 1)) r (j 0)
      * queries m c (ix2 r (col (headOf (j 1)) (placeOf (j 1)))))
  · simp only [read_tokens, block_prob, read_grads]
    exact Fin.sum_mul_add_fin 8 512 (fun r => rowProb (queries m c) (tokens m c) (headOf (j 1)) r (j 0)
      * grads m c (ix2 r (col (headOf (j 1)) (placeOf (j 1)))))

theorem outs_3 (t : Fin cfg0.N) :
    (outsAt0 m c t.val t.isLt).1 = gradRows (iblk m c 1 t) (iblk m c 2 t) (iblk m c 0 t) := by
  by_cases h0 : t.val % 8 = 0
  · rw [outsAt0_A m c t h0]
    dsimp only
    rw [out_A_3]
  · rw [outsAt0_B m c t h0]
    dsimp only
    rw [out_B_3]

theorem zeros_apply (j : S256x2048.Idx) : zeros j = 0 := by
  unfold zeros
  pointwise [k0_pay3]

theorem final_3 : (dats m 0 c).arrAt 3 cfg0.N = gradRows (queries m c) (tokens m c) (grads m c) := by
  refine (dats m 0 c).arrAt_eq_of_covers 3 _ (by decide +kernel) fun t hf y => ?_
  blk_simp
  rw [after0_3, outs_3]
  refine (block_rows m c t _ _).trans ?_
  unfold row
  blk_ext [idx t]

theorem final_4 : (dats m 0 c).arrAt 4 cfg0.N = gradTokens (queries m c) (tokens m c) (grads m c) := by
  refine (dats m 0 c).arrAt_eq_of_after_last 4 t0_7 (by decide +kernel) _ fun j => ?_
  blk_simp
  rw [after0_4, Pipeline.eq_sum_fin_of_reset_step_apply_last (fun n h => (outsAt0 m c n h).2) 8 zeros
    (fun t => gradTokens (iblk m c 1 t) (iblk m c 2 t) (iblk m c 0 t))
    (fun t h j => by rw [outsAt0_A m c t h]; dsimp only; rw [out_A_4])
    (fun t h j => by rw [outsAt0_B m c t h]; dsimp only; rw [out_B_4])
    (le_of_eq N_0) t0_7 rfl, zeros_apply, zero_add]
  exact sum_tokens m c j

end Cert.KernelIdeal.Arrays

end
-- ==== Proof.RowMath.lean ====
/-
  One row of the softmax's gradient, written two ways.

  The kernel's way is `slope`: with `p = e / L`, `ds = p · (dp − Σ dp·p) · scale`. The reference's is what differentiating
  the division `e / L` gives: `((dp / L + −Σ dp · (1 / (L·L)) · e) · e) · scale`. The two agree for ANY `dp`, infinite ones
  too, when the logits are real: then every `e` and their sum `L` is a positive real, and a positive real factor
  distributes over a sum of extended reals.
-/
module

public import proofs.«01_k».proof.Proof.Softmax

@[expose] public section

noncomputable section

namespace Cert.Softmax

open Idealize.ShloMosaic Idealize.ShloMosaic.Pointwise

/-- The reference's spelling of a row of the gradient. -/
def slopeOfDivision (s dp : Fin 256 → EReal) (m : Fin 256) : EReal :=
  (Ideal.div (dp m) (total s) + -∑ k, dp k * Ideal.div 1 (total s * total s) * weight s k) * weight s m * scale

/-- A real factor that is not negative distributes over a finite sum of extended reals. -/
theorem sum_mul_real {n : Nat} (f : Fin n → EReal) {a : ℝ} (ha : 0 ≤ a) :
    ∑ k, f k * (a : EReal) = (∑ k, f k) * (a : EReal) := by
  induction n with
  | zero => simp only [Finset.univ_eq_empty, Finset.sum_empty, zero_mul]
  | succ n ih =>
    rw [Fin.sum_univ_succ, Fin.sum_univ_succ, ih,
      EReal.right_distrib_of_nonneg_of_ne_top (by exact_mod_cast ha) (EReal.coe_ne_top a)]

theorem sum_coe {n : Nat} (f : Fin n → ℝ) : ∑ k, ((f k : ℝ) : EReal) = ((∑ k, f k : ℝ) : EReal) := by
  induction n with
  | zero => simp only [Finset.univ_eq_empty, Finset.sum_empty, EReal.coe_zero]
  | succ n ih => rw [Fin.sum_univ_succ, Fin.sum_univ_succ, ih, EReal.coe_add]

/-- The running maximum is at least where it starts. -/
theorem max_fold {n : Nat} (b : EReal) (f : Fin n → EReal) : max b (Finset.univ.fold max b f) = Finset.univ.fold max b f :=
  max_eq_right ((Finset.le_fold_max _).mpr (Or.inl le_rfl))

theorem bottom_eq : bottom = ⊥ := by
  unfold bottom
  simp [Ideal.ofBits, Ideal.ieee]

/-- The largest of 256 reals is real. -/
theorem top_real (s : Fin 256 → EReal) (hs : ∀ m, ∃ r : ℝ, s m = r) : ∃ r : ℝ, top s = r := by
  have hne : top s ≠ ⊤ := by
    refine ne_of_lt ((Finset.fold_max_lt _).mpr ⟨by rw [bottom_eq]; exact bot_lt_top, fun m _ => ?_⟩)
    obtain ⟨r, hr⟩ := hs m
    rw [hr]
    exact EReal.coe_lt_top r
  have hle : s 0 ≤ top s := (Finset.le_fold_max _).mpr (Or.inr ⟨0, Finset.mem_univ _, le_rfl⟩)
  obtain ⟨r, hr⟩ := hs 0
  have hnb : top s ≠ ⊥ := fun h => by
    rw [h, hr] at hle
    exact absurd hle (not_le.mpr (EReal.bot_lt_coe r))
  exact ⟨(top s).toReal, (EReal.coe_toReal hne hnb).symm⟩

/-- The weights of a row of reals are positive reals. -/
theorem weight_real (s : Fin 256 → EReal) (hs : ∀ m, ∃ r : ℝ, s m = r) :
    ∃ w : Fin 256 → ℝ, (∀ m, 0 < w m) ∧ ∀ m, weight s m = (w m : EReal) := by
  obtain ⟨t, ht⟩ := top_real s hs
  choose f hf using hs
  refine ⟨fun m => Real.exp (f m - t), fun m => Real.exp_pos _, fun m => ?_⟩
  unfold weight
  rw [hf, ht, ← EReal.coe_sub, Ideal.exp_coe]

/-- The two spellings are one function when the logits are real. -/
theorem slope_eq (s dp : Fin 256 → EReal) (hs : ∀ m, ∃ r : ℝ, s m = r) (m : Fin 256) :
    slopeOfDivision s dp m = slope s dp m := by
  obtain ⟨w, hpos, hw⟩ := weight_real s hs
  have hL : total s = ((∑ k, w k : ℝ) : EReal) := by
    unfold total
    simp only [hw, sum_coe]
  have hLpos : 0 < ∑ k, w k := Finset.sum_pos (fun k _ => hpos k) Finset.univ_nonempty
  generalize hLdef : (∑ k, w k) = L at hL hLpos
  have hinv : (0 : ℝ) ≤ 1 / L := by positivity
  have hprob : ∀ k, prob s k = ((w k * (1 / L) : ℝ) : EReal) := fun k => by
    unfold prob
    rw [hL, Ideal.div_coe hLpos.ne', hw, EReal.coe_mul]
  have hterm : ∀ k, dp k * Ideal.div 1 (total s * total s) * weight s k = dp k * prob s k * ((1 / L : ℝ) : EReal) := fun k => by
    rw [hprob, hL, ← EReal.coe_mul, Ideal.div_coe (mul_pos hLpos hLpos).ne', one_mul, hw, mul_assoc, mul_assoc,
      ← EReal.coe_mul, ← EReal.coe_mul]
    congr 2
    field_simp
  unfold slopeOfDivision slope
  congr 1
  simp only [hterm]
  rw [sum_mul_real _ hinv, hL, Ideal.div_coe hLpos.ne', ← EReal.neg_mul,
    ← EReal.right_distrib_of_nonneg_of_ne_top (by exact_mod_cast hinv) (EReal.coe_ne_top _), hw, mul_assoc,
    ← EReal.coe_mul, hprob m, mul_comm (1 / L) (w m), mul_comm]
  rfl

end Cert.Softmax

end
-- ==== Proof.RefValue.lean ====
/-
  What the reference computes, entry by entry: jax's own gradient of the softmax attention is `gradRows` and `gradTokens`
  of the arguments (Softmax.lean), when the logits are real.
-/
module

public import proofs.«01_k».proof.Proof.RowMath
public import proofs.«01_k».proof.Proof.Gen.ReferenceIdeal.Read
public import Idealize.ShloMosaic.Lib.Pointwise

@[expose] public section

noncomputable section

namespace Cert.ReferenceIdeal.Entries

open Cert.ReferenceIdeal Cert.ReferenceIdeal.Read Cert.Softmax Idealize.ShloMosaic Idealize.ShloMosaic.TcCoe
open Idealize.ShloMosaic.Pointwise

variable (q : Rows 4096) (kv : Tokens) (g : Rows 4096) (h : Fin 4) (r : Fin 4096)

theorem logits (m : Fin 256) : val_main_v7 (F := Ideal) q kv (ix3 h r m) = rowLogit q kv h r m := by
  pointwise [val_main_v7, val_main_v6, val_main_cst, val_main_v5, val_main_v3, val_main_v2, val_main_v0,
    dot_S4096x4x256_S256x4x256_S4x4096x256_2_2_0_0_1_1]
  simp only [rowLogit, logit, dotRow, scale, col, keyCol]

/-- The maximum over the last axis, at an index. -/
theorem host_max (x : S4x4096x256.Idx → EReal) (b : S_.Idx → EReal) :
    Host.reduce (FloatOps.maximumf (F := Ideal) (φ := .f32)) x b Gen.facts.reducesTo_S4x4096x256_S4x4096_d2 Gen.facts.h_S_ (ix2 h r)
      = Finset.univ.fold max (b (Shape.Idx.first Gen.facts.h_S_)) fun m : Fin 256 => x (ix3 h r m) := by
  rw [Host.reduce_eq_fold_single _ x b _ (by decide : S4x4096x256.Reduces [2] S4x4096)]
  have e : ∀ m : Fin 256, (by decide : S4x4096x256.Reduces [2] S4x4096).lift (ix2 h r) m = ix3 h r m := fun m => by
    funext a
    fin_cases a <;> rfl
  show Finset.fold max _ (fun m : Fin 256 => x ((by decide : S4x4096x256.Reduces [2] S4x4096).lift (ix2 h r) m)) _ = _
  simp only [e]
  rfl

theorem tops : val_main_v15 (F := Ideal) q kv (ix2 h r) = top (rowLogit q kv h r) := by
  rw [val_main_v15_apply, val_main_v14_apply, val_main_cst_2_apply]
  unfold val_main_v8
  rw [host_max]
  simp only [logits, val_main_cst_0_apply]
  exact max_fold _ _

theorem weights (m : Fin 256) : val_main_v28 (F := Ideal) q kv (ix3 h r m) = weight (rowLogit q kv h r) m := by
  pointwise [val_main_v28, val_main_v27, val_main_v26, val_main_v25]
  rw [tops, logits]
  rfl

theorem totals : val_main_v30 (F := Ideal) q kv (ix3 h r 0) = total (rowLogit q kv h r) := by
  pointwise [val_main_v30, val_main_v29, val_main_cst_8]
  simp only [weights]
  rfl

theorem probs (m : Fin 256) : val_main_v32 (F := Ideal) q kv (ix3 h r m) = rowProb q kv h r m := by
  pointwise [val_main_v32, val_main_v31]
  rw [weights, totals]
  rfl

theorem grads (m : Fin 256) : val_main_v41 (F := Ideal) kv g (ix3 h r m) = rowGrad kv g h r m := by
  pointwise [val_main_v41, val_main_v40, val_main_v39, val_main_v4, val_main_v1,
    dot_S4x256x4096_S256x4x256_S4x4096x256_1_2_2_0_0_1]
  simp only [rowGrad, dotRow, col, valueCol]

theorem inverseSquares : val_main_v35 (F := Ideal) q kv (ix3 h r 0)
    = Ideal.div 1 (total (rowLogit q kv h r) * total (rowLogit q kv h r)) := by
  pointwise [val_main_v35, val_main_v34, val_main_cst_9, val_main_v33]
  rw [totals]

theorem sums : val_main_v52 (F := Ideal) q kv g (ix2 h r)
    = -∑ k, rowGrad kv g h r k * Ideal.div 1 (total (rowLogit q kv h r) * total (rowLogit q kv h r))
        * weight (rowLogit q kv h r) k := by
  pointwise [val_main_v52, val_main_v49, val_main_v48, val_main_v47, val_main_v46, val_main_v45, val_main_v44]
  simp only [val_main_cst_10, val_main_cst_11, constant_apply, Ideal.ofBits_def, Ideal.ofBits_zero_f32, zero_add,
    Fin.sum_univ_one, weights, inverseSquares, grads]

theorem slopes (m : Fin 256) : val_main_v57 (F := Ideal) q kv g (ix3 h r m)
    = slopeOfDivision (rowLogit q kv h r) (rowGrad kv g h r) m := by
  pointwise [val_main_v57, val_main_v56, val_main_cst_12, val_main_v55, val_main_v54, val_main_v53, val_main_v51, val_main_v50]
  rw [weights, totals, sums, grads]
  simp only [slopeOfDivision, scale]

/-! ## The three gradients -/

section
variable (hs : ∀ (h : Fin 4) (r : Fin 4096) (m : Fin 256), ∃ x : ℝ, rowLogit q kv h r m = x)
include hs

theorem slopes_eq (m : Fin 256) : val_main_v57 (F := Ideal) q kv g (ix3 h r m) = rowSlope q kv g h r m :=
  (slopes q kv g h r m).trans (slope_eq _ _ (hs h r) m)

theorem queryGrad (d : Fin 256) : val_main_v61 (F := Ideal) q kv g (ix3 r h d) = gradQuery q kv g h r d := by
  pointwise [val_main_v61, val_main_v60, val_main_v3, val_main_v0, dot_S4x4096x256_S256x4x256_S4x4096x256_2_0_1_2_0_1]
  simp only [slopes_eq q kv g _ _ hs, gradQuery, keyCol]

theorem keyGrad (m d : Fin 256) : val_main_v59 (F := Ideal) q kv g (ix3 m h d) = gradKey q kv g h m d := by
  pointwise [val_main_v59, val_main_v58, val_main_v2, dot_S4x4096x256_S4096x4x256_S4x256x256_1_0_2_2_0_1]
  simp only [slopes_eq q kv g _ _ hs, gradKey, col]

end

theorem valueGrad (m d : Fin 256) : val_main_v43 (F := Ideal) q kv g (ix3 m h d) = gradValue q kv g h m d := by
  pointwise [val_main_v43, val_main_v42, val_main_v40, val_main_v39, dot_S4x256x4096_S4x4096x256_S4x256x256_2_1_1_2_0_0]
  simp only [probs, gradValue, col]
  exact Finset.sum_congr rfl fun r _ => mul_comm _ _

/-! A column's head and place, as the reshapes and the concatenation of keys and values spell them. -/

section
variable {w : Nat} (c : Fin w)

theorem head_low (hc : c.val < 1024) {p : c.val / 256 < 4} : (⟨c.val / 256, p⟩ : Fin 4) = headOf c :=
  Fin.ext (by simp only [headOf]; omega)

theorem place_low {p : c.val % 256 < 256} : (⟨c.val % 256, p⟩ : Fin 256) = placeOf c := rfl

theorem head_high (hc : ¬c.val < 1024) (hc' : c.val < 2048) {p : (c.val - 1024) / 256 < 4} :
    (⟨(c.val - 1024) / 256, p⟩ : Fin 4) = headOf c :=
  Fin.ext (by simp only [headOf]; omega)

theorem place_high (hc : ¬c.val < 1024) {p : (c.val - 1024) % 256 < 256} :
    (⟨(c.val - 1024) % 256, p⟩ : Fin 256) = placeOf c :=
  Fin.ext (by simp only [placeOf]; omega)

end

section
variable (hs : ∀ (h : Fin 4) (r : Fin 4096) (m : Fin 256), ∃ x : ℝ, rowLogit q kv h r m = x)
include hs

theorem rows_eq : val_main_v66 (F := Ideal) q kv g = gradRows q kv g := by
  funext j
  have hj : (j 1).val < 1024 := (j 1).isLt
  pointwise [val_main_v66, val_main_v64]
  rw [head_low _ hj, place_low]
  exact queryGrad _ _ _ _ _ hs _

theorem tokens_eq : val_main_v65 (F := Ideal) q kv g = gradTokens q kv g := by
  funext j
  have hj : (j 1).val < 2048 := (j 1).isLt
  pointwise [val_main_v65, val_main_v63, val_main_v62]
  unfold gradTokens
  by_cases hlt : (j 1).val < 1024
  · rw [dif_pos hlt, if_pos hlt, head_low _ hlt, place_low]
    exact keyGrad _ _ _ _ hs _ _
  · rw [dif_neg hlt, if_neg hlt, head_high _ hlt hj, place_high _ hlt]
    exact valueGrad _ _ _ _ _ _

end

end Cert.ReferenceIdeal.Entries

end
-- ==== Proof.Finite.lean ====
/-
  The precondition, read: finite queries and keys have real logits.
-/
module

public import proofs.«01_k».proof.Pre_finite_logits
public import proofs.«01_k».proof.Proof.RowMath
public import Idealize.ShloMosaic.Lib.Pointwise

@[expose] public section

noncomputable section

namespace Cert.Softmax

open Idealize.ShloMosaic Idealize.ShloMosaic.Pointwise

/-- An absolute value below infinity is that of a real. -/
theorem real_of_abs_lt {x : EReal} (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x using EReal.rec with
  | bot => simp [Ideal.cmp] at h
  | coe r => exact ⟨r, rfl⟩
  | top => simp [Ideal.cmp] at h

/-- The scale is the real 1/16. -/
theorem scale_real : ∃ r : ℝ, scale = (r : EReal) := by
  refine ⟨8388608 * (1 / 134217728), ?_⟩
  unfold scale
  rw [EReal.coe_mul]
  simp [Ideal.ofBits, Ideal.ieee]
  norm_num

theorem logit_real (x : Fin 256 → EReal) (K : Fin 256 → Fin 256 → EReal) (m : Fin 256) (hx : ∀ d, ∃ r : ℝ, x d = r)
    (hK : ∀ d, ∃ r : ℝ, K m d = r) : ∃ r : ℝ, logit x K m = r := by
  choose f hf using hx
  choose k hk using hK
  obtain ⟨s, hs⟩ := scale_real
  refine ⟨(∑ d, f d * k d) * s, ?_⟩
  unfold logit dotRow
  simp only [hf, hk, hs, ← EReal.coe_mul, sum_coe]

end Cert.Softmax

namespace Cert.Pre_finite_logits

open Idealize.ShloMosaic Idealize.ShloMosaic.Pointwise Cert.Softmax

theorem facts : Facts where
  bcast_S_S4096x1024 := by decide
  slices_S256x2048_S256x1024_0_0 := by decide
  bcast_S_S256x1024 := by decide

variable (q : Rows 4096) (kv : Tokens) (g : Rows 4096)

/-- Under the precondition every logit is real. -/
theorem logits_real [Facts] (hq : (fn (F := Ideal) q kv g).1 = fun _ => 1#1) (hk : (fn (F := Ideal) q kv g).2 = fun _ => 1#1)
    (h : Fin 4) (r : Fin 4096) (m : Fin 256) : ∃ x : ℝ, rowLogit q kv h r m = x := by
  refine logit_real _ _ m (fun d => ?_) fun d => ?_
  · exact real_of_abs_lt (congrFun hq (ix2 r (col h d)))
  · refine real_of_abs_lt (Eq.trans ?_ (congrFun hk (ix2 m (col h d))))
    show _ = Ideal.cmp .olt (max (extractStridedSlice S256x1024 ![0, 0] kv Facts.slices_S256x2048_S256x1024_0_0 (ix2 m (col h d)))
      (-(extractStridedSlice S256x1024 ![0, 0] kv Facts.slices_S256x2048_S256x1024_0_0 (ix2 m (col h d))))) _
    have e : extractStridedSlice S256x1024 ![0, 0] kv Facts.slices_S256x2048_S256x1024_0_0 (ix2 m (col h d)) = kv (ix2 m (keyCol h d)) := by
      unfold extractStridedSlice
      congr 1
      funext a
      apply Fin.ext
      fin_cases a <;> simp [ix2, col, keyCol]
    rw [e]
    rfl

end Cert.Pre_finite_logits

end
-- ==== Proof.Layers.lean ====
/-
  The layers from the attention's output to the loss, and their gradients, as functions of matrices over the extended
  reals: the three products, the normalisation of a row, the gated unit, and the gradients of each as the kernel writes
  them.
-/
module

public import Idealize.ShloMosaic.Lib.Pointwise
public import Idealize.ShloMosaic.PureOps.Ideal.Laws

@[expose] public section

noncomputable section

namespace Cert.Layers

open Idealize.ShloMosaic Idealize.ShloMosaic.Pointwise

/-- A matrix of `a` rows and `b` columns. -/
abbrev Mat (a b : Nat) : Type := (⟨2, ![a, b]⟩ : Shape).Idx → EReal

/-! ## Products -/

section
variable {a b k : Nat}

/-- `x · y` -/
def mulNN (x : Mat a k) (y : Mat k b) : Mat a b := fun j => ∑ i, x (ix2 (j 0) i) * y (ix2 i (j 1))

/-- `x · yᵀ` -/
def mulNT (x : Mat a k) (y : Mat b k) : Mat a b := fun j => ∑ i, x (ix2 (j 0) i) * y (ix2 (j 1) i)

/-- `xᵀ · y` -/
def mulTN (x : Mat k a) (y : Mat k b) : Mat a b := fun j => ∑ i, x (ix2 i (j 0)) * y (ix2 i (j 1))

end

/-- The sum, entry by entry. -/
def plus {a b : Nat} (x y : Mat a b) : Mat a b := fun j => x j + y j

/-! ## A row of 1024 -/

/-- The row's length, 1024, as both programs spell it. -/
def width : EReal := Ideal.ofBits .f32 0x44800000#32

/-- The small constant under the root. -/
def eps : EReal := Ideal.ofBits .f32 0x358637BD#32

/-- The mean square of a row, plus the small constant. -/
def spread (x : Fin 1024 → EReal) : EReal := Ideal.div (∑ k, x k * x k) width + eps

/-- The factor a row is multiplied by. -/
def inv (x : Fin 1024 → EReal) : EReal := Ideal.rsqrt (spread x)

/-- The row scaled to mean square 1. -/
def unit (x : Fin 1024 → EReal) (k : Fin 1024) : EReal := x k * inv x

/-- The gradient of the scaled row's input, from the gradient `d` of the scaled row. -/
def unitGrad (x d : Fin 1024 → EReal) (k : Fin 1024) : EReal :=
  inv x * (d k - unit x k * Ideal.div (∑ i, unit x i * d i) width)

/-- `1 / (1 + exp (-z))` -/
def sigmoid (z : EReal) : EReal := Ideal.div 1 (1 + Ideal.exp (-z))

/-- Row `r` of a matrix. -/
def row {a b : Nat} (x : Mat a b) (r : Fin a) (k : Fin b) : EReal := x (ix2 r k)

/-- Five rows one after the other: 1024, 1024, 1024, 1536 and 128 entries. -/
def joinedRow (z a g : Fin 1024 → EReal) (b : Fin 1536 → EReal) (d : Fin 128 → EReal) (k : Fin 4736) : EReal :=
  if h : k.val < 1024 then z ⟨k.val, h⟩
  else if h : k.val - 1024 < 1024 then a ⟨k.val - 1024, h⟩
  else if h : k.val - 1024 - 1024 < 1024 then g ⟨k.val - 1024 - 1024, h⟩
  else if h : k.val - 1024 - 1024 - 1024 < 1536 then b ⟨k.val - 1024 - 1024 - 1024, h⟩
  else d ⟨k.val - 1024 - 1024 - 1024 - 1536, by omega⟩

/-! ## Layers over `n` rows -/

section
variable {n : Nat}

/-- The normalised rows, times the gain `g`. -/
def normed (x : Mat n 1024) (g : Mat 1 1024) : Mat n 1024 := fun j => unit (row x (j 0)) (j 1) * g (ix2 0 (j 1))

/-- The gradient of `normed`'s rows, from the gradient `dy` of its result. -/
def normedGrad (x : Mat n 1024) (g : Mat 1 1024) (dy : Mat n 1024) : Mat n 1024 := fun j =>
  unitGrad (row x (j 0)) (fun k => dy (ix2 (j 0) k) * g (ix2 0 k)) (j 1)

/-- The gradient of `normed`'s gain. -/
def gainGrad (x dy : Mat n 1024) : Mat 1 1024 := fun j => ∑ r : Fin n, dy (ix2 r (j 1)) * unit (row x r) (j 1)

/-- The gated unit. -/
def gated {b : Nat} (g u : Mat n b) : Mat n b := fun j => g j * sigmoid (g j) * u j

/-- The gradient of the gate, from the gradient `d` of the gated unit. -/
def gateGrad {b : Nat} (d g u : Mat n b) : Mat n b := fun j =>
  d j * u j * (sigmoid (g j) * (1 + g j * (1 - sigmoid (g j))))

/-- The gradient of the other factor. -/
def upGrad {b : Nat} (d g : Mat n b) : Mat n b := fun j => d j * g j * sigmoid (g j)

/-- What is missing from the target. -/
def miss (x : Mat n 1024) (g : Mat 1 1024) (t : Mat n 1024) : Mat n 1024 := fun j => normed x g j - t j

/-- The gradient of the loss with respect to the normalised rows: `miss / 1024`, the quotient spelt as a product. -/
def missGrad (x : Mat n 1024) (g : Mat 1 1024) (t : Mat n 1024) : Mat n 1024 := fun j =>
  miss x g t j * Ideal.ofBits .f32 0x3A800000#32

/-- The loss: half the sum of the rows' mean squares. -/
def loss (x : Mat n 1024) (g : Mat 1 1024) (t : Mat n 1024) : EReal :=
  Ideal.ofBits .f32 0x3F000000#32 * ∑ r : Fin n, Ideal.div (∑ k, miss x g t (ix2 r k) * miss x g t (ix2 r k)) width

/-- Five matrices of the same rows, side by side. -/
def joined (z a g : Mat n 1024) (b : Mat n 1536) (d : Mat n 128) : Mat n 4736 := fun j =>
  joinedRow (row z (j 0)) (row a (j 0)) (row g (j 0)) (row b (j 0)) (row d (j 0)) (j 1)

end

/-! ## Each layer's row is a function of its arguments' rows

(so that a block's rows are the whole matrix's). -/

section
variable {n n' : Nat} {r : Fin n} {r' : Fin n'}

theorem normed_rows {x : Mat n 1024} {x' : Mat n' 1024} {g g' : Mat 1 1024} (hx : ∀ k, x (ix2 r k) = x' (ix2 r' k))
    (hg : ∀ k, g (ix2 0 k) = g' (ix2 0 k)) (k : Fin 1024) : normed x g (ix2 r k) = normed x' g' (ix2 r' k) := by
  have e : row x r = row x' r' := funext hx
  show unit (row x r) k * g (ix2 0 k) = unit (row x' r') k * g' (ix2 0 k)
  rw [e, hg]

theorem normedGrad_rows {x dy : Mat n 1024} {x' dy' : Mat n' 1024} {g g' : Mat 1 1024}
    (hx : ∀ k, x (ix2 r k) = x' (ix2 r' k)) (hg : ∀ k, g (ix2 0 k) = g' (ix2 0 k)) (hd : ∀ k, dy (ix2 r k) = dy' (ix2 r' k))
    (k : Fin 1024) : normedGrad x g dy (ix2 r k) = normedGrad x' g' dy' (ix2 r' k) := by
  have e : row x r = row x' r' := funext hx
  show unitGrad (row x r) (fun k => dy (ix2 r k) * g (ix2 0 k)) k
    = unitGrad (row x' r') (fun k => dy' (ix2 r' k) * g' (ix2 0 k)) k
  rw [e]
  simp only [hg, hd]

theorem miss_rows {x t : Mat n 1024} {x' t' : Mat n' 1024} {g g' : Mat 1 1024} (hx : ∀ k, x (ix2 r k) = x' (ix2 r' k))
    (hg : ∀ k, g (ix2 0 k) = g' (ix2 0 k)) (ht : ∀ k, t (ix2 r k) = t' (ix2 r' k)) (k : Fin 1024) :
    miss x g t (ix2 r k) = miss x' g' t' (ix2 r' k) := by
  show normed x g (ix2 r k) - t (ix2 r k) = normed x' g' (ix2 r' k) - t' (ix2 r' k)
  rw [normed_rows hx hg, ht]

theorem missGrad_rows {x t : Mat n 1024} {x' t' : Mat n' 1024} {g g' : Mat 1 1024} (hx : ∀ k, x (ix2 r k) = x' (ix2 r' k))
    (hg : ∀ k, g (ix2 0 k) = g' (ix2 0 k)) (ht : ∀ k, t (ix2 r k) = t' (ix2 r' k)) (k : Fin 1024) :
    missGrad x g t (ix2 r k) = missGrad x' g' t' (ix2 r' k) :=
  congrArg (· * Ideal.ofBits .f32 0x3A800000#32) (miss_rows hx hg ht k)

theorem joined_rows {z a g : Mat n 1024} {b : Mat n 1536} {d : Mat n 128} {z' a' g' : Mat n' 1024} {b' : Mat n' 1536}
    {d' : Mat n' 128} (hz : ∀ k, z (ix2 r k) = z' (ix2 r' k)) (ha : ∀ k, a (ix2 r k) = a' (ix2 r' k))
    (hg : ∀ k, g (ix2 r k) = g' (ix2 r' k)) (hb : ∀ k, b (ix2 r k) = b' (ix2 r' k)) (hd : ∀ k, d (ix2 r k) = d' (ix2 r' k))
    (k : Fin 4736) : joined z a g b d (ix2 r k) = joined z' a' g' b' d' (ix2 r' k) := by
  have e1 : row z r = row z' r' := funext hz
  have e2 : row a r = row a' r' := funext ha
  have e3 : row g r = row g' r' := funext hg
  have e4 : row b r = row b' r' := funext hb
  have e5 : row d r = row d' r' := funext hd
  show joinedRow (row z r) (row a r) (row g r) (row b r) (row d r) k
    = joinedRow (row z' r') (row a' r') (row g' r') (row b' r') (row d' r') k
  rw [e1, e2, e3, e4, e5]

/-- One row's share of `gainGrad`. -/
theorem gainGrad_rows {x dy : Mat n 1024} {x' dy' : Mat n' 1024} (hx : ∀ k, x (ix2 r k) = x' (ix2 r' k))
    (hd : ∀ k, dy (ix2 r k) = dy' (ix2 r' k)) (k : Fin 1024) :
    dy (ix2 r k) * unit (row x r) k = dy' (ix2 r' k) * unit (row x' r') k := by
  have e : row x r = row x' r' := funext hx
  rw [e, hd]

/-- One row's share of `loss`. -/
theorem loss_rows {x t : Mat n 1024} {x' t' : Mat n' 1024} {g g' : Mat 1 1024} (hx : ∀ k, x (ix2 r k) = x' (ix2 r' k))
    (hg : ∀ k, g (ix2 0 k) = g' (ix2 0 k)) (ht : ∀ k, t (ix2 r k) = t' (ix2 r' k)) :
    Ideal.div (∑ k, miss x g t (ix2 r k) * miss x g t (ix2 r k)) width
      = Ideal.div (∑ k, miss x' g' t' (ix2 r' k) * miss x' g' t' (ix2 r' k)) width := by
  simp only [miss_rows hx hg ht]

/-- The factor one half distributes over every sum: it is positive and real. -/
theorem half_mul_sum {ι : Type} [Fintype ι] (f : ι → EReal) :
    Ideal.ofBits .f32 0x3F000000#32 * ∑ i, f i = ∑ i, Ideal.ofBits .f32 0x3F000000#32 * f i := by
  have e : Ideal.ofBits .f32 0x3F000000#32 = ((1 / 2 : ℝ) : EReal) := by
    simp [Ideal.ofBits, Ideal.ieee]
    rw [← EReal.coe_mul]
    norm_num
  have h0 : (0 : EReal) ≤ ((1 / 2 : ℝ) : EReal) := EReal.coe_nonneg.mpr (by norm_num)
  rw [e]
  induction (Finset.univ : Finset ι) using Finset.cons_induction with
  | empty => simp
  | cons a s ha ih =>
    rw [Finset.sum_cons, Finset.sum_cons, EReal.left_distrib_of_nonneg_of_ne_top h0 (EReal.coe_ne_top _), ih]

end

/-! ## Equality of matrices, entry by entry -/

theorem mat_ext {a b : Nat} {x y : Mat a b} (e : ∀ i j, x (ix2 i j) = y (ix2 i j)) : x = y :=
  funext fun j => (congrArg x (eq_ix2 j)).trans ((e _ _).trans (congrArg y (eq_ix2 j)).symm)

theorem row_ext {b : Nat} {x y : Mat 1 b} (e : ∀ j, x (ix2 0 j) = y (ix2 0 j)) : x = y :=
  mat_ext fun i j => (Subsingleton.elim 0 i : (0 : Fin 1) = i) ▸ e j

/-- A layer read at a point, from its arguments there. -/
theorem gated_at {a b a' b' : Nat} {g u : Mat a b} {g' u' : Mat a' b'} {j j'} (hg : g j = g' j') (hu : u j = u' j') :
    gated g u j = gated g' u' j' := by
  simp only [gated, hg, hu]

theorem gateGrad_at {a b a' b' : Nat} {d g u : Mat a b} {d' g' u' : Mat a' b'} {j j'} (hd : d j = d' j') (hg : g j = g' j')
    (hu : u j = u' j') : gateGrad d g u j = gateGrad d' g' u' j' := by
  simp only [gateGrad, hd, hg, hu]

theorem upGrad_at {a b a' b' : Nat} {d g : Mat a b} {d' g' : Mat a' b'} {j j'} (hd : d j = d' j') (hg : g j = g' j') :
    upGrad d g j = upGrad d' g' j' := by
  simp only [upGrad, hd, hg]

end Cert.Layers

end
-- ==== Proof.Network.lean ====
/-
  The whole stretch from the attention's output to the loss and back, as one function of its nine arguments: what the
  kernel computes, layer by layer.
-/
module

public import proofs.«01_k».proof.Proof.Layers

@[expose] public section

noncomputable section

namespace Cert.Layers

/-- The nine arguments: the residual rows, the attention's output and its weights, the gain of the normalisation before
    the gated unit, the unit's three weights (the first two transposed), the last normalisation's gain, the target. -/
structure Args where
  x1 : Mat 4096 1024
  o : Mat 4096 1024
  wo : Mat 1024 1024
  gf : Mat 1 1024
  wg : Mat 2816 1024
  wu : Mat 2816 1024
  wd : Mat 2816 1024
  gl : Mat 1 1024
  tgt : Mat 4096 1024

namespace Args

variable (A : Args)

/-- The rows after the attention. -/
def x2 : Mat 4096 1024 := plus (mulNN A.o A.wo) A.x1
/-- … normalised. -/
def hf : Mat 4096 1024 := normed A.x2 A.gf
/-- The gate. -/
def gt : Mat 4096 2816 := mulNT A.hf A.wg
/-- The other factor. -/
def up : Mat 4096 2816 := mulNT A.hf A.wu
/-- The gated unit. -/
def act : Mat 4096 2816 := gated A.gt A.up
/-- The rows after the gated unit. -/
def x3 : Mat 4096 1024 := plus (mulNN A.act A.wd) A.x2

/-! The gradients. -/

def dx3 : Mat 4096 1024 := normedGrad A.x3 A.gl (missGrad A.x3 A.gl A.tgt)
def dgl : Mat 1 1024 := gainGrad A.x3 (missGrad A.x3 A.gl A.tgt)
def dwd : Mat 2816 1024 := mulTN A.act A.dx3
def dact : Mat 4096 2816 := mulNT A.dx3 A.wd
def dgt : Mat 4096 2816 := gateGrad A.dact A.gt A.up
def dup : Mat 4096 2816 := upGrad A.dact A.gt
def dhf : Mat 4096 1024 := plus (mulNN A.dup A.wu) (mulNN A.dgt A.wg)
def dx2 : Mat 4096 1024 := plus A.dx3 (normedGrad A.x2 A.gf A.dhf)
def dgf : Mat 1 1024 := gainGrad A.x2 A.dhf
def dwg : Mat 2816 1024 := mulTN A.dgt A.hf
def dwu : Mat 2816 1024 := mulTN A.dup A.hf
def do' : Mat 4096 1024 := mulNT A.dx2 A.wo
def dwo : Mat 1024 1024 := mulTN A.o A.dx2

end Args

end Cert.Layers

end
-- ==== Proof.LayersReal.lean ====
/-
  The layers over real matrices: every value is real, and each gradient is what differentiating the layer's own operations
  gives, one after the other (the mean square, its root's inverse, the scaled row; the sigmoid, its product with the gate;
  the square of what is missing).
-/
module

public import proofs.«01_k».proof.Proof.Network
public import proofs.«01_k».proof.Proof.RowMath

@[expose] public section

noncomputable section

namespace Cert.Layers

open Idealize.ShloMosaic Idealize.ShloMosaic.Pointwise

/-! ## Real values -/

/-- An extended real that is a real. -/
def IsReal (x : EReal) : Prop := ∃ r : ℝ, x = r

/-- A matrix of reals. -/
def AllReal {a b : Nat} (x : Mat a b) : Prop := ∀ j, IsReal (x j)

section
variable {x y : EReal}

theorem IsReal.add (hx : IsReal x) (hy : IsReal y) : IsReal (x + y) := by
  obtain ⟨r, rfl⟩ := hx
  obtain ⟨s, rfl⟩ := hy
  exact ⟨r + s, by norm_cast⟩

theorem IsReal.sub (hx : IsReal x) (hy : IsReal y) : IsReal (x - y) := by
  obtain ⟨r, rfl⟩ := hx
  obtain ⟨s, rfl⟩ := hy
  exact ⟨r - s, by norm_cast⟩

theorem IsReal.mul (hx : IsReal x) (hy : IsReal y) : IsReal (x * y) := by
  obtain ⟨r, rfl⟩ := hx
  obtain ⟨s, rfl⟩ := hy
  exact ⟨r * s, by norm_cast⟩

theorem IsReal.one : IsReal 1 := ⟨1, by norm_cast⟩

theorem IsReal.sum {n : Nat} {f : Fin n → EReal} (hf : ∀ k, IsReal (f k)) : IsReal (∑ k, f k) := by
  choose g hg using hf
  exact ⟨∑ k, g k, by simp only [hg, Cert.Softmax.sum_coe]⟩

end

/-! ## The constants -/

theorem width_eq : width = ((1024 : ℝ) : EReal) := by
  unfold width
  simp [Ideal.ofBits, Ideal.ieee]
  rw [← EReal.coe_mul]
  norm_num

theorem eps_eq : ∃ e : ℝ, 0 < e ∧ eps = (e : EReal) := by
  refine ⟨8796093 * (1 / 8796093022208), by norm_num, ?_⟩
  unfold eps
  rw [EReal.coe_mul]
  simp [Ideal.ofBits, Ideal.ieee]
  norm_num

theorem part_eq : Ideal.ofBits .f32 0x3A800000#32 = ((1 / 1024 : ℝ) : EReal) := by
  simp [Ideal.ofBits, Ideal.ieee]
  rw [← EReal.coe_mul]
  norm_num

theorem half_eq : Ideal.ofBits .f32 0x3F000000#32 = ((1 / 2 : ℝ) : EReal) := by
  simp [Ideal.ofBits, Ideal.ieee]
  rw [← EReal.coe_mul]
  norm_num

theorem minusHalf_eq : Ideal.ofBits .f32 0xBF000000#32 = ((-(1 / 2) : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem div_width (x : EReal) : Ideal.div x width = x * ((1 / 1024 : ℝ) : EReal) := by
  rw [width_eq, Ideal.div_coe (by norm_num)]

/-! ## The normalisation -/

section
variable {x d : Fin 1024 → EReal}

/-- The mean square plus the small constant is a positive real, and the factor the inverse of its root. -/
theorem spread_real {f : Fin 1024 → ℝ} (hf : ∀ k, x k = f k) : ∃ s : ℝ, 0 < s ∧ spread x = s ∧ inv x = ((Real.sqrt s)⁻¹ : ℝ) := by
  obtain ⟨e, he, heq⟩ := eps_eq
  have hs : 0 < (∑ k, f k * f k) * (1 / 1024) + e := by
    have : 0 ≤ ∑ k, f k * f k := Finset.sum_nonneg fun k _ => mul_self_nonneg _
    positivity
  have h : spread x = (((∑ k, f k * f k) * (1 / 1024) + e : ℝ) : EReal) := by
    unfold spread
    rw [div_width, heq]
    simp only [hf, ← EReal.coe_mul, Cert.Softmax.sum_coe, ← EReal.coe_add]
  refine ⟨_, hs, h, ?_⟩
  unfold inv
  rw [h, Ideal.rsqrt_coe, if_neg (not_lt.mpr hs.le), if_neg hs.ne']

theorem inv_real (hx : ∀ k, IsReal (x k)) : IsReal (inv x) := by
  choose f hf using hx
  obtain ⟨s, -, -, h⟩ := spread_real hf
  exact ⟨_, h⟩

theorem unit_real (hx : ∀ k, IsReal (x k)) (k : Fin 1024) : IsReal (unit x k) := (hx k).mul (inv_real hx)

theorem unitGrad_real (hx : ∀ k, IsReal (x k)) (hd : ∀ k, IsReal (d k)) (k : Fin 1024) : IsReal (unitGrad x d k) := by
  unfold unitGrad
  rw [div_width]
  exact (inv_real hx).mul ((hd k).sub ((unit_real hx k).mul ((IsReal.sum fun i => (unit_real hx i).mul (hd i)).mul ⟨_, rfl⟩)))

/-- What the mean square's gradient comes to: `Σ x d` times the inverse root's derivative, over 1024. -/
def turn (x d : Fin 1024 → EReal) : EReal :=
  Ideal.div ((∑ i, x i * d i) * (Ideal.ofBits .f32 0xBF000000#32 * Ideal.div (inv x) (spread x))) width

/-- A real factor at least zero distributes over every sum. -/
theorem coe_mul_add {r : ℝ} (hr : 0 ≤ r) (y z : EReal) : (r : EReal) * (y + z) = r * y + r * z :=
  EReal.left_distrib_of_nonneg_of_ne_top (EReal.coe_nonneg.mpr hr) (EReal.coe_ne_top _) y z

theorem coe_mul_sum {r : ℝ} (hr : 0 ≤ r) (f : Fin 1024 → EReal) : (r : EReal) * ∑ i, f i = ∑ i, (r : EReal) * f i := by
  induction (Finset.univ : Finset (Fin 1024)) using Finset.cons_induction with
  | empty => simp
  | cons a s ha ih => rw [Finset.sum_cons, Finset.sum_cons, coe_mul_add hr, ih]

theorem add_self (y : EReal) : y + y = ((2 : ℝ) : EReal) * y := by
  induction y with
  | bot => rw [EReal.coe_mul_bot_of_pos (by norm_num)]; rfl
  | coe y => norm_cast; ring
  | top => rw [EReal.coe_mul_top_of_pos (by norm_num)]; rfl

/-- A row with an infinite entry is scaled by zero. -/
theorem spread_top {i : Fin 1024} (h : ¬ IsReal (x i)) : spread x = ⊤ := by
  have hn : ∀ y : EReal, 0 ≤ y * y := fun y => by
    induction y with
    | bot => exact le_top
    | coe y => exact_mod_cast mul_self_nonneg y
    | top => exact le_top
  have hi : x i * x i = ⊤ := by
    generalize x i = y at h
    induction y with
    | bot => rfl
    | coe y => exact (h ⟨y, rfl⟩).elim
    | top => rfl
  have hs : ∑ k, x k * x k = ⊤ :=
    top_le_iff.mp (hi ▸ Finset.single_le_sum (f := fun k => x k * x k) (fun k _ => hn _) (Finset.mem_univ i))
  obtain ⟨e, -, he⟩ := eps_eq
  unfold spread
  rw [hs, div_width, EReal.top_mul_coe_of_pos (by norm_num), he]
  rfl

/-- Differentiating the scaled row `x · r(x)` by the product rule: `d r` and, for each of the two factors of the square, a
    term `x` times `turn`. With an infinite entry in the row, `r` is zero and so is every term. -/
theorem unitGrad_eq (x d : Fin 1024 → EReal) (k : Fin 1024) :
    d k * inv x + x k * turn x d + turn x d * x k = unitGrad x d k := by
  by_cases hx : ∀ k, IsReal (x k)
  · choose f hf using hx
    obtain ⟨s, hs, h, hi⟩ := spread_real hf
    generalize hr : (Real.sqrt s)⁻¹ = r at hi
    have hr0 : 0 ≤ r := hr ▸ inv_nonneg.mpr (Real.sqrt_nonneg s)
    have hrr : r * r = 1 / s := by
      rw [← hr, ← mul_inv, Real.mul_self_sqrt hs.le, one_div]
    have e : ∑ i, x i * (r : EReal) * d i = r * ∑ i, x i * d i := by
      rw [coe_mul_sum hr0]
      exact Finset.sum_congr rfl fun i _ => by rw [mul_comm (x i), mul_assoc]
    unfold turn unitGrad unit
    rw [div_width, div_width, h, hi, Ideal.div_coe hs.ne', minusHalf_eq, e, hf k]
    generalize ∑ i, x i * d i = p
    have e1 : (f k : EReal) * (p * (((-(1 / 2) : ℝ) : EReal) * ((r : EReal) * ((1 / s : ℝ) : EReal))) * ((1 / 1024 : ℝ) : EReal))
        = ((f k * (-(1 / 2) * (r * (1 / s)) * (1 / 1024)) : ℝ) : EReal) * p := by
      push_cast
      ac_rfl
    have e2 : (f k : EReal) * (r : EReal) * ((r : EReal) * p * ((1 / 1024 : ℝ) : EReal)) = ((f k * r * r * (1 / 1024) : ℝ) : EReal) * p := by
      push_cast
      ac_rfl
    have e3 : ∀ u v : ℝ, (u : EReal) * ((v : EReal) * p) = ((u * v : ℝ) : EReal) * p := fun u v => by
      rw [EReal.coe_mul, mul_assoc]
    rw [mul_comm _ (f k : EReal), e1, e2, sub_eq_add_neg, ← EReal.neg_mul, ← EReal.coe_neg, coe_mul_add hr0, add_assoc, add_self,
      e3, e3, mul_comm (d k), ← hrr]
    congr 3
    ring
  · push Not at hx
    obtain ⟨i, hi⟩ := hx
    have h := spread_top hi
    have hv : inv x = 0 := by
      unfold inv
      rw [h]
      rfl
    have ht : turn x d = 0 := by
      unfold turn
      rw [hv, h]
      simp [Ideal.div, width_eq]
    unfold unitGrad
    rw [hv, ht]
    simp

end

/-! ## The sigmoid -/

theorem sigmoid_real {z : EReal} (hz : IsReal z) : IsReal (sigmoid z) := by
  obtain ⟨r, rfl⟩ := hz
  have h : (1 : EReal) + Ideal.exp (-(r : EReal)) = ((1 + Real.exp (-r) : ℝ) : EReal) := by
    rw [← EReal.coe_neg, Ideal.exp_coe, ← EReal.coe_one, ← EReal.coe_add]
  have hp : (1 + Real.exp (-r)) ≠ 0 := by positivity
  refine ⟨1 / (1 + Real.exp (-r)), ?_⟩
  unfold sigmoid
  rw [h, Ideal.div_coe hp, one_mul]

/-- The gate's gradient by the product rule. -/
theorem gateGrad_eq {d g u : EReal} (hd : IsReal d) (hg : IsReal g) (hu : IsReal u) :
    d * u * sigmoid g + g * (d * u) * (sigmoid g * (1 - sigmoid g)) = d * u * (sigmoid g * (1 + g * (1 - sigmoid g))) := by
  obtain ⟨s, hs⟩ := sigmoid_real hg
  obtain ⟨d, rfl⟩ := hd
  obtain ⟨g, rfl⟩ := hg
  obtain ⟨u, rfl⟩ := hu
  rw [hs, ← EReal.coe_one]
  simp only [← EReal.coe_mul, ← EReal.coe_add, ← EReal.coe_sub]
  congr 1
  ring

/-! ## The loss -/

/-- Differentiating half the mean of the squares: the half, times the mean's 1/1024, times the square's 2. -/
theorem missGrad_eq (z : EReal) : Ideal.div (Ideal.ofBits .f32 0x3F000000#32 * 1) width * (Ideal.ofBits .f32 0x40000000#32 * z)
    = z * Ideal.ofBits .f32 0x3A800000#32 := by
  rw [div_width, half_eq, two_eq, part_eq, mul_one, ← mul_assoc, ← EReal.coe_mul, ← EReal.coe_mul, mul_comm z]
  congr 2
  norm_num

/-! ## Every layer's values are real -/

section
variable {a b k n : Nat}

theorem real_mulNN {x : Mat a k} {y : Mat k b} (hx : AllReal x) (hy : AllReal y) : AllReal (mulNN x y) :=
  fun _ => IsReal.sum fun _ => (hx _).mul (hy _)

theorem real_mulNT {x : Mat a k} {y : Mat b k} (hx : AllReal x) (hy : AllReal y) : AllReal (mulNT x y) :=
  fun _ => IsReal.sum fun _ => (hx _).mul (hy _)

theorem real_plus {x y : Mat a b} (hx : AllReal x) (hy : AllReal y) : AllReal (plus x y) := fun j => (hx j).add (hy j)

theorem real_normed {x : Mat n 1024} {g : Mat 1 1024} (hx : AllReal x) (hg : AllReal g) : AllReal (normed x g) :=
  fun _ => (unit_real (fun _ => hx _) _).mul (hg _)

theorem real_normedGrad {x dy : Mat n 1024} {g : Mat 1 1024} (hx : AllReal x) (hg : AllReal g) (hd : AllReal dy) :
    AllReal (normedGrad x g dy) := fun _ => unitGrad_real (fun _ => hx _) (fun _ => (hd _).mul (hg _)) _

theorem real_gated {g u : Mat a b} (hg : AllReal g) (hu : AllReal u) : AllReal (gated g u) :=
  fun j => ((hg j).mul (sigmoid_real (hg j))).mul (hu j)

theorem real_gateGrad {d g u : Mat a b} (hd : AllReal d) (hg : AllReal g) (hu : AllReal u) : AllReal (gateGrad d g u) :=
  fun j => ((hd j).mul (hu j)).mul ((sigmoid_real (hg j)).mul
    (IsReal.one.add ((hg j).mul (IsReal.one.sub (sigmoid_real (hg j))))))

theorem real_upGrad {d g : Mat a b} (hd : AllReal d) (hg : AllReal g) : AllReal (upGrad d g) :=
  fun j => ((hd j).mul (hg j)).mul (sigmoid_real (hg j))

theorem real_missGrad {x t : Mat n 1024} {g : Mat 1 1024} (hx : AllReal x) (hg : AllReal g) (ht : AllReal t) :
    AllReal (missGrad x g t) := fun j => ((real_normed hx hg j).sub (ht j)).mul ⟨_, part_eq⟩

end

/-! ## The whole stretch -/

namespace Args

/-- Nine real matrices. -/
structure Real (A : Args) : Prop where
  x1 : AllReal A.x1
  o : AllReal A.o
  wo : AllReal A.wo
  gf : AllReal A.gf
  wg : AllReal A.wg
  wu : AllReal A.wu
  wd : AllReal A.wd
  gl : AllReal A.gl
  tgt : AllReal A.tgt

namespace Real
variable {A : Args} (h : A.Real)
include h

theorem x2 : AllReal A.x2 := real_plus (real_mulNN h.o h.wo) h.x1
theorem hf : AllReal A.hf := real_normed h.x2 h.gf
theorem gt : AllReal A.gt := real_mulNT h.hf h.wg
theorem up : AllReal A.up := real_mulNT h.hf h.wu
theorem act : AllReal A.act := real_gated h.gt h.up
theorem x3 : AllReal A.x3 := real_plus (real_mulNN h.act h.wd) h.x2
theorem dx3 : AllReal A.dx3 := real_normedGrad h.x3 h.gl (real_missGrad h.x3 h.gl h.tgt)
theorem dact : AllReal A.dact := real_mulNT h.dx3 h.wd
theorem dgt : AllReal A.dgt := real_gateGrad h.dact h.gt h.up
theorem dup : AllReal A.dup := real_upGrad h.dact h.gt
theorem dhf : AllReal A.dhf := real_plus (real_mulNN h.dup h.wu) (real_mulNN h.dgt h.wg)

end Real

end Args

end Cert.Layers

end
-- ==== Proof.FiniteArguments.lean ====
/-
  The precondition of the layers' comparison, read: nine arrays whose absolute values are below infinity are real.
-/
module

public import proofs.«01_k».proof.Pre_finite_arguments
public import proofs.«01_k».proof.Proof.Finite
public import proofs.«01_k».proof.Proof.LayersReal

@[expose] public section

noncomputable section

namespace Cert.Layers

open Idealize.ShloMosaic Idealize.ShloMosaic.Pointwise

/-- The same for an infinity spelt in sixteen bits. -/
theorem real_of_abs_lt_half {x : EReal} (h : Ideal.cmp .olt (max x (-x)) (Ideal.ofBits .bf16 0x7F80#16) = 1#1) : IsReal x := by
  refine Cert.Softmax.real_of_abs_lt (Eq.trans ?_ h)
  have e : Ideal.ofBits .f32 0x7F800000#32 = (⊤ : EReal) := by simp [Ideal.ofBits, Ideal.ieee]
  have e' : Ideal.ofBits .bf16 0x7F80#16 = (⊤ : EReal) := by simp [Ideal.ofBits, Ideal.ieee]
  rw [e, e']

end Cert.Layers

namespace Cert.Pre_finite_arguments

open Idealize.ShloMosaic Cert.Layers

theorem facts : Facts where
  bcast_S_S4096x1024 := by decide
  bcast_S_S1024x1024 := by decide
  bcast_S_S1x1024 := by decide
  bcast_S_S2816x1024 := by decide

variable (A : Args)

/-- Under the precondition the nine arguments are real. -/
theorem args_real [Facts]
    (h0 : (fn (F := Ideal) A.x1 A.o A.wo A.gf A.wg A.wu A.wd A.gl A.tgt).1 = fun _ => 1#1)
    (h1 : (fn (F := Ideal) A.x1 A.o A.wo A.gf A.wg A.wu A.wd A.gl A.tgt).2.1 = fun _ => 1#1)
    (h2 : (fn (F := Ideal) A.x1 A.o A.wo A.gf A.wg A.wu A.wd A.gl A.tgt).2.2.1 = fun _ => 1#1)
    (h3 : (fn (F := Ideal) A.x1 A.o A.wo A.gf A.wg A.wu A.wd A.gl A.tgt).2.2.2.1 = fun _ => 1#1)
    (h4 : (fn (F := Ideal) A.x1 A.o A.wo A.gf A.wg A.wu A.wd A.gl A.tgt).2.2.2.2.1 = fun _ => 1#1)
    (h5 : (fn (F := Ideal) A.x1 A.o A.wo A.gf A.wg A.wu A.wd A.gl A.tgt).2.2.2.2.2.1 = fun _ => 1#1)
    (h6 : (fn (F := Ideal) A.x1 A.o A.wo A.gf A.wg A.wu A.wd A.gl A.tgt).2.2.2.2.2.2.1 = fun _ => 1#1)
    (h7 : (fn (F := Ideal) A.x1 A.o A.wo A.gf A.wg A.wu A.wd A.gl A.tgt).2.2.2.2.2.2.2.1 = fun _ => 1#1)
    (h8 : (fn (F := Ideal) A.x1 A.o A.wo A.gf A.wg A.wu A.wd A.gl A.tgt).2.2.2.2.2.2.2.2 = fun _ => 1#1) : A.Real where
  x1 := fun j => Cert.Softmax.real_of_abs_lt (congrFun h0 j)
  o := fun j => real_of_abs_lt_half (congrFun h1 j)
  wo := fun j => real_of_abs_lt_half (congrFun h2 j)
  gf := fun j => Cert.Softmax.real_of_abs_lt (congrFun h3 j)
  wg := fun j => real_of_abs_lt_half (congrFun h4 j)
  wu := fun j => real_of_abs_lt_half (congrFun h5 j)
  wd := fun j => real_of_abs_lt_half (congrFun h6 j)
  gl := fun j => Cert.Softmax.real_of_abs_lt (congrFun h7 j)
  tgt := fun j => Cert.Softmax.real_of_abs_lt (congrFun h8 j)

end Cert.Pre_finite_arguments

end
-- ==== Proof.Tiles.lean ====
/-
  What one grid point of each of the eleven launches writes, at an entry, from the blocks it reads.
-/
module

public import proofs.«01_k».proof.Proof.Gen.Kernel2Ideal.Skeleton
public import proofs.«01_k».proof.Proof.Layers
public import Idealize.ShloMosaic.Lib.Pipeline.ValueKit

@[expose] public section

noncomputable section

namespace Cert.Kernel2Ideal.Tiles

open Cert.Kernel2Ideal Cert.Kernel2Ideal.Gen Cert.Layers Idealize.ShloMosaic Idealize.ShloMosaic.TcCoe Idealize.SL.Sem
open Idealize.ShloMosaic.Pointwise

variable (r : Fin 512)

section
variable (o : Mat 512 1024) (w : Mat 1024 1024) (x : Mat 512 1024) (g : Mat 1 1024) (k : Fin 1024)

theorem sum_apply : k0_pay1 (F := Ideal) o w x (ix2 r k) = ∑ i, o (ix2 r i) * w (ix2 i k) + x (ix2 r k) := by
  unfold k0_pay1
  pointwise [dot_S512x1024_S1024x1024_S512x1024_1_0_0_1_n_n]

theorem normed_apply : k0_pay2 (F := Ideal) o w x g (ix2 r k) = normed (k0_pay1 (F := Ideal) o w x) g (ix2 r k) := by
  unfold k0_pay2
  pointwise []
  rfl

end

/-! ## The gated unit and its gradient -/

section
variable (h : Mat 512 1024) (wg wu : Mat 1408 1024) (k : Fin 1408)

theorem gate_apply : k1_pay5 (F := Ideal) h wg (ix2 r k) = ∑ i, h (ix2 r i) * wg (ix2 k i) := by
  unfold k1_pay5 k1_pay2 k1_pay1
  pointwise [dot_S512x1024_S1408x1024_S512x1408_1_1_0_0_n_n]

theorem up_apply : k1_pay6 (F := Ideal) h wu (ix2 r k) = ∑ i, h (ix2 r i) * wu (ix2 k i) := by
  unfold k1_pay6 k1_pay3 k1_pay1
  pointwise [dot_S512x1024_S1408x1024_S512x1408_1_1_0_0_n_n]

theorem gated_apply : k1_pay4 (F := Ideal) h wg wu (ix2 r k) = gated (k1_pay5 (F := Ideal) h wg) (k1_pay6 (F := Ideal) h wu) (ix2 r k) := by
  unfold k1_pay4 k1_pay5 k1_pay6
  pointwise []
  unfold gated sigmoid
  pointwise []
  simp only [zero_sub]

variable (gt up : Mat 512 1408)

theorem down_apply : k4_pay1 (F := Ideal) h wg (ix2 r k) = ∑ i, h (ix2 r i) * wg (ix2 k i) := by
  unfold k4_pay1
  pointwise [dot_S512x1024_S1408x1024_S512x1408_1_1_0_0_n_n]

theorem gateGrad_apply : k4_pay4 (F := Ideal) h wg gt up (ix2 r k) = gateGrad (k4_pay1 (F := Ideal) h wg) gt up (ix2 r k) := by
  unfold k4_pay4 k4_pay3 k4_pay2
  pointwise []
  unfold gateGrad sigmoid
  simp only [zero_sub]

theorem upGrad_apply : k4_pay5 (F := Ideal) h wg gt (ix2 r k) = upGrad (k4_pay1 (F := Ideal) h wg) gt (ix2 r k) := by
  unfold k4_pay5 k4_pay3 k4_pay2
  pointwise []
  unfold upGrad sigmoid
  simp only [zero_sub]

end

/-! ## The loss and its gradient -/

section
variable (a : Mat 512 2816) (w : Mat 2816 1024) (x : Mat 512 1024) (g : Mat 1 1024) (t : Mat 512 1024) (k : Fin 1024)

theorem out_apply : k2_pay6 (F := Ideal) a w x (ix2 r k) = ∑ i, a (ix2 r i) * w (ix2 i k) + x (ix2 r k) := by
  unfold k2_pay6
  pointwise [dot_S512x2816_S2816x1024_S512x1024_1_0_0_1_n_n]

theorem outInv_apply : k2_pay7 (F := Ideal) a w x (ix2 r 0) = inv (row (k2_pay6 (F := Ideal) a w x) r) := by
  unfold k2_pay7
  pointwise []
  rfl

theorem outUnit_apply : k2_pay8 (F := Ideal) a w x (ix2 r k) = unit (row (k2_pay6 (F := Ideal) a w x) r) k := by
  unfold k2_pay8
  pointwise []
  rw [outInv_apply]
  rfl

theorem outMiss_apply : k2_pay9 (F := Ideal) a w x g t (ix2 r k) = miss (k2_pay6 (F := Ideal) a w x) g t (ix2 r k) := by
  unfold k2_pay9
  pointwise []
  rw [outUnit_apply]
  rfl

theorem outMissGrad_apply :
    k2_pay10 (F := Ideal) a w x g t (ix2 r k) = missGrad (k2_pay6 (F := Ideal) a w x) g t (ix2 r k) := by
  unfold k2_pay10
  pointwise []
  rw [outMiss_apply]
  rfl

theorem outGrad_apply :
    k2_pay11 (F := Ideal) a w x g t (ix2 r k)
      = normedGrad (k2_pay6 (F := Ideal) a w x) g (missGrad (k2_pay6 (F := Ideal) a w x) g t) (ix2 r k) := by
  unfold k2_pay11
  pointwise []
  simp only [outUnit_apply, outMissGrad_apply, outInv_apply]
  rfl

theorem loss_apply (acc : Mat 1 128) (l : Fin 128) :
    k2_pay3 (F := Ideal) (k2_pay12 (F := Ideal) a w x g t) (Scalar.ofBits .f32 0x44800000#32) acc (ix2 0 l)
      = acc (ix2 0 l) + loss (k2_pay6 (F := Ideal) a w x) g t := by
  unfold k2_pay3 k2_pay12
  pointwise []
  simp only [outMiss_apply, Fin.sum_univ_one]
  rfl

theorem outGain_apply (acc : Mat 1 1024) :
    k2_pay5 (F := Ideal) (k2_pay8 (F := Ideal) a w x) (k2_pay10 (F := Ideal) a w x g t) acc (ix2 0 k)
      = acc (ix2 0 k) + gainGrad (k2_pay6 (F := Ideal) a w x) (missGrad (k2_pay6 (F := Ideal) a w x) g t) (ix2 0 k) := by
  unfold k2_pay5
  pointwise []
  simp only [outUnit_apply, outMissGrad_apply]
  rfl

end

/-! ## The gradient through the first normalisation -/

section
variable (a : Mat 512 2816) (w : Mat 2816 1024) (s x : Mat 512 1024) (g : Mat 1 1024) (d : Mat 512 1024) (k : Fin 1024)

theorem gate_dx_apply : k5_pay1 (F := Ideal) a w (ix2 r k) = ∑ i, a (ix2 r i) * w (ix2 i k) := by
  unfold k5_pay1
  pointwise [dot_S512x2816_S2816x1024_S512x1024_1_0_0_1_n_n]

theorem up_dx_apply : k6_pay4 (F := Ideal) a w s (ix2 r k) = ∑ i, a (ix2 r i) * w (ix2 i k) + s (ix2 r k) := by
  unfold k6_pay4
  pointwise [dot_S512x2816_S2816x1024_S512x1024_1_0_0_1_n_n]

theorem inInv_apply : k6_pay6 (F := Ideal) x (ix2 r 0) = inv (row x r) := by
  unfold k6_pay6 k6_pay5
  pointwise []
  rfl

theorem inUnit_apply : k6_pay7 (F := Ideal) x (ix2 r k) = unit (row x r) k := by
  unfold k6_pay7 k6_pay5
  pointwise []
  rw [inInv_apply]
  rfl

theorem inGrad_apply :
    k6_pay8 (F := Ideal) a w s x g d (ix2 r k) = d (ix2 r k) + normedGrad x g (k6_pay4 (F := Ideal) a w s) (ix2 r k) := by
  unfold k6_pay8
  pointwise []
  simp only [inUnit_apply, inInv_apply]
  rfl

theorem inGain_apply (acc : Mat 1 1024) :
    k6_pay2 (F := Ideal) (k6_pay9 (F := Ideal) a w s x) acc (ix2 0 k)
      = acc (ix2 0 k) + gainGrad x (k6_pay4 (F := Ideal) a w s) (ix2 0 k) := by
  unfold k6_pay2 k6_pay9
  pointwise []
  simp only [inUnit_apply]
  rfl

end

/-! ## The weights' gradients -/

section
variable (y : Mat 1024 1024) (x : Mat 1024 1408) (acc : Mat 1408 1024) (i : Fin 1408) (k : Fin 1024)

theorem down_dw_apply : k3_pay2 (F := Ideal) y acc x (ix2 i k) = acc (ix2 i k) + ∑ m, x (ix2 m i) * y (ix2 m k) := by
  unfold k3_pay2
  pointwise [dot_S1024x1408_S1024x1024_S1408x1024_0_0_1_1_n_n]

theorem gate_dw_apply : k7_pay2 (F := Ideal) y acc x (ix2 i k) = acc (ix2 i k) + ∑ m, x (ix2 m i) * y (ix2 m k) := by
  unfold k7_pay2
  pointwise [dot_S1024x1408_S1024x1024_S1408x1024_0_0_1_1_n_n]

theorem up_dw_apply : k8_pay2 (F := Ideal) y acc x (ix2 i k) = acc (ix2 i k) + ∑ m, x (ix2 m i) * y (ix2 m k) := by
  unfold k8_pay2
  pointwise [dot_S1024x1408_S1024x1024_S1408x1024_0_0_1_1_n_n]

end

theorem o_dx_apply (d : Mat 512 1024) (w : Mat 1024 1024) (k : Fin 1024) :
    k9_pay1 (F := Ideal) d w (ix2 r k) = ∑ i, d (ix2 r i) * w (ix2 k i) := by
  unfold k9_pay1
  pointwise [dot_S512x1024_S1024x1024_S512x1024_1_1_0_0_n_n]

theorem o_dw_apply (y : Mat 1024 1024) (x : Mat 1024 512) (acc : Mat 512 1024) (k : Fin 1024) :
    k10_pay2 (F := Ideal) y acc x (ix2 r k) = acc (ix2 r k) + ∑ m, x (ix2 m r) * y (ix2 m k) := by
  unfold k10_pay2
  pointwise [dot_S1024x512_S1024x1024_S512x1024_0_0_1_1_n_n]

/-! ## What an accumulation starts from -/

theorem loss_zero (i : Fin 1) (k : Fin 128) : k2_pay1 (F := Ideal) (ix2 i k) = 0 := by
  unfold k2_pay1
  pointwise []

theorem outGain_zero (i : Fin 1) (k : Fin 1024) : k2_pay2 (F := Ideal) (ix2 i k) = 0 := by
  unfold k2_pay2
  pointwise []

theorem down_dw_zero (i : Fin 1408) (k : Fin 1024) : k3_pay1 (F := Ideal) (ix2 i k) = 0 := by
  unfold k3_pay1
  pointwise []

theorem inGain_zero (i : Fin 1) (k : Fin 1024) : k6_pay1 (F := Ideal) (ix2 i k) = 0 := by
  unfold k6_pay1
  pointwise []

theorem gate_dw_zero (i : Fin 1408) (k : Fin 1024) : k7_pay1 (F := Ideal) (ix2 i k) = 0 := by
  unfold k7_pay1
  pointwise []

theorem up_dw_zero (i : Fin 1408) (k : Fin 1024) : k8_pay1 (F := Ideal) (ix2 i k) = 0 := by
  unfold k8_pay1
  pointwise []

theorem o_dw_zero (i : Fin 512) (k : Fin 1024) : k10_pay1 (F := Ideal) (ix2 i k) = 0 := by
  unfold k10_pay1
  pointwise []

end Cert.Kernel2Ideal.Tiles

end
-- ==== Proof.LayersForward.lean ====
/-
  What the forward launches before the loss leave in their result arrays, as layers (Layers.lean) of the arrays they are
  entered with.
-/
module

public import proofs.«01_k».proof.Proof.Gen.Kernel2Ideal.Frame.Region0
public import proofs.«01_k».proof.Proof.Gen.Kernel2Ideal.Frame.Region1
public import proofs.«01_k».proof.Proof.Tiles

@[expose] public section

noncomputable section

namespace Cert.Kernel2Ideal.Arrays

open Cert.Kernel2Ideal Cert.Kernel2Ideal.Gen Cert.Kernel2Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by decide +kernel

/-- The attention's output projected, plus the residual. -/
theorem final0_4 : (dat0 V c).arrAt 4 cfg0.N
    = plus (mulNN (V c main_arg1 : Mat 4096 1024) (V c main_arg2 : Mat 1024 1024)) (V c main_arg0 : Mat 4096 1024) := by
  refine (dat0 V c).arrAt_eq_of_covers 4 _ (by decide +kernel) fun t hf y => ?_
  blk_simp
  rw [after0_4]
  frame_out
  obtain ⟨r, k, rfl⟩ : ∃ (r : Fin 512) (k : Fin 1024), y = ix2 r k := ⟨y 0, y 1, eq_ix2 y⟩
  refine (sum_apply r _ _ _ k).trans ?_
  unfold plus mulNN
  blk_point [iblk0, idx0 t]

/-- … and normalised. -/
theorem final0_5 : (dat0 V c).arrAt 5 cfg0.N
    = normed (plus (mulNN (V c main_arg1 : Mat 4096 1024) (V c main_arg2 : Mat 1024 1024)) (V c main_arg0 : Mat 4096 1024))
        (V c main_arg3 : Mat 1 1024) := by
  refine (dat0 V c).arrAt_eq_of_covers 5 _ (by decide +kernel) fun t hf y => ?_
  blk_simp
  rw [after0_5]
  frame_out
  obtain ⟨r, k, rfl⟩ : ∃ (r : Fin 512) (k : Fin 1024), y = ix2 r k := ⟨y 0, y 1, eq_ix2 y⟩
  refine (normed_apply r _ _ _ _ k).trans ?_
  have ht : t.val < 8 := t.isLt
  have e : ((View.whole main_v0_1).slice (win0_5.rect t)).emb (ix2 r k) = ix2 (⟨512 * t.val + r.val, by omega⟩ : Fin 4096) k := by
    blk_ext [idx0 t]
  rw [e]
  refine normed_rows (fun i => ?_) (fun i => ?_) k
  · refine (sum_apply r _ _ _ i).trans ?_
    unfold plus mulNN
    blk_point [iblk0, idx0 t]
  · blk_point [iblk0, idx0 t]

theorem idx1 : ∀ t : Fin cfg1.N, win1_0.index t = ![t.val % 8, 0] ∧ win1_1.index t = ![t.val / 8, 0] ∧ win1_2.index t = ![t.val / 8, 0]
    ∧ win1_3.index t = ![t.val % 8, t.val / 8] ∧ win1_4.index t = ![t.val % 8, t.val / 8] ∧ win1_5.index t = ![t.val % 8, t.val / 8] := by
  decide +kernel

/-- The gate. -/
theorem final1_4 : (dat1 V c).arrAt 4 cfg1.N
    = mulNT (V c main_v0_1 : Mat 4096 1024) (V c main_arg4 : Mat 2816 1024) := by
  refine (dat1 V c).arrAt_eq_of_covers 4 _ (by decide +kernel) fun t hf y => ?_
  blk_simp
  rw [after1_4]
  frame_out
  obtain ⟨r, k, rfl⟩ : ∃ (r : Fin 512) (k : Fin 1408), y = ix2 r k := ⟨y 0, y 1, eq_ix2 y⟩
  refine (gate_apply r _ _ k).trans ?_
  unfold mulNT
  blk_point [iblk1, idx1 t]

/-- The other factor. -/
theorem final1_5 : (dat1 V c).arrAt 5 cfg1.N
    = mulNT (V c main_v0_1 : Mat 4096 1024) (V c main_arg5 : Mat 2816 1024) := by
  refine (dat1 V c).arrAt_eq_of_covers 5 _ (by decide +kernel) fun t hf y => ?_
  blk_simp
  rw [after1_5]
  frame_out
  obtain ⟨r, k, rfl⟩ : ∃ (r : Fin 512) (k : Fin 1408), y = ix2 r k := ⟨y 0, y 1, eq_ix2 y⟩
  refine (up_apply r _ _ k).trans ?_
  unfold mulNT
  blk_point [iblk1, idx1 t]

/-- The gated unit. -/
theorem final1_3 : (dat1 V c).arrAt 3 cfg1.N
    = gated (mulNT (V c main_v0_1 : Mat 4096 1024) (V c main_arg4 : Mat 2816 1024))
        (mulNT (V c main_v0_1 : Mat 4096 1024) (V c main_arg5 : Mat 2816 1024)) := by
  refine (dat1 V c).arrAt_eq_of_covers 3 _ (by decide +kernel) fun t hf y => ?_
  blk_simp
  rw [after1_3]
  frame_out
  obtain ⟨r, k, rfl⟩ : ∃ (r : Fin 512) (k : Fin 1408), y = ix2 r k := ⟨y 0, y 1, eq_ix2 y⟩
  refine (gated_apply r _ _ _ k).trans ?_
  refine gated_at ((gate_apply r _ _ k).trans ?_) ((up_apply r _ _ k).trans ?_)
  · unfold mulNT
    blk_point [iblk1, idx1 t]
  · unfold mulNT
    blk_point [iblk1, idx1 t]

end Cert.Kernel2Ideal.Arrays

end
-- ==== Proof.LayersLoss.lean ====
/-
  What the launch leaves in its result arrays that computes the loss and its gradient, as layers (Layers.lean) of the
  arrays it is entered with.
-/
module

public import proofs.«01_k».proof.Proof.Gen.Kernel2Ideal.Frame.Region2
public import proofs.«01_k».proof.Proof.Tiles

@[expose] public section

noncomputable section

namespace Cert.Kernel2Ideal.Arrays

open Cert.Kernel2Ideal Cert.Kernel2Ideal.Gen Cert.Kernel2Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx2 : ∀ t : Fin cfg2.N, win2_0.index t = ![t.val, 0]
    ∧ win2_1.index t = ![0, 0]
    ∧ win2_2.index t = ![t.val, 0]
    ∧ win2_3.index t = ![0, 0]
    ∧ win2_4.index t = ![t.val, 0]
    ∧ win2_5.index t = ![0, 0]
    ∧ win2_6.index t = ![t.val, 0]
    ∧ win2_7.index t = ![t.val, 0]
    ∧ win2_8.index t = ![0, 0] := by decide +kernel

/-- The layers' result: the product plus the residual. -/
def last : Mat 4096 1024 := plus (mulNN (V c main_v1_0 : Mat 4096 2816) (V c main_arg6 : Mat 2816 1024)) (V c main_v0_0 : Mat 4096 1024)

/-- A block of `last`, as the launch computes it. -/
def lastBlock (t : Fin cfg2.N) : Mat 512 1024 := k2_pay6 (F := Ideal) (iblk2 V c 0 t) (iblk2 V c 1 t) (iblk2 V c 2 t)

section
variable (t : Fin cfg2.N) (r : Fin 512) (R : Fin 4096) (hR : R.val = t.val * 512 + r.val)
include hR

theorem last_block (k : Fin 1024) : lastBlock V c t (ix2 r k) = last V c (ix2 R k) := by
  have ht : t.val < 8 := t.isLt
  have hb : t.val * 512 + r.val < 4096 := by omega
  obtain rfl : R = ⟨t.val * 512 + r.val, hb⟩ := Fin.ext hR
  refine (out_apply r _ _ _ k).trans ?_
  unfold last plus mulNN
  blk_point [iblk2, idx2 t]

omit hR in
theorem gain_block (k : Fin 1024) : (iblk2 V c 3 t : Mat 1 1024) (ix2 0 k) = (V c main_arg7 : Mat 1 1024) (ix2 0 k) := by
  blk_point [iblk2, idx2 t]

theorem target_block (k : Fin 1024) : (iblk2 V c 4 t : Mat 512 1024) (ix2 r k) = (V c main_arg8 : Mat 4096 1024) (ix2 R k) := by
  have ht : t.val < 8 := t.isLt
  have hb : t.val * 512 + r.val < 4096 := by omega
  obtain rfl : R = ⟨t.val * 512 + r.val, hb⟩ := Fin.ext hR
  blk_point [iblk2, idx2 t]

theorem missGrad_block (k : Fin 1024) : missGrad (lastBlock V c t) (iblk2 V c 3 t : Mat 1 1024) (iblk2 V c 4 t : Mat 512 1024) (ix2 r k)
    = missGrad (last V c) (V c main_arg7 : Mat 1 1024) (V c main_arg8 : Mat 4096 1024) (ix2 R k) :=
  missGrad_rows (last_block V c t r R hR) (gain_block V c t) (target_block V c t r R hR) k

theorem grad_block (k : Fin 1024) : normedGrad (lastBlock V c t) (iblk2 V c 3 t : Mat 1 1024)
      (missGrad (lastBlock V c t) (iblk2 V c 3 t : Mat 1 1024) (iblk2 V c 4 t : Mat 512 1024)) (ix2 r k)
    = normedGrad (last V c) (V c main_arg7 : Mat 1 1024) (missGrad (last V c) (V c main_arg7 : Mat 1 1024) (V c main_arg8 : Mat 4096 1024)) (ix2 R k) :=
  normedGrad_rows (last_block V c t r R hR) (gain_block V c t) (missGrad_block V c t r R hR) k

end

theorem outs2_6 (t : Fin cfg2.N) (r : Fin 512) (k : Fin 1024) : (outsAt2 V c t.val t.isLt).2.1 (ix2 r k)
    = normedGrad (lastBlock V c t) (iblk2 V c 3 t : Mat 1 1024)
        (missGrad (lastBlock V c t) (iblk2 V c 3 t : Mat 1 1024) (iblk2 V c 4 t : Mat 512 1024)) (ix2 r k) := by
  by_cases h : t.val % 8 = 0
  · rw [outsAt2_A V c t h]
    frame_out
    exact outGrad_apply r _ _ _ _ _ k
  · rw [outsAt2_B V c t h]
    frame_out
    exact outGrad_apply r _ _ _ _ _ k

theorem outs2_7 (t : Fin cfg2.N) (r : Fin 512) (k : Fin 1024) : (outsAt2 V c t.val t.isLt).2.2.1 (ix2 r k)
    = normedGrad (lastBlock V c t) (iblk2 V c 3 t : Mat 1 1024)
        (missGrad (lastBlock V c t) (iblk2 V c 3 t : Mat 1 1024) (iblk2 V c 4 t : Mat 512 1024)) (ix2 r k) := by
  by_cases h : t.val % 8 = 0
  · rw [outsAt2_A V c t h]
    frame_out
    exact outGrad_apply r _ _ _ _ _ k
  · rw [outsAt2_B V c t h]
    frame_out
    exact outGrad_apply r _ _ _ _ _ k

/-- The gradient of the layers' result. -/
theorem final2_6 : (dat2 V c).arrAt 6 cfg2.N = normedGrad (last V c) (V c main_arg7 : Mat 1 1024)
    (missGrad (last V c) (V c main_arg7 : Mat 1 1024) (V c main_arg8 : Mat 4096 1024)) := by
  refine (dat2 V c).arrAt_eq_of_covers 6 _ (by decide +kernel) fun t hf y => ?_
  blk_simp
  rw [after2_6]
  obtain ⟨r, k, rfl⟩ : ∃ (r : Fin 512) (k : Fin 1024), y = ix2 r k := ⟨y 0, y 1, eq_ix2 y⟩
  have ht : t.val < 8 := t.isLt
  have e : ((View.whole main_v2_1).slice (win2_6.rect t)).emb (ix2 r k) = ix2 (⟨t.val * 512 + r.val, by omega⟩ : Fin 4096) k := by
    blk_ext [idx2 t]
  rw [e]
  exact (outs2_6 V c t r k).trans (grad_block V c t r _ rfl k)

/-- The gradient of the layers' result, and its copy in the narrow type. -/
theorem final2_7 : (dat2 V c).arrAt 7 cfg2.N = normedGrad (last V c) (V c main_arg7 : Mat 1 1024)
    (missGrad (last V c) (V c main_arg7 : Mat 1 1024) (V c main_arg8 : Mat 4096 1024)) := by
  refine (dat2 V c).arrAt_eq_of_covers 7 _ (by decide +kernel) fun t hf y => ?_
  blk_simp
  rw [after2_7]
  obtain ⟨r, k, rfl⟩ : ∃ (r : Fin 512) (k : Fin 1024), y = ix2 r k := ⟨y 0, y 1, eq_ix2 y⟩
  have ht : t.val < 8 := t.isLt
  have e : ((View.whole main_v2_2).slice (win2_7.rect t)).emb (ix2 r k) = ix2 (⟨t.val * 512 + r.val, by omega⟩ : Fin 4096) k := by
    blk_ext [idx2 t]
  rw [e]
  exact (outs2_7 V c t r k).trans (grad_block V c t r _ rfl k)

/-- One block's share of the loss. -/
def term2_5 (t : Fin cfg2.N) : Mat 1 128 := fun _ => loss (lastBlock V c t) (iblk2 V c 3 t : Mat 1 1024) (iblk2 V c 4 t : Mat 512 1024)

theorem outs2_5 (t : Fin cfg2.N) (h : t.val % 8 = 8 - 1) (j : S1x128.Idx) : (outsAt2 V c t.val t.isLt).1 j
    = (fun _ => (0 : EReal)) j + ∑ s : Fin 8, term2_5 V c ⟨8 * (t.val / 8) + s.val, Pipeline.run_point_lt_of_flush t h s⟩ j := by
  refine Pipeline.eq_sum_fin_of_reset_step_apply_of_flush (fun n hn => (outsAt2 V c n hn).1) 8 (fun _ => (0 : EReal))
    (term2_5 V c) (fun t h j => ?_) (fun t h j => ?_) t h j
  · obtain ⟨i, k, rfl⟩ : ∃ (i : Fin 1) (k : Fin 128), j = ix2 i k := ⟨j 0, j 1, eq_ix2 j⟩
    obtain rfl : i = 0 := Subsingleton.elim _ _
    show (outsAt2 V c t.val t.isLt).1 (ix2 0 k) = _
    rw [outsAt2_A V c t h]
    frame_out
    refine (loss_apply _ _ _ _ _ _ k).trans ?_
    rw [loss_zero]
    rfl
  · obtain ⟨i, k, rfl⟩ : ∃ (i : Fin 1) (k : Fin 128), j = ix2 i k := ⟨j 0, j 1, eq_ix2 j⟩
    obtain rfl : i = 0 := Subsingleton.elim _ _
    show (outsAt2 V c t.val t.isLt).1 (ix2 0 k) = _
    rw [outsAt2_B V c t h]
    frame_out
    exact loss_apply _ _ _ _ _ _ k

/-- The loss, in every lane. -/
theorem final2_5 : (dat2 V c).arrAt 5 cfg2.N = fun _ => loss (last V c) (V c main_arg7 : Mat 1 1024) (V c main_arg8 : Mat 4096 1024) := by
  refine (dat2 V c).arrAt_eq_of_covers 5 _ (by decide +kernel) fun t hf y => ?_
  blk_simp
  rw [after2_5]
  have h := (flush2_5 t).mp hf
  have ht : t.val < 8 := t.isLt
  obtain ⟨i, k, rfl⟩ : ∃ (i : Fin 1) (k : Fin 128), y = ix2 i k := ⟨y 0, y 1, eq_ix2 y⟩
  obtain rfl : i = 0 := Subsingleton.elim _ _
  refine (outs2_5 V c t h (ix2 0 k)).trans ((zero_add _).trans ?_)
  show ∑ s : Fin 8, _ = loss (last V c) (V c main_arg7 : Mat 1 1024) (V c main_arg8 : Mat 4096 1024)
  refine Eq.trans ?_ (congrArg (Ideal.ofBits .f32 0x3F000000#32 * ·) (Fin.sum_mul_add_fin (M := EReal) (L := 4096) 8 512 _ rfl))
  rw [half_mul_sum]
  refine Finset.sum_congr rfl fun s _ => ?_
  refine congrArg (Ideal.ofBits .f32 0x3F000000#32 * ·) (Finset.sum_congr rfl fun m _ => ?_)
  have hs := s.isLt
  have hp : (8 * (t.val / 8) + s.val) = s.val := by omega
  exact loss_rows (last_block V c _ m _ (by simp only [hp])) (gain_block V c _) (target_block V c _ m _ (by simp only [hp]))

/-- One block's share of the gain's gradient. -/
def term2_8 (t : Fin cfg2.N) : Mat 1 1024 := gainGrad (lastBlock V c t) (missGrad (lastBlock V c t) (iblk2 V c 3 t : Mat 1 1024) (iblk2 V c 4 t : Mat 512 1024))

theorem outs2_8 (t : Fin cfg2.N) (h : t.val % 8 = 8 - 1) (j : S1x1024.Idx) : (outsAt2 V c t.val t.isLt).2.2.2 j
    = (fun _ => (0 : EReal)) j + ∑ s : Fin 8, term2_8 V c ⟨8 * (t.val / 8) + s.val, Pipeline.run_point_lt_of_flush t h s⟩ j := by
  refine Pipeline.eq_sum_fin_of_reset_step_apply_of_flush (fun n hn => (outsAt2 V c n hn).2.2.2) 8 (fun _ => (0 : EReal))
    (term2_8 V c) (fun t h j => ?_) (fun t h j => ?_) t h j
  · obtain ⟨i, k, rfl⟩ : ∃ (i : Fin 1) (k : Fin 1024), j = ix2 i k := ⟨j 0, j 1, eq_ix2 j⟩
    obtain rfl : i = 0 := Subsingleton.elim _ _
    show (outsAt2 V c t.val t.isLt).2.2.2 (ix2 0 k) = _
    rw [outsAt2_A V c t h]
    frame_out
    refine (outGain_apply _ _ _ _ _ k _).trans ?_
    rw [outGain_zero]
    rfl
  · obtain ⟨i, k, rfl⟩ : ∃ (i : Fin 1) (k : Fin 1024), j = ix2 i k := ⟨j 0, j 1, eq_ix2 j⟩
    obtain rfl : i = 0 := Subsingleton.elim _ _
    show (outsAt2 V c t.val t.isLt).2.2.2 (ix2 0 k) = _
    rw [outsAt2_B V c t h]
    frame_out
    exact outGain_apply _ _ _ _ _ k _

/-- The gradient of the last normalisation's gain. -/
theorem final2_8 : (dat2 V c).arrAt 8 cfg2.N = gainGrad (last V c)
    (missGrad (last V c) (V c main_arg7 : Mat 1 1024) (V c main_arg8 : Mat 4096 1024)) := by
  refine (dat2 V c).arrAt_eq_of_covers 8 _ (by decide +kernel) fun t hf y => ?_
  blk_simp
  rw [after2_8]
  have h := (flush2_8 t).mp hf
  have ht : t.val < 8 := t.isLt
  obtain ⟨i, k, rfl⟩ : ∃ (i : Fin 1) (k : Fin 1024), y = ix2 i k := ⟨y 0, y 1, eq_ix2 y⟩
  obtain rfl : i = 0 := Subsingleton.elim _ _
  refine (outs2_8 V c t h (ix2 0 k)).trans ((zero_add _).trans ?_)
  have e : ((View.whole main_v2_3).slice (win2_8.rect t)).emb (ix2 0 k) = ix2 (0 : Fin 1) k := by
    blk_ext [idx2 t]
  rw [e]
  refine Eq.trans ?_ (Fin.sum_mul_add_fin (M := EReal) (L := 4096) 8 512 _ rfl)
  refine Finset.sum_congr rfl fun s _ => ?_
  unfold term2_8 gainGrad
  refine Finset.sum_congr rfl fun m _ => ?_
  have hs := s.isLt
  have hp : (8 * (t.val / 8) + s.val) = s.val := by omega
  exact gainGrad_rows (last_block V c _ m _ (by simp only [hp])) (missGrad_block V c _ m _ (by simp only [hp])) k

end Cert.Kernel2Ideal.Arrays

end
-- ==== Proof.LayersInputs.lean ====
/-
  What the launches leave in their result arrays that compute the gradients of the gated unit and of the two products'
  left factors, as layers (Layers.lean) of the arrays they are entered with.
-/
module

public import proofs.«01_k».proof.Proof.Gen.Kernel2Ideal.Frame.Region4
public import proofs.«01_k».proof.Proof.Gen.Kernel2Ideal.Frame.Region5
public import proofs.«01_k».proof.Proof.Gen.Kernel2Ideal.Frame.Region9
public import proofs.«01_k».proof.Proof.Tiles

@[expose] public section

noncomputable section

namespace Cert.Kernel2Ideal.Arrays

open Cert.Kernel2Ideal Cert.Kernel2Ideal.Gen Cert.Kernel2Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx4 : ∀ t : Fin cfg4.N, win4_0.index t = ![t.val % 8, 0] ∧ win4_1.index t = ![t.val / 8, 0]
    ∧ win4_2.index t = ![t.val % 8, t.val / 8] ∧ win4_3.index t = ![t.val % 8, t.val / 8]
    ∧ win4_4.index t = ![t.val % 8, t.val / 8] ∧ win4_5.index t = ![t.val % 8, t.val / 8] := by
  decide +kernel

/-- The gate's gradient. -/
theorem final4_4 : (dat4 V c).arrAt 4 cfg4.N
    = gateGrad (mulNT (V c main_v2_2 : Mat 4096 1024) (V c main_arg6 : Mat 2816 1024))
        (V c main_v1_1 : Mat 4096 2816) (V c main_v1_2 : Mat 4096 2816) := by
  refine (dat4 V c).arrAt_eq_of_covers 4 _ (by decide +kernel) fun t hf y => ?_
  blk_simp
  rw [after4_4]
  frame_out
  obtain ⟨r, k, rfl⟩ : ∃ (r : Fin 512) (k : Fin 1408), y = ix2 r k := ⟨y 0, y 1, eq_ix2 y⟩
  refine (gateGrad_apply r _ _ k _ _).trans ?_
  refine gateGrad_at ((down_apply r _ _ k).trans ?_) ?_ ?_
  · unfold mulNT
    blk_point [iblk4, idx4 t]
  · blk_point [iblk4, idx4 t]
  · blk_point [iblk4, idx4 t]

/-- The other factor's gradient. -/
theorem final4_5 : (dat4 V c).arrAt 5 cfg4.N
    = upGrad (mulNT (V c main_v2_2 : Mat 4096 1024) (V c main_arg6 : Mat 2816 1024))
        (V c main_v1_1 : Mat 4096 2816) := by
  refine (dat4 V c).arrAt_eq_of_covers 5 _ (by decide +kernel) fun t hf y => ?_
  blk_simp
  rw [after4_5]
  frame_out
  obtain ⟨r, k, rfl⟩ : ∃ (r : Fin 512) (k : Fin 1408), y = ix2 r k := ⟨y 0, y 1, eq_ix2 y⟩
  refine (upGrad_apply r _ _ k _).trans ?_
  refine upGrad_at ((down_apply r _ _ k).trans ?_) ?_
  · unfold mulNT
    blk_point [iblk4, idx4 t]
  · blk_point [iblk4, idx4 t]

theorem idx5 : ∀ t : Fin cfg5.N, win5_0.index t = ![t.val, 0] ∧ win5_1.index t = ![0, 0] ∧ win5_2.index t = ![t.val, 0] := by
  decide +kernel

/-- The gate's part of the gradient of the normalised rows. -/
theorem final5_2 : (dat5 V c).arrAt 2 cfg5.N = mulNN (V c main_v4_0 : Mat 4096 2816) (V c main_arg4 : Mat 2816 1024) := by
  refine (dat5 V c).arrAt_eq_of_covers 2 _ (by decide +kernel) fun t hf y => ?_
  blk_simp
  rw [after5_2]
  frame_out
  obtain ⟨r, k, rfl⟩ : ∃ (r : Fin 512) (k : Fin 1024), y = ix2 r k := ⟨y 0, y 1, eq_ix2 y⟩
  refine (gate_dx_apply r _ _ k).trans ?_
  unfold mulNN
  blk_point [iblk5, idx5 t]

theorem idx9 : ∀ t : Fin cfg9.N, win9_0.index t = ![t.val, 0] ∧ win9_1.index t = ![0, 0] ∧ win9_2.index t = ![t.val, 0] := by
  decide +kernel

/-- The gradient of the attention's output. -/
theorem final9_2 : (dat9 V c).arrAt 2 cfg9.N = mulNT (V c main_v6_1 : Mat 4096 1024) (V c main_arg2 : Mat 1024 1024) := by
  refine (dat9 V c).arrAt_eq_of_covers 2 _ (by decide +kernel) fun t hf y => ?_
  blk_simp
  rw [after9_2]
  frame_out
  obtain ⟨r, k, rfl⟩ : ∃ (r : Fin 512) (k : Fin 1024), y = ix2 r k := ⟨y 0, y 1, eq_ix2 y⟩
  refine (o_dx_apply r _ _ k).trans ?_
  unfold mulNT
  blk_point [iblk9, idx9 t]

end Cert.Kernel2Ideal.Arrays

end
-- ==== Proof.LayersNorm.lean ====
/-
  What the launch leaves in its result arrays that carries the gradient through the normalisation before the gated unit,
  as layers (Layers.lean) of the arrays it is entered with.
-/
module

public import proofs.«01_k».proof.Proof.Gen.Kernel2Ideal.Frame.Region6
public import proofs.«01_k».proof.Proof.Tiles

@[expose] public section

noncomputable section

namespace Cert.Kernel2Ideal.Arrays

open Cert.Kernel2Ideal Cert.Kernel2Ideal.Gen Cert.Kernel2Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx6 : ∀ t : Fin cfg6.N, win6_0.index t = ![t.val, 0]
    ∧ win6_1.index t = ![0, 0]
    ∧ win6_2.index t = ![t.val, 0]
    ∧ win6_3.index t = ![t.val, 0]
    ∧ win6_4.index t = ![0, 0]
    ∧ win6_5.index t = ![t.val, 0]
    ∧ win6_6.index t = ![t.val, 0]
    ∧ win6_7.index t = ![t.val, 0]
    ∧ win6_8.index t = ![0, 0] := by decide +kernel

/-- The gradient of the normalised rows: both factors' parts. -/
def both : Mat 4096 1024 := plus (mulNN (V c main_v4_1 : Mat 4096 2816) (V c main_arg5 : Mat 2816 1024)) (V c main_v5 : Mat 4096 1024)

/-- A block of `both`, as the launch computes it. -/
def bothBlock (t : Fin cfg6.N) : Mat 512 1024 := k6_pay4 (F := Ideal) (iblk6 V c 0 t) (iblk6 V c 1 t) (iblk6 V c 2 t)

section
variable (t : Fin cfg6.N) (r : Fin 512) (R : Fin 4096) (hR : R.val = t.val * 512 + r.val)
include hR

theorem both_block (k : Fin 1024) : bothBlock V c t (ix2 r k) = both V c (ix2 R k) := by
  have ht : t.val < 8 := t.isLt
  have hb : t.val * 512 + r.val < 4096 := by omega
  obtain rfl : R = ⟨t.val * 512 + r.val, hb⟩ := Fin.ext hR
  refine (up_dx_apply r _ _ _ k).trans ?_
  unfold both plus mulNN
  blk_point [iblk6, idx6 t]

theorem rows_block (k : Fin 1024) : (iblk6 V c 3 t : Mat 512 1024) (ix2 r k) = (V c main_v0_0 : Mat 4096 1024) (ix2 R k) := by
  have ht : t.val < 8 := t.isLt
  have hb : t.val * 512 + r.val < 4096 := by omega
  obtain rfl : R = ⟨t.val * 512 + r.val, hb⟩ := Fin.ext hR
  blk_point [iblk6, idx6 t]

theorem later_block (k : Fin 1024) : (iblk6 V c 5 t : Mat 512 1024) (ix2 r k) = (V c main_v2_1 : Mat 4096 1024) (ix2 R k) := by
  have ht : t.val < 8 := t.isLt
  have hb : t.val * 512 + r.val < 4096 := by omega
  obtain rfl : R = ⟨t.val * 512 + r.val, hb⟩ := Fin.ext hR
  blk_point [iblk6, idx6 t]

omit hR in
theorem ffnGain_block (k : Fin 1024) : (iblk6 V c 4 t : Mat 1 1024) (ix2 0 k) = (V c main_arg3 : Mat 1 1024) (ix2 0 k) := by
  blk_point [iblk6, idx6 t]

theorem rowsGrad_block (k : Fin 1024) : plus (iblk6 V c 5 t : Mat 512 1024)
      (normedGrad (iblk6 V c 3 t : Mat 512 1024) (iblk6 V c 4 t : Mat 1 1024) (bothBlock V c t)) (ix2 r k)
    = plus (V c main_v2_1 : Mat 4096 1024) (normedGrad (V c main_v0_0 : Mat 4096 1024) (V c main_arg3 : Mat 1 1024) (both V c)) (ix2 R k) := by
  unfold plus
  rw [normedGrad_rows (rows_block V c t r R hR) (ffnGain_block V c t) (both_block V c t r R hR) k]
  exact congrArg (· + _) (later_block V c t r R hR k)

end

theorem outs6_6 (t : Fin cfg6.N) (r : Fin 512) (k : Fin 1024) : (outsAt6 V c t.val t.isLt).1 (ix2 r k)
    = plus (iblk6 V c 5 t : Mat 512 1024)
      (normedGrad (iblk6 V c 3 t : Mat 512 1024) (iblk6 V c 4 t : Mat 1 1024) (bothBlock V c t)) (ix2 r k) := by
  by_cases h : t.val % 8 = 0
  · rw [outsAt6_A V c t h]
    frame_out
    exact inGrad_apply r _ _ _ _ _ _ k
  · rw [outsAt6_B V c t h]
    frame_out
    exact inGrad_apply r _ _ _ _ _ _ k

/-- The gradient of the rows before the gated unit's layers. -/
theorem final6_6 : (dat6 V c).arrAt 6 cfg6.N
    = plus (V c main_v2_1 : Mat 4096 1024) (normedGrad (V c main_v0_0 : Mat 4096 1024) (V c main_arg3 : Mat 1 1024) (both V c)) := by
  refine (dat6 V c).arrAt_eq_of_covers 6 _ (by decide +kernel) fun t hf y => ?_
  blk_simp
  rw [after6_6]
  obtain ⟨r, k, rfl⟩ : ∃ (r : Fin 512) (k : Fin 1024), y = ix2 r k := ⟨y 0, y 1, eq_ix2 y⟩
  have ht : t.val < 8 := t.isLt
  have e : ((View.whole main_v6_0).slice (win6_6.rect t)).emb (ix2 r k) = ix2 (⟨t.val * 512 + r.val, by omega⟩ : Fin 4096) k := by
    blk_ext [idx6 t]
  rw [e]
  exact (outs6_6 V c t r k).trans (rowsGrad_block V c t r _ rfl k)

theorem outs6_7 (t : Fin cfg6.N) (r : Fin 512) (k : Fin 1024) : (outsAt6 V c t.val t.isLt).2.1 (ix2 r k)
    = plus (iblk6 V c 5 t : Mat 512 1024)
      (normedGrad (iblk6 V c 3 t : Mat 512 1024) (iblk6 V c 4 t : Mat 1 1024) (bothBlock V c t)) (ix2 r k) := by
  by_cases h : t.val % 8 = 0
  · rw [outsAt6_A V c t h]
    frame_out
    exact inGrad_apply r _ _ _ _ _ _ k
  · rw [outsAt6_B V c t h]
    frame_out
    exact inGrad_apply r _ _ _ _ _ _ k

/-- The gradient of the rows before the gated unit's layers, and its copy in the narrow type. -/
theorem final6_7 : (dat6 V c).arrAt 7 cfg6.N
    = plus (V c main_v2_1 : Mat 4096 1024) (normedGrad (V c main_v0_0 : Mat 4096 1024) (V c main_arg3 : Mat 1 1024) (both V c)) := by
  refine (dat6 V c).arrAt_eq_of_covers 7 _ (by decide +kernel) fun t hf y => ?_
  blk_simp
  rw [after6_7]
  obtain ⟨r, k, rfl⟩ : ∃ (r : Fin 512) (k : Fin 1024), y = ix2 r k := ⟨y 0, y 1, eq_ix2 y⟩
  have ht : t.val < 8 := t.isLt
  have e : ((View.whole main_v6_1).slice (win6_7.rect t)).emb (ix2 r k) = ix2 (⟨t.val * 512 + r.val, by omega⟩ : Fin 4096) k := by
    blk_ext [idx6 t]
  rw [e]
  exact (outs6_7 V c t r k).trans (rowsGrad_block V c t r _ rfl k)

/-- One block's share of the gain's gradient. -/
def term6_8 (t : Fin cfg6.N) : Mat 1 1024 := gainGrad (iblk6 V c 3 t : Mat 512 1024) (bothBlock V c t)

theorem outs6_8 (t : Fin cfg6.N) (h : t.val % 8 = 8 - 1) (j : S1x1024.Idx) : (outsAt6 V c t.val t.isLt).2.2 j
    = (fun _ => (0 : EReal)) j + ∑ s : Fin 8, term6_8 V c ⟨8 * (t.val / 8) + s.val, Pipeline.run_point_lt_of_flush t h s⟩ j := by
  refine Pipeline.eq_sum_fin_of_reset_step_apply_of_flush (fun n hn => (outsAt6 V c n hn).2.2) 8 (fun _ => (0 : EReal))
    (term6_8 V c) (fun t h j => ?_) (fun t h j => ?_) t h j
  · obtain ⟨i, k, rfl⟩ : ∃ (i : Fin 1) (k : Fin 1024), j = ix2 i k := ⟨j 0, j 1, eq_ix2 j⟩
    obtain rfl : i = 0 := Subsingleton.elim _ _
    show (outsAt6 V c t.val t.isLt).2.2 (ix2 0 k) = _
    rw [outsAt6_A V c t h]
    frame_out
    refine (inGain_apply _ _ _ _ k _).trans ?_
    rw [inGain_zero]
    rfl
  · obtain ⟨i, k, rfl⟩ : ∃ (i : Fin 1) (k : Fin 1024), j = ix2 i k := ⟨j 0, j 1, eq_ix2 j⟩
    obtain rfl : i = 0 := Subsingleton.elim _ _
    show (outsAt6 V c t.val t.isLt).2.2 (ix2 0 k) = _
    rw [outsAt6_B V c t h]
    frame_out
    exact inGain_apply _ _ _ _ k _

/-- The gradient of the normalisation's gain. -/
theorem final6_8 : (dat6 V c).arrAt 8 cfg6.N = gainGrad (V c main_v0_0 : Mat 4096 1024) (both V c) := by
  refine (dat6 V c).arrAt_eq_of_covers 8 _ (by decide +kernel) fun t hf y => ?_
  blk_simp
  rw [after6_8]
  have h := (flush6_8 t).mp hf
  have ht : t.val < 8 := t.isLt
  obtain ⟨i, k, rfl⟩ : ∃ (i : Fin 1) (k : Fin 1024), y = ix2 i k := ⟨y 0, y 1, eq_ix2 y⟩
  obtain rfl : i = 0 := Subsingleton.elim _ _
  refine (outs6_8 V c t h (ix2 0 k)).trans ((zero_add _).trans ?_)
  have e : ((View.whole main_v6_2).slice (win6_8.rect t)).emb (ix2 0 k) = ix2 (0 : Fin 1) k := by
    blk_ext [idx6 t]
  rw [e]
  refine Eq.trans ?_ (Fin.sum_mul_add_fin (M := EReal) (L := 4096) 8 512 _ rfl)
  refine Finset.sum_congr rfl fun s _ => ?_
  unfold term6_8 gainGrad
  refine Finset.sum_congr rfl fun m _ => ?_
  have hs := s.isLt
  have hp : (8 * (t.val / 8) + s.val) = s.val := by omega
  exact gainGrad_rows (rows_block V c _ m _ (by simp only [hp])) (both_block V c _ m _ (by simp only [hp])) k

end Cert.Kernel2Ideal.Arrays

end
-- ==== Proof.LayersWeights.lean ====
/-
  What the launches leave in their result arrays that compute the gradients of the weights, as products of the arrays
  they are entered with: each is the sum of the products of the four blocks of rows.
-/
module

public import proofs.«01_k».proof.Proof.Gen.Kernel2Ideal.Frame.Region3
public import proofs.«01_k».proof.Proof.Gen.Kernel2Ideal.Frame.Region7
public import proofs.«01_k».proof.Proof.Gen.Kernel2Ideal.Frame.Region8
public import proofs.«01_k».proof.Proof.Gen.Kernel2Ideal.Frame.Region10
public import proofs.«01_k».proof.Proof.Tiles

@[expose] public section

noncomputable section

namespace Cert.Kernel2Ideal.Arrays

open Cert.Kernel2Ideal Cert.Kernel2Ideal.Gen Cert.Kernel2Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx3 : ∀ t : Fin cfg3.N, win3_0.index t = ![t.val % 4, t.val / 4] ∧ win3_1.index t = ![t.val % 4, 0]
    ∧ win3_2.index t = ![t.val / 4, 0] := by
  decide +kernel

/-- One point's share of the product. -/
def term3 (t : Fin cfg3.N) : Mat 1408 1024 := mulTN (a := 1408) (b := 1024) (k := 1024) (iblk3 V c 0 t) (iblk3 V c 1 t)

theorem outs3 (t : Fin cfg3.N) (h : t.val % 4 = 4 - 1) (j : S1408x1024.Idx) : outsAt3 V c t.val t.isLt j
    = (fun _ => (0 : EReal)) j + ∑ s : Fin 4, term3 V c ⟨4 * (t.val / 4) + s.val, Pipeline.run_point_lt_of_flush t h s⟩ j := by
  refine Pipeline.eq_sum_fin_of_reset_step_apply_of_flush (fun n hn => outsAt3 V c n hn) 4 (fun _ => (0 : EReal))
    (term3 V c) (fun t h j => ?_) (fun t h j => ?_) t h j
  · obtain ⟨i, k, rfl⟩ : ∃ (i : Fin 1408) (k : Fin 1024), j = ix2 i k := ⟨j 0, j 1, eq_ix2 j⟩
    show outsAt3 V c t.val t.isLt (ix2 i k) = _
    rw [outsAt3_A V c t h]
    frame_out
    refine (down_dw_apply _ _ _ i k).trans ?_
    rw [down_dw_zero]
    rfl
  · obtain ⟨i, k, rfl⟩ : ∃ (i : Fin 1408) (k : Fin 1024), j = ix2 i k := ⟨j 0, j 1, eq_ix2 j⟩
    show outsAt3 V c t.val t.isLt (ix2 i k) = _
    rw [outsAt3_B V c t h]
    frame_out
    refine (down_dw_apply _ _ _ i k).trans ?_
    rfl

/-- The gradient of the last weights. -/
theorem final3_2 : (dat3 V c).arrAt 2 cfg3.N = mulTN (V c main_v1_0 : Mat 4096 2816) (V c main_v2_2 : Mat 4096 1024) := by
  refine (dat3 V c).arrAt_eq_of_covers 2 _ (by decide +kernel) fun t hf y => ?_
  blk_simp
  rw [after3_2]
  have h := (flush3_2 t).mp hf
  obtain ⟨i, k, rfl⟩ : ∃ (i : Fin 1408) (k : Fin 1024), y = ix2 i k := ⟨y 0, y 1, eq_ix2 y⟩
  refine (outs3 V c t h (ix2 i k)).trans ((zero_add _).trans ?_)
  unfold mulTN
  refine Eq.trans ?_ (Fin.sum_mul_add_fin (M := EReal) (L := 4096) 4 1024 _ rfl)
  refine Finset.sum_congr rfl fun s _ => ?_
  unfold term3 mulTN
  refine Finset.sum_congr rfl fun m _ => ?_
  have hs := s.isLt
  have ht : t.val < 8 := t.isLt
  blk_point [iblk3, idx3 t, idx3 ⟨4 * (t.val / 4) + s.val, Pipeline.run_point_lt_of_flush t h s⟩]

theorem idx7 : ∀ t : Fin cfg7.N, win7_0.index t = ![t.val % 4, t.val / 4] ∧ win7_1.index t = ![t.val % 4, 0]
    ∧ win7_2.index t = ![t.val / 4, 0] := by
  decide +kernel

/-- One point's share of the product. -/
def term7 (t : Fin cfg7.N) : Mat 1408 1024 := mulTN (a := 1408) (b := 1024) (k := 1024) (iblk7 V c 0 t) (iblk7 V c 1 t)

theorem outs7 (t : Fin cfg7.N) (h : t.val % 4 = 4 - 1) (j : S1408x1024.Idx) : outsAt7 V c t.val t.isLt j
    = (fun _ => (0 : EReal)) j + ∑ s : Fin 4, term7 V c ⟨4 * (t.val / 4) + s.val, Pipeline.run_point_lt_of_flush t h s⟩ j := by
  refine Pipeline.eq_sum_fin_of_reset_step_apply_of_flush (fun n hn => outsAt7 V c n hn) 4 (fun _ => (0 : EReal))
    (term7 V c) (fun t h j => ?_) (fun t h j => ?_) t h j
  · obtain ⟨i, k, rfl⟩ : ∃ (i : Fin 1408) (k : Fin 1024), j = ix2 i k := ⟨j 0, j 1, eq_ix2 j⟩
    show outsAt7 V c t.val t.isLt (ix2 i k) = _
    rw [outsAt7_A V c t h]
    frame_out
    refine (gate_dw_apply _ _ _ i k).trans ?_
    rw [gate_dw_zero]
    rfl
  · obtain ⟨i, k, rfl⟩ : ∃ (i : Fin 1408) (k : Fin 1024), j = ix2 i k := ⟨j 0, j 1, eq_ix2 j⟩
    show outsAt7 V c t.val t.isLt (ix2 i k) = _
    rw [outsAt7_B V c t h]
    frame_out
    refine (gate_dw_apply _ _ _ i k).trans ?_
    rfl

/-- The gradient of the gate's weights. -/
theorem final7_2 : (dat7 V c).arrAt 2 cfg7.N = mulTN (V c main_v4_0 : Mat 4096 2816) (V c main_v0_1 : Mat 4096 1024) := by
  refine (dat7 V c).arrAt_eq_of_covers 2 _ (by decide +kernel) fun t hf y => ?_
  blk_simp
  rw [after7_2]
  have h := (flush7_2 t).mp hf
  obtain ⟨i, k, rfl⟩ : ∃ (i : Fin 1408) (k : Fin 1024), y = ix2 i k := ⟨y 0, y 1, eq_ix2 y⟩
  refine (outs7 V c t h (ix2 i k)).trans ((zero_add _).trans ?_)
  unfold mulTN
  refine Eq.trans ?_ (Fin.sum_mul_add_fin (M := EReal) (L := 4096) 4 1024 _ rfl)
  refine Finset.sum_congr rfl fun s _ => ?_
  unfold term7 mulTN
  refine Finset.sum_congr rfl fun m _ => ?_
  have hs := s.isLt
  have ht : t.val < 8 := t.isLt
  blk_point [iblk7, idx7 t, idx7 ⟨4 * (t.val / 4) + s.val, Pipeline.run_point_lt_of_flush t h s⟩]

theorem idx8 : ∀ t : Fin cfg8.N, win8_0.index t = ![t.val % 4, t.val / 4] ∧ win8_1.index t = ![t.val % 4, 0]
    ∧ win8_2.index t = ![t.val / 4, 0] := by
  decide +kernel

/-- One point's share of the product. -/
def term8 (t : Fin cfg8.N) : Mat 1408 1024 := mulTN (a := 1408) (b := 1024) (k := 1024) (iblk8 V c 0 t) (iblk8 V c 1 t)

theorem outs8 (t : Fin cfg8.N) (h : t.val % 4 = 4 - 1) (j : S1408x1024.Idx) : outsAt8 V c t.val t.isLt j
    = (fun _ => (0 : EReal)) j + ∑ s : Fin 4, term8 V c ⟨4 * (t.val / 4) + s.val, Pipeline.run_point_lt_of_flush t h s⟩ j := by
  refine Pipeline.eq_sum_fin_of_reset_step_apply_of_flush (fun n hn => outsAt8 V c n hn) 4 (fun _ => (0 : EReal))
    (term8 V c) (fun t h j => ?_) (fun t h j => ?_) t h j
  · obtain ⟨i, k, rfl⟩ : ∃ (i : Fin 1408) (k : Fin 1024), j = ix2 i k := ⟨j 0, j 1, eq_ix2 j⟩
    show outsAt8 V c t.val t.isLt (ix2 i k) = _
    rw [outsAt8_A V c t h]
    frame_out
    refine (up_dw_apply _ _ _ i k).trans ?_
    rw [up_dw_zero]
    rfl
  · obtain ⟨i, k, rfl⟩ : ∃ (i : Fin 1408) (k : Fin 1024), j = ix2 i k := ⟨j 0, j 1, eq_ix2 j⟩
    show outsAt8 V c t.val t.isLt (ix2 i k) = _
    rw [outsAt8_B V c t h]
    frame_out
    refine (up_dw_apply _ _ _ i k).trans ?_
    rfl

/-- The gradient of the other factor's weights. -/
theorem final8_2 : (dat8 V c).arrAt 2 cfg8.N = mulTN (V c main_v4_1 : Mat 4096 2816) (V c main_v0_1 : Mat 4096 1024) := by
  refine (dat8 V c).arrAt_eq_of_covers 2 _ (by decide +kernel) fun t hf y => ?_
  blk_simp
  rw [after8_2]
  have h := (flush8_2 t).mp hf
  obtain ⟨i, k, rfl⟩ : ∃ (i : Fin 1408) (k : Fin 1024), y = ix2 i k := ⟨y 0, y 1, eq_ix2 y⟩
  refine (outs8 V c t h (ix2 i k)).trans ((zero_add _).trans ?_)
  unfold mulTN
  refine Eq.trans ?_ (Fin.sum_mul_add_fin (M := EReal) (L := 4096) 4 1024 _ rfl)
  refine Finset.sum_congr rfl fun s _ => ?_
  unfold term8 mulTN
  refine Finset.sum_congr rfl fun m _ => ?_
  have hs := s.isLt
  have ht : t.val < 8 := t.isLt
  blk_point [iblk8, idx8 t, idx8 ⟨4 * (t.val / 4) + s.val, Pipeline.run_point_lt_of_flush t h s⟩]

theorem idx10 : ∀ t : Fin cfg10.N, win10_0.index t = ![t.val % 4, t.val / 4] ∧ win10_1.index t = ![t.val % 4, 0]
    ∧ win10_2.index t = ![t.val / 4, 0] := by
  decide +kernel

/-- One point's share of the product. -/
def term10 (t : Fin cfg10.N) : Mat 512 1024 := mulTN (a := 512) (b := 1024) (k := 1024) (iblk10 V c 0 t) (iblk10 V c 1 t)

theorem outs10 (t : Fin cfg10.N) (h : t.val % 4 = 4 - 1) (j : S512x1024.Idx) : outsAt10 V c t.val t.isLt j
    = (fun _ => (0 : EReal)) j + ∑ s : Fin 4, term10 V c ⟨4 * (t.val / 4) + s.val, Pipeline.run_point_lt_of_flush t h s⟩ j := by
  refine Pipeline.eq_sum_fin_of_reset_step_apply_of_flush (fun n hn => outsAt10 V c n hn) 4 (fun _ => (0 : EReal))
    (term10 V c) (fun t h j => ?_) (fun t h j => ?_) t h j
  · obtain ⟨i, k, rfl⟩ : ∃ (i : Fin 512) (k : Fin 1024), j = ix2 i k := ⟨j 0, j 1, eq_ix2 j⟩
    show outsAt10 V c t.val t.isLt (ix2 i k) = _
    rw [outsAt10_A V c t h]
    frame_out
    refine (o_dw_apply i _ _ _ k).trans ?_
    rw [o_dw_zero]
    rfl
  · obtain ⟨i, k, rfl⟩ : ∃ (i : Fin 512) (k : Fin 1024), j = ix2 i k := ⟨j 0, j 1, eq_ix2 j⟩
    show outsAt10 V c t.val t.isLt (ix2 i k) = _
    rw [outsAt10_B V c t h]
    frame_out
    refine (o_dw_apply i _ _ _ k).trans ?_
    rfl

/-- The gradient of the attention's output weights. -/
theorem final10_2 : (dat10 V c).arrAt 2 cfg10.N = mulTN (V c main_arg1 : Mat 4096 1024) (V c main_v6_1 : Mat 4096 1024) := by
  refine (dat10 V c).arrAt_eq_of_covers 2 _ (by decide +kernel) fun t hf y => ?_
  blk_simp
  rw [after10_2]
  have h := (flush10_2 t).mp hf
  obtain ⟨i, k, rfl⟩ : ∃ (i : Fin 512) (k : Fin 1024), y = ix2 i k := ⟨y 0, y 1, eq_ix2 y⟩
  refine (outs10 V c t h (ix2 i k)).trans ((zero_add _).trans ?_)
  unfold mulTN
  refine Eq.trans ?_ (Fin.sum_mul_add_fin (M := EReal) (L := 4096) 4 1024 _ rfl)
  refine Finset.sum_congr rfl fun s _ => ?_
  unfold term10 mulTN
  refine Finset.sum_congr rfl fun m _ => ?_
  have hs := s.isLt
  have ht : t.val < 8 := t.isLt
  blk_point [iblk10, idx10 t, idx10 ⟨4 * (t.val / 4) + s.val, Pipeline.run_point_lt_of_flush t h s⟩]

end Cert.Kernel2Ideal.Arrays

end
-- ==== Proof.LayersChain.lean ====
/-
  What every buffer holds after the launch that writes it, and so at the end: the layers (Network.lean) of the arguments.
-/
module

public import proofs.«01_k».proof.Proof.Gen.Kernel2Ideal.Frame.Fold0
public import proofs.«01_k».proof.Proof.Network
public import proofs.«01_k».proof.Proof.LayersForward
public import proofs.«01_k».proof.Proof.LayersLoss
public import proofs.«01_k».proof.Proof.LayersInputs
public import proofs.«01_k».proof.Proof.LayersNorm
public import proofs.«01_k».proof.Proof.LayersWeights

@[expose] public section

noncomputable section

namespace Cert.Kernel2Ideal.Arrays

open Cert.Kernel2Ideal Cert.Kernel2Ideal.Gen Cert.Layers Idealize.ShloMosaic Idealize.ShloMosaic.TcCoe Idealize.SL.Sem

/-- The arguments, as a memory holds them. -/
def args (m : (ℓ : Loc nD τ sig) → Buf (Elt Ideal) ℓ) (c : Dev nD) : Args where
  x1 := m ((c : Thread nD τ).loc main_arg0)
  o := m ((c : Thread nD τ).loc main_arg1)
  wo := m ((c : Thread nD τ).loc main_arg2)
  gf := m ((c : Thread nD τ).loc main_arg3)
  wg := m ((c : Thread nD τ).loc main_arg4)
  wu := m ((c : Thread nD τ).loc main_arg5)
  wd := m ((c : Thread nD τ).loc main_arg6)
  gl := m ((c : Thread nD τ).loc main_arg7)
  tgt := m ((c : Thread nD τ).loc main_arg8)

variable (m : (ℓ : Loc nD τ sig) → Buf (Elt Ideal) ℓ) (ρ : Dev nD → PrngReg) (c : Dev nD)

theorem x2_at1 : (W1 m ρ c (Proc.devRef .tc main_v0_0) : Mat 4096 1024) = (args m c).x2 := by
  have h_o : (V0 m ρ c main_arg1 : Mat 4096 1024) = (args m c).o := W0_args m ρ c main_arg1 (by decide)
  have h_wo : (V0 m ρ c main_arg2 : Mat 1024 1024) = (args m c).wo := W0_args m ρ c main_arg2 (by decide)
  have h_x1 : (V0 m ρ c main_arg0 : Mat 4096 1024) = (args m c).x1 := W0_args m ρ c main_arg0 (by decide)
  refine (W1_arr m ρ c 4).trans ((final0_4 (V0 m ρ) c).trans ?_)
  rw [h_o, h_wo, h_x1]
  rfl

theorem hf_at1 : (W1 m ρ c (Proc.devRef .tc main_v0_1) : Mat 4096 1024) = (args m c).hf := by
  have h_o : (V0 m ρ c main_arg1 : Mat 4096 1024) = (args m c).o := W0_args m ρ c main_arg1 (by decide)
  have h_wo : (V0 m ρ c main_arg2 : Mat 1024 1024) = (args m c).wo := W0_args m ρ c main_arg2 (by decide)
  have h_x1 : (V0 m ρ c main_arg0 : Mat 4096 1024) = (args m c).x1 := W0_args m ρ c main_arg0 (by decide)
  have h_gf : (V0 m ρ c main_arg3 : Mat 1 1024) = (args m c).gf := W0_args m ρ c main_arg3 (by decide)
  refine (W1_arr m ρ c 5).trans ((final0_5 (V0 m ρ) c).trans ?_)
  rw [h_o, h_wo, h_x1, h_gf]
  rfl

theorem x2_at2 : (W2 m ρ c (Proc.devRef .tc main_v0_0) : Mat 4096 1024) = (args m c).x2 :=
  (W2_of m ρ c main_v0_0 (by decide)).trans (x2_at1 m ρ c)

theorem hf_at2 : (W2 m ρ c (Proc.devRef .tc main_v0_1) : Mat 4096 1024) = (args m c).hf :=
  (W2_of m ρ c main_v0_1 (by decide)).trans (hf_at1 m ρ c)

theorem act_at2 : (W2 m ρ c (Proc.devRef .tc main_v1_0) : Mat 4096 2816) = (args m c).act := by
  have h_hf : (V1 m ρ c main_v0_1 : Mat 4096 1024) = (args m c).hf := hf_at1 m ρ c
  have h_wg : (V1 m ρ c main_arg4 : Mat 2816 1024) = (args m c).wg := W1_args m ρ c main_arg4 (by decide)
  have h_wu : (V1 m ρ c main_arg5 : Mat 2816 1024) = (args m c).wu := W1_args m ρ c main_arg5 (by decide)
  refine (W2_arr m ρ c 3).trans ((final1_3 (V1 m ρ) c).trans ?_)
  rw [h_hf, h_wg, h_wu]
  rfl

theorem gt_at2 : (W2 m ρ c (Proc.devRef .tc main_v1_1) : Mat 4096 2816) = (args m c).gt := by
  have h_hf : (V1 m ρ c main_v0_1 : Mat 4096 1024) = (args m c).hf := hf_at1 m ρ c
  have h_wg : (V1 m ρ c main_arg4 : Mat 2816 1024) = (args m c).wg := W1_args m ρ c main_arg4 (by decide)
  refine (W2_arr m ρ c 4).trans ((final1_4 (V1 m ρ) c).trans ?_)
  rw [h_hf, h_wg]
  rfl

theorem up_at2 : (W2 m ρ c (Proc.devRef .tc main_v1_2) : Mat 4096 2816) = (args m c).up := by
  have h_hf : (V1 m ρ c main_v0_1 : Mat 4096 1024) = (args m c).hf := hf_at1 m ρ c
  have h_wu : (V1 m ρ c main_arg5 : Mat 2816 1024) = (args m c).wu := W1_args m ρ c main_arg5 (by decide)
  refine (W2_arr m ρ c 5).trans ((final1_5 (V1 m ρ) c).trans ?_)
  rw [h_hf, h_wu]
  rfl

theorem x2_at3 : (W3 m ρ c (Proc.devRef .tc main_v0_0) : Mat 4096 1024) = (args m c).x2 :=
  (W3_of m ρ c main_v0_0 (by decide)).trans (x2_at2 m ρ c)

theorem hf_at3 : (W3 m ρ c (Proc.devRef .tc main_v0_1) : Mat 4096 1024) = (args m c).hf :=
  (W3_of m ρ c main_v0_1 (by decide)).trans (hf_at2 m ρ c)

theorem act_at3 : (W3 m ρ c (Proc.devRef .tc main_v1_0) : Mat 4096 2816) = (args m c).act :=
  (W3_of m ρ c main_v1_0 (by decide)).trans (act_at2 m ρ c)

theorem gt_at3 : (W3 m ρ c (Proc.devRef .tc main_v1_1) : Mat 4096 2816) = (args m c).gt :=
  (W3_of m ρ c main_v1_1 (by decide)).trans (gt_at2 m ρ c)

theorem up_at3 : (W3 m ρ c (Proc.devRef .tc main_v1_2) : Mat 4096 2816) = (args m c).up :=
  (W3_of m ρ c main_v1_2 (by decide)).trans (up_at2 m ρ c)

theorem loss_at3 : (W3 m ρ c (Proc.devRef .tc main_v2_0) : Mat 1 128) = fun _ => loss (args m c).x3 (args m c).gl (args m c).tgt := by
  have h_act : (V2 m ρ c main_v1_0 : Mat 4096 2816) = (args m c).act := act_at2 m ρ c
  have h_wd : (V2 m ρ c main_arg6 : Mat 2816 1024) = (args m c).wd := W2_args m ρ c main_arg6 (by decide)
  have h_x2 : (V2 m ρ c main_v0_0 : Mat 4096 1024) = (args m c).x2 := x2_at2 m ρ c
  have h_gl : (V2 m ρ c main_arg7 : Mat 1 1024) = (args m c).gl := W2_args m ρ c main_arg7 (by decide)
  have h_tgt : (V2 m ρ c main_arg8 : Mat 4096 1024) = (args m c).tgt := W2_args m ρ c main_arg8 (by decide)
  refine (W3_arr m ρ c 5).trans ((final2_5 (V2 m ρ) c).trans ?_)
  unfold last
  rw [h_act, h_wd, h_x2, h_gl, h_tgt]
  rfl

theorem dx3_at3 : (W3 m ρ c (Proc.devRef .tc main_v2_1) : Mat 4096 1024) = (args m c).dx3 := by
  have h_act : (V2 m ρ c main_v1_0 : Mat 4096 2816) = (args m c).act := act_at2 m ρ c
  have h_wd : (V2 m ρ c main_arg6 : Mat 2816 1024) = (args m c).wd := W2_args m ρ c main_arg6 (by decide)
  have h_x2 : (V2 m ρ c main_v0_0 : Mat 4096 1024) = (args m c).x2 := x2_at2 m ρ c
  have h_gl : (V2 m ρ c main_arg7 : Mat 1 1024) = (args m c).gl := W2_args m ρ c main_arg7 (by decide)
  have h_tgt : (V2 m ρ c main_arg8 : Mat 4096 1024) = (args m c).tgt := W2_args m ρ c main_arg8 (by decide)
  refine (W3_arr m ρ c 6).trans ((final2_6 (V2 m ρ) c).trans ?_)
  unfold last
  rw [h_act, h_wd, h_x2, h_gl, h_tgt]
  rfl

theorem dx3b_at3 : (W3 m ρ c (Proc.devRef .tc main_v2_2) : Mat 4096 1024) = (args m c).dx3 := by
  have h_act : (V2 m ρ c main_v1_0 : Mat 4096 2816) = (args m c).act := act_at2 m ρ c
  have h_wd : (V2 m ρ c main_arg6 : Mat 2816 1024) = (args m c).wd := W2_args m ρ c main_arg6 (by decide)
  have h_x2 : (V2 m ρ c main_v0_0 : Mat 4096 1024) = (args m c).x2 := x2_at2 m ρ c
  have h_gl : (V2 m ρ c main_arg7 : Mat 1 1024) = (args m c).gl := W2_args m ρ c main_arg7 (by decide)
  have h_tgt : (V2 m ρ c main_arg8 : Mat 4096 1024) = (args m c).tgt := W2_args m ρ c main_arg8 (by decide)
  refine (W3_arr m ρ c 7).trans ((final2_7 (V2 m ρ) c).trans ?_)
  unfold last
  rw [h_act, h_wd, h_x2, h_gl, h_tgt]
  rfl

theorem dgl_at3 : (W3 m ρ c (Proc.devRef .tc main_v2_3) : Mat 1 1024) = (args m c).dgl := by
  have h_act : (V2 m ρ c main_v1_0 : Mat 4096 2816) = (args m c).act := act_at2 m ρ c
  have h_wd : (V2 m ρ c main_arg6 : Mat 2816 1024) = (args m c).wd := W2_args m ρ c main_arg6 (by decide)
  have h_x2 : (V2 m ρ c main_v0_0 : Mat 4096 1024) = (args m c).x2 := x2_at2 m ρ c
  have h_gl : (V2 m ρ c main_arg7 : Mat 1 1024) = (args m c).gl := W2_args m ρ c main_arg7 (by decide)
  have h_tgt : (V2 m ρ c main_arg8 : Mat 4096 1024) = (args m c).tgt := W2_args m ρ c main_arg8 (by decide)
  refine (W3_arr m ρ c 8).trans ((final2_8 (V2 m ρ) c).trans ?_)
  unfold last
  rw [h_act, h_wd, h_x2, h_gl, h_tgt]
  rfl

theorem x2_at4 : (W4 m ρ c (Proc.devRef .tc main_v0_0) : Mat 4096 1024) = (args m c).x2 :=
  (W4_of m ρ c main_v0_0 (by decide)).trans (x2_at3 m ρ c)

theorem hf_at4 : (W4 m ρ c (Proc.devRef .tc main_v0_1) : Mat 4096 1024) = (args m c).hf :=
  (W4_of m ρ c main_v0_1 (by decide)).trans (hf_at3 m ρ c)

theorem gt_at4 : (W4 m ρ c (Proc.devRef .tc main_v1_1) : Mat 4096 2816) = (args m c).gt :=
  (W4_of m ρ c main_v1_1 (by decide)).trans (gt_at3 m ρ c)

theorem up_at4 : (W4 m ρ c (Proc.devRef .tc main_v1_2) : Mat 4096 2816) = (args m c).up :=
  (W4_of m ρ c main_v1_2 (by decide)).trans (up_at3 m ρ c)

theorem loss_at4 : (W4 m ρ c (Proc.devRef .tc main_v2_0) : Mat 1 128) = fun _ => loss (args m c).x3 (args m c).gl (args m c).tgt :=
  (W4_of m ρ c main_v2_0 (by decide)).trans (loss_at3 m ρ c)

theorem dx3_at4 : (W4 m ρ c (Proc.devRef .tc main_v2_1) : Mat 4096 1024) = (args m c).dx3 :=
  (W4_of m ρ c main_v2_1 (by decide)).trans (dx3_at3 m ρ c)

theorem dx3b_at4 : (W4 m ρ c (Proc.devRef .tc main_v2_2) : Mat 4096 1024) = (args m c).dx3 :=
  (W4_of m ρ c main_v2_2 (by decide)).trans (dx3b_at3 m ρ c)

theorem dgl_at4 : (W4 m ρ c (Proc.devRef .tc main_v2_3) : Mat 1 1024) = (args m c).dgl :=
  (W4_of m ρ c main_v2_3 (by decide)).trans (dgl_at3 m ρ c)

theorem dwd_at4 : (W4 m ρ c (Proc.devRef .tc main_v3) : Mat 2816 1024) = (args m c).dwd := by
  have h_act : (V3 m ρ c main_v1_0 : Mat 4096 2816) = (args m c).act := act_at3 m ρ c
  have h_dx3b : (V3 m ρ c main_v2_2 : Mat 4096 1024) = (args m c).dx3 := dx3b_at3 m ρ c
  refine (W4_arr m ρ c 2).trans ((final3_2 (V3 m ρ) c).trans ?_)
  rw [h_act, h_dx3b]
  rfl

theorem x2_at5 : (W5 m ρ c (Proc.devRef .tc main_v0_0) : Mat 4096 1024) = (args m c).x2 :=
  (W5_of m ρ c main_v0_0 (by decide)).trans (x2_at4 m ρ c)

theorem hf_at5 : (W5 m ρ c (Proc.devRef .tc main_v0_1) : Mat 4096 1024) = (args m c).hf :=
  (W5_of m ρ c main_v0_1 (by decide)).trans (hf_at4 m ρ c)

theorem loss_at5 : (W5 m ρ c (Proc.devRef .tc main_v2_0) : Mat 1 128) = fun _ => loss (args m c).x3 (args m c).gl (args m c).tgt :=
  (W5_of m ρ c main_v2_0 (by decide)).trans (loss_at4 m ρ c)

theorem dx3_at5 : (W5 m ρ c (Proc.devRef .tc main_v2_1) : Mat 4096 1024) = (args m c).dx3 :=
  (W5_of m ρ c main_v2_1 (by decide)).trans (dx3_at4 m ρ c)

theorem dgl_at5 : (W5 m ρ c (Proc.devRef .tc main_v2_3) : Mat 1 1024) = (args m c).dgl :=
  (W5_of m ρ c main_v2_3 (by decide)).trans (dgl_at4 m ρ c)

theorem dwd_at5 : (W5 m ρ c (Proc.devRef .tc main_v3) : Mat 2816 1024) = (args m c).dwd :=
  (W5_of m ρ c main_v3 (by decide)).trans (dwd_at4 m ρ c)

theorem dgt_at5 : (W5 m ρ c (Proc.devRef .tc main_v4_0) : Mat 4096 2816) = (args m c).dgt := by
  have h_dx3b : (V4 m ρ c main_v2_2 : Mat 4096 1024) = (args m c).dx3 := dx3b_at4 m ρ c
  have h_wd : (V4 m ρ c main_arg6 : Mat 2816 1024) = (args m c).wd := W4_args m ρ c main_arg6 (by decide)
  have h_gt : (V4 m ρ c main_v1_1 : Mat 4096 2816) = (args m c).gt := gt_at4 m ρ c
  have h_up : (V4 m ρ c main_v1_2 : Mat 4096 2816) = (args m c).up := up_at4 m ρ c
  refine (W5_arr m ρ c 4).trans ((final4_4 (V4 m ρ) c).trans ?_)
  rw [h_dx3b, h_wd, h_gt, h_up]
  rfl

theorem dup_at5 : (W5 m ρ c (Proc.devRef .tc main_v4_1) : Mat 4096 2816) = (args m c).dup := by
  have h_dx3b : (V4 m ρ c main_v2_2 : Mat 4096 1024) = (args m c).dx3 := dx3b_at4 m ρ c
  have h_wd : (V4 m ρ c main_arg6 : Mat 2816 1024) = (args m c).wd := W4_args m ρ c main_arg6 (by decide)
  have h_gt : (V4 m ρ c main_v1_1 : Mat 4096 2816) = (args m c).gt := gt_at4 m ρ c
  refine (W5_arr m ρ c 5).trans ((final4_5 (V4 m ρ) c).trans ?_)
  rw [h_dx3b, h_wd, h_gt]
  rfl

theorem x2_at6 : (W6 m ρ c (Proc.devRef .tc main_v0_0) : Mat 4096 1024) = (args m c).x2 :=
  (W6_of m ρ c main_v0_0 (by decide)).trans (x2_at5 m ρ c)

theorem hf_at6 : (W6 m ρ c (Proc.devRef .tc main_v0_1) : Mat 4096 1024) = (args m c).hf :=
  (W6_of m ρ c main_v0_1 (by decide)).trans (hf_at5 m ρ c)

theorem loss_at6 : (W6 m ρ c (Proc.devRef .tc main_v2_0) : Mat 1 128) = fun _ => loss (args m c).x3 (args m c).gl (args m c).tgt :=
  (W6_of m ρ c main_v2_0 (by decide)).trans (loss_at5 m ρ c)

theorem dx3_at6 : (W6 m ρ c (Proc.devRef .tc main_v2_1) : Mat 4096 1024) = (args m c).dx3 :=
  (W6_of m ρ c main_v2_1 (by decide)).trans (dx3_at5 m ρ c)

theorem dgl_at6 : (W6 m ρ c (Proc.devRef .tc main_v2_3) : Mat 1 1024) = (args m c).dgl :=
  (W6_of m ρ c main_v2_3 (by decide)).trans (dgl_at5 m ρ c)

theorem dwd_at6 : (W6 m ρ c (Proc.devRef .tc main_v3) : Mat 2816 1024) = (args m c).dwd :=
  (W6_of m ρ c main_v3 (by decide)).trans (dwd_at5 m ρ c)

theorem dgt_at6 : (W6 m ρ c (Proc.devRef .tc main_v4_0) : Mat 4096 2816) = (args m c).dgt :=
  (W6_of m ρ c main_v4_0 (by decide)).trans (dgt_at5 m ρ c)

theorem dup_at6 : (W6 m ρ c (Proc.devRef .tc main_v4_1) : Mat 4096 2816) = (args m c).dup :=
  (W6_of m ρ c main_v4_1 (by decide)).trans (dup_at5 m ρ c)

theorem dhfg_at6 : (W6 m ρ c (Proc.devRef .tc main_v5) : Mat 4096 1024) = mulNN (args m c).dgt (args m c).wg := by
  have h_dgt : (V5 m ρ c main_v4_0 : Mat 4096 2816) = (args m c).dgt := dgt_at5 m ρ c
  have h_wg : (V5 m ρ c main_arg4 : Mat 2816 1024) = (args m c).wg := W5_args m ρ c main_arg4 (by decide)
  refine (W6_arr m ρ c 2).trans ((final5_2 (V5 m ρ) c).trans ?_)
  rw [h_dgt, h_wg]

theorem hf_at7 : (W7 m ρ c (Proc.devRef .tc main_v0_1) : Mat 4096 1024) = (args m c).hf :=
  (W7_of m ρ c main_v0_1 (by decide)).trans (hf_at6 m ρ c)

theorem loss_at7 : (W7 m ρ c (Proc.devRef .tc main_v2_0) : Mat 1 128) = fun _ => loss (args m c).x3 (args m c).gl (args m c).tgt :=
  (W7_of m ρ c main_v2_0 (by decide)).trans (loss_at6 m ρ c)

theorem dgl_at7 : (W7 m ρ c (Proc.devRef .tc main_v2_3) : Mat 1 1024) = (args m c).dgl :=
  (W7_of m ρ c main_v2_3 (by decide)).trans (dgl_at6 m ρ c)

theorem dwd_at7 : (W7 m ρ c (Proc.devRef .tc main_v3) : Mat 2816 1024) = (args m c).dwd :=
  (W7_of m ρ c main_v3 (by decide)).trans (dwd_at6 m ρ c)

theorem dgt_at7 : (W7 m ρ c (Proc.devRef .tc main_v4_0) : Mat 4096 2816) = (args m c).dgt :=
  (W7_of m ρ c main_v4_0 (by decide)).trans (dgt_at6 m ρ c)

theorem dup_at7 : (W7 m ρ c (Proc.devRef .tc main_v4_1) : Mat 4096 2816) = (args m c).dup :=
  (W7_of m ρ c main_v4_1 (by decide)).trans (dup_at6 m ρ c)

theorem dx2_at7 : (W7 m ρ c (Proc.devRef .tc main_v6_0) : Mat 4096 1024) = (args m c).dx2 := by
  have h_dx3 : (V6 m ρ c main_v2_1 : Mat 4096 1024) = (args m c).dx3 := dx3_at6 m ρ c
  have h_x2 : (V6 m ρ c main_v0_0 : Mat 4096 1024) = (args m c).x2 := x2_at6 m ρ c
  have h_gf : (V6 m ρ c main_arg3 : Mat 1 1024) = (args m c).gf := W6_args m ρ c main_arg3 (by decide)
  have h_dup : (V6 m ρ c main_v4_1 : Mat 4096 2816) = (args m c).dup := dup_at6 m ρ c
  have h_wu : (V6 m ρ c main_arg5 : Mat 2816 1024) = (args m c).wu := W6_args m ρ c main_arg5 (by decide)
  have h_dhfg : (V6 m ρ c main_v5 : Mat 4096 1024) = mulNN (args m c).dgt (args m c).wg := dhfg_at6 m ρ c
  refine (W7_arr m ρ c 6).trans ((final6_6 (V6 m ρ) c).trans ?_)
  unfold both
  rw [h_dx3, h_x2, h_gf, h_dup, h_wu, h_dhfg]
  rfl

theorem dx2b_at7 : (W7 m ρ c (Proc.devRef .tc main_v6_1) : Mat 4096 1024) = (args m c).dx2 := by
  have h_dx3 : (V6 m ρ c main_v2_1 : Mat 4096 1024) = (args m c).dx3 := dx3_at6 m ρ c
  have h_x2 : (V6 m ρ c main_v0_0 : Mat 4096 1024) = (args m c).x2 := x2_at6 m ρ c
  have h_gf : (V6 m ρ c main_arg3 : Mat 1 1024) = (args m c).gf := W6_args m ρ c main_arg3 (by decide)
  have h_dup : (V6 m ρ c main_v4_1 : Mat 4096 2816) = (args m c).dup := dup_at6 m ρ c
  have h_wu : (V6 m ρ c main_arg5 : Mat 2816 1024) = (args m c).wu := W6_args m ρ c main_arg5 (by decide)
  have h_dhfg : (V6 m ρ c main_v5 : Mat 4096 1024) = mulNN (args m c).dgt (args m c).wg := dhfg_at6 m ρ c
  refine (W7_arr m ρ c 7).trans ((final6_7 (V6 m ρ) c).trans ?_)
  unfold both
  rw [h_dx3, h_x2, h_gf, h_dup, h_wu, h_dhfg]
  rfl

theorem dgf_at7 : (W7 m ρ c (Proc.devRef .tc main_v6_2) : Mat 1 1024) = (args m c).dgf := by
  have h_x2 : (V6 m ρ c main_v0_0 : Mat 4096 1024) = (args m c).x2 := x2_at6 m ρ c
  have h_dup : (V6 m ρ c main_v4_1 : Mat 4096 2816) = (args m c).dup := dup_at6 m ρ c
  have h_wu : (V6 m ρ c main_arg5 : Mat 2816 1024) = (args m c).wu := W6_args m ρ c main_arg5 (by decide)
  have h_dhfg : (V6 m ρ c main_v5 : Mat 4096 1024) = mulNN (args m c).dgt (args m c).wg := dhfg_at6 m ρ c
  refine (W7_arr m ρ c 8).trans ((final6_8 (V6 m ρ) c).trans ?_)
  unfold both
  rw [h_x2, h_dup, h_wu, h_dhfg]
  rfl

theorem hf_at8 : (W8 m ρ c (Proc.devRef .tc main_v0_1) : Mat 4096 1024) = (args m c).hf :=
  (W8_of m ρ c main_v0_1 (by decide)).trans (hf_at7 m ρ c)

theorem loss_at8 : (W8 m ρ c (Proc.devRef .tc main_v2_0) : Mat 1 128) = fun _ => loss (args m c).x3 (args m c).gl (args m c).tgt :=
  (W8_of m ρ c main_v2_0 (by decide)).trans (loss_at7 m ρ c)

theorem dgl_at8 : (W8 m ρ c (Proc.devRef .tc main_v2_3) : Mat 1 1024) = (args m c).dgl :=
  (W8_of m ρ c main_v2_3 (by decide)).trans (dgl_at7 m ρ c)

theorem dwd_at8 : (W8 m ρ c (Proc.devRef .tc main_v3) : Mat 2816 1024) = (args m c).dwd :=
  (W8_of m ρ c main_v3 (by decide)).trans (dwd_at7 m ρ c)

theorem dup_at8 : (W8 m ρ c (Proc.devRef .tc main_v4_1) : Mat 4096 2816) = (args m c).dup :=
  (W8_of m ρ c main_v4_1 (by decide)).trans (dup_at7 m ρ c)

theorem dx2_at8 : (W8 m ρ c (Proc.devRef .tc main_v6_0) : Mat 4096 1024) = (args m c).dx2 :=
  (W8_of m ρ c main_v6_0 (by decide)).trans (dx2_at7 m ρ c)

theorem dx2b_at8 : (W8 m ρ c (Proc.devRef .tc main_v6_1) : Mat 4096 1024) = (args m c).dx2 :=
  (W8_of m ρ c main_v6_1 (by decide)).trans (dx2b_at7 m ρ c)

theorem dgf_at8 : (W8 m ρ c (Proc.devRef .tc main_v6_2) : Mat 1 1024) = (args m c).dgf :=
  (W8_of m ρ c main_v6_2 (by decide)).trans (dgf_at7 m ρ c)

theorem dwg_at8 : (W8 m ρ c (Proc.devRef .tc main_v7) : Mat 2816 1024) = (args m c).dwg := by
  have h_dgt : (V7 m ρ c main_v4_0 : Mat 4096 2816) = (args m c).dgt := dgt_at7 m ρ c
  have h_hf : (V7 m ρ c main_v0_1 : Mat 4096 1024) = (args m c).hf := hf_at7 m ρ c
  refine (W8_arr m ρ c 2).trans ((final7_2 (V7 m ρ) c).trans ?_)
  rw [h_dgt, h_hf]
  rfl

theorem loss_at9 : (W9 m ρ c (Proc.devRef .tc main_v2_0) : Mat 1 128) = fun _ => loss (args m c).x3 (args m c).gl (args m c).tgt :=
  (W9_of m ρ c main_v2_0 (by decide)).trans (loss_at8 m ρ c)

theorem dgl_at9 : (W9 m ρ c (Proc.devRef .tc main_v2_3) : Mat 1 1024) = (args m c).dgl :=
  (W9_of m ρ c main_v2_3 (by decide)).trans (dgl_at8 m ρ c)

theorem dwd_at9 : (W9 m ρ c (Proc.devRef .tc main_v3) : Mat 2816 1024) = (args m c).dwd :=
  (W9_of m ρ c main_v3 (by decide)).trans (dwd_at8 m ρ c)

theorem dx2_at9 : (W9 m ρ c (Proc.devRef .tc main_v6_0) : Mat 4096 1024) = (args m c).dx2 :=
  (W9_of m ρ c main_v6_0 (by decide)).trans (dx2_at8 m ρ c)

theorem dx2b_at9 : (W9 m ρ c (Proc.devRef .tc main_v6_1) : Mat 4096 1024) = (args m c).dx2 :=
  (W9_of m ρ c main_v6_1 (by decide)).trans (dx2b_at8 m ρ c)

theorem dgf_at9 : (W9 m ρ c (Proc.devRef .tc main_v6_2) : Mat 1 1024) = (args m c).dgf :=
  (W9_of m ρ c main_v6_2 (by decide)).trans (dgf_at8 m ρ c)

theorem dwg_at9 : (W9 m ρ c (Proc.devRef .tc main_v7) : Mat 2816 1024) = (args m c).dwg :=
  (W9_of m ρ c main_v7 (by decide)).trans (dwg_at8 m ρ c)

theorem dwu_at9 : (W9 m ρ c (Proc.devRef .tc main_v8) : Mat 2816 1024) = (args m c).dwu := by
  have h_dup : (V8 m ρ c main_v4_1 : Mat 4096 2816) = (args m c).dup := dup_at8 m ρ c
  have h_hf : (V8 m ρ c main_v0_1 : Mat 4096 1024) = (args m c).hf := hf_at8 m ρ c
  refine (W9_arr m ρ c 2).trans ((final8_2 (V8 m ρ) c).trans ?_)
  rw [h_dup, h_hf]
  rfl

theorem loss_at10 : (W10 m ρ c (Proc.devRef .tc main_v2_0) : Mat 1 128) = fun _ => loss (args m c).x3 (args m c).gl (args m c).tgt :=
  (W10_of m ρ c main_v2_0 (by decide)).trans (loss_at9 m ρ c)

theorem dgl_at10 : (W10 m ρ c (Proc.devRef .tc main_v2_3) : Mat 1 1024) = (args m c).dgl :=
  (W10_of m ρ c main_v2_3 (by decide)).trans (dgl_at9 m ρ c)

theorem dwd_at10 : (W10 m ρ c (Proc.devRef .tc main_v3) : Mat 2816 1024) = (args m c).dwd :=
  (W10_of m ρ c main_v3 (by decide)).trans (dwd_at9 m ρ c)

theorem dx2_at10 : (W10 m ρ c (Proc.devRef .tc main_v6_0) : Mat 4096 1024) = (args m c).dx2 :=
  (W10_of m ρ c main_v6_0 (by decide)).trans (dx2_at9 m ρ c)

theorem dx2b_at10 : (W10 m ρ c (Proc.devRef .tc main_v6_1) : Mat 4096 1024) = (args m c).dx2 :=
  (W10_of m ρ c main_v6_1 (by decide)).trans (dx2b_at9 m ρ c)

theorem dgf_at10 : (W10 m ρ c (Proc.devRef .tc main_v6_2) : Mat 1 1024) = (args m c).dgf :=
  (W10_of m ρ c main_v6_2 (by decide)).trans (dgf_at9 m ρ c)

theorem dwg_at10 : (W10 m ρ c (Proc.devRef .tc main_v7) : Mat 2816 1024) = (args m c).dwg :=
  (W10_of m ρ c main_v7 (by decide)).trans (dwg_at9 m ρ c)

theorem dwu_at10 : (W10 m ρ c (Proc.devRef .tc main_v8) : Mat 2816 1024) = (args m c).dwu :=
  (W10_of m ρ c main_v8 (by decide)).trans (dwu_at9 m ρ c)

theorem do_at10 : (W10 m ρ c (Proc.devRef .tc main_v9) : Mat 4096 1024) = (args m c).do' := by
  have h_dx2b : (V9 m ρ c main_v6_1 : Mat 4096 1024) = (args m c).dx2 := dx2b_at9 m ρ c
  have h_wo : (V9 m ρ c main_arg2 : Mat 1024 1024) = (args m c).wo := W9_args m ρ c main_arg2 (by decide)
  refine (W10_arr m ρ c 2).trans ((final9_2 (V9 m ρ) c).trans ?_)
  rw [h_dx2b, h_wo]
  rfl

theorem loss_at11 : (W11 m ρ c (Proc.devRef .tc main_v2_0) : Mat 1 128) = fun _ => loss (args m c).x3 (args m c).gl (args m c).tgt :=
  (W11_of m ρ c main_v2_0 (by decide)).trans (loss_at10 m ρ c)

theorem dgl_at11 : (W11 m ρ c (Proc.devRef .tc main_v2_3) : Mat 1 1024) = (args m c).dgl :=
  (W11_of m ρ c main_v2_3 (by decide)).trans (dgl_at10 m ρ c)

theorem dwd_at11 : (W11 m ρ c (Proc.devRef .tc main_v3) : Mat 2816 1024) = (args m c).dwd :=
  (W11_of m ρ c main_v3 (by decide)).trans (dwd_at10 m ρ c)

theorem dx2_at11 : (W11 m ρ c (Proc.devRef .tc main_v6_0) : Mat 4096 1024) = (args m c).dx2 :=
  (W11_of m ρ c main_v6_0 (by decide)).trans (dx2_at10 m ρ c)

theorem dgf_at11 : (W11 m ρ c (Proc.devRef .tc main_v6_2) : Mat 1 1024) = (args m c).dgf :=
  (W11_of m ρ c main_v6_2 (by decide)).trans (dgf_at10 m ρ c)

theorem dwg_at11 : (W11 m ρ c (Proc.devRef .tc main_v7) : Mat 2816 1024) = (args m c).dwg :=
  (W11_of m ρ c main_v7 (by decide)).trans (dwg_at10 m ρ c)

theorem dwu_at11 : (W11 m ρ c (Proc.devRef .tc main_v8) : Mat 2816 1024) = (args m c).dwu :=
  (W11_of m ρ c main_v8 (by decide)).trans (dwu_at10 m ρ c)

theorem do_at11 : (W11 m ρ c (Proc.devRef .tc main_v9) : Mat 4096 1024) = (args m c).do' :=
  (W11_of m ρ c main_v9 (by decide)).trans (do_at10 m ρ c)

theorem dwo_at11 : (W11 m ρ c (Proc.devRef .tc main_v10) : Mat 1024 1024) = (args m c).dwo := by
  have h_o : (V10 m ρ c main_arg1 : Mat 4096 1024) = (args m c).o := W10_args m ρ c main_arg1 (by decide)
  have h_dx2b : (V10 m ρ c main_v6_1 : Mat 4096 1024) = (args m c).dx2 := dx2b_at10 m ρ c
  refine (W11_arr m ρ c 2).trans ((final10_2 (V10 m ρ) c).trans ?_)
  rw [h_o, h_dx2b]
  rfl

end Cert.Kernel2Ideal.Arrays

end
-- ==== Proof.LayersRun.lean ====
/-
  A run of the whole program ends with every buffer at the last boundary's contents, every counter at zero.
-/
module

public import proofs.«01_k».proof.Proof.Gen.Kernel2Ideal.Frame
public import proofs.«01_k».proof.Proof.LayersChain

@[expose] public section

set_option maxRecDepth 16384

noncomputable section

namespace Cert.Kernel2Ideal.Arrays

open Cert.Kernel2Ideal Cert.Kernel2Ideal.Gen Cert.Layers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, its final state read at every unscoped buffer. -/
theorem run_contents : θ_run defs (onTc (τ := τ) (main (F := Ideal))) ⟨m, fun _ => 0, ρ⟩ (fun r => ∀ c : Dev nD,
    ∀ b ∈ Pipeline.ucRefs τ sig, r.2.mem ((c : Thread nD τ).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)

/-- The run, its final state read at the nine results and the nine arguments. -/
theorem run_values : θ_run defs (onTc (τ := τ) (main (F := Ideal))) ⟨m, fun _ => 0, ρ⟩ (fun r => ∀ c : Dev nD,
      r.2.mem ((c.tc : Thread nD τ).loc main_v2_0) = (fun _ => loss (args m c).x3 (args m c).gl (args m c).tgt : Mat 1 128)
      ∧ r.2.mem ((c.tc : Thread nD τ).loc main_v6_0) = ((args m c).dx2 : Mat 4096 1024)
      ∧ r.2.mem ((c.tc : Thread nD τ).loc main_v9) = ((args m c).do' : Mat 4096 1024)
      ∧ r.2.mem ((c.tc : Thread nD τ).loc main_v10) = ((args m c).dwo : Mat 1024 1024)
      ∧ r.2.mem ((c.tc : Thread nD τ).loc main_v6_2) = ((args m c).dgf : Mat 1 1024)
      ∧ r.2.mem ((c.tc : Thread nD τ).loc main_v7) = ((args m c).dwg : Mat 2816 1024)
      ∧ r.2.mem ((c.tc : Thread nD τ).loc main_v8) = ((args m c).dwu : Mat 2816 1024)
      ∧ r.2.mem ((c.tc : Thread nD τ).loc main_v3) = ((args m c).dwd : Mat 2816 1024)
      ∧ r.2.mem ((c.tc : Thread nD τ).loc main_v2_3) = ((args m c).dgl : Mat 1 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v2_0 (by decide))).trans (loss_at11 m ρ c),
     (h c _ (mem_uc main_v6_0 (by decide))).trans (dx2_at11 m ρ c),
     (h c _ (mem_uc main_v9 (by decide))).trans (do_at11 m ρ c),
     (h c _ (mem_uc main_v10 (by decide))).trans (dwo_at11 m ρ c),
     (h c _ (mem_uc main_v6_2 (by decide))).trans (dgf_at11 m ρ c),
     (h c _ (mem_uc main_v7 (by decide))).trans (dwg_at11 m ρ c),
     (h c _ (mem_uc main_v8 (by decide))).trans (dwu_at11 m ρ c),
     (h c _ (mem_uc main_v3 (by decide))).trans (dwd_at11 m ρ c),
     (h c _ (mem_uc main_v2_3 (by decide))).trans (dgl_at11 m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c)⟩) (run_contents m ρ)

end Cert.Kernel2Ideal.Arrays

end
-- ==== Proof.Reference2Forward.lean ====
/-
  What the reference's forward lines compute, entry by entry: the products, normalised rows and gated unit of `Args`.
-/
module

public import proofs.«01_k».proof.Proof.LayersReal
public import proofs.«01_k».proof.Proof.Gen.Reference2Ideal.Read
public import Idealize.ShloMosaic.Lib.Pointwise

@[expose] public section

noncomputable section

namespace Cert.Reference2Ideal.Entries

open Cert.Reference2Ideal Cert.Reference2Ideal.Read Cert.Layers Idealize.ShloMosaic Idealize.ShloMosaic.TcCoe
open Idealize.ShloMosaic.Pointwise

variable (A : Args)

theorem one_bits : Ideal.ofBits .f32 0x3F800000#32 = 1 := by
  simp [Ideal.ofBits, Ideal.ieee]
  rw [← EReal.coe_mul]
  norm_num

section
variable (r : Fin 4096) (c : Fin 1024)

theorem x2 : val_main_v6 (F := Ideal) A.x1 A.o A.wo (ix2 r c) = A.x2 (ix2 r c) := by
  pointwise [val_main_v6, val_main_v5, val_main_v0, val_main_v1, dot_S4096x1024_S1024x1024_S4096x1024_1_0_0_1_n_n]
  exact add_comm _ _

theorem spread2 : val_main_v13 (F := Ideal) A.x1 A.o A.wo (ix2 r 0) = spread (row A.x2 r) := by
  pointwise [val_main_v13, val_main_v12, val_main_cst_1, val_main_v11, val_main_v10, val_main_cst_0, val_main_v9, val_main_v8,
    val_main_cst, val_main_v7]
  simp only [x2, Ideal.ofBits_def, Ideal.ofBits_zero_f32, zero_add]
  rfl

theorem inv2 : val_main_v14 (F := Ideal) A.x1 A.o A.wo (ix2 r 0) = inv (row A.x2 r) := by
  pointwise [val_main_v14]
  rw [spread2]
  rfl

theorem slope2 : val_main_v17 (F := Ideal) A.x1 A.o A.wo (ix2 r 0)
    = Ideal.ofBits .f32 0xBF000000#32 * Ideal.div (inv (row A.x2 r)) (spread (row A.x2 r)) := by
  pointwise [val_main_v17, val_main_v16, val_main_cst_2, val_main_v15]
  rw [spread2, inv2]

theorem unit2 : val_main_v19 (F := Ideal) A.x1 A.o A.wo (ix2 r c) = unit (row A.x2 r) c := by
  pointwise [val_main_v19, val_main_v18]
  rw [x2, inv2]
  rfl

theorem hf : val_main_v21 (F := Ideal) A.x1 A.o A.wo A.gf (ix2 r c) = A.hf (ix2 r c) := by
  pointwise [val_main_v21, val_main_v20]
  rw [unit2]
  rfl

end

section
variable (r : Fin 4096) (i : Fin 2816)

theorem gt : val_main_v23 (F := Ideal) A.x1 A.o A.wo A.gf A.wg (ix2 r i) = A.gt (ix2 r i) := by
  pointwise [val_main_v23, val_main_v22, val_main_v2, dot_S4096x1024_S1024x2816_S4096x2816_1_0_0_1_n_n]
  simp only [hf]
  rfl

theorem up : val_main_v26 (F := Ideal) A.x1 A.o A.wo A.gf A.wu (ix2 r i) = A.up (ix2 r i) := by
  pointwise [val_main_v26, val_main_v25, val_main_v3, dot_S4096x1024_S1024x2816_S4096x2816_1_0_0_1_n_n]
  simp only [hf]
  rfl

theorem sig : val_main_v24_2 (F := Ideal) A.x1 A.o A.wo A.gf A.wg (ix2 r i) = sigmoid (A.gt (ix2 r i)) := by
  pointwise [val_main_v24_2, val_main_call0_v4, val_main_call0_cst_0, val_main_call0_v3, val_main_call0_v2, val_main_call0_cst,
    val_main_call0_v1, val_main_call0_v0]
  simp only [gt, Ideal.ofBits_def, one_bits]
  rfl

theorem sigSlope : val_main_v24_1 (F := Ideal) A.x1 A.o A.wo A.gf A.wg (ix2 r i)
    = sigmoid (A.gt (ix2 r i)) * (1 - sigmoid (A.gt (ix2 r i))) := by
  pointwise [val_main_v24_1, val_main_call0_v7, val_main_call0_v6, val_main_call0_cst_1]
  simp only [sig, Ideal.ofBits_def, one_bits]

theorem silu : val_main_v24_0 (F := Ideal) A.x1 A.o A.wo A.gf A.wg (ix2 r i) = A.gt (ix2 r i) * sigmoid (A.gt (ix2 r i)) := by
  pointwise [val_main_v24_0]
  rw [sig, gt]

theorem act : val_main_v27 (F := Ideal) A.x1 A.o A.wo A.gf A.wg A.wu (ix2 r i) = A.act (ix2 r i) := by
  pointwise [val_main_v27]
  rw [silu, up]
  rfl

end

section
variable (r : Fin 4096) (c : Fin 1024)

theorem x3 : val_main_v29 (F := Ideal) A.x1 A.o A.wo A.gf A.wg A.wu A.wd (ix2 r c) = A.x3 (ix2 r c) := by
  pointwise [val_main_v29, val_main_v28, val_main_v4, dot_S4096x2816_S2816x1024_S4096x1024_1_0_0_1_n_n]
  simp only [x2, act]
  exact add_comm _ _

theorem spread3 : val_main_v36 (F := Ideal) A.x1 A.o A.wo A.gf A.wg A.wu A.wd (ix2 r 0) = spread (row A.x3 r) := by
  pointwise [val_main_v36, val_main_v35, val_main_cst_5, val_main_v34, val_main_v33, val_main_cst_4, val_main_v32, val_main_v31,
    val_main_cst_3, val_main_v30]
  simp only [x3, Ideal.ofBits_def, Ideal.ofBits_zero_f32, zero_add]
  rfl

theorem inv3 : val_main_v37 (F := Ideal) A.x1 A.o A.wo A.gf A.wg A.wu A.wd (ix2 r 0) = inv (row A.x3 r) := by
  pointwise [val_main_v37]
  rw [spread3]
  rfl

theorem slope3 : val_main_v40 (F := Ideal) A.x1 A.o A.wo A.gf A.wg A.wu A.wd (ix2 r 0)
    = Ideal.ofBits .f32 0xBF000000#32 * Ideal.div (inv (row A.x3 r)) (spread (row A.x3 r)) := by
  pointwise [val_main_v40, val_main_v39, val_main_cst_6, val_main_v38]
  rw [spread3, inv3]

theorem unit3 : val_main_v42 (F := Ideal) A.x1 A.o A.wo A.gf A.wg A.wu A.wd (ix2 r c) = unit (row A.x3 r) c := by
  pointwise [val_main_v42, val_main_v41]
  rw [x3, inv3]
  rfl

theorem miss3 : val_main_v45 (F := Ideal) A.x1 A.o A.wo A.gf A.wg A.wu A.wd A.gl A.tgt (ix2 r c) = miss A.x3 A.gl A.tgt (ix2 r c) := by
  pointwise [val_main_v45, val_main_v44, val_main_v43]
  rw [unit3]
  rfl

/-- The gradient of the loss with respect to the normalised rows. -/
theorem missGrad3 : val_main_v59 (F := Ideal) A.x1 A.o A.wo A.gf A.wg A.wu A.wd A.gl A.tgt (ix2 r c) = missGrad A.x3 A.gl A.tgt (ix2 r c) := by
  pointwise [val_main_v59, val_main_v58, val_main_v57, val_main_v56, val_main_cst_14, val_main_v55, val_main_v54, val_main_cst_12,
    val_main_cst_13, val_main_v48, val_main_v47, val_main_cst_7]
  simp only [miss3, Ideal.ofBits_def, one_bits]
  refine Eq.trans ?_ (missGrad_eq _)
  rw [mul_one]
  rfl

end

/-- The rows' mean squares. -/
theorem meanSquare (r : Fin 4096) : val_main_v51 (F := Ideal) A.x1 A.o A.wo A.gf A.wg A.wu A.wd A.gl A.tgt (ix1 r)
    = Ideal.div (∑ k, miss A.x3 A.gl A.tgt (ix2 r k) * miss A.x3 A.gl A.tgt (ix2 r k)) width := by
  pointwise [val_main_v51, val_main_v50, val_main_cst_9, val_main_v49, val_main_cst_8, val_main_v46]
  simp only [miss3, Ideal.ofBits_def, Ideal.ofBits_zero_f32, zero_add]
  rfl

theorem loss_eq : val_main_v117 (F := Ideal) A.x1 A.o A.wo A.gf A.wg A.wu A.wd A.gl A.tgt = ((fun _ => loss A.x3 A.gl A.tgt) : Mat 1 128) := by
  funext j
  rw [val_main_v117_apply, val_main_v53_apply, val_main_v52_apply, val_main_cst_11_apply, val_main_cst_10_apply]
  rw [Ideal.ofBits_def, Ideal.ofBits_def, Ideal.ofBits_zero_f32, zero_add]
  refine congrArg (Ideal.ofBits .f32 0x3F000000#32 * ·) ?_
  rw [← Equiv.sum_comp (⟨ix1, fun j => j 0, fun _ => rfl, fun j => (eq_ix1 j).symm⟩ : Fin 4096 ≃ S4096.Idx)]
  exact Finset.sum_congr rfl fun r _ => meanSquare A r

end Cert.Reference2Ideal.Entries

end
-- ==== Proof.Reference2Value.lean ====
/-
  What the reference's gradients are, entry by entry: those of `Args`, when the nine arguments are real.
-/
module

public import proofs.«01_k».proof.Proof.Reference2Forward

@[expose] public section

noncomputable section

namespace Cert.Reference2Ideal.Entries

open Cert.Reference2Ideal Cert.Reference2Ideal.Read Cert.Layers Idealize.ShloMosaic Idealize.ShloMosaic.TcCoe
open Idealize.ShloMosaic.Pointwise

variable (A : Args)

section
variable (r : Fin 4096) (c : Fin 1024)

theorem scaled3 : val_main_v64 (F := Ideal) A.x1 A.o A.wo A.gf A.wg A.wu A.wd A.gl A.tgt (ix2 r c)
    = missGrad A.x3 A.gl A.tgt (ix2 r c) * A.gl (ix2 0 c) := by
  pointwise [val_main_v64, val_main_v63]
  rw [missGrad3]

theorem turn3 : val_main_v74 (F := Ideal) A.x1 A.o A.wo A.gf A.wg A.wu A.wd A.gl A.tgt (ix2 r c)
    = turn (row A.x3 r) (fun k => missGrad A.x3 A.gl A.tgt (ix2 r k) * A.gl (ix2 0 k)) := by
  pointwise [val_main_v74, val_main_v73, val_main_cst_18, val_main_v72, val_main_v71, val_main_cst_17, val_main_v70, val_main_v67,
    val_main_v66, val_main_cst_16, val_main_v65]
  simp only [x3, scaled3, slope3, Fin.sum_univ_one, Ideal.ofBits_def, Ideal.ofBits_zero_f32, zero_add]
  rfl

theorem gain3 : val_main_v62 (F := Ideal) A.x1 A.o A.wo A.gf A.wg A.wu A.wd A.gl A.tgt (ix2 0 c) = A.dgl (ix2 0 c) := by
  pointwise [val_main_v62, val_main_v61, val_main_cst_15, val_main_v60]
  simp only [unit3, missGrad3, Ideal.ofBits_def, Ideal.ofBits_zero_f32, zero_add]
  exact Finset.sum_congr rfl fun _ _ => mul_comm _ _

end

section
variable {A} (h : A.Real)
include h

theorem dx3 (r : Fin 4096) (c : Fin 1024) : val_main_v78 (F := Ideal) A.x1 A.o A.wo A.gf A.wg A.wu A.wd A.gl A.tgt (ix2 r c) = A.dx3 (ix2 r c) := by
  pointwise [val_main_v78, val_main_v77, val_main_v76, val_main_v75, val_main_v69, val_main_v68]
  rw [scaled3, turn3, x3, inv3]
  exact unitGrad_eq (row A.x3 r) (fun k => missGrad A.x3 A.gl A.tgt (ix2 r k) * A.gl (ix2 0 k)) c

theorem dwd (i : Fin 2816) (c : Fin 1024) : val_main_v80 (F := Ideal) A.x1 A.o A.wo A.gf A.wg A.wu A.wd A.gl A.tgt (ix2 i c) = A.dwd (ix2 i c) := by
  pointwise [val_main_v80, val_main_v79, dot_S4096x1024_S4096x2816_S1024x2816_0_0_1_1_n_n]
  simp only [dx3 h, act]
  exact Finset.sum_congr rfl fun _ _ => mul_comm _ _

section
variable (r : Fin 4096) (i : Fin 2816)

theorem dact : val_main_v81 (F := Ideal) A.x1 A.o A.wo A.gf A.wg A.wu A.wd A.gl A.tgt (ix2 r i) = A.dact (ix2 r i) := by
  pointwise [val_main_v81, val_main_v4, dot_S4096x1024_S2816x1024_S4096x2816_1_1_0_0_n_n]
  simp only [dx3 h]
  rfl

theorem dup : val_main_v82 (F := Ideal) A.x1 A.o A.wo A.gf A.wg A.wu A.wd A.gl A.tgt (ix2 r i) = A.dup (ix2 r i) := by
  pointwise [val_main_v82]
  rw [dact h, silu, mul_comm]
  exact (mul_assoc _ _ _).symm

theorem dgt : val_main_v88 (F := Ideal) A.x1 A.o A.wo A.gf A.wg A.wu A.wd A.gl A.tgt (ix2 r i) = A.dgt (ix2 r i) := by
  pointwise [val_main_v88, val_main_call1_v2, val_main_call1_v1, val_main_call1_v0, val_main_v83]
  rw [dact h, up, sig, sigSlope, gt]
  exact gateGrad_eq (h.dact _) (h.gt _) (h.up _)

end

theorem dwu (i : Fin 2816) (c : Fin 1024) : val_main_v87 (F := Ideal) A.x1 A.o A.wo A.gf A.wg A.wu A.wd A.gl A.tgt (ix2 i c) = A.dwu (ix2 i c) := by
  pointwise [val_main_v87, val_main_v85, val_main_v84, dot_S4096x2816_S4096x1024_S2816x1024_0_0_1_1_n_n]
  simp only [dup h, hf]
  rfl

theorem dwg (i : Fin 2816) (c : Fin 1024) : val_main_v93 (F := Ideal) A.x1 A.o A.wo A.gf A.wg A.wu A.wd A.gl A.tgt (ix2 i c) = A.dwg (ix2 i c) := by
  pointwise [val_main_v93, val_main_v90, val_main_v89, dot_S4096x2816_S4096x1024_S2816x1024_0_0_1_1_n_n]
  simp only [dgt h, hf]
  rfl

section
variable (r : Fin 4096) (c : Fin 1024)

theorem dhf : val_main_v92 (F := Ideal) A.x1 A.o A.wo A.gf A.wg A.wu A.wd A.gl A.tgt (ix2 r c) = A.dhf (ix2 r c) := by
  pointwise [val_main_v92, val_main_v91, val_main_v86, val_main_v25, val_main_v22, val_main_v3, val_main_v2,
    dot_S4096x2816_S1024x2816_S4096x1024_1_1_0_0_n_n]
  simp only [dup h, dgt h]
  rfl

theorem scaled2 : val_main_v98 (F := Ideal) A.x1 A.o A.wo A.gf A.wg A.wu A.wd A.gl A.tgt (ix2 r c) = A.dhf (ix2 r c) * A.gf (ix2 0 c) := by
  pointwise [val_main_v98, val_main_v97]
  rw [dhf h]

theorem turn2 : val_main_v109 (F := Ideal) A.x1 A.o A.wo A.gf A.wg A.wu A.wd A.gl A.tgt (ix2 r c)
    = turn (row A.x2 r) (fun k => A.dhf (ix2 r k) * A.gf (ix2 0 k)) := by
  pointwise [val_main_v109, val_main_v108, val_main_cst_22, val_main_v107, val_main_v106, val_main_cst_21, val_main_v105,
    val_main_v101, val_main_v100, val_main_cst_20, val_main_v99]
  simp only [x2, scaled2 h, slope2, Fin.sum_univ_one, Ideal.ofBits_def, Ideal.ofBits_zero_f32, zero_add]
  rfl

theorem gain2 : val_main_v96 (F := Ideal) A.x1 A.o A.wo A.gf A.wg A.wu A.wd A.gl A.tgt (ix2 0 c) = A.dgf (ix2 0 c) := by
  pointwise [val_main_v96, val_main_v95, val_main_cst_19, val_main_v94]
  simp only [unit2, dhf h, Ideal.ofBits_def, Ideal.ofBits_zero_f32, zero_add]
  exact Finset.sum_congr rfl fun _ _ => mul_comm _ _

theorem dx2 : val_main_v113 (F := Ideal) A.x1 A.o A.wo A.gf A.wg A.wu A.wd A.gl A.tgt (ix2 r c) = A.dx2 (ix2 r c) := by
  pointwise [val_main_v113, val_main_v112, val_main_v111, val_main_v110, val_main_v104, val_main_v103, val_main_v102]
  rw [dx3 h, scaled2 h, turn2 h, x2, inv2, add_assoc, add_assoc, ← add_assoc (_ * inv _)]
  exact congrArg (A.dx3 (ix2 r c) + ·) (unitGrad_eq (row A.x2 r) (fun k => A.dhf (ix2 r k) * A.gf (ix2 0 k)) c)

theorem do_ : val_main_v116 (F := Ideal) A.x1 A.o A.wo A.gf A.wg A.wu A.wd A.gl A.tgt (ix2 r c) = A.do' (ix2 r c) := by
  pointwise [val_main_v116, val_main_v1, dot_S4096x1024_S1024x1024_S4096x1024_1_1_0_0_n_n]
  simp only [dx2 h]
  rfl

end

theorem dwo (k c : Fin 1024) : val_main_v115 (F := Ideal) A.x1 A.o A.wo A.gf A.wg A.wu A.wd A.gl A.tgt (ix2 k c) = A.dwo (ix2 k c) := by
  pointwise [val_main_v115, val_main_v114, val_main_v0, dot_S4096x1024_S4096x1024_S1024x1024_0_0_1_1_n_n]
  simp only [dx2 h]
  exact Finset.sum_congr rfl fun _ _ => mul_comm _ _

end

/-! ## The results as matrices -/

theorem dx2_eq (h : A.Real) : val_main_v113 (F := Ideal) A.x1 A.o A.wo A.gf A.wg A.wu A.wd A.gl A.tgt = A.dx2 :=
  mat_ext fun _ _ => dx2 h _ _

theorem do_eq (h : A.Real) : val_main_v116 (F := Ideal) A.x1 A.o A.wo A.gf A.wg A.wu A.wd A.gl A.tgt = A.do' :=
  mat_ext fun _ _ => do_ h _ _

theorem dwo_eq (h : A.Real) : val_main_v115 (F := Ideal) A.x1 A.o A.wo A.gf A.wg A.wu A.wd A.gl A.tgt = A.dwo :=
  mat_ext fun _ _ => dwo h _ _

theorem dgf_eq (h : A.Real) : val_main_v96 (F := Ideal) A.x1 A.o A.wo A.gf A.wg A.wu A.wd A.gl A.tgt = A.dgf :=
  row_ext fun _ => gain2 h _

theorem dwg_eq (h : A.Real) : val_main_v93 (F := Ideal) A.x1 A.o A.wo A.gf A.wg A.wu A.wd A.gl A.tgt = A.dwg :=
  mat_ext fun _ _ => dwg h _ _

theorem dwu_eq (h : A.Real) : val_main_v87 (F := Ideal) A.x1 A.o A.wo A.gf A.wg A.wu A.wd A.gl A.tgt = A.dwu :=
  mat_ext fun _ _ => dwu h _ _

theorem dwd_eq (h : A.Real) : val_main_v80 (F := Ideal) A.x1 A.o A.wo A.gf A.wg A.wu A.wd A.gl A.tgt = A.dwd :=
  mat_ext fun _ _ => dwd h _ _

theorem dgl_eq : val_main_v62 (F := Ideal) A.x1 A.o A.wo A.gf A.wg A.wu A.wd A.gl A.tgt = A.dgl :=
  row_ext fun _ => gain3 A _

end Cert.Reference2Ideal.Entries

end
-- ==== Proof.Input.lean ====
/-
  The normalisation and product every layer begins with, forward and backward, as one function of its nine arguments.
-/
module

public import proofs.«01_k».proof.Proof.Layers

@[expose] public section

noncomputable section

namespace Cert.Layers

/-- The nine arguments: the rows, the normalisation's gain, the packed weights, the five parts of the product's gradient
    in the order of the weights' columns, the gradient the rows have from the rest of the layer. -/
structure InputArgs where
  x : Mat 4096 1024
  gm : Mat 1 1024
  w : Mat 1024 4736
  dz : Mat 4096 1024
  da : Mat 4096 1024
  dg : Mat 4096 1024
  db : Mat 4096 1536
  dt : Mat 4096 128
  d1 : Mat 4096 1024

namespace InputArgs

variable (A : InputArgs)

/-- The normalised rows. -/
def h : Mat 4096 1024 := normed A.x A.gm
/-- … times the weights. -/
def proj : Mat 4096 4736 := mulNN A.h A.w
/-- The product's gradient. -/
def dp : Mat 4096 4736 := joined A.dz A.da A.dg A.db A.dt
/-- The gradient of the weights. -/
def dw : Mat 1024 4736 := mulTN A.h A.dp
/-- The gradient of the normalised rows. -/
def dh : Mat 4096 1024 := mulNT A.dp A.w
/-- The gradient of the gain. -/
def dgm : Mat 1 1024 := gainGrad A.x A.dh
/-- The gradient of the rows. -/
def dx : Mat 4096 1024 := plus A.d1 (normedGrad A.x A.gm A.dh)

end InputArgs

end Cert.Layers

end
-- ==== Proof.InputTiles.lean ====
/-
  What one grid point of each of the input projection's four launches writes, at an entry, from the blocks it reads.
-/
module

public import proofs.«01_k».proof.Proof.Gen.Kernel3Ideal.Skeleton
public import proofs.«01_k».proof.Proof.Layers
public import Idealize.ShloMosaic.Lib.Pipeline.ValueKit

@[expose] public section

noncomputable section

namespace Cert.Kernel3Ideal.Tiles

open Cert.Kernel3Ideal Cert.Kernel3Ideal.Gen Cert.Layers Idealize.ShloMosaic Idealize.ShloMosaic.TcCoe Idealize.SL.Sem
open Idealize.ShloMosaic.Pointwise

theorem normed_apply (x : Mat 512 1024) (g : Mat 1 1024) (r : Fin 512) (k : Fin 1024) :
    k0_pay1 (F := Ideal) x g (ix2 r k) = normed x g (ix2 r k) := by
  unfold k0_pay1
  pointwise []
  rfl

theorem proj_apply (h : Mat 256 1024) (w : Mat 1024 4736) (r : Fin 256) (k : Fin 4736) :
    k1_pay1 (F := Ideal) h w (ix2 r k) = ∑ i, h (ix2 r i) * w (ix2 i k) := by
  unfold k1_pay1
  pointwise [dot_S256x1024_S1024x4736_S256x4736_1_0_0_1_n_n]

/-! ## The gradient of the weights -/

section
variable (z a g : Mat 512 1024) (b : Mat 512 1536) (d : Mat 512 128)

theorem joined_apply512 (r : Fin 512) (k : Fin 4736) :
    (concatenate S512x4736 1 [⟨S512x1024, z⟩, ⟨S512x1024, a⟩, ⟨S512x1024, g⟩, ⟨S512x1536, b⟩, ⟨S512x128, d⟩]
      concatenates_S512x1024_S512x1024_S512x1024_S512x1536_S512x128_S512x4736_d1 : Mat 512 4736) (ix2 r k)
      = joined z a g b d (ix2 r k) := by
  pointwise []
  rfl

theorem dw_apply (acc : Mat 512 4736) (h : Mat 512 512) (i : Fin 512) (k : Fin 4736) :
    k2_pay2 (F := Ideal) z a g b d acc h (ix2 i k) = acc (ix2 i k) + ∑ m, h (ix2 m i) * joined z a g b d (ix2 m k) := by
  simp only [← joined_apply512]
  unfold k2_pay2
  generalize concatenate S512x4736 1 _ _ = v
  pointwise [dot_S512x512_S512x4736_S512x4736_0_0_1_1_n_n]

theorem dw_zero (i : Fin 512) (k : Fin 4736) : k2_pay1 (F := Ideal) (ix2 i k) = 0 := by
  unfold k2_pay1
  pointwise []

end

/-! ## The gradient of the input -/

section
variable (z a g : Mat 256 1024) (b : Mat 256 1536) (d : Mat 256 128) (w : Mat 1024 4736) (x : Mat 256 1024) (gain : Mat 1 1024)
variable (d1 : Mat 256 1024) (r : Fin 256) (k : Fin 1024)

theorem joined_apply256 (r : Fin 256) (k : Fin 4736) :
    (concatenate S256x4736 1 [⟨S256x1024, z⟩, ⟨S256x1024, a⟩, ⟨S256x1024, g⟩, ⟨S256x1536, b⟩, ⟨S256x128, d⟩]
      concatenates_S256x1024_S256x1024_S256x1024_S256x1536_S256x128_S256x4736_d1 : Mat 256 4736) (ix2 r k)
      = joined z a g b d (ix2 r k) := by
  pointwise []
  rfl

theorem dh_apply : k3_pay3 (F := Ideal) z a g b d w (ix2 r k) = ∑ i, joined z a g b d (ix2 r i) * w (ix2 k i) := by
  simp only [← joined_apply256]
  unfold k3_pay3
  generalize concatenate S256x4736 1 _ _ = v
  pointwise [dot_S256x4736_S1024x4736_S256x1024_1_1_0_0_n_n]

theorem inv_apply : k3_pay4 (F := Ideal) x (ix2 r 0) = inv (row x r) := by
  unfold k3_pay4
  pointwise []
  rfl

theorem unit_apply : k3_pay5 (F := Ideal) x (ix2 r k) = unit (row x r) k := by
  unfold k3_pay5
  pointwise []
  rw [inv_apply]
  rfl

theorem dx_apply : k3_pay6 (F := Ideal) z a g b d w x gain d1 (ix2 r k)
    = d1 (ix2 r k) + normedGrad x gain (k3_pay3 (F := Ideal) z a g b d w) (ix2 r k) := by
  unfold k3_pay6
  pointwise []
  simp only [unit_apply, inv_apply]
  rfl

theorem gain_apply (acc : Mat 1 1024) :
    k3_pay2 (F := Ideal) (k3_pay3 (F := Ideal) z a g b d w) (k3_pay5 (F := Ideal) x) acc (ix2 0 k)
      = acc (ix2 0 k) + gainGrad x (k3_pay3 (F := Ideal) z a g b d w) (ix2 0 k) := by
  unfold k3_pay2
  pointwise []
  simp only [unit_apply]
  rfl

theorem gain_zero (i : Fin 1) (k : Fin 1024) : k3_pay1 (F := Ideal) (ix2 i k) = 0 := by
  unfold k3_pay1
  pointwise []

end

end Cert.Kernel3Ideal.Tiles

end
-- ==== Proof.InputArrays.lean ====
/-
  What the input projection's launches leave in their result arrays, as layers (Layers.lean) of the arrays they are
  entered with.
-/
module

public import proofs.«01_k».proof.Proof.Gen.Kernel3Ideal.Frame
public import proofs.«01_k».proof.Proof.InputTiles

@[expose] public section

noncomputable section

namespace Cert.Kernel3Ideal.Arrays

open Cert.Kernel3Ideal Cert.Kernel3Ideal.Gen Cert.Kernel3Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] := by
  decide +kernel

/-- The normalised rows. -/
theorem final0_2 : (dat0 V c).arrAt 2 cfg0.N = normed (V c main_arg0 : Mat 4096 1024) (V c main_arg1 : Mat 1 1024) := by
  refine (dat0 V c).arrAt_eq_of_covers 2 _ (by decide +kernel) fun t hf y => ?_
  blk_simp
  rw [after0_2]
  frame_out
  obtain ⟨r, k, rfl⟩ : ∃ (r : Fin 512) (k : Fin 1024), y = ix2 r k := ⟨y 0, y 1, eq_ix2 y⟩
  refine (normed_apply _ _ r k).trans ?_
  have ht : t.val < 8 := t.isLt
  have e : ((View.whole main_v0).slice (win0_2.rect t)).emb (ix2 r k) = ix2 (⟨512 * t.val + r.val, by omega⟩ : Fin 4096) k := by
    blk_ext [idx0 t]
  rw [e]
  refine normed_rows (fun i => ?_) (fun i => ?_) k
  · blk_point [iblk0, idx0 t]
  · blk_point [iblk0, idx0 t]

theorem idx1 : ∀ t : Fin cfg1.N, win1_0.index t = ![t.val, 0] ∧ win1_1.index t = ![0, 0] ∧ win1_2.index t = ![t.val, 0] := by
  decide +kernel

/-- The projection. -/
theorem final1_2 : (dat1 V c).arrAt 2 cfg1.N = mulNN (V c main_v0 : Mat 4096 1024) (V c main_arg2 : Mat 1024 4736) := by
  refine (dat1 V c).arrAt_eq_of_covers 2 _ (by decide +kernel) fun t hf y => ?_
  blk_simp
  rw [after1_2]
  frame_out
  obtain ⟨r, k, rfl⟩ : ∃ (r : Fin 256) (k : Fin 4736), y = ix2 r k := ⟨y 0, y 1, eq_ix2 y⟩
  refine (proj_apply _ _ r k).trans ?_
  unfold mulNN
  blk_point [iblk1, idx1 t]

/-! ## The gradient of the weights -/

/-- The five parts of the projection's gradient, side by side. -/
def five : Mat 4096 4736 := joined (V c main_arg3 : Mat 4096 1024) (V c main_arg4 : Mat 4096 1024) (V c main_arg5 : Mat 4096 1024)
  (V c main_arg6 : Mat 4096 1536) (V c main_arg7 : Mat 4096 128)

theorem idx2 : ∀ t : Fin cfg2.N, win2_0.index t = ![t.val % 8, t.val / 8] ∧ win2_1.index t = ![t.val % 8, 0]
    ∧ win2_2.index t = ![t.val % 8, 0] ∧ win2_3.index t = ![t.val % 8, 0] ∧ win2_4.index t = ![t.val % 8, 0]
    ∧ win2_5.index t = ![t.val % 8, 0] ∧ win2_6.index t = ![t.val / 8, 0] := by
  decide +kernel

/-- A block of rows of `five`, as the launch joins it. -/
def fiveBlock2 (t : Fin cfg2.N) : Mat 512 4736 := joined (iblk2 V c 1 t : Mat 512 1024) (iblk2 V c 2 t : Mat 512 1024)
  (iblk2 V c 3 t : Mat 512 1024) (iblk2 V c 4 t : Mat 512 1536) (iblk2 V c 5 t : Mat 512 128)

theorem five_block2 (t : Fin cfg2.N) (r : Fin 512) (R : Fin 4096) (hR : R.val = (t.val % 8) * 512 + r.val) (k : Fin 4736) :
    fiveBlock2 V c t (ix2 r k) = five V c (ix2 R k) := by
  have ht : t.val < 16 := t.isLt
  have hb : (t.val % 8) * 512 + r.val < 4096 := by omega
  obtain rfl : R = ⟨(t.val % 8) * 512 + r.val, hb⟩ := Fin.ext hR
  unfold fiveBlock2 five
  refine joined_rows (fun i => ?_) (fun i => ?_) (fun i => ?_) (fun i => ?_) (fun i => ?_) k
  all_goals blk_point [iblk2, idx2 t]

/-- One point's share of the product. -/
def term2 (t : Fin cfg2.N) : Mat 512 4736 := mulTN (a := 512) (b := 4736) (k := 512) (iblk2 V c 0 t) (fiveBlock2 V c t)

theorem outs2 (t : Fin cfg2.N) (h : t.val % 8 = 8 - 1) (j : S512x4736.Idx) : outsAt2 V c t.val t.isLt j
    = (fun _ => (0 : EReal)) j + ∑ s : Fin 8, term2 V c ⟨8 * (t.val / 8) + s.val, Pipeline.run_point_lt_of_flush t h s⟩ j := by
  refine Pipeline.eq_sum_fin_of_reset_step_apply_of_flush (fun n hn => outsAt2 V c n hn) 8 (fun _ => (0 : EReal))
    (term2 V c) (fun t h j => ?_) (fun t h j => ?_) t h j
  · obtain ⟨i, k, rfl⟩ : ∃ (i : Fin 512) (k : Fin 4736), j = ix2 i k := ⟨j 0, j 1, eq_ix2 j⟩
    show outsAt2 V c t.val t.isLt (ix2 i k) = _
    rw [outsAt2_A V c t h]
    frame_out
    refine (dw_apply _ _ _ _ _ _ _ i k).trans ?_
    rw [dw_zero]
    rfl
  · obtain ⟨i, k, rfl⟩ : ∃ (i : Fin 512) (k : Fin 4736), j = ix2 i k := ⟨j 0, j 1, eq_ix2 j⟩
    show outsAt2 V c t.val t.isLt (ix2 i k) = _
    rw [outsAt2_B V c t h]
    frame_out
    refine (dw_apply _ _ _ _ _ _ _ i k).trans ?_
    rfl

/-- The gradient of the weights. -/
theorem final2_6 : (dat2 V c).arrAt 6 cfg2.N = mulTN (V c main_v0 : Mat 4096 1024) (five V c) := by
  refine (dat2 V c).arrAt_eq_of_covers 6 _ (by decide +kernel) fun t hf y => ?_
  blk_simp
  rw [after2_6]
  have h := (flush2_6 t).mp hf
  have ht : t.val < 16 := t.isLt
  obtain ⟨i, k, rfl⟩ : ∃ (i : Fin 512) (k : Fin 4736), y = ix2 i k := ⟨y 0, y 1, eq_ix2 y⟩
  refine (outs2 V c t h (ix2 i k)).trans ((zero_add _).trans ?_)
  have e : ((View.whole main_v2).slice (win2_6.rect t)).emb (ix2 i k) = ix2 (⟨512 * (t.val / 8) + i.val, by omega⟩ : Fin 1024) k := by
    blk_ext [idx2 t]
  rw [e]
  unfold mulTN
  refine Eq.trans ?_ (Fin.sum_mul_add_fin (M := EReal) (L := 4096) 8 512 _ rfl)
  refine Finset.sum_congr rfl fun s _ => ?_
  unfold term2 mulTN
  refine Finset.sum_congr rfl fun m _ => ?_
  have hs := s.isLt
  have hp : (8 * (t.val / 8) + s.val) % 8 = s.val := by omega
  refine congrArg₂ (· * ·) ?_ (five_block2 V c _ m _ (by simp only [hp]) k)
  blk_point [iblk2, idx2 ⟨8 * (t.val / 8) + s.val, Pipeline.run_point_lt_of_flush t h s⟩]

/-! ## The gradient of the input -/

theorem idx3 : ∀ t : Fin cfg3.N, win3_0.index t = ![t.val, 0]
    ∧ win3_1.index t = ![t.val, 0]
    ∧ win3_2.index t = ![t.val, 0]
    ∧ win3_3.index t = ![t.val, 0]
    ∧ win3_4.index t = ![t.val, 0]
    ∧ win3_5.index t = ![0, 0]
    ∧ win3_6.index t = ![t.val, 0]
    ∧ win3_7.index t = ![0, 0]
    ∧ win3_8.index t = ![t.val, 0]
    ∧ win3_9.index t = ![t.val, 0]
    ∧ win3_10.index t = ![0, 0] := by decide +kernel

/-- The gradient of the normalised rows. -/
def dh : Mat 4096 1024 := mulNT (five V c) (V c main_arg2 : Mat 1024 4736)

/-- A block of `dh`, as the launch computes it. -/
def dhBlock (t : Fin cfg3.N) : Mat 256 1024 :=
  k3_pay3 (F := Ideal) (iblk3 V c 0 t) (iblk3 V c 1 t) (iblk3 V c 2 t) (iblk3 V c 3 t) (iblk3 V c 4 t) (iblk3 V c 5 t)

section
variable (t : Fin cfg3.N) (r : Fin 256) (R : Fin 4096) (hR : R.val = t.val * 256 + r.val)
include hR

theorem five_block3 (k : Fin 4736) : joined (iblk3 V c 0 t : Mat 256 1024) (iblk3 V c 1 t : Mat 256 1024)
    (iblk3 V c 2 t : Mat 256 1024) (iblk3 V c 3 t : Mat 256 1536) (iblk3 V c 4 t : Mat 256 128) (ix2 r k) = five V c (ix2 R k) := by
  have ht : t.val < 16 := t.isLt
  have hb : t.val * 256 + r.val < 4096 := by omega
  obtain rfl : R = ⟨t.val * 256 + r.val, hb⟩ := Fin.ext hR
  unfold five
  refine joined_rows (fun i => ?_) (fun i => ?_) (fun i => ?_) (fun i => ?_) (fun i => ?_) k
  all_goals blk_point [iblk3, idx3 t]

theorem dh_block (k : Fin 1024) : dhBlock V c t (ix2 r k) = dh V c (ix2 R k) := by
  refine (dh_apply _ _ _ _ _ _ r k).trans ?_
  unfold dh mulNT
  refine Finset.sum_congr rfl fun i _ => ?_
  refine congrArg₂ (· * ·) (five_block3 V c t r R hR i) ?_
  blk_point [iblk3, idx3 t]

theorem rows_block (k : Fin 1024) : (iblk3 V c 6 t : Mat 256 1024) (ix2 r k) = (V c main_arg0 : Mat 4096 1024) (ix2 R k) := by
  have ht : t.val < 16 := t.isLt
  have hb : t.val * 256 + r.val < 4096 := by omega
  obtain rfl : R = ⟨t.val * 256 + r.val, hb⟩ := Fin.ext hR
  blk_point [iblk3, idx3 t]

theorem later_block (k : Fin 1024) : (iblk3 V c 8 t : Mat 256 1024) (ix2 r k) = (V c main_arg8 : Mat 4096 1024) (ix2 R k) := by
  have ht : t.val < 16 := t.isLt
  have hb : t.val * 256 + r.val < 4096 := by omega
  obtain rfl : R = ⟨t.val * 256 + r.val, hb⟩ := Fin.ext hR
  blk_point [iblk3, idx3 t]

omit hR in
theorem gain_block (k : Fin 1024) : (iblk3 V c 7 t : Mat 1 1024) (ix2 0 k) = (V c main_arg1 : Mat 1 1024) (ix2 0 k) := by
  blk_point [iblk3, idx3 t]

theorem rowsGrad_block (k : Fin 1024) : plus (iblk3 V c 8 t : Mat 256 1024)
      (normedGrad (iblk3 V c 6 t : Mat 256 1024) (iblk3 V c 7 t : Mat 1 1024) (dhBlock V c t)) (ix2 r k)
    = plus (V c main_arg8 : Mat 4096 1024) (normedGrad (V c main_arg0 : Mat 4096 1024) (V c main_arg1 : Mat 1 1024) (dh V c)) (ix2 R k) := by
  unfold plus
  rw [normedGrad_rows (rows_block V c t r R hR) (gain_block V c t) (dh_block V c t r R hR) k]
  exact congrArg (· + _) (later_block V c t r R hR k)

end

theorem outs3_9 (t : Fin cfg3.N) (r : Fin 256) (k : Fin 1024) : (outsAt3 V c t.val t.isLt).1 (ix2 r k)
    = plus (iblk3 V c 8 t : Mat 256 1024)
      (normedGrad (iblk3 V c 6 t : Mat 256 1024) (iblk3 V c 7 t : Mat 1 1024) (dhBlock V c t)) (ix2 r k) := by
  by_cases h : t.val % 16 = 0
  · rw [outsAt3_A V c t h]
    frame_out
    exact dx_apply _ _ _ _ _ _ _ _ _ r k
  · rw [outsAt3_B V c t h]
    frame_out
    exact dx_apply _ _ _ _ _ _ _ _ _ r k

/-- The gradient of the input rows. -/
theorem final3_9 : (dat3 V c).arrAt 9 cfg3.N
    = plus (V c main_arg8 : Mat 4096 1024) (normedGrad (V c main_arg0 : Mat 4096 1024) (V c main_arg1 : Mat 1 1024) (dh V c)) := by
  refine (dat3 V c).arrAt_eq_of_covers 9 _ (by decide +kernel) fun t hf y => ?_
  blk_simp
  rw [after3_9]
  obtain ⟨r, k, rfl⟩ : ∃ (r : Fin 256) (k : Fin 1024), y = ix2 r k := ⟨y 0, y 1, eq_ix2 y⟩
  have ht : t.val < 16 := t.isLt
  have e : ((View.whole main_v3_0).slice (win3_9.rect t)).emb (ix2 r k) = ix2 (⟨t.val * 256 + r.val, by omega⟩ : Fin 4096) k := by
    blk_ext [idx3 t]
  rw [e]
  exact (outs3_9 V c t r k).trans (rowsGrad_block V c t r _ rfl k)

/-- One block's share of the gain's gradient. -/
def term3_10 (t : Fin cfg3.N) : Mat 1 1024 := gainGrad (iblk3 V c 6 t : Mat 256 1024) (dhBlock V c t)

theorem outs3_10 (t : Fin cfg3.N) (h : t.val % 16 = 16 - 1) (j : S1x1024.Idx) : (outsAt3 V c t.val t.isLt).2 j
    = (fun _ => (0 : EReal)) j + ∑ s : Fin 16, term3_10 V c ⟨16 * (t.val / 16) + s.val, Pipeline.run_point_lt_of_flush t h s⟩ j := by
  refine Pipeline.eq_sum_fin_of_reset_step_apply_of_flush (fun n hn => (outsAt3 V c n hn).2) 16 (fun _ => (0 : EReal))
    (term3_10 V c) (fun t h j => ?_) (fun t h j => ?_) t h j
  · obtain ⟨i, k, rfl⟩ : ∃ (i : Fin 1) (k : Fin 1024), j = ix2 i k := ⟨j 0, j 1, eq_ix2 j⟩
    obtain rfl : i = 0 := Subsingleton.elim _ _
    show (outsAt3 V c t.val t.isLt).2 (ix2 0 k) = _
    rw [outsAt3_A V c t h]
    frame_out
    refine (gain_apply _ _ _ _ _ _ _ k _).trans ?_
    rw [gain_zero]
    rfl
  · obtain ⟨i, k, rfl⟩ : ∃ (i : Fin 1) (k : Fin 1024), j = ix2 i k := ⟨j 0, j 1, eq_ix2 j⟩
    obtain rfl : i = 0 := Subsingleton.elim _ _
    show (outsAt3 V c t.val t.isLt).2 (ix2 0 k) = _
    rw [outsAt3_B V c t h]
    frame_out
    exact gain_apply _ _ _ _ _ _ _ k _

/-- The gradient of the normalisation's gain. -/
theorem final3_10 : (dat3 V c).arrAt 10 cfg3.N = gainGrad (V c main_arg0 : Mat 4096 1024) (dh V c) := by
  refine (dat3 V c).arrAt_eq_of_covers 10 _ (by decide +kernel) fun t hf y => ?_
  blk_simp
  rw [after3_10]
  have h := (flush3_10 t).mp hf
  have ht : t.val < 16 := t.isLt
  obtain ⟨i, k, rfl⟩ : ∃ (i : Fin 1) (k : Fin 1024), y = ix2 i k := ⟨y 0, y 1, eq_ix2 y⟩
  obtain rfl : i = 0 := Subsingleton.elim _ _
  refine (outs3_10 V c t h (ix2 0 k)).trans ((zero_add _).trans ?_)
  have e : ((View.whole main_v3_1).slice (win3_10.rect t)).emb (ix2 0 k) = ix2 (0 : Fin 1) k := by
    blk_ext [idx3 t]
  rw [e]
  refine Eq.trans ?_ (Fin.sum_mul_add_fin (M := EReal) (L := 4096) 16 256 _ rfl)
  refine Finset.sum_congr rfl fun s _ => ?_
  unfold term3_10 gainGrad
  refine Finset.sum_congr rfl fun m _ => ?_
  have hs := s.isLt
  have hp : (16 * (t.val / 16) + s.val) = s.val := by omega
  exact gainGrad_rows (rows_block V c _ m _ (by simp only [hp])) (dh_block V c _ m _ (by simp only [hp])) k

end Cert.Kernel3Ideal.Arrays

end
-- ==== Proof.InputRun.lean ====
/-
  What every buffer of the input projection's program holds after the launch that writes it, and so at the end: the
  layers (Input.lean) of the arguments.
-/
module

public import proofs.«01_k».proof.Proof.Input
public import proofs.«01_k».proof.Proof.InputArrays

@[expose] public section

set_option maxRecDepth 16384

noncomputable section

namespace Cert.Kernel3Ideal.Arrays

open Cert.Kernel3Ideal Cert.Kernel3Ideal.Gen Cert.Layers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The arguments, as a memory holds them. -/
def args (c : Dev nD) : InputArgs where
  x := m ((c : Thread nD τ).loc main_arg0)
  gm := m ((c : Thread nD τ).loc main_arg1)
  w := m ((c : Thread nD τ).loc main_arg2)
  dz := m ((c : Thread nD τ).loc main_arg3)
  da := m ((c : Thread nD τ).loc main_arg4)
  dg := m ((c : Thread nD τ).loc main_arg5)
  db := m ((c : Thread nD τ).loc main_arg6)
  dt := m ((c : Thread nD τ).loc main_arg7)
  d1 := m ((c : Thread nD τ).loc main_arg8)

section
variable (c : Dev nD)

theorem h_at1 : (W1 m ρ c (Proc.devRef .tc main_v0) : Mat 4096 1024) = (args m c).h := by
  have h_x : (V0 m ρ c main_arg0 : Mat 4096 1024) = (args m c).x := W0_args m ρ c main_arg0 (by decide)
  have h_gm : (V0 m ρ c main_arg1 : Mat 1 1024) = (args m c).gm := W0_args m ρ c main_arg1 (by decide)
  refine (W1_arr m ρ c 2).trans ((final0_2 (V0 m ρ) c).trans ?_)
  rw [h_x, h_gm]
  rfl

theorem h_at2 : (W2 m ρ c (Proc.devRef .tc main_v0) : Mat 4096 1024) = (args m c).h :=
  (W2_of m ρ c main_v0 (by decide)).trans (h_at1 m ρ c)

theorem proj_at4 : (W4 m ρ c (Proc.devRef .tc main_v1) : Mat 4096 4736) = (args m c).proj := by
  have h_h : (V1 m ρ c main_v0 : Mat 4096 1024) = (args m c).h := h_at1 m ρ c
  have h_w : (V1 m ρ c main_arg2 : Mat 1024 4736) = (args m c).w := W1_args m ρ c main_arg2 (by decide)
  refine (W4_of m ρ c main_v1 (by decide)).trans ((W3_of m ρ c main_v1 (by decide)).trans ?_)
  refine (W2_arr m ρ c 2).trans ((final1_2 (V1 m ρ) c).trans ?_)
  rw [h_h, h_w]
  rfl

theorem dw_at4 : (W4 m ρ c (Proc.devRef .tc main_v2) : Mat 1024 4736) = (args m c).dw := by
  have h_h : (V2 m ρ c main_v0 : Mat 4096 1024) = (args m c).h := h_at2 m ρ c
  have h_dz : (V2 m ρ c main_arg3 : Mat 4096 1024) = (args m c).dz := W2_args m ρ c main_arg3 (by decide)
  have h_da : (V2 m ρ c main_arg4 : Mat 4096 1024) = (args m c).da := W2_args m ρ c main_arg4 (by decide)
  have h_dg : (V2 m ρ c main_arg5 : Mat 4096 1024) = (args m c).dg := W2_args m ρ c main_arg5 (by decide)
  have h_db : (V2 m ρ c main_arg6 : Mat 4096 1536) = (args m c).db := W2_args m ρ c main_arg6 (by decide)
  have h_dt : (V2 m ρ c main_arg7 : Mat 4096 128) = (args m c).dt := W2_args m ρ c main_arg7 (by decide)
  refine (W4_of m ρ c main_v2 (by decide)).trans ?_
  refine (W3_arr m ρ c 6).trans ((final2_6 (V2 m ρ) c).trans ?_)
  unfold five
  rw [h_h, h_dz, h_da, h_dg, h_db, h_dt]
  rfl

theorem dx_at4 : (W4 m ρ c (Proc.devRef .tc main_v3_0) : Mat 4096 1024) = (args m c).dx := by
  have h_x : (V3 m ρ c main_arg0 : Mat 4096 1024) = (args m c).x := W3_args m ρ c main_arg0 (by decide)
  have h_gm : (V3 m ρ c main_arg1 : Mat 1 1024) = (args m c).gm := W3_args m ρ c main_arg1 (by decide)
  have h_w : (V3 m ρ c main_arg2 : Mat 1024 4736) = (args m c).w := W3_args m ρ c main_arg2 (by decide)
  have h_dz : (V3 m ρ c main_arg3 : Mat 4096 1024) = (args m c).dz := W3_args m ρ c main_arg3 (by decide)
  have h_da : (V3 m ρ c main_arg4 : Mat 4096 1024) = (args m c).da := W3_args m ρ c main_arg4 (by decide)
  have h_dg : (V3 m ρ c main_arg5 : Mat 4096 1024) = (args m c).dg := W3_args m ρ c main_arg5 (by decide)
  have h_db : (V3 m ρ c main_arg6 : Mat 4096 1536) = (args m c).db := W3_args m ρ c main_arg6 (by decide)
  have h_dt : (V3 m ρ c main_arg7 : Mat 4096 128) = (args m c).dt := W3_args m ρ c main_arg7 (by decide)
  have h_d1 : (V3 m ρ c main_arg8 : Mat 4096 1024) = (args m c).d1 := W3_args m ρ c main_arg8 (by decide)
  refine (W4_arr m ρ c 9).trans ((final3_9 (V3 m ρ) c).trans ?_)
  unfold dh five
  rw [h_x, h_gm, h_w, h_dz, h_da, h_dg, h_db, h_dt, h_d1]
  rfl

theorem dgm_at4 : (W4 m ρ c (Proc.devRef .tc main_v3_1) : Mat 1 1024) = (args m c).dgm := by
  have h_x : (V3 m ρ c main_arg0 : Mat 4096 1024) = (args m c).x := W3_args m ρ c main_arg0 (by decide)
  have h_w : (V3 m ρ c main_arg2 : Mat 1024 4736) = (args m c).w := W3_args m ρ c main_arg2 (by decide)
  have h_dz : (V3 m ρ c main_arg3 : Mat 4096 1024) = (args m c).dz := W3_args m ρ c main_arg3 (by decide)
  have h_da : (V3 m ρ c main_arg4 : Mat 4096 1024) = (args m c).da := W3_args m ρ c main_arg4 (by decide)
  have h_dg : (V3 m ρ c main_arg5 : Mat 4096 1024) = (args m c).dg := W3_args m ρ c main_arg5 (by decide)
  have h_db : (V3 m ρ c main_arg6 : Mat 4096 1536) = (args m c).db := W3_args m ρ c main_arg6 (by decide)
  have h_dt : (V3 m ρ c main_arg7 : Mat 4096 128) = (args m c).dt := W3_args m ρ c main_arg7 (by decide)
  refine (W4_arr m ρ c 10).trans ((final3_10 (V3 m ρ) c).trans ?_)
  unfold dh five
  rw [h_x, h_w, h_dz, h_da, h_dg, h_db, h_dt]
  rfl

end

set_option backward.isDefEq.respectTransparency.types false in
/-- The run, its final state read at every unscoped buffer. -/
theorem run_contents : θ_run defs (onTc (τ := τ) (main (F := Ideal))) ⟨m, fun _ => 0, ρ⟩ (fun r => ∀ c : Dev nD,
    ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The run, its final state read at the results and the arguments. -/
theorem run_values : θ_run defs (onTc (τ := τ) (main (F := Ideal))) ⟨m, fun _ => 0, ρ⟩ (fun r => ∀ c : Dev nD,
      r.2.mem ((c.tc : Thread nD τ).loc main_v1) = ((args m c).proj : Mat 4096 4736)
      ∧ r.2.mem ((c.tc : Thread nD τ).loc main_v3_0) = ((args m c).dx : Mat 4096 1024)
      ∧ r.2.mem ((c.tc : Thread nD τ).loc main_v3_1) = ((args m c).dgm : Mat 1 1024)
      ∧ r.2.mem ((c.tc : Thread nD τ).loc main_v2) = ((args m c).dw : Mat 1024 4736)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v1 (by decide))).trans (proj_at4 m ρ c),
     (h c _ (mem_uc main_v3_0 (by decide))).trans (dx_at4 m ρ c),
     (h c _ (mem_uc main_v3_1 (by decide))).trans (dgm_at4 m ρ c),
     (h c _ (mem_uc main_v2 (by decide))).trans (dw_at4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_contents m ρ)

end Cert.Kernel3Ideal.Arrays

end
-- ==== Proof.Reference3Value.lean ====
/-
  What the reference's lines of the input projection compute, entry by entry: the layers of `InputArgs`.
-/
module

public import proofs.«01_k».proof.Proof.Input
public import proofs.«01_k».proof.Proof.LayersReal
public import proofs.«01_k».proof.Proof.Gen.Reference3Ideal.Read
public import Idealize.ShloMosaic.Lib.Pointwise

@[expose] public section

noncomputable section

namespace Cert.Reference3Ideal.Entries

open Cert.Reference3Ideal Cert.Reference3Ideal.Read Cert.Layers Idealize.ShloMosaic Idealize.ShloMosaic.TcCoe
open Idealize.ShloMosaic.Pointwise

variable (A : InputArgs)

section
variable (r : Fin 4096) (c : Fin 1024)

theorem spread_row : val_main_v12 (F := Ideal) A.x (ix2 r 0) = spread (row A.x r) := by
  pointwise [val_main_v12, val_main_v11, val_main_cst_1, val_main_v10, val_main_v9, val_main_cst_0, val_main_v8, val_main_v7, val_main_cst, val_main_v6]
  rfl

theorem inv_row : val_main_v13 (F := Ideal) A.x (ix2 r 0) = inv (row A.x r) := by
  pointwise [val_main_v13]
  rw [spread_row]
  rfl

theorem slope_row : val_main_v16 (F := Ideal) A.x (ix2 r 0)
    = Ideal.ofBits .f32 0xBF000000#32 * Ideal.div (inv (row A.x r)) (spread (row A.x r)) := by
  pointwise [val_main_v16, val_main_v15, val_main_cst_2, val_main_v14]
  rw [spread_row, inv_row]

theorem unit_row : val_main_v18 (F := Ideal) A.x (ix2 r c) = unit (row A.x r) c := by
  pointwise [val_main_v18, val_main_v17]
  rw [inv_row]
  rfl

theorem h : val_main_v20 (F := Ideal) A.x A.gm (ix2 r c) = A.h (ix2 r c) := by
  pointwise [val_main_v20, val_main_v19]
  rw [unit_row]
  rfl

end

section
variable (r : Fin 4096) (i : Fin 4736)

theorem proj : val_main_v21 (F := Ideal) A.x A.gm A.w (ix2 r i) = A.proj (ix2 r i) := by
  pointwise [val_main_v21, val_main_v0, dot_S4096x1024_S1024x4736_S4096x4736_1_0_0_1_n_n]
  simp only [h]
  rfl

theorem dp : val_main_v22 (F := Ideal) A.dz A.da A.dg A.db A.dt (ix2 r i) = A.dp (ix2 r i) := by
  unfold val_main_v22
  pointwise [val_main_v1, val_main_v2, val_main_v3, val_main_v4, val_main_v5]
  rfl

end

theorem dw (k : Fin 1024) (i : Fin 4736) : val_main_v24 (F := Ideal) A.x A.gm A.dz A.da A.dg A.db A.dt (ix2 k i) = A.dw (ix2 k i) := by
  pointwise [val_main_v24, val_main_v23, dot_S4096x4736_S4096x1024_S4736x1024_0_0_1_1_n_n]
  simp only [h, dp]
  exact Finset.sum_congr rfl fun _ _ => mul_comm _ _

section
variable (r : Fin 4096) (c : Fin 1024)

theorem dh : val_main_v25 (F := Ideal) A.w A.dz A.da A.dg A.db A.dt (ix2 r c) = A.dh (ix2 r c) := by
  pointwise [val_main_v25, val_main_v0, dot_S4096x4736_S1024x4736_S4096x1024_1_1_0_0_n_n]
  simp only [dp]
  rfl

theorem dgm : val_main_v28 (F := Ideal) A.x A.w A.dz A.da A.dg A.db A.dt (ix2 0 c) = A.dgm (ix2 0 c) := by
  pointwise [val_main_v28, val_main_v27, val_main_cst_3, val_main_v26]
  simp only [unit_row, dh, Ideal.ofBits_def, Ideal.ofBits_zero_f32, zero_add]
  exact Finset.sum_congr rfl fun _ _ => mul_comm _ _

theorem scaled : val_main_v30 (F := Ideal) A.gm A.w A.dz A.da A.dg A.db A.dt (ix2 r c) = A.dh (ix2 r c) * A.gm (ix2 0 c) := by
  pointwise [val_main_v30, val_main_v29]
  rw [dh]

theorem turn_row : val_main_v41 (F := Ideal) A.x A.gm A.w A.dz A.da A.dg A.db A.dt (ix2 r c)
    = turn (row A.x r) (fun k => A.dh (ix2 r k) * A.gm (ix2 0 k)) := by
  pointwise [val_main_v41, val_main_v40, val_main_cst_6, val_main_v39, val_main_v38, val_main_cst_5, val_main_v37, val_main_v33, val_main_v32, val_main_cst_4, val_main_v31]
  simp only [scaled, slope_row, Fin.sum_univ_one, Ideal.ofBits_def, Ideal.ofBits_zero_f32, zero_add]
  rfl

theorem dx : val_main_v45 (F := Ideal) A.x A.gm A.w A.dz A.da A.dg A.db A.dt A.d1 (ix2 r c) = A.dx (ix2 r c) := by
  pointwise [val_main_v45, val_main_v44, val_main_v43, val_main_v42, val_main_v36, val_main_v35, val_main_v34]
  rw [scaled, turn_row, inv_row, add_assoc, add_assoc, ← add_assoc (_ * inv _)]
  exact congrArg (A.d1 (ix2 r c) + ·) (unitGrad_eq (row A.x r) (fun k => A.dh (ix2 r k) * A.gm (ix2 0 k)) c)

end

/-! ## The results as matrices -/

theorem proj_eq : val_main_v21 (F := Ideal) A.x A.gm A.w = A.proj := mat_ext fun _ _ => proj A _ _

theorem dx_eq : val_main_v45 (F := Ideal) A.x A.gm A.w A.dz A.da A.dg A.db A.dt A.d1 = A.dx := mat_ext fun _ _ => dx A _ _

theorem dgm_eq : val_main_v28 (F := Ideal) A.x A.w A.dz A.da A.dg A.db A.dt = A.dgm := row_ext fun _ => dgm A _

theorem dw_eq : val_main_v24 (F := Ideal) A.x A.gm A.dz A.da A.dg A.db A.dt = A.dw := mat_ext fun _ _ => dw A _ _

end Cert.Reference3Ideal.Entries

end
-- ==== Proof.Memory.lean ====
/-
  The layers from the mixer's output to the attention's queries, keys and values, forward and backward, as functions of
  their eleven arguments: the output product, the normalisation and the queries' product over the rows, the normalisation
  and the keys' and values' product over the memory, and the gradients of each.
-/
module

public import proofs.«01_k».proof.Proof.Layers

@[expose] public section

noncomputable section

namespace Cert.Layers

/-- The eleven arguments: the rows, the mixer's output, its weights, the rows' gain, the queries' weights, the memory's
    gain, the keys' and values' weights, the memory, the gradients of the queries and of the keys and values, the
    gradient the rows have from the rest of the layer. -/
structure MemoryArgs where
  x : Mat 4096 1024
  mix : Mat 4096 2048
  wo : Mat 2048 1024
  gx : Mat 1 1024
  wq : Mat 1024 1024
  gm : Mat 1 1024
  wkv : Mat 1024 2048
  mem : Mat 256 1024
  dq : Mat 4096 1024
  dkv : Mat 256 2048
  d2 : Mat 4096 1024

namespace MemoryArgs

variable (A : MemoryArgs)

/-- The rows after the mixer. -/
def x1 : Mat 4096 1024 := plus (mulNN A.mix A.wo) A.x
/-- … normalised. -/
def h : Mat 4096 1024 := normed A.x1 A.gx
/-- The queries. -/
def q : Mat 4096 1024 := mulNN A.h A.wq
/-- The memory, normalised. -/
def hm : Mat 256 1024 := normed A.mem A.gm
/-- The keys and values. -/
def kv : Mat 256 2048 := mulNN A.hm A.wkv
/-- The gradient of the normalised rows. -/
def dh : Mat 4096 1024 := mulNT A.dq A.wq
/-- The gradient of the rows after the mixer. -/
def dx1 : Mat 4096 1024 := plus A.d2 (normedGrad A.x1 A.gx A.dh)
/-- The gradient of the rows' gain. -/
def dgx : Mat 1 1024 := gainGrad A.x1 A.dh
/-- The gradient of the queries' weights. -/
def dwq : Mat 1024 1024 := mulTN A.h A.dq
/-- The gradient of the keys' and values' weights. -/
def dwkv : Mat 1024 2048 := mulTN A.hm A.dkv
/-- The gradient of the normalised memory. -/
def dhm : Mat 256 1024 := mulNT A.dkv A.wkv
/-- The gradient of the memory's gain. -/
def dgm : Mat 1 1024 := gainGrad A.mem A.dhm
/-- The gradient of the mixer's output. -/
def dmix : Mat 4096 2048 := mulNT A.dx1 A.wo
/-- The gradient of the mixer's output weights. -/
def dwo : Mat 2048 1024 := mulTN A.mix A.dx1

end MemoryArgs

end Cert.Layers

end
-- ==== Proof.MemoryTiles.lean ====
/-
  What one grid point of each of the eleven launches around the attention's inputs writes, at an entry, from the blocks it
  reads.
-/
module

public import proofs.«01_k».proof.Proof.Gen.Kernel4Ideal.Skeleton
public import proofs.«01_k».proof.Proof.Layers
public import Idealize.ShloMosaic.Lib.Pipeline.ValueKit

@[expose] public section

noncomputable section

namespace Cert.Kernel4Ideal.Tiles

open Cert.Kernel4Ideal Cert.Kernel4Ideal.Gen Cert.Layers Idealize.ShloMosaic Idealize.ShloMosaic.TcCoe Idealize.SL.Sem
open Idealize.ShloMosaic.Pointwise

section
variable (o : Mat 512 2048) (w : Mat 2048 1024) (x : Mat 512 1024) (g : Mat 1 1024) (r : Fin 512) (k : Fin 1024)

theorem sum_apply : k0_pay1 (F := Ideal) o w x (ix2 r k) = ∑ i, o (ix2 r i) * w (ix2 i k) + x (ix2 r k) := by
  unfold k0_pay1
  pointwise [dot_S512x2048_S2048x1024_S512x1024_1_0_0_1_n_n]

theorem normed_apply : k0_pay2 (F := Ideal) o w x g (ix2 r k) = normed (k0_pay1 (F := Ideal) o w x) g (ix2 r k) := by
  unfold k0_pay2
  pointwise []
  rfl

end

theorem memNormed_apply (x : Mat 256 1024) (g : Mat 1 1024) (r : Fin 256) (k : Fin 1024) :
    k2_pay1 (F := Ideal) x g (ix2 r k) = normed x g (ix2 r k) := by
  unfold k2_pay1
  pointwise []
  rfl

theorem q_apply (x : Mat 1024 1024) (w : Mat 1024 1024) (r : Fin 1024) (k : Fin 1024) :
    k1_pay1 (F := Ideal) x w (ix2 r k) = ∑ i, x (ix2 r i) * w (ix2 i k) := by
  unfold k1_pay1
  pointwise [dot_S1024x1024_S1024x1024_S1024x1024_1_0_0_1_n_n]

theorem kv_apply (x : Mat 256 1024) (w : Mat 1024 1024) (r : Fin 256) (k : Fin 1024) :
    k3_pay1 (F := Ideal) x w (ix2 r k) = ∑ i, x (ix2 r i) * w (ix2 i k) := by
  unfold k3_pay1
  pointwise [dot_S256x1024_S1024x1024_S256x1024_1_0_0_1_n_n]

theorem dh_apply (x : Mat 512 1024) (w : Mat 1024 1024) (r : Fin 512) (k : Fin 1024) :
    k4_pay3 (F := Ideal) x w (ix2 r k) = ∑ i, x (ix2 r i) * w (ix2 k i) := by
  unfold k4_pay3
  pointwise [dot_S512x1024_S1024x1024_S512x1024_1_1_0_0_n_n]

theorem dhm_apply (x : Mat 256 2048) (w : Mat 1024 2048) (r : Fin 256) (k : Fin 1024) :
    k7_pay1 (F := Ideal) x w (ix2 r k) = ∑ i, x (ix2 r i) * w (ix2 k i) := by
  unfold k7_pay1
  pointwise [dot_S256x2048_S1024x2048_S256x1024_1_1_0_0_n_n]

theorem dmix_apply (x : Mat 512 1024) (w : Mat 1024 1024) (r : Fin 512) (k : Fin 1024) :
    k9_pay1 (F := Ideal) x w (ix2 r k) = ∑ i, x (ix2 r i) * w (ix2 k i) := by
  unfold k9_pay1
  pointwise [dot_S512x1024_S1024x1024_S512x1024_1_1_0_0_n_n]

/-! ## The gradient through the rows' normalisation -/

section
variable (a : Mat 512 1024) (w : Mat 1024 1024) (x : Mat 512 1024) (g : Mat 1 1024) (d : Mat 512 1024)
variable (r : Fin 512) (k : Fin 1024)

theorem inv_apply : k4_pay5 (F := Ideal) x (ix2 r 0) = inv (row x r) := by
  unfold k4_pay5 k4_pay4
  pointwise []
  rfl

theorem unit_apply : k4_pay6 (F := Ideal) x (ix2 r k) = unit (row x r) k := by
  unfold k4_pay6 k4_pay4
  pointwise []
  rw [inv_apply]
  rfl

theorem dx_apply : k4_pay7 (F := Ideal) a w x g d (ix2 r k)
    = d (ix2 r k) + normedGrad x g (k4_pay3 (F := Ideal) a w) (ix2 r k) := by
  unfold k4_pay7
  pointwise []
  simp only [unit_apply, inv_apply]
  rfl

theorem gain_apply (acc : Mat 1 1024) : k4_pay1 (F := Ideal) (k4_pay8 (F := Ideal) a w x) acc (ix2 0 k)
    = acc (ix2 0 k) + gainGrad x (k4_pay3 (F := Ideal) a w) (ix2 0 k) := by
  unfold k4_pay1 k4_pay8
  pointwise []
  simp only [unit_apply]
  rfl

theorem gain_zero (i : Fin 1) (k : Fin 1024) : k4_pay9 (F := Ideal) (ix2 i k) = 0 := by
  unfold k4_pay9
  pointwise []

end

/-! ## The gradient of the memory's gain -/

section
variable (x d : Mat 256 1024) (acc : Mat 1 1024) (k : Fin 1024)

theorem memGain_apply : k8_pay2 (F := Ideal) x d acc (ix2 0 k) = acc (ix2 0 k) + gainGrad x d (ix2 0 k) := by
  unfold k8_pay2
  pointwise []
  rfl

theorem memGain_zero (i : Fin 1) (k : Fin 1024) : k8_pay1 (F := Ideal) (ix2 i k) = 0 := by
  unfold k8_pay1
  pointwise []

end

/-! ## The weights' gradients -/

theorem q_dw_apply (y : Mat 1024 1024) (acc : Mat 512 1024) (x : Mat 1024 512) (r : Fin 512) (k : Fin 1024) :
    k5_pay2 (F := Ideal) y acc x (ix2 r k) = acc (ix2 r k) + ∑ m, x (ix2 m r) * y (ix2 m k) := by
  unfold k5_pay2
  pointwise [dot_S1024x512_S1024x1024_S512x1024_0_0_1_1_n_n]

theorem q_dw_zero (r : Fin 512) (k : Fin 1024) : k5_pay1 (F := Ideal) (ix2 r k) = 0 := by
  unfold k5_pay1
  pointwise []

theorem kv_dw_apply (y : Mat 256 1024) (acc : Mat 512 1024) (x : Mat 256 512) (r : Fin 512) (k : Fin 1024) :
    k6_pay2 (F := Ideal) y acc x (ix2 r k) = acc (ix2 r k) + ∑ m, x (ix2 m r) * y (ix2 m k) := by
  unfold k6_pay2
  pointwise [dot_S256x512_S256x1024_S512x1024_0_0_1_1_n_n]

theorem kv_dw_zero (r : Fin 512) (k : Fin 1024) : k6_pay1 (F := Ideal) (ix2 r k) = 0 := by
  unfold k6_pay1
  pointwise []

theorem o_dw_apply (y : Mat 1024 1024) (acc : Mat 512 1024) (x : Mat 1024 512) (r : Fin 512) (k : Fin 1024) :
    k10_pay2 (F := Ideal) y acc x (ix2 r k) = acc (ix2 r k) + ∑ m, x (ix2 m r) * y (ix2 m k) := by
  unfold k10_pay2
  pointwise [dot_S1024x512_S1024x1024_S512x1024_0_0_1_1_n_n]

theorem o_dw_zero (r : Fin 512) (k : Fin 1024) : k10_pay1 (F := Ideal) (ix2 r k) = 0 := by
  unfold k10_pay1
  pointwise []

end Cert.Kernel4Ideal.Tiles

end
-- ==== Proof.MemoryForward.lean ====
/-
  What the forward launches around the attention's inputs leave in their result arrays, as layers (Layers.lean) of the
  arrays they are entered with.
-/
module

public import proofs.«01_k».proof.Proof.Gen.Kernel4Ideal.Frame.Region0
public import proofs.«01_k».proof.Proof.Gen.Kernel4Ideal.Frame.Region1
public import proofs.«01_k».proof.Proof.Gen.Kernel4Ideal.Frame.Region2
public import proofs.«01_k».proof.Proof.Gen.Kernel4Ideal.Frame.Region3
public import proofs.«01_k».proof.Proof.MemoryTiles

@[expose] public section

noncomputable section

namespace Cert.Kernel4Ideal.Arrays

open Cert.Kernel4Ideal Cert.Kernel4Ideal.Gen Cert.Kernel4Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] := by decide +kernel

/-- The mixer's output times its weights, plus the rows. -/
theorem final0_4 : (dat0 V c).arrAt 4 cfg0.N
    = plus (mulNN (V c main_arg1 : Mat 4096 2048) (V c main_arg2 : Mat 2048 1024)) (V c main_arg0 : Mat 4096 1024) := by
  refine (dat0 V c).arrAt_eq_of_covers 4 _ (by decide +kernel) fun t hf y => ?_
  blk_simp
  rw [after0_4]
  frame_out
  obtain ⟨r, k, rfl⟩ : ∃ (r : Fin 512) (k : Fin 1024), y = ix2 r k := ⟨y 0, y 1, eq_ix2 y⟩
  refine (sum_apply _ _ _ r k).trans ?_
  unfold plus mulNN
  blk_point [iblk0, idx0 t]

/-- … and normalised. -/
theorem final0_5 : (dat0 V c).arrAt 5 cfg0.N
    = normed (plus (mulNN (V c main_arg1 : Mat 4096 2048) (V c main_arg2 : Mat 2048 1024)) (V c main_arg0 : Mat 4096 1024))
        (V c main_arg3 : Mat 1 1024) := by
  refine (dat0 V c).arrAt_eq_of_covers 5 _ (by decide +kernel) fun t hf y => ?_
  blk_simp
  rw [after0_5]
  frame_out
  obtain ⟨r, k, rfl⟩ : ∃ (r : Fin 512) (k : Fin 1024), y = ix2 r k := ⟨y 0, y 1, eq_ix2 y⟩
  refine (normed_apply _ _ _ _ r k).trans ?_
  have ht : t.val < 8 := t.isLt
  have e : ((View.whole main_v0_1).slice (win0_5.rect t)).emb (ix2 r k) = ix2 (⟨512 * t.val + r.val, by omega⟩ : Fin 4096) k := by
    blk_ext [idx0 t]
  rw [e]
  refine normed_rows (fun i => ?_) (fun i => ?_) k
  · refine (sum_apply _ _ _ r i).trans ?_
    unfold plus mulNN
    blk_point [iblk0, idx0 t]
  · blk_point [iblk0, idx0 t]

theorem idx1 : ∀ t : Fin cfg1.N, win1_0.index t = ![t.val, 0]
    ∧ win1_1.index t = ![0, 0]
    ∧ win1_2.index t = ![t.val, 0] := by decide +kernel

/-- The queries. -/
theorem final1_2 : (dat1 V c).arrAt 2 cfg1.N
    = mulNN (V c main_v0_1 : Mat 4096 1024) (V c main_arg4 : Mat 1024 1024) := by
  refine (dat1 V c).arrAt_eq_of_covers 2 _ (by decide +kernel) fun t hf y => ?_
  blk_simp
  rw [after1_2]
  frame_out
  obtain ⟨r, k, rfl⟩ : ∃ (r : Fin 1024) (k : Fin 1024), y = ix2 r k := ⟨y 0, y 1, eq_ix2 y⟩
  refine (q_apply _ _ r k).trans ?_
  unfold mulNN
  blk_point [iblk1, idx1 t]

theorem idx2 : ∀ t : Fin cfg2.N, win2_0.index t = ![0, 0]
    ∧ win2_1.index t = ![0, 0]
    ∧ win2_2.index t = ![0, 0] := by decide +kernel

/-- The memory, normalised. -/
theorem final2_2 : (dat2 V c).arrAt 2 cfg2.N
    = normed (V c main_arg7 : Mat 256 1024) (V c main_arg5 : Mat 1 1024) := by
  refine (dat2 V c).arrAt_eq_of_covers 2 _ (by decide +kernel) fun t hf y => ?_
  blk_simp
  rw [after2_2]
  frame_out
  obtain ⟨r, k, rfl⟩ : ∃ (r : Fin 256) (k : Fin 1024), y = ix2 r k := ⟨y 0, y 1, eq_ix2 y⟩
  refine (memNormed_apply _ _ r k).trans ?_
  have e : ((View.whole main_v2).slice (win2_2.rect t)).emb (ix2 r k) = ix2 r k := by
    blk_ext [idx2 t]
  rw [e]
  refine normed_rows (fun i => ?_) (fun i => ?_) k
  · blk_point [iblk2, idx2 t]
  · blk_point [iblk2, idx2 t]

theorem idx3 : ∀ t : Fin cfg3.N, win3_0.index t = ![0, 0]
    ∧ win3_1.index t = ![0, t.val]
    ∧ win3_2.index t = ![0, t.val] := by decide +kernel

/-- The keys and values. -/
theorem final3_2 : (dat3 V c).arrAt 2 cfg3.N
    = mulNN (V c main_v2 : Mat 256 1024) (V c main_arg6 : Mat 1024 2048) := by
  refine (dat3 V c).arrAt_eq_of_covers 2 _ (by decide +kernel) fun t hf y => ?_
  blk_simp
  rw [after3_2]
  frame_out
  obtain ⟨r, k, rfl⟩ : ∃ (r : Fin 256) (k : Fin 1024), y = ix2 r k := ⟨y 0, y 1, eq_ix2 y⟩
  refine (kv_apply _ _ r k).trans ?_
  unfold mulNN
  blk_point [iblk3, idx3 t]

end Cert.Kernel4Ideal.Arrays

end
-- ==== Proof.MemoryNorm.lean ====
/-
  What the launch leaves in its result arrays that carries the gradient through the rows' normalisation, as layers
  (Layers.lean) of the arrays it is entered with.
-/
module

public import proofs.«01_k».proof.Proof.Gen.Kernel4Ideal.Frame.Region4
public import proofs.«01_k».proof.Proof.MemoryTiles

@[expose] public section

noncomputable section

namespace Cert.Kernel4Ideal.Arrays

open Cert.Kernel4Ideal Cert.Kernel4Ideal.Gen Cert.Kernel4Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx4 : ∀ t : Fin cfg4.N, win4_0.index t = ![t.val, 0]
    ∧ win4_1.index t = ![0, 0]
    ∧ win4_2.index t = ![t.val, 0]
    ∧ win4_3.index t = ![0, 0]
    ∧ win4_4.index t = ![t.val, 0]
    ∧ win4_5.index t = ![t.val, 0]
    ∧ win4_6.index t = ![t.val, 0]
    ∧ win4_7.index t = ![0, 0] := by decide +kernel

/-- The gradient of the normalised rows. -/
def dh : Mat 4096 1024 := mulNT (V c main_arg8 : Mat 4096 1024) (V c main_arg4 : Mat 1024 1024)

/-- A block of `dh`, as the launch computes it. -/
def dhBlock (t : Fin cfg4.N) : Mat 512 1024 := k4_pay3 (F := Ideal) (iblk4 V c 0 t) (iblk4 V c 1 t)

section
variable (t : Fin cfg4.N) (r : Fin 512) (R : Fin 4096) (hR : R.val = t.val * 512 + r.val)
include hR

theorem dh_block (k : Fin 1024) : dhBlock V c t (ix2 r k) = dh V c (ix2 R k) := by
  have ht : t.val < 8 := t.isLt
  have hb : t.val * 512 + r.val < 4096 := by omega
  obtain rfl : R = ⟨t.val * 512 + r.val, hb⟩ := Fin.ext hR
  refine (dh_apply _ _ r k).trans ?_
  unfold dh mulNT
  blk_point [iblk4, idx4 t]

theorem rows_block (k : Fin 1024) : (iblk4 V c 2 t : Mat 512 1024) (ix2 r k) = (V c main_v0_0 : Mat 4096 1024) (ix2 R k) := by
  have ht : t.val < 8 := t.isLt
  have hb : t.val * 512 + r.val < 4096 := by omega
  obtain rfl : R = ⟨t.val * 512 + r.val, hb⟩ := Fin.ext hR
  blk_point [iblk4, idx4 t]

theorem later_block (k : Fin 1024) : (iblk4 V c 4 t : Mat 512 1024) (ix2 r k) = (V c main_arg10 : Mat 4096 1024) (ix2 R k) := by
  have ht : t.val < 8 := t.isLt
  have hb : t.val * 512 + r.val < 4096 := by omega
  obtain rfl : R = ⟨t.val * 512 + r.val, hb⟩ := Fin.ext hR
  blk_point [iblk4, idx4 t]

omit hR in
theorem gain_block (k : Fin 1024) : (iblk4 V c 3 t : Mat 1 1024) (ix2 0 k) = (V c main_arg3 : Mat 1 1024) (ix2 0 k) := by
  blk_point [iblk4, idx4 t]

theorem rowsGrad_block (k : Fin 1024) : plus (iblk4 V c 4 t : Mat 512 1024)
      (normedGrad (iblk4 V c 2 t : Mat 512 1024) (iblk4 V c 3 t : Mat 1 1024) (dhBlock V c t)) (ix2 r k)
    = plus (V c main_arg10 : Mat 4096 1024) (normedGrad (V c main_v0_0 : Mat 4096 1024) (V c main_arg3 : Mat 1 1024) (dh V c)) (ix2 R k) := by
  unfold plus
  rw [normedGrad_rows (rows_block V c t r R hR) (gain_block V c t) (dh_block V c t r R hR) k]
  exact congrArg (· + _) (later_block V c t r R hR k)

end

theorem outs4_5 (t : Fin cfg4.N) (r : Fin 512) (k : Fin 1024) : (outsAt4 V c t.val t.isLt).1 (ix2 r k)
    = plus (iblk4 V c 4 t : Mat 512 1024)
      (normedGrad (iblk4 V c 2 t : Mat 512 1024) (iblk4 V c 3 t : Mat 1 1024) (dhBlock V c t)) (ix2 r k) := by
  by_cases h : t.val % 8 = 0
  · rw [outsAt4_A V c t h]
    frame_out
    exact dx_apply _ _ _ _ _ r k
  · rw [outsAt4_B V c t h]
    frame_out
    exact dx_apply _ _ _ _ _ r k

/-- The gradient of the rows after the mixer. -/
theorem final4_5 : (dat4 V c).arrAt 5 cfg4.N
    = plus (V c main_arg10 : Mat 4096 1024) (normedGrad (V c main_v0_0 : Mat 4096 1024) (V c main_arg3 : Mat 1 1024) (dh V c)) := by
  refine (dat4 V c).arrAt_eq_of_covers 5 _ (by decide +kernel) fun t hf y => ?_
  blk_simp
  rw [after4_5]
  obtain ⟨r, k, rfl⟩ : ∃ (r : Fin 512) (k : Fin 1024), y = ix2 r k := ⟨y 0, y 1, eq_ix2 y⟩
  have ht : t.val < 8 := t.isLt
  have e : ((View.whole main_v4_0).slice (win4_5.rect t)).emb (ix2 r k) = ix2 (⟨t.val * 512 + r.val, by omega⟩ : Fin 4096) k := by
    blk_ext [idx4 t]
  rw [e]
  exact (outs4_5 V c t r k).trans (rowsGrad_block V c t r _ rfl k)

theorem outs4_6 (t : Fin cfg4.N) (r : Fin 512) (k : Fin 1024) : (outsAt4 V c t.val t.isLt).2.1 (ix2 r k)
    = plus (iblk4 V c 4 t : Mat 512 1024)
      (normedGrad (iblk4 V c 2 t : Mat 512 1024) (iblk4 V c 3 t : Mat 1 1024) (dhBlock V c t)) (ix2 r k) := by
  by_cases h : t.val % 8 = 0
  · rw [outsAt4_A V c t h]
    frame_out
    exact dx_apply _ _ _ _ _ r k
  · rw [outsAt4_B V c t h]
    frame_out
    exact dx_apply _ _ _ _ _ r k

/-- The gradient of the rows after the mixer, and its copy in the narrow type. -/
theorem final4_6 : (dat4 V c).arrAt 6 cfg4.N
    = plus (V c main_arg10 : Mat 4096 1024) (normedGrad (V c main_v0_0 : Mat 4096 1024) (V c main_arg3 : Mat 1 1024) (dh V c)) := by
  refine (dat4 V c).arrAt_eq_of_covers 6 _ (by decide +kernel) fun t hf y => ?_
  blk_simp
  rw [after4_6]
  obtain ⟨r, k, rfl⟩ : ∃ (r : Fin 512) (k : Fin 1024), y = ix2 r k := ⟨y 0, y 1, eq_ix2 y⟩
  have ht : t.val < 8 := t.isLt
  have e : ((View.whole main_v4_1).slice (win4_6.rect t)).emb (ix2 r k) = ix2 (⟨t.val * 512 + r.val, by omega⟩ : Fin 4096) k := by
    blk_ext [idx4 t]
  rw [e]
  exact (outs4_6 V c t r k).trans (rowsGrad_block V c t r _ rfl k)

/-- One block's share of the gain's gradient. -/
def term4_7 (t : Fin cfg4.N) : Mat 1 1024 := gainGrad (iblk4 V c 2 t : Mat 512 1024) (dhBlock V c t)

theorem outs4_7 (t : Fin cfg4.N) (h : t.val % 8 = 8 - 1) (j : S1x1024.Idx) : (outsAt4 V c t.val t.isLt).2.2 j
    = (fun _ => (0 : EReal)) j + ∑ s : Fin 8, term4_7 V c ⟨8 * (t.val / 8) + s.val, Pipeline.run_point_lt_of_flush t h s⟩ j := by
  refine Pipeline.eq_sum_fin_of_reset_step_apply_of_flush (fun n hn => (outsAt4 V c n hn).2.2) 8 (fun _ => (0 : EReal))
    (term4_7 V c) (fun t h j => ?_) (fun t h j => ?_) t h j
  · obtain ⟨i, k, rfl⟩ : ∃ (i : Fin 1) (k : Fin 1024), j = ix2 i k := ⟨j 0, j 1, eq_ix2 j⟩
    obtain rfl : i = 0 := Subsingleton.elim _ _
    show (outsAt4 V c t.val t.isLt).2.2 (ix2 0 k) = _
    rw [outsAt4_A V c t h]
    frame_out
    refine (gain_apply _ _ _ k _).trans ?_
    rw [gain_zero]
    rfl
  · obtain ⟨i, k, rfl⟩ : ∃ (i : Fin 1) (k : Fin 1024), j = ix2 i k := ⟨j 0, j 1, eq_ix2 j⟩
    obtain rfl : i = 0 := Subsingleton.elim _ _
    show (outsAt4 V c t.val t.isLt).2.2 (ix2 0 k) = _
    rw [outsAt4_B V c t h]
    frame_out
    exact gain_apply _ _ _ k _

/-- The gradient of the normalisation's gain. -/
theorem final4_7 : (dat4 V c).arrAt 7 cfg4.N = gainGrad (V c main_v0_0 : Mat 4096 1024) (dh V c) := by
  refine (dat4 V c).arrAt_eq_of_covers 7 _ (by decide +kernel) fun t hf y => ?_
  blk_simp
  rw [after4_7]
  have h := (flush4_7 t).mp hf
  have ht : t.val < 8 := t.isLt
  obtain ⟨i, k, rfl⟩ : ∃ (i : Fin 1) (k : Fin 1024), y = ix2 i k := ⟨y 0, y 1, eq_ix2 y⟩
  obtain rfl : i = 0 := Subsingleton.elim _ _
  refine (outs4_7 V c t h (ix2 0 k)).trans ((zero_add _).trans ?_)
  have e : ((View.whole main_v4_2).slice (win4_7.rect t)).emb (ix2 0 k) = ix2 (0 : Fin 1) k := by
    blk_ext [idx4 t]
  rw [e]
  refine Eq.trans ?_ (Fin.sum_mul_add_fin (M := EReal) (L := 4096) 8 512 _ rfl)
  refine Finset.sum_congr rfl fun s _ => ?_
  unfold term4_7 gainGrad
  refine Finset.sum_congr rfl fun m _ => ?_
  have hs := s.isLt
  have hp : (8 * (t.val / 8) + s.val) = s.val := by omega
  exact gainGrad_rows (rows_block V c _ m _ (by simp only [hp])) (dh_block V c _ m _ (by simp only [hp])) k

end Cert.Kernel4Ideal.Arrays

end
-- ==== Proof.MemoryBackward.lean ====
/-
  What the backward launches leave in their result arrays that compute the gradients of the memory and of the mixer's
  output, as layers (Layers.lean) of the arrays they are entered with.
-/
module

public import proofs.«01_k».proof.Proof.Gen.Kernel4Ideal.Frame.Region7
public import proofs.«01_k».proof.Proof.Gen.Kernel4Ideal.Frame.Region8
public import proofs.«01_k».proof.Proof.Gen.Kernel4Ideal.Frame.Region9
public import proofs.«01_k».proof.Proof.MemoryTiles

@[expose] public section

noncomputable section

namespace Cert.Kernel4Ideal.Arrays

open Cert.Kernel4Ideal Cert.Kernel4Ideal.Gen Cert.Kernel4Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx7 : ∀ t : Fin cfg7.N, win7_0.index t = ![0, 0]
    ∧ win7_1.index t = ![0, 0]
    ∧ win7_2.index t = ![0, 0] := by decide +kernel

/-- The gradient of the normalised memory. -/
theorem final7_2 : (dat7 V c).arrAt 2 cfg7.N
    = mulNT (V c main_v6 : Mat 256 2048) (V c main_arg6 : Mat 1024 2048) := by
  refine (dat7 V c).arrAt_eq_of_covers 2 _ (by decide +kernel) fun t hf y => ?_
  blk_simp
  rw [after7_2]
  frame_out
  obtain ⟨r, k, rfl⟩ : ∃ (r : Fin 256) (k : Fin 1024), y = ix2 r k := ⟨y 0, y 1, eq_ix2 y⟩
  refine (dhm_apply _ _ r k).trans ?_
  unfold mulNT
  blk_point [iblk7, idx7 t]

theorem idx8 : ∀ t : Fin cfg8.N, win8_0.index t = ![0, 0]
    ∧ win8_1.index t = ![0, 0]
    ∧ win8_2.index t = ![0, 0]
    ∧ win8_3.index t = ![0, 0] := by decide +kernel

/-- The gradient of the memory's gain. -/
theorem final8_3 : (dat8 V c).arrAt 3 cfg8.N
    = gainGrad (V c main_arg7 : Mat 256 1024) (V c main_v8 : Mat 256 1024) := by
  refine (dat8 V c).arrAt_eq_of_covers 3 _ (by decide +kernel) fun t hf y => ?_
  blk_simp
  rw [after8_3]
  unfold outsAt8
  frame_out
  obtain ⟨r, k, rfl⟩ : ∃ (r : Fin 1) (k : Fin 1024), y = ix2 r k := ⟨y 0, y 1, eq_ix2 y⟩
  obtain rfl : r = 0 := Subsingleton.elim _ _
  refine (memGain_apply _ _ _ k).trans ?_
  rw [memGain_zero, zero_add]
  have e : ((View.whole main_v9).slice (win8_3.rect t)).emb (ix2 0 k) = ix2 (0 : Fin 1) k := by
    blk_ext [idx8 t]
  rw [e]
  unfold gainGrad
  refine Finset.sum_congr rfl fun m _ => ?_
  refine gainGrad_rows (fun i => ?_) (fun i => ?_) k
  · blk_point [iblk8, idx8 t]
  · blk_point [iblk8, idx8 t]

theorem idx9 : ∀ t : Fin cfg9.N, win9_0.index t = ![t.val % 8, 0]
    ∧ win9_1.index t = ![t.val / 8, 0]
    ∧ win9_2.index t = ![t.val % 8, t.val / 8] := by decide +kernel

/-- The gradient of the mixer's output. -/
theorem final9_2 : (dat9 V c).arrAt 2 cfg9.N
    = mulNT (V c main_v4_1 : Mat 4096 1024) (V c main_arg2 : Mat 2048 1024) := by
  refine (dat9 V c).arrAt_eq_of_covers 2 _ (by decide +kernel) fun t hf y => ?_
  blk_simp
  rw [after9_2]
  frame_out
  obtain ⟨r, k, rfl⟩ : ∃ (r : Fin 512) (k : Fin 1024), y = ix2 r k := ⟨y 0, y 1, eq_ix2 y⟩
  refine (dmix_apply _ _ r k).trans ?_
  unfold mulNT
  blk_point [iblk9, idx9 t]

end Cert.Kernel4Ideal.Arrays

end
-- ==== Proof.MemoryWeights.lean ====
/-
  What the launches leave in their result arrays that compute the gradients of the weights, as products of the arrays
  they are entered with.
-/
module

public import proofs.«01_k».proof.Proof.Gen.Kernel4Ideal.Frame.Region5
public import proofs.«01_k».proof.Proof.Gen.Kernel4Ideal.Frame.Region6
public import proofs.«01_k».proof.Proof.Gen.Kernel4Ideal.Frame.Region10
public import proofs.«01_k».proof.Proof.MemoryTiles

@[expose] public section

noncomputable section

namespace Cert.Kernel4Ideal.Arrays

open Cert.Kernel4Ideal Cert.Kernel4Ideal.Gen Cert.Kernel4Ideal.Tiles Cert.Layers Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

theorem idx5 : ∀ t : Fin cfg5.N, win5_0.index t = ![t.val % 4, t.val / 4] ∧ win5_1.index t = ![t.val % 4, 0]
    ∧ win5_2.index t = ![t.val / 4, 0] := by
  decide +kernel

/-- One point's share of the product. -/
def term5 (t : Fin cfg5.N) : Mat 512 1024 := mulTN (a := 512) (b := 1024) (k := 1024) (iblk5 V c 0 t) (iblk5 V c 1 t)

theorem outs5 (t : Fin cfg5.N) (h : t.val % 4 = 4 - 1) (j : S512x1024.Idx) : outsAt5 V c t.val t.isLt j
    = (fun _ => (0 : EReal)) j + ∑ s : Fin 4, term5 V c ⟨4 * (t.val / 4) + s.val, Pipeline.run_point_lt_of_flush t h s⟩ j := by
  refine Pipeline.eq_sum_fin_of_reset_step_apply_of_flush (fun n hn => outsAt5 V c n hn) 4 (fun _ => (0 : EReal))
    (term5 V c) (fun t h j => ?_) (fun t h j => ?_) t h j
  · obtain ⟨i, k, rfl⟩ : ∃ (i : Fin 512) (k : Fin 1024), j = ix2 i k := ⟨j 0, j 1, eq_ix2 j⟩
    show outsAt5 V c t.val t.isLt (ix2 i k) = _
    rw [outsAt5_A V c t h]
    frame_out
    refine (q_dw_apply _ _ _ i k).trans ?_
    rw [q_dw_zero]
    rfl
  · obtain ⟨i, k, rfl⟩ : ∃ (i : Fin 512) (k : Fin 1024), j = ix2 i k := ⟨j 0, j 1, eq_ix2 j⟩
    show outsAt5 V c t.val t.isLt (ix2 i k) = _
    rw [outsAt5_B V c t h]
    frame_out
    refine (q_dw_apply _ _ _ i k).trans ?_
    rfl

/-- The gradient of the queries' weights. -/
theorem final5_2 : (dat5 V c).arrAt 2 cfg5.N = mulTN (V c main_v0_1 : Mat 4096 1024) (V c main_arg8 : Mat 4096 1024) := by
  refine (dat5 V c).arrAt_eq_of_covers 2 _ (by decide +kernel) fun t hf y => ?_
  blk_simp
  rw [after5_2]
  have h := (flush5_2 t).mp hf
  obtain ⟨i, k, rfl⟩ : ∃ (i : Fin 512) (k : Fin 1024), y = ix2 i k := ⟨y 0, y 1, eq_ix2 y⟩
  refine (outs5 V c t h (ix2 i k)).trans ((zero_add _).trans ?_)
  unfold mulTN
  refine Eq.trans ?_ (Fin.sum_mul_add_fin (M := EReal) (L := 4096) 4 1024 _ rfl)
  refine Finset.sum_congr rfl fun s _ => ?_
  unfold term5 mulTN
  refine Finset.sum_congr rfl fun m _ => ?_
  have hs := s.isLt
  have ht : t.val < 8 := t.isLt
  blk_point [iblk5, idx5 t, idx5 ⟨4 * (t.val / 4) + s.val, Pipeline.run_point_lt_of_flush t h s⟩]

theorem idx6 : ∀ t : Fin cfg6.N, win6_0.index t = ![0, t.val / 2]
    ∧ win6_1.index t = ![0, t.val % 2]
    ∧ win6_2.index t = ![t.val / 2, t.val % 2] := by decide +kernel

/-- The gradient of the keys' and values' weights. -/
theorem final6_2 : (dat6 V c).arrAt 2 cfg6.N
    = mulTN (V c main_v2 : Mat 256 1024) (V c main_v6 : Mat 256 2048) := by
  refine (dat6 V c).arrAt_eq_of_covers 2 _ (by decide +kernel) fun t hf y => ?_
  blk_simp
  rw [after6_2]
  unfold outsAt6
  frame_out
  obtain ⟨r, k, rfl⟩ : ∃ (r : Fin 512) (k : Fin 1024), y = ix2 r k := ⟨y 0, y 1, eq_ix2 y⟩
  refine (kv_dw_apply _ _ _ r k).trans ?_
  rw [kv_dw_zero, zero_add]
  unfold mulTN
  refine Finset.sum_congr rfl fun m _ => ?_
  blk_point [iblk6, idx6 t]

theorem idx10 : ∀ t : Fin cfg10.N, win10_0.index t = ![t.val % 4, t.val / 4] ∧ win10_1.index t = ![t.val % 4, 0]
    ∧ win10_2.index t = ![t.val / 4, 0] := by
  decide +kernel

/-- One point's share of the product. -/
def term10 (t : Fin cfg10.N) : Mat 512 1024 := mulTN (a := 512) (b := 1024) (k := 1024) (iblk10 V c 0 t) (iblk10 V c 1 t)

theorem outs10 (t : Fin cfg10.N) (h : t.val % 4 = 4 - 1) (j : S512x1024.Idx) : outsAt10 V c t.val t.isLt j
    = (fun _ => (0 : EReal)) j + ∑ s : Fin 4, term10 V c ⟨4 * (t.val / 4) + s.val, Pipeline.run_point_lt_of_flush t h s⟩ j := by
  refine Pipeline.eq_sum_fin_of_reset_step_apply_of_flush (fun n hn => outsAt10 V c n hn) 4 (fun _ => (0 : EReal))
    (term10 V c) (fun t h j => ?_) (fun t h j => ?_) t h j
  · obtain ⟨i, k, rfl⟩ : ∃ (i : Fin 512) (k : Fin 1024), j = ix2 i k := ⟨j 0, j 1, eq_ix2 j⟩
    show outsAt10 V c t.val t.isLt (ix2 i k) = _
    rw [outsAt10_A V c t h]
    frame_out
    refine (o_dw_apply _ _ _ i k).trans ?_
    rw [o_dw_zero]
    rfl
  · obtain ⟨i, k, rfl⟩ : ∃ (i : Fin 512) (k : Fin 1024), j = ix2 i k := ⟨j 0, j 1, eq_ix2 j⟩
    show outsAt10 V c t.val t.isLt (ix2 i k) = _
    rw [outsAt10_B V c t h]
    frame_out
    refine (o_dw_apply _ _ _ i k).trans ?_
    rfl

/-- The gradient of the mixer's output weights. -/
theorem final10_2 : (dat10 V c).arrAt 2 cfg10.N = mulTN (V c main_arg1 : Mat 4096 2048) (V c main_v4_1 : Mat 4096 1024) := by
  refine (dat10 V c).arrAt_eq_of_covers 2 _ (by decide +kernel) fun t hf y => ?_
  blk_simp
  rw [after10_2]
  have h := (flush10_2 t).mp hf
  obtain ⟨i, k, rfl⟩ : ∃ (i : Fin 512) (k : Fin 1024), y = ix2 i k := ⟨y 0, y 1, eq_ix2 y⟩
  refine (outs10 V c t h (ix2 i k)).trans ((zero_add _).trans ?_)
  unfold mulTN
  refine Eq.trans ?_ (Fin.sum_mul_add_fin (M := EReal) (L := 4096) 4 1024 _ rfl)
  refine Finset.sum_congr rfl fun s _ => ?_
  unfold term10 mulTN
  refine Finset.sum_congr rfl fun m _ => ?_
  have hs := s.isLt
  have ht : t.val < 16 := t.isLt
  blk_point [iblk10, idx10 t, idx10 ⟨4 * (t.val / 4) + s.val, Pipeline.run_point_lt_of_flush t h s⟩]

end Cert.Kernel4Ideal.Arrays

end
-- ==== Proof.MemoryRun.lean ====
/-
  What every buffer of the program around the attention's inputs holds after the launch that writes it, and so at the
  end: the layers (Memory.lean) of the arguments.
-/
module

public import proofs.«01_k».proof.Proof.Gen.Kernel4Ideal.Frame
public import proofs.«01_k».proof.Proof.Memory
public import proofs.«01_k».proof.Proof.MemoryForward
public import proofs.«01_k».proof.Proof.MemoryNorm
public import proofs.«01_k».proof.Proof.MemoryBackward
public import proofs.«01_k».proof.Proof.MemoryWeights

@[expose] public section

set_option maxRecDepth 16384

noncomputable section

namespace Cert.Kernel4Ideal.Arrays

open Cert.Kernel4Ideal Cert.Kernel4Ideal.Gen Cert.Layers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The arguments, as a memory holds them. -/
def args (c : Dev nD) : MemoryArgs where
  x := m ((c : Thread nD τ).loc main_arg0)
  mix := m ((c : Thread nD τ).loc main_arg1)
  wo := m ((c : Thread nD τ).loc main_arg2)
  gx := m ((c : Thread nD τ).loc main_arg3)
  wq := m ((c : Thread nD τ).loc main_arg4)
  gm := m ((c : Thread nD τ).loc main_arg5)
  wkv := m ((c : Thread nD τ).loc main_arg6)
  mem := m ((c : Thread nD τ).loc main_arg7)
  dq := m ((c : Thread nD τ).loc main_arg8)
  dkv := m ((c : Thread nD τ).loc main_arg9)
  d2 := m ((c : Thread nD τ).loc main_arg10)

section
variable (c : Dev nD)

theorem x1_at1 : (W1 m ρ c (Proc.devRef .tc main_v0_0) : Mat 4096 1024) = (args m c).x1 := by
  have h_x : (V0 m ρ c main_arg0 : Mat 4096 1024) = (args m c).x := W0_args m ρ c main_arg0 (by decide)
  have h_mix : (V0 m ρ c main_arg1 : Mat 4096 2048) = (args m c).mix := W0_args m ρ c main_arg1 (by decide)
  have h_wo : (V0 m ρ c main_arg2 : Mat 2048 1024) = (args m c).wo := W0_args m ρ c main_arg2 (by decide)
  refine (W1_arr m ρ c 4).trans ((final0_4 (V0 m ρ) c).trans ?_)
  rw [h_x, h_mix, h_wo]
  rfl

theorem h_at1 : (W1 m ρ c (Proc.devRef .tc main_v0_1) : Mat 4096 1024) = (args m c).h := by
  have h_x : (V0 m ρ c main_arg0 : Mat 4096 1024) = (args m c).x := W0_args m ρ c main_arg0 (by decide)
  have h_mix : (V0 m ρ c main_arg1 : Mat 4096 2048) = (args m c).mix := W0_args m ρ c main_arg1 (by decide)
  have h_wo : (V0 m ρ c main_arg2 : Mat 2048 1024) = (args m c).wo := W0_args m ρ c main_arg2 (by decide)
  have h_gx : (V0 m ρ c main_arg3 : Mat 1 1024) = (args m c).gx := W0_args m ρ c main_arg3 (by decide)
  refine (W1_arr m ρ c 5).trans ((final0_5 (V0 m ρ) c).trans ?_)
  rw [h_x, h_mix, h_wo, h_gx]
  rfl

theorem q_at2 : (W2 m ρ c (Proc.devRef .tc main_v1) : Mat 4096 1024) = (args m c).q := by
  have h_h : (V1 m ρ c main_v0_1 : Mat 4096 1024) = (args m c).h := h_at1 m ρ c
  have h_wq : (V1 m ρ c main_arg4 : Mat 1024 1024) = (args m c).wq := W1_args m ρ c main_arg4 (by decide)
  refine (W2_arr m ρ c 2).trans ((final1_2 (V1 m ρ) c).trans ?_)
  rw [h_h, h_wq]
  rfl

theorem hm_at3 : (W3 m ρ c (Proc.devRef .tc main_v2) : Mat 256 1024) = (args m c).hm := by
  have h_mem : (V2 m ρ c main_arg7 : Mat 256 1024) = (args m c).mem := W2_args m ρ c main_arg7 (by decide)
  have h_gm : (V2 m ρ c main_arg5 : Mat 1 1024) = (args m c).gm := W2_args m ρ c main_arg5 (by decide)
  refine (W3_arr m ρ c 2).trans ((final2_2 (V2 m ρ) c).trans ?_)
  rw [h_mem, h_gm]
  rfl

theorem kv_at4 : (W4 m ρ c (Proc.devRef .tc main_v3) : Mat 256 2048) = (args m c).kv := by
  have h_hm : (V3 m ρ c main_v2 : Mat 256 1024) = (args m c).hm := hm_at3 m ρ c
  have h_wkv : (V3 m ρ c main_arg6 : Mat 1024 2048) = (args m c).wkv := W3_args m ρ c main_arg6 (by decide)
  refine (W4_arr m ρ c 2).trans ((final3_2 (V3 m ρ) c).trans ?_)
  rw [h_hm, h_wkv]
  rfl

theorem x1_at4 : (W4 m ρ c (Proc.devRef .tc main_v0_0) : Mat 4096 1024) = (args m c).x1 :=
  (W4_of m ρ c main_v0_0 (by decide)).trans
    ((W3_of m ρ c main_v0_0 (by decide)).trans
    ((W2_of m ρ c main_v0_0 (by decide)).trans (x1_at1 m ρ c)))

theorem dx1_at5 : (W5 m ρ c (Proc.devRef .tc main_v4_0) : Mat 4096 1024) = (args m c).dx1 := by
  have h_x1 : (V4 m ρ c main_v0_0 : Mat 4096 1024) = (args m c).x1 := x1_at4 m ρ c
  have h_gx : (V4 m ρ c main_arg3 : Mat 1 1024) = (args m c).gx := W4_args m ρ c main_arg3 (by decide)
  have h_wq : (V4 m ρ c main_arg4 : Mat 1024 1024) = (args m c).wq := W4_args m ρ c main_arg4 (by decide)
  have h_dq : (V4 m ρ c main_arg8 : Mat 4096 1024) = (args m c).dq := W4_args m ρ c main_arg8 (by decide)
  have h_d2 : (V4 m ρ c main_arg10 : Mat 4096 1024) = (args m c).d2 := W4_args m ρ c main_arg10 (by decide)
  refine (W5_arr m ρ c 5).trans ((final4_5 (V4 m ρ) c).trans ?_)
  unfold dh
  rw [h_x1, h_gx, h_wq, h_dq, h_d2]
  rfl

theorem dx1c_at5 : (W5 m ρ c (Proc.devRef .tc main_v4_1) : Mat 4096 1024) = (args m c).dx1 := by
  have h_x1 : (V4 m ρ c main_v0_0 : Mat 4096 1024) = (args m c).x1 := x1_at4 m ρ c
  have h_gx : (V4 m ρ c main_arg3 : Mat 1 1024) = (args m c).gx := W4_args m ρ c main_arg3 (by decide)
  have h_wq : (V4 m ρ c main_arg4 : Mat 1024 1024) = (args m c).wq := W4_args m ρ c main_arg4 (by decide)
  have h_dq : (V4 m ρ c main_arg8 : Mat 4096 1024) = (args m c).dq := W4_args m ρ c main_arg8 (by decide)
  have h_d2 : (V4 m ρ c main_arg10 : Mat 4096 1024) = (args m c).d2 := W4_args m ρ c main_arg10 (by decide)
  refine (W5_arr m ρ c 6).trans ((final4_6 (V4 m ρ) c).trans ?_)
  unfold dh
  rw [h_x1, h_gx, h_wq, h_dq, h_d2]
  rfl

theorem dgx_at5 : (W5 m ρ c (Proc.devRef .tc main_v4_2) : Mat 1 1024) = (args m c).dgx := by
  have h_x1 : (V4 m ρ c main_v0_0 : Mat 4096 1024) = (args m c).x1 := x1_at4 m ρ c
  have h_wq : (V4 m ρ c main_arg4 : Mat 1024 1024) = (args m c).wq := W4_args m ρ c main_arg4 (by decide)
  have h_dq : (V4 m ρ c main_arg8 : Mat 4096 1024) = (args m c).dq := W4_args m ρ c main_arg8 (by decide)
  refine (W5_arr m ρ c 7).trans ((final4_7 (V4 m ρ) c).trans ?_)
  unfold dh
  rw [h_x1, h_wq, h_dq]
  rfl

theorem h_at5 : (W5 m ρ c (Proc.devRef .tc main_v0_1) : Mat 4096 1024) = (args m c).h :=
  (W5_of m ρ c main_v0_1 (by decide)).trans
    ((W4_of m ρ c main_v0_1 (by decide)).trans
    ((W3_of m ρ c main_v0_1 (by decide)).trans
    ((W2_of m ρ c main_v0_1 (by decide)).trans (h_at1 m ρ c))))

theorem dwq_at6 : (W6 m ρ c (Proc.devRef .tc main_v5) : Mat 1024 1024) = (args m c).dwq := by
  have h_h : (V5 m ρ c main_v0_1 : Mat 4096 1024) = (args m c).h := h_at5 m ρ c
  have h_dq : (V5 m ρ c main_arg8 : Mat 4096 1024) = (args m c).dq := W5_args m ρ c main_arg8 (by decide)
  refine (W6_arr m ρ c 2).trans ((final5_2 (V5 m ρ) c).trans ?_)
  rw [h_h, h_dq]
  rfl

/-- The keys' and values' gradients in the narrow type: over the extended reals the same. -/
theorem dkvc_at7 : (W7 m ρ c (Proc.devRef .tc main_v6) : Mat 256 2048) = (args m c).dkv :=
  W6_args m ρ c main_arg9 (by decide)

theorem hm_at7 : (W7 m ρ c (Proc.devRef .tc main_v2) : Mat 256 1024) = (args m c).hm :=
  (W7_of m ρ c main_v2 (by decide)).trans
    ((W6_of m ρ c main_v2 (by decide)).trans
    ((W5_of m ρ c main_v2 (by decide)).trans
    ((W4_of m ρ c main_v2 (by decide)).trans (hm_at3 m ρ c))))

theorem dwkv_at8 : (W8 m ρ c (Proc.devRef .tc main_v7) : Mat 1024 2048) = (args m c).dwkv := by
  have h_hm : (V7 m ρ c main_v2 : Mat 256 1024) = (args m c).hm := hm_at7 m ρ c
  have h_dkvc : (V7 m ρ c main_v6 : Mat 256 2048) = (args m c).dkv := dkvc_at7 m ρ c
  refine (W8_arr m ρ c 2).trans ((final6_2 (V7 m ρ) c).trans ?_)
  rw [h_hm, h_dkvc]
  rfl

theorem dkvc_at8 : (W8 m ρ c (Proc.devRef .tc main_v6) : Mat 256 2048) = (args m c).dkv :=
  (W8_of m ρ c main_v6 (by decide)).trans (dkvc_at7 m ρ c)

theorem dhm_at9 : (W9 m ρ c (Proc.devRef .tc main_v8) : Mat 256 1024) = (args m c).dhm := by
  have h_dkvc : (V8 m ρ c main_v6 : Mat 256 2048) = (args m c).dkv := dkvc_at8 m ρ c
  have h_wkv : (V8 m ρ c main_arg6 : Mat 1024 2048) = (args m c).wkv := W8_args m ρ c main_arg6 (by decide)
  refine (W9_arr m ρ c 2).trans ((final7_2 (V8 m ρ) c).trans ?_)
  rw [h_dkvc, h_wkv]
  rfl

theorem dgm_at10 : (W10 m ρ c (Proc.devRef .tc main_v9) : Mat 1 1024) = (args m c).dgm := by
  have h_dhm : (V9 m ρ c main_v8 : Mat 256 1024) = (args m c).dhm := dhm_at9 m ρ c
  have h_mem : (V9 m ρ c main_arg7 : Mat 256 1024) = (args m c).mem := W9_args m ρ c main_arg7 (by decide)
  refine (W10_arr m ρ c 3).trans ((final8_3 (V9 m ρ) c).trans ?_)
  rw [h_dhm, h_mem]
  rfl

theorem dx1c_at10 : (W10 m ρ c (Proc.devRef .tc main_v4_1) : Mat 4096 1024) = (args m c).dx1 :=
  (W10_of m ρ c main_v4_1 (by decide)).trans
    ((W9_of m ρ c main_v4_1 (by decide)).trans
    ((W8_of m ρ c main_v4_1 (by decide)).trans
    ((W7_of m ρ c main_v4_1 (by decide)).trans
    ((W6_of m ρ c main_v4_1 (by decide)).trans (dx1c_at5 m ρ c)))))

theorem dx1c_at11 : (W11 m ρ c (Proc.devRef .tc main_v4_1) : Mat 4096 1024) = (args m c).dx1 :=
  (W11_of m ρ c main_v4_1 (by decide)).trans
    ((W10_of m ρ c main_v4_1 (by decide)).trans
    ((W9_of m ρ c main_v4_1 (by decide)).trans
    ((W8_of m ρ c main_v4_1 (by decide)).trans
    ((W7_of m ρ c main_v4_1 (by decide)).trans
    ((W6_of m ρ c main_v4_1 (by decide)).trans (dx1c_at5 m ρ c))))))

theorem dmix_at11 : (W11 m ρ c (Proc.devRef .tc main_v10) : Mat 4096 2048) = (args m c).dmix := by
  have h_dx1c : (V10 m ρ c main_v4_1 : Mat 4096 1024) = (args m c).dx1 := dx1c_at10 m ρ c
  have h_wo : (V10 m ρ c main_arg2 : Mat 2048 1024) = (args m c).wo := W10_args m ρ c main_arg2 (by decide)
  refine (W11_arr m ρ c 2).trans ((final9_2 (V10 m ρ) c).trans ?_)
  rw [h_dx1c, h_wo]
  rfl

theorem dwo_at12 : (W12 m ρ c (Proc.devRef .tc main_v11) : Mat 2048 1024) = (args m c).dwo := by
  have h_dx1c : (V11 m ρ c main_v4_1 : Mat 4096 1024) = (args m c).dx1 := dx1c_at11 m ρ c
  have h_mix : (V11 m ρ c main_arg1 : Mat 4096 2048) = (args m c).mix := W11_args m ρ c main_arg1 (by decide)
  refine (W12_arr m ρ c 2).trans ((final10_2 (V11 m ρ) c).trans ?_)
  rw [h_dx1c, h_mix]
  rfl

theorem x1_at12 : (W12 m ρ c (Proc.devRef .tc main_v0_0) : Mat 4096 1024) = (args m c).x1 :=
  (W12_of m ρ c main_v0_0 (by decide)).trans
    ((W11_of m ρ c main_v0_0 (by decide)).trans
    ((W10_of m ρ c main_v0_0 (by decide)).trans
    ((W9_of m ρ c main_v0_0 (by decide)).trans
    ((W8_of m ρ c main_v0_0 (by decide)).trans
    ((W7_of m ρ c main_v0_0 (by decide)).trans
    ((W6_of m ρ c main_v0_0 (by decide)).trans
    ((W5_of m ρ c main_v0_0 (by decide)).trans
    ((W4_of m ρ c main_v0_0 (by decide)).trans
    ((W3_of m ρ c main_v0_0 (by decide)).trans
    ((W2_of m ρ c main_v0_0 (by decide)).trans (x1_at1 m ρ c)))))))))))

theorem q_at12 : (W12 m ρ c (Proc.devRef .tc main_v1) : Mat 4096 1024) = (args m c).q :=
  (W12_of m ρ c main_v1 (by decide)).trans
    ((W11_of m ρ c main_v1 (by decide)).trans
    ((W10_of m ρ c main_v1 (by decide)).trans
    ((W9_of m ρ c main_v1 (by decide)).trans
    ((W8_of m ρ c main_v1 (by decide)).trans
    ((W7_of m ρ c main_v1 (by decide)).trans
    ((W6_of m ρ c main_v1 (by decide)).trans
    ((W5_of m ρ c main_v1 (by decide)).trans
    ((W4_of m ρ c main_v1 (by decide)).trans
    ((W3_of m ρ c main_v1 (by decide)).trans (q_at2 m ρ c))))))))))

theorem kv_at12 : (W12 m ρ c (Proc.devRef .tc main_v3) : Mat 256 2048) = (args m c).kv :=
  (W12_of m ρ c main_v3 (by decide)).trans
    ((W11_of m ρ c main_v3 (by decide)).trans
    ((W10_of m ρ c main_v3 (by decide)).trans
    ((W9_of m ρ c main_v3 (by decide)).trans
    ((W8_of m ρ c main_v3 (by decide)).trans
    ((W7_of m ρ c main_v3 (by decide)).trans
    ((W6_of m ρ c main_v3 (by decide)).trans
    ((W5_of m ρ c main_v3 (by decide)).trans (kv_at4 m ρ c))))))))

theorem dx1_at12 : (W12 m ρ c (Proc.devRef .tc main_v4_0) : Mat 4096 1024) = (args m c).dx1 :=
  (W12_of m ρ c main_v4_0 (by decide)).trans
    ((W11_of m ρ c main_v4_0 (by decide)).trans
    ((W10_of m ρ c main_v4_0 (by decide)).trans
    ((W9_of m ρ c main_v4_0 (by decide)).trans
    ((W8_of m ρ c main_v4_0 (by decide)).trans
    ((W7_of m ρ c main_v4_0 (by decide)).trans
    ((W6_of m ρ c main_v4_0 (by decide)).trans (dx1_at5 m ρ c)))))))

theorem dmix_at12 : (W12 m ρ c (Proc.devRef .tc main_v10) : Mat 4096 2048) = (args m c).dmix :=
  (W12_of m ρ c main_v10 (by decide)).trans (dmix_at11 m ρ c)

theorem dgx_at12 : (W12 m ρ c (Proc.devRef .tc main_v4_2) : Mat 1 1024) = (args m c).dgx :=
  (W12_of m ρ c main_v4_2 (by decide)).trans
    ((W11_of m ρ c main_v4_2 (by decide)).trans
    ((W10_of m ρ c main_v4_2 (by decide)).trans
    ((W9_of m ρ c main_v4_2 (by decide)).trans
    ((W8_of m ρ c main_v4_2 (by decide)).trans
    ((W7_of m ρ c main_v4_2 (by decide)).trans
    ((W6_of m ρ c main_v4_2 (by decide)).trans (dgx_at5 m ρ c)))))))

theorem dwq_at12 : (W12 m ρ c (Proc.devRef .tc main_v5) : Mat 1024 1024) = (args m c).dwq :=
  (W12_of m ρ c main_v5 (by decide)).trans
    ((W11_of m ρ c main_v5 (by decide)).trans
    ((W10_of m ρ c main_v5 (by decide)).trans
    ((W9_of m ρ c main_v5 (by decide)).trans
    ((W8_of m ρ c main_v5 (by decide)).trans
    ((W7_of m ρ c main_v5 (by decide)).trans (dwq_at6 m ρ c))))))

theorem dgm_at12 : (W12 m ρ c (Proc.devRef .tc main_v9) : Mat 1 1024) = (args m c).dgm :=
  (W12_of m ρ c main_v9 (by decide)).trans
    ((W11_of m ρ c main_v9 (by decide)).trans (dgm_at10 m ρ c))

theorem dwkv_at12 : (W12 m ρ c (Proc.devRef .tc main_v7) : Mat 1024 2048) = (args m c).dwkv :=
  (W12_of m ρ c main_v7 (by decide)).trans
    ((W11_of m ρ c main_v7 (by decide)).trans
    ((W10_of m ρ c main_v7 (by decide)).trans
    ((W9_of m ρ c main_v7 (by decide)).trans (dwkv_at8 m ρ c))))

end

set_option backward.isDefEq.respectTransparency.types false in
/-- The run, its final state read at every unscoped buffer. -/
theorem run_contents : θ_run defs (onTc (τ := τ) (main (F := Ideal))) ⟨m, fun _ => 0, ρ⟩ (fun r => ∀ c : Dev nD,
    ∀ b ∈ Pipeline.ucRefs τ sig, r.2.mem ((c : Thread nD τ).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

/-- The run, its final state read at the results and the arguments. -/
theorem run_values : θ_run defs (onTc (τ := τ) (main (F := Ideal))) ⟨m, fun _ => 0, ρ⟩ (fun r => ∀ c : Dev nD,
      r.2.mem ((c.tc : Thread nD τ).loc main_v0_0) = ((args m c).x1 : Mat 4096 1024)
      ∧ r.2.mem ((c.tc : Thread nD τ).loc main_v1) = ((args m c).q : Mat 4096 1024)
      ∧ r.2.mem ((c.tc : Thread nD τ).loc main_v3) = ((args m c).kv : Mat 256 2048)
      ∧ r.2.mem ((c.tc : Thread nD τ).loc main_v4_0) = ((args m c).dx1 : Mat 4096 1024)
      ∧ r.2.mem ((c.tc : Thread nD τ).loc main_v10) = ((args m c).dmix : Mat 4096 2048)
      ∧ r.2.mem ((c.tc : Thread nD τ).loc main_v11) = ((args m c).dwo : Mat 2048 1024)
      ∧ r.2.mem ((c.tc : Thread nD τ).loc main_v4_2) = ((args m c).dgx : Mat 1 1024)
      ∧ r.2.mem ((c.tc : Thread nD τ).loc main_v5) = ((args m c).dwq : Mat 1024 1024)
      ∧ r.2.mem ((c.tc : Thread nD τ).loc main_v9) = ((args m c).dgm : Mat 1 1024)
      ∧ r.2.mem ((c.tc : Thread nD τ).loc main_v7) = ((args m c).dwkv : Mat 1024 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v0_0 (by decide))).trans (x1_at12 m ρ c),
     (h c _ (mem_uc main_v1 (by decide))).trans (q_at12 m ρ c),
     (h c _ (mem_uc main_v3 (by decide))).trans (kv_at12 m ρ c),
     (h c _ (mem_uc main_v4_0 (by decide))).trans (dx1_at12 m ρ c),
     (h c _ (mem_uc main_v10 (by decide))).trans (dmix_at12 m ρ c),
     (h c _ (mem_uc main_v11 (by decide))).trans (dwo_at12 m ρ c),
     (h c _ (mem_uc main_v4_2 (by decide))).trans (dgx_at12 m ρ c),
     (h c _ (mem_uc main_v5 (by decide))).trans (dwq_at12 m ρ c),
     (h c _ (mem_uc main_v9 (by decide))).trans (dgm_at12 m ρ c),
     (h c _ (mem_uc main_v7 (by decide))).trans (dwkv_at12 m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩) (run_contents m ρ)

end Cert.Kernel4Ideal.Arrays

end
-- ==== Proof.Reference4Value.lean ====
/-
  What the reference's lines around the attention's inputs compute, entry by entry: the layers of `MemoryArgs`.
-/
module

public import proofs.«01_k».proof.Proof.Memory
public import proofs.«01_k».proof.Proof.LayersReal
public import proofs.«01_k».proof.Proof.Gen.Reference4Ideal.Read
public import Idealize.ShloMosaic.Lib.Pointwise

@[expose] public section

noncomputable section

namespace Cert.Reference4Ideal.Entries

open Cert.Reference4Ideal Cert.Reference4Ideal.Read Cert.Layers Idealize.ShloMosaic Idealize.ShloMosaic.TcCoe
open Idealize.ShloMosaic.Pointwise

variable (A : MemoryArgs)

/-! ## The rows -/

theorem x1 (r : Fin 4096) (c : Fin 1024) : val_main_v6 (F := Ideal) A.x A.mix A.wo (ix2 r c) = A.x1 (ix2 r c) := by
  pointwise [val_main_v6, val_main_v5, val_main_v0, val_main_v1, dot_S4096x2048_S2048x1024_S4096x1024_1_0_0_1_n_n]
  exact add_comm _ _

theorem rowsSpread (r : Fin 4096) : val_main_v13 (F := Ideal) A.x A.mix A.wo (ix2 r 0) = spread (row A.x1 r) := by
  pointwise [val_main_v13, val_main_cst_1, val_main_v12, val_main_v11, val_main_cst_0, val_main_v10, val_main_v9, val_main_v8, val_main_cst, val_main_v7]
  simp only [x1]
  rfl

theorem rowsInv (r : Fin 4096) : val_main_v14 (F := Ideal) A.x A.mix A.wo (ix2 r 0) = inv (row A.x1 r) := by
  pointwise [val_main_v14]
  rw [rowsSpread]
  rfl

section
variable (r : Fin 4096) (c : Fin 1024)

theorem rowsSlope : val_main_v17 (F := Ideal) A.x A.mix A.wo (ix2 r 0)
    = Ideal.ofBits .f32 0xBF000000#32 * Ideal.div (inv (row A.x1 r)) (spread (row A.x1 r)) := by
  pointwise [val_main_v17, val_main_v16, val_main_cst_2, val_main_v15]
  rw [rowsSpread, rowsInv]

theorem rowsUnit : val_main_v19 (F := Ideal) A.x A.mix A.wo (ix2 r c) = unit (row A.x1 r) c := by
  pointwise [val_main_v19, val_main_v18]
  rw [rowsInv, x1]
  rfl

theorem h : val_main_v21 (F := Ideal) A.x A.mix A.wo A.gx (ix2 r c) = A.h (ix2 r c) := by
  pointwise [val_main_v21, val_main_v20]
  rw [rowsUnit]
  rfl

theorem q : val_main_v22 (F := Ideal) A.x A.mix A.wo A.gx A.wq (ix2 r c) = A.q (ix2 r c) := by
  pointwise [val_main_v22, val_main_v2, dot_S4096x1024_S1024x1024_S4096x1024_1_0_0_1_n_n]
  simp only [h]
  rfl

end

theorem dwq (k c : Fin 1024) : val_main_v43 (F := Ideal) A.x A.mix A.wo A.gx A.dq (ix2 k c) = A.dwq (ix2 k c) := by
  pointwise [val_main_v43, val_main_v42, val_main_v4, dot_S4096x1024_S4096x1024_S1024x1024_0_0_1_1_n_n]
  simp only [h]
  exact Finset.sum_congr rfl fun _ _ => mul_comm _ _

section
variable (r : Fin 4096) (c : Fin 1024)

theorem dh : val_main_v44 (F := Ideal) A.wq A.dq (ix2 r c) = A.dh (ix2 r c) := by
  pointwise [val_main_v44, val_main_v2, val_main_v4, dot_S4096x1024_S1024x1024_S4096x1024_1_1_0_0_n_n]
  rfl

theorem dgx : val_main_v47 (F := Ideal) A.x A.mix A.wo A.wq A.dq (ix2 0 c) = A.dgx (ix2 0 c) := by
  pointwise [val_main_v47, val_main_v46, val_main_cst_7, val_main_v45]
  simp only [rowsUnit, dh, Ideal.ofBits_def, Ideal.ofBits_zero_f32, zero_add]
  exact Finset.sum_congr rfl fun _ _ => mul_comm _ _

theorem scaled : val_main_v49 (F := Ideal) A.gx A.wq A.dq (ix2 r c) = A.dh (ix2 r c) * A.gx (ix2 0 c) := by
  pointwise [val_main_v49, val_main_v48]
  rw [dh]

theorem rowsTurn : val_main_v60 (F := Ideal) A.x A.mix A.wo A.gx A.wq A.dq (ix2 r c)
    = turn (row A.x1 r) (fun k => A.dh (ix2 r k) * A.gx (ix2 0 k)) := by
  pointwise [val_main_v60, val_main_v59, val_main_cst_10, val_main_v58, val_main_v57, val_main_cst_9, val_main_v56, val_main_v52, val_main_v51, val_main_cst_8, val_main_v50]
  simp only [x1, scaled, rowsSlope, Fin.sum_univ_one, Ideal.ofBits_def, Ideal.ofBits_zero_f32, zero_add]
  rfl

theorem dx1 : val_main_v65 (F := Ideal) A.x A.mix A.wo A.gx A.wq A.dq A.d2 (ix2 r c) = A.dx1 (ix2 r c) := by
  pointwise [val_main_v65, val_main_v64, val_main_v63, val_main_v62, val_main_v61, val_main_v55, val_main_v54, val_main_v53]
  rw [scaled, rowsTurn, rowsInv, x1, add_assoc, add_assoc, ← add_assoc (_ * inv _)]
  exact congrArg (A.d2 (ix2 r c) + ·) (unitGrad_eq (row A.x1 r) (fun k => A.dh (ix2 r k) * A.gx (ix2 0 k)) c)

theorem dx1' : val_main_v64 (F := Ideal) A.x A.mix A.wo A.gx A.wq A.dq A.d2 (ix2 r c) = A.dx1 (ix2 r c) := by
  rw [← dx1]
  pointwise [val_main_v65]

end

theorem dwo (k : Fin 2048) (c : Fin 1024) : val_main_v67 (F := Ideal) A.x A.mix A.wo A.gx A.wq A.dq A.d2 (ix2 k c) = A.dwo (ix2 k c) := by
  pointwise [val_main_v67, val_main_v66, val_main_v0, dot_S4096x1024_S4096x2048_S1024x2048_0_0_1_1_n_n]
  simp only [dx1]
  exact Finset.sum_congr rfl fun _ _ => mul_comm _ _

theorem dmix (r : Fin 4096) (k : Fin 2048) : val_main_v68 (F := Ideal) A.x A.mix A.wo A.gx A.wq A.dq A.d2 (ix2 r k) = A.dmix (ix2 r k) := by
  pointwise [val_main_v68, val_main_v1, dot_S4096x1024_S2048x1024_S4096x2048_1_1_0_0_n_n]
  simp only [dx1]
  rfl

/-! ## The memory -/

theorem memSpread (r : Fin 256) : val_main_v29 (F := Ideal) A.mem (ix2 r 0) = spread (row A.mem r) := by
  pointwise [val_main_v29, val_main_cst_5, val_main_v28, val_main_v27, val_main_cst_4, val_main_v26, val_main_v25, val_main_v24, val_main_cst_3, val_main_v23]
  rfl

theorem memInv (r : Fin 256) : val_main_v30 (F := Ideal) A.mem (ix2 r 0) = inv (row A.mem r) := by
  pointwise [val_main_v30]
  rw [memSpread]
  rfl

section
variable (r : Fin 256) (c : Fin 1024)

theorem memUnit : val_main_v32 (F := Ideal) A.mem (ix2 r c) = unit (row A.mem r) c := by
  pointwise [val_main_v32, val_main_v31]
  rw [memInv]
  rfl

theorem hm : val_main_v34 (F := Ideal) A.gm A.mem (ix2 r c) = A.hm (ix2 r c) := by
  pointwise [val_main_v34, val_main_v33]
  rw [memUnit]
  rfl

theorem dhm : val_main_v38 (F := Ideal) A.wkv A.dkv (ix2 r c) = A.dhm (ix2 r c) := by
  pointwise [val_main_v38, val_main_v3, dot_S256x2048_S1024x2048_S256x1024_1_1_0_0_n_n]
  rfl

theorem dgm : val_main_v41 (F := Ideal) A.wkv A.mem A.dkv (ix2 0 c) = A.dgm (ix2 0 c) := by
  pointwise [val_main_v41, val_main_v40, val_main_cst_6, val_main_v39]
  simp only [memUnit, dhm, Ideal.ofBits_def, Ideal.ofBits_zero_f32, zero_add]
  exact Finset.sum_congr rfl fun _ _ => mul_comm _ _

end

theorem kv (r : Fin 256) (k : Fin 2048) : val_main_v35 (F := Ideal) A.gm A.wkv A.mem (ix2 r k) = A.kv (ix2 r k) := by
  pointwise [val_main_v35, val_main_v3, dot_S256x1024_S1024x2048_S256x2048_1_0_0_1_n_n]
  simp only [hm]
  rfl

theorem dwkv (k : Fin 1024) (c : Fin 2048) : val_main_v37 (F := Ideal) A.gm A.mem A.dkv (ix2 k c) = A.dwkv (ix2 k c) := by
  pointwise [val_main_v37, val_main_v36, dot_S256x2048_S256x1024_S2048x1024_0_0_1_1_n_n]
  simp only [hm]
  exact Finset.sum_congr rfl fun _ _ => mul_comm _ _

/-! ## The results as matrices -/

theorem x1_eq : val_main_v6 (F := Ideal) A.x A.mix A.wo = A.x1 := mat_ext fun _ _ => x1 A _ _

theorem q_eq : val_main_v22 (F := Ideal) A.x A.mix A.wo A.gx A.wq = A.q := mat_ext fun _ _ => q A _ _

theorem kv_eq : val_main_v35 (F := Ideal) A.gm A.wkv A.mem = A.kv := mat_ext fun _ _ => kv A _ _

theorem dx1_eq : val_main_v64 (F := Ideal) A.x A.mix A.wo A.gx A.wq A.dq A.d2 = A.dx1 := mat_ext fun _ _ => dx1' A _ _

theorem dmix_eq : val_main_v68 (F := Ideal) A.x A.mix A.wo A.gx A.wq A.dq A.d2 = A.dmix := mat_ext fun _ _ => dmix A _ _

theorem dwo_eq : val_main_v67 (F := Ideal) A.x A.mix A.wo A.gx A.wq A.dq A.d2 = A.dwo := mat_ext fun _ _ => dwo A _ _

theorem dgx_eq : val_main_v47 (F := Ideal) A.x A.mix A.wo A.wq A.dq = A.dgx := row_ext fun _ => dgx A _

theorem dwq_eq : val_main_v43 (F := Ideal) A.x A.mix A.wo A.gx A.dq = A.dwq := mat_ext fun _ _ => dwq A _ _

theorem dgm_eq : val_main_v41 (F := Ideal) A.wkv A.mem A.dkv = A.dgm := row_ext fun _ => dgm A _

theorem dwkv_eq : val_main_v37 (F := Ideal) A.gm A.mem A.dkv = A.dwkv := mat_ext fun _ _ => dwkv A _ _

end Cert.Reference4Ideal.Entries

end
-- ==== Proof.Attention.lean ====
/-
  What one grid point of the attention's forward launch leaves in its output block, at an index: 4 stores, one per head,
  each a block of `attended` (Softmax.lean). And so what the launch leaves in its result array.
-/
module

public import proofs.«01_k».proof.Proof.KernelBlock
public import proofs.«01_k».proof.Proof.Gen.Kernel5Ideal.Value
public import Idealize.ShloMosaic.Lib.Pipeline.ValueKit

@[expose] public section

noncomputable section

namespace Cert.Kernel5Ideal.Arrays

open Cert.Kernel5Ideal Cert.Kernel5Ideal.Gen Cert.Softmax Idealize.ShloMosaic Idealize.ShloMosaic.TcCoe Idealize.SL.Sem
open Idealize.ShloMosaic.Pointwise
open Idealize.ShloMosaic.Pipeline (Dat)
open Cert.KernelIdeal.Block (emb_strip ld_strip)

/-! ## The four heads are one text -/

section
variable {F : FTy → Type} [FloatOps F]
variable (A : Vec F S512x256 .f32) (B C : Vec F S256x256 .f32)

theorem head_1 : k0_pay5 (k0_pay3 A B) (k0_pay4 A B) C = k0_pay2 A B C := rfl
theorem head_2 : k0_pay6 A B C = k0_pay2 A B C := rfl
theorem head_3 : k0_pay1 (k0_pay7 A B) (Scalar.ofBits .f32 0x3D800000#32) C = k0_pay2 A B C := rfl

end

/-! ## One head's store at an index -/

section
variable (A : Vec Ideal S512x256 .f32) (B C : Vec Ideal S256x256 .f32)

/-- Row `r` of the head's scaled products. -/
def tileLogit (r : Fin 512) : Fin 256 → EReal := logit (fun d => A (ix2 r d)) fun m d => B (ix2 m d)

theorem head_apply (r : Fin 512) (d : Fin 256) :
    k0_pay2 (F := Ideal) A B C (ix2 r d) = ∑ m, prob (tileLogit A B r) m * C (ix2 m d) := by
  unfold k0_pay2
  pointwise [dot_S512x256_S256x256_S512x256_1_1_0_0_n_n, dot_S512x256_S256x256_S512x256_1_0_0_1_n_n]
  rfl

end

/-! ## A head's columns of the block -/

section
variable (q : Vec Ideal S512x1024 .f32) (kv : Vec Ideal S256x2048 .f32) (h : Fin 4) {o o' : Nat} (ho : o = h.val * 256)
  (ho' : o' = 1024 + (h.val * 256))
  (inb : ∀ a, (![0, o] : Fin 2 → Nat) a + S512x256.size a ≤ S512x1024.size a)
  (inbK : ∀ a, (![0, o] : Fin 2 → Nat) a + S256x256.size a ≤ S256x2048.size a)
  (inbV : ∀ a, (![0, o'] : Fin 2 → Nat) a + S256x256.size a ≤ S256x2048.size a)

abbrev strip (X : Vec Ideal S512x1024 .f32) : Vec Ideal S512x256 .f32 := View.ld X (Rect.unit ![0, o] S512x256.size inb)
abbrev stripK (X : Vec Ideal S256x2048 .f32) : Vec Ideal S256x256 .f32 := View.ld X (Rect.unit ![0, o] S256x256.size inbK)

include ho in
theorem strip_logit (r : Fin 512) : tileLogit (strip inb q) (stripK inbK kv) r = rowLogit q kv h r := by
  unfold tileLogit rowLogit
  congr 1
  · funext d; exact ld_strip q inb r d (col h d) (by simp only [col]; omega)
  · funext m d; exact ld_strip kv inbK m d (keyCol h d) (by simp only [keyCol]; omega)

include ho ho' in
/-- The head's store is a block of `attended`. -/
theorem at_head (x : S512x256.Idx) :
    k0_pay2 (F := Ideal) (strip inb q) (stripK inbK kv) (stripK inbV kv) x
      = attended q kv ((Rect.unit (s := S512x1024) ![0, o] S512x256.size inb).emb x) := by
  obtain ⟨r, d, rfl⟩ : ∃ (r : Fin 512) (d : Fin 256), x = ix2 r d := ⟨x 0, x 1, eq_ix2 x⟩
  refine (head_apply _ _ _ r d).trans ?_
  refine Eq.trans ?_ (congrArg (attended q kv) (emb_strip inb r d (col h d) (by simp only [col]; omega))).symm
  rw [attended_col, strip_logit q kv h ho inb inbK]
  exact Finset.sum_congr rfl fun m _ =>
    congrArg (_ * ·) (ld_strip kv inbV m d (valueCol h d) (by simp only [valueCol]; omega))

end

/-- A point's block. -/
theorem out_2 (q : Vec Ideal S512x1024 .f32) (kv : Vec Ideal S256x2048 .f32) : out0_2 q kv = attended q kv := by
  funext y
  unfold out0_2
  rw [head_1, head_2, head_3]
  refine View.canon_apply_of_pieces (Val := Elt Ideal) (attended q kv) _ (View.PiecesOf.mem ?_) y (cover0_2 _ _ _ _ y)
  exact
    ⟨at_head q kv 3 rfl rfl inb_S512x1024_S512x256_0_768 inb_S256x2048_S256x256_0_768 inb_S256x2048_S256x256_0_1792,
      at_head q kv 2 rfl rfl inb_S512x1024_S512x256_0_512 inb_S256x2048_S256x256_0_512 inb_S256x2048_S256x256_0_1536,
      at_head q kv 1 rfl rfl inb_S512x1024_S512x256_0_256 inb_S256x2048_S256x256_0_256 inb_S256x2048_S256x256_0_1280,
      at_head q kv 0 rfl rfl inb_S512x1024_S512x256_0_0 inb_S256x2048_S256x256_0_0 inb_S256x2048_S256x256_0_1024, trivial⟩

/-! ## The result array -/

variable (m : (ℓ : Loc nD τ sig) → Buf (Elt Ideal) ℓ) (c : Dev nD)

abbrev queries : Rows 4096 := m ((c : Thread nD τ).loc main_arg0)
abbrev tokens : Tokens := m ((c : Thread nD τ).loc main_arg1)

/-- Which block each window takes at a point. -/
theorem idx : ∀ t : Fin cfg0.N, win0_0.index t = ![t.val, 0] ∧ win0_1.index t = ![0, 0] ∧ win0_2.index t = ![t.val, 0] := by
  decide +kernel

/-- The array's row that is row `r` of point `t`'s block. -/
def row (t : Fin cfg0.N) (r : Fin 512) : Fin 4096 :=
  ⟨t.val * 512 + r.val, by have := t.isLt; have h : cfg0.N = 8 := rfl; omega⟩

theorem read_queries (t : Fin cfg0.N) (r : Fin 512) (k : Fin 1024) :
    iblk m c 0 t (ix2 r k) = queries m c (ix2 (row t r) k) := by
  unfold row
  blk_ext [iblk, V, idx t]

theorem read_tokens (t : Fin cfg0.N) : iblk m c 1 t = tokens m c := by
  funext y
  blk_ext [iblk, V, idx t]

/-- A point's block is its rows of the whole. -/
theorem block_rows (t : Fin cfg0.N) (r : Fin 512) (k : Fin 1024) :
    attended (iblk m c 0 t) (iblk m c 1 t) (ix2 r k) = attended (queries m c) (tokens m c) (ix2 (row t r) k) := by
  have e : rowLogit (iblk m c 0 t) (tokens m c) (headOf k) r = rowLogit (queries m c) (tokens m c) (headOf k) (row t r) := by
    unfold rowLogit
    simp only [read_queries]
  rw [read_tokens]
  show ∑ i, prob (rowLogit (iblk m c 0 t) (tokens m c) (headOf k) r) i * _ = _
  rw [e]
  rfl

theorem final_2 : (dats m 0 c).arrAt 2 cfg0.N = attended (queries m c) (tokens m c) := by
  refine (dats m 0 c).arrAt_eq_of_covers 2 _ (by decide +kernel) fun t hf y => ?_
  blk_simp
  rw [after0_2, out_2]
  refine (block_rows m c t _ _).trans ?_
  unfold row
  blk_ext [idx t]

end Cert.Kernel5Ideal.Arrays

end
-- ==== Proof.Reference5Value.lean ====
/-
  What the reference's attention computes, entry by entry: `attended` of the arguments (Softmax.lean).
-/
module

public import proofs.«01_k».proof.Proof.RowMath
public import proofs.«01_k».proof.Proof.Gen.Reference5Ideal.Read
public import Idealize.ShloMosaic.Lib.Pointwise

@[expose] public section

noncomputable section

namespace Cert.Reference5Ideal.Entries

open Cert.Reference5Ideal Cert.Reference5Ideal.Read Cert.Softmax Idealize.ShloMosaic Idealize.ShloMosaic.TcCoe
open Idealize.ShloMosaic.Pointwise

variable (q : Rows 4096) (kv : Tokens) (h : Fin 4) (r : Fin 4096)

theorem logits (m : Fin 256) : val_main_v7 (F := Ideal) q kv (ix3 h r m) = rowLogit q kv h r m := by
  pointwise [val_main_v7, val_main_v6, val_main_cst, val_main_v5, val_main_v3, val_main_v2, val_main_v0,
    dot_S4096x4x256_S256x4x256_S4x4096x256_2_2_0_0_1_1]
  simp only [rowLogit, logit, dotRow, scale, col, keyCol]

/-- The maximum over the last axis, at an index. -/
theorem host_max (x : S4x4096x256.Idx → EReal) (b : S_.Idx → EReal) :
    Host.reduce (FloatOps.maximumf (F := Ideal) (φ := .f32)) x b Gen.facts.reducesTo_S4x4096x256_S4x4096_d2 Gen.facts.h_S_ (ix2 h r)
      = Finset.univ.fold max (b (Shape.Idx.first Gen.facts.h_S_)) fun m : Fin 256 => x (ix3 h r m) := by
  rw [Host.reduce_eq_fold_single _ x b _ (by decide : S4x4096x256.Reduces [2] S4x4096)]
  have e : ∀ m : Fin 256, (by decide : S4x4096x256.Reduces [2] S4x4096).lift (ix2 h r) m = ix3 h r m := fun m => by
    funext a
    fin_cases a <;> rfl
  show Finset.fold max _ (fun m : Fin 256 => x ((by decide : S4x4096x256.Reduces [2] S4x4096).lift (ix2 h r) m)) _ = _
  simp only [e]
  rfl

theorem tops : val_main_v10 (F := Ideal) q kv (ix2 h r) = top (rowLogit q kv h r) := by
  rw [val_main_v10_apply, val_main_v9_apply, val_main_cst_1_apply]
  unfold val_main_v8
  rw [host_max]
  simp only [logits, val_main_cst_0_apply]
  exact max_fold _ _

theorem weights (m : Fin 256) : val_main_v14 (F := Ideal) q kv (ix3 h r m) = weight (rowLogit q kv h r) m := by
  pointwise [val_main_v14, val_main_v13, val_main_v12, val_main_v11]
  rw [tops, logits]
  rfl

theorem totals : val_main_v16 (F := Ideal) q kv (ix3 h r 0) = total (rowLogit q kv h r) := by
  pointwise [val_main_v16, val_main_v15, val_main_cst_2]
  simp only [weights]
  rfl

theorem probs (m : Fin 256) : val_main_v18 (F := Ideal) q kv (ix3 h r m) = rowProb q kv h r m := by
  pointwise [val_main_v18, val_main_v17]
  rw [weights, totals]
  rfl

theorem heads (d : Fin 256) : val_main_v20 (F := Ideal) q kv (ix3 r h d)
    = ∑ m, rowProb q kv h r m * kv (ix2 m (valueCol h d)) := by
  pointwise [val_main_v20, val_main_v19, val_main_v4, val_main_v1, dot_S256x4x256_S4x4096x256_S4x256x4096_0_2_2_1_1_0]
  simp only [probs, valueCol]
  exact Finset.sum_congr rfl fun _ _ => mul_comm _ _

theorem result_eq : val_main_v22 (F := Ideal) q kv = attended q kv := by
  funext j
  have hj : (j 1).val < 1024 := (j 1).isLt
  have e : ∀ p, (⟨(j 1).val / 256, p⟩ : Fin 4) = headOf (j 1) := fun p => Fin.ext (by simp only [headOf]; omega)
  have e' : ∀ p, (⟨(j 1).val % 256, p⟩ : Fin 256) = placeOf (j 1) := fun p => rfl
  pointwise [val_main_v22, val_main_v21]
  rw [e, e']
  exact heads q kv (headOf (j 1)) (j 0) (placeOf (j 1))

end Cert.Reference5Ideal.Entries

end
-- ==== Proof.Optimiser.lean ====
/-
  One step of the optimiser: what it makes of a weight, its gradient and the two running means, entry by entry; and what
  the kernel's operations on a block of rows amount to at an entry.
-/
module

public import Idealize.ShloMosaic.Lib.Pointwise
public import Idealize.ShloMosaic.Lib.Pipeline.Value
public import Idealize.ShloMosaic.PureOps.Ideal.Laws

@[expose] public section

noncomputable section

namespace Cert.Optimiser

open Idealize.ShloMosaic Idealize.ShloMosaic.Pointwise

/-! ## An entry -/

/-- The number a constant of the programs denotes. -/
abbrev num (b : BitVec 32) : EReal := FloatOps.ofBits (F := Ideal) .f32 b

/-- The running mean of the gradients. -/
def mean (g m : EReal) : EReal := num 0x3F666666#32 * m + num 0x3DCCCCCD#32 * g

/-- The running mean of their squares. -/
def spread (g v : EReal) : EReal := num 0x3F7FBE77#32 * v + num 0x3A83126F#32 * (g * g)

/-- The change of the weight. -/
def delta (w g m v : EReal) : EReal := num 0xBA83126F#32 * (Ideal.div (Ideal.div (mean g m) (num 0x3F26BD02#32))
  (Ideal.sqrt (Ideal.div (spread g v) (num 0x3C231ACC#32)) + num 0x322BCC77#32) + num 0x3C23D70A#32 * w)

/-! ## A shard -/

/-- An array of `a` matrices of `b` rows and `c` columns. -/
abbrev Cube (a b c : Nat) : Type := (⟨3, ![a, b, c]⟩ : Shape).Idx → EReal

/-- Two halves of the rows, one below the other. -/
def stacked {h R C : Nat} (e : R = 2 * h) (g : Cube 2 h C) : Cube 1 R C := fun j =>
  g (ix3 ⟨(j 1).val / h, Nat.div_lt_of_lt_mul (by have := (j 1).isLt; rw [Nat.mul_comm, ← e]; exact this)⟩
    ⟨(j 1).val % h, Nat.mod_lt _ (by have : (j 1).val < R := (j 1).isLt; omega)⟩ (j 2))

/-- What a step reads of one weight's shard: the weight, its gradient in two halves of the rows, and the running means. -/
structure Shard (h R C : Nat) where
  rows : R = 2 * h
  w : Cube 1 R C
  g : Cube 2 h C
  m : Cube 1 R C
  v : Cube 1 R C

section
variable {h R C : Nat} (s : Shard h R C)

/-- The gradient, -/
def Shard.grad : Cube 1 R C := stacked s.rows s.g
/-- the change of the weight, -/
def Shard.delta : Cube 1 R C := fun j => Optimiser.delta (s.w j) (s.grad j) (s.m j) (s.v j)
/-- and the running means after it. -/
def Shard.mean : Cube 1 R C := fun j => Optimiser.mean (s.grad j) (s.m j)
def Shard.spread : Cube 1 R C := fun j => Optimiser.spread (s.grad j) (s.v j)

/-- The array's place of a block's place, `o` rows to a block. -/
def placed {n o R C : Nat} (e : R = n * o) (t : Fin n) (y : (⟨3, ![1, o, C]⟩ : Shape).Idx) : (⟨3, ![1, R, C]⟩ : Shape).Idx :=
  ix3 0 ⟨t.val * o + (y 1).val, by
    have h : (y 1).val < o := (y 1).isLt
    have := Nat.mul_le_mul_right o (Nat.succ_le_of_lt t.isLt)
    rw [Nat.succ_mul] at this
    omega⟩ (y 2)

end

/-! ## The kernel's operations on a block

A block is read as a matrix, worked on entry by entry, and written back as the block it was. -/

section
variable {F : FTy → Type} [FloatOps F]
variable {s t : Shape} (hs : s.ShapeCasts t) (ht : t.ShapeCasts s)

def meanFlat (g m : Vec F s .f32) : FVec F t .f32 :=
  addf (mulf (broadcast t (Scalar.ofBits .f32 0x3F666666#32)) (shapeCast t m hs))
    (mulf (broadcast t (Scalar.ofBits .f32 0x3DCCCCCD#32)) (shapeCast t g hs))

def spreadFlat (g v : Vec F s .f32) : FVec F t .f32 :=
  addf (mulf (broadcast t (Scalar.ofBits .f32 0x3F7FBE77#32)) (shapeCast t v hs))
    (mulf (broadcast t (Scalar.ofBits .f32 0x3A83126F#32)) (mulf (shapeCast t g hs) (shapeCast t g hs)))

def deltaFlat (w g m v : Vec F s .f32) : FVec F t .f32 :=
  mulf (broadcast t (Scalar.ofBits .f32 0xBA83126F#32))
    (addf (divf (divf (meanFlat hs g m) (broadcast t (Scalar.ofBits .f32 0x3F26BD02#32)))
        (addf (sqrt (divf (spreadFlat hs g v) (broadcast t (Scalar.ofBits .f32 0x3C231ACC#32))))
          (broadcast t (Scalar.ofBits .f32 0x322BCC77#32))))
      (mulf (broadcast t (Scalar.ofBits .f32 0x3C23D70A#32)) (shapeCast t w hs)))

def copyBlock (g : Vec F s .f32) : FVec F s .f32 := shapeCast s (shapeCast t g hs) ht
def meanBlock (g m : Vec F s .f32) : FVec F s .f32 := shapeCast s (meanFlat hs g m) ht
def spreadBlock (g v : Vec F s .f32) : FVec F s .f32 := shapeCast s (spreadFlat hs g v) ht
def deltaBlock (w g m v : Vec F s .f32) : FVec F s .f32 := shapeCast s (deltaFlat hs w g m v) ht

end

section
variable {s t : Shape} (hs : s.ShapeCasts t) (ht : t.ShapeCasts s) {w g m v : Vec Ideal s .f32} {y : s.Idx}

theorem copyBlock_apply : copyBlock hs ht g y = g y := congrFun (shapeCast_shapeCast g hs ht) y

variable {h R C : Nat} (x : Shard h R C) {p q : (⟨3, ![1, R, C]⟩ : Shape).Idx} (e : p = q)

include e

/-! Each result's block at a place, when what the block read there is the shard's. -/

theorem grad_at (hg : g y = x.grad p) : copyBlock hs ht g y = x.grad q := by
  rw [copyBlock_apply, hg, e]

theorem mean_at (hg : g y = x.grad p) (hm : m y = x.m p) : meanBlock hs ht g m y = x.mean q := by
  subst e
  show mean (copyBlock hs ht g y) (copyBlock hs ht m y) = mean _ _
  rw [copyBlock_apply, copyBlock_apply, hg, hm]

theorem spread_at (hg : g y = x.grad p) (hv : v y = x.v p) : spreadBlock hs ht g v y = x.spread q := by
  subst e
  show spread (copyBlock hs ht g y) (copyBlock hs ht v y) = spread _ _
  rw [copyBlock_apply, copyBlock_apply, hg, hv]

theorem delta_at (hw : w y = x.w p) (hg : g y = x.grad p) (hm : m y = x.m p) (hv : v y = x.v p) :
    deltaBlock hs ht w g m v y = x.delta q := by
  subst e
  show delta (copyBlock hs ht w y) (copyBlock hs ht g y) (copyBlock hs ht m y) (copyBlock hs ht v y) = delta _ _ _ _
  rw [copyBlock_apply, copyBlock_apply, copyBlock_apply, copyBlock_apply, hw, hg, hm, hv]

end

end Cert.Optimiser

end
-- ==== Proof.OptimiserArrays.lean ====
/-
  What the optimiser's eight launches leave in their result arrays: the step (Optimiser.lean) of the shard each is entered
  with.
-/
module

public import proofs.«01_k».proof.Proof.Gen.Kernel6Ideal.Frame
public import proofs.«01_k».proof.Proof.Optimiser
public import Idealize.ShloMosaic.Lib.Pipeline.ValueKit

@[expose] public section

noncomputable section

namespace Cert.Kernel6Ideal.Arrays

open Cert.Kernel6Ideal Cert.Kernel6Ideal.Gen Cert.Optimiser Idealize.ShloMosaic
open Idealize.ShloMosaic.TcCoe Idealize.ShloMosaic.Pointwise Idealize.SL.Sem
open Idealize.ShloMosaic.Pipeline (Dat)

variable (V : (c : Dev nD) → (b : Ref sig .tc) → Buf (Elt Ideal) ((c : Thread nD τ).loc b)) (c : Dev nD)

/-! ## `w_in` -/

/-- What the launch reads. -/
def shard0 : Shard 512 1024 1156 := ⟨rfl, V c main_arg0, V c main_arg1, V c main_arg2, V c main_arg3⟩

theorem idx0 : ∀ t : Fin cfg0.N, win0_0.index t = ![0, t.val, 0] ∧ win0_1.index t = ![t.val / 2, t.val % 2, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] := by
  decide +kernel

section
variable (t : Fin cfg0.N) (y : S1x256x1156.Idx)

abbrev at0 : S1x1024x1156.Idx := placed (n := 4) (o := 256) rfl t y

theorem read0 : iblk0 V c 0 t y = (shard0 V c).w (at0 t y) ∧ iblk0 V c 1 t y = (shard0 V c).grad (at0 t y)
    ∧ iblk0 V c 2 t y = (shard0 V c).m (at0 t y) ∧ iblk0 V c 3 t y = (shard0 V c).v (at0 t y) := by
  unfold at0 placed Shard.grad stacked shard0
  refine ⟨?_, ?_, ?_, ?_⟩
  all_goals blk_point [iblk0, idx0 t]

end

set_option maxHeartbeats 2000000 in
theorem final0 : (dat0 V c).arrAt 4 cfg0.N = (shard0 V c).grad ∧ (dat0 V c).arrAt 5 cfg0.N = (shard0 V c).delta
    ∧ (dat0 V c).arrAt 6 cfg0.N = (shard0 V c).mean ∧ (dat0 V c).arrAt 7 cfg0.N = (shard0 V c).spread := by
  refine ⟨?_, ?_, ?_, ?_⟩
  all_goals
    refine (dat0 V c).arrAt_eq_of_covers _ _ (by decide +kernel) fun t hf y => ?_
    obtain ⟨hw, hg, hm, hv⟩ := read0 V c t y
    blk_simp
    simp only [after0_4, after0_5, after0_6, after0_7]
    frame_out
  · exact grad_at shapeCasts_S1x256x1156_S256x1156 shapeCasts_S256x1156_S1x256x1156 _ (by unfold at0 placed; blk_ext [idx0 t]) hg
  · exact delta_at shapeCasts_S1x256x1156_S256x1156 shapeCasts_S256x1156_S1x256x1156 _ (by unfold at0 placed; blk_ext [idx0 t]) hw hg hm hv
  · exact mean_at shapeCasts_S1x256x1156_S256x1156 shapeCasts_S256x1156_S1x256x1156 _ (by unfold at0 placed; blk_ext [idx0 t]) hg hm
  · exact spread_at shapeCasts_S1x256x1156_S256x1156 shapeCasts_S256x1156_S1x256x1156 _ (by unfold at0 placed; blk_ext [idx0 t]) hg hv

/-! ## `w_out` -/

/-- What the launch reads. -/
def shard1 : Shard 256 512 1024 := ⟨rfl, V c main_arg4, V c main_arg5, V c main_arg6, V c main_arg7⟩

theorem idx1 : ∀ t : Fin cfg1.N, win1_0.index t = ![0, t.val, 0] ∧ win1_1.index t = ![t.val, 0, 0]
    ∧ win1_2.index t = ![0, t.val, 0] ∧ win1_3.index t = ![0, t.val, 0] ∧ win1_4.index t = ![0, t.val, 0]
    ∧ win1_5.index t = ![0, t.val, 0] ∧ win1_6.index t = ![0, t.val, 0] ∧ win1_7.index t = ![0, t.val, 0] := by
  decide +kernel

section
variable (t : Fin cfg1.N) (y : S1x256x1024.Idx)

abbrev at1 : S1x512x1024.Idx := placed (n := 2) (o := 256) rfl t y

theorem read1 : iblk1 V c 0 t y = (shard1 V c).w (at1 t y) ∧ iblk1 V c 1 t y = (shard1 V c).grad (at1 t y)
    ∧ iblk1 V c 2 t y = (shard1 V c).m (at1 t y) ∧ iblk1 V c 3 t y = (shard1 V c).v (at1 t y) := by
  unfold at1 placed Shard.grad stacked shard1
  refine ⟨?_, ?_, ?_, ?_⟩
  all_goals blk_point [iblk1, idx1 t]

end

set_option maxHeartbeats 2000000 in
theorem final1 : (dat1 V c).arrAt 4 cfg1.N = (shard1 V c).grad ∧ (dat1 V c).arrAt 5 cfg1.N = (shard1 V c).delta
    ∧ (dat1 V c).arrAt 6 cfg1.N = (shard1 V c).mean ∧ (dat1 V c).arrAt 7 cfg1.N = (shard1 V c).spread := by
  refine ⟨?_, ?_, ?_, ?_⟩
  all_goals
    refine (dat1 V c).arrAt_eq_of_covers _ _ (by decide +kernel) fun t hf y => ?_
    obtain ⟨hw, hg, hm, hv⟩ := read1 V c t y
    blk_simp
    simp only [after1_4, after1_5, after1_6, after1_7]
    frame_out
  · exact grad_at shapeCasts_S1x256x1024_S256x1024 shapeCasts_S256x1024_S1x256x1024 _ (by unfold at1 placed; blk_ext [idx1 t]) hg
  · exact delta_at shapeCasts_S1x256x1024_S256x1024 shapeCasts_S256x1024_S1x256x1024 _ (by unfold at1 placed; blk_ext [idx1 t]) hw hg hm hv
  · exact mean_at shapeCasts_S1x256x1024_S256x1024 shapeCasts_S256x1024_S1x256x1024 _ (by unfold at1 placed; blk_ext [idx1 t]) hg hm
  · exact spread_at shapeCasts_S1x256x1024_S256x1024 shapeCasts_S256x1024_S1x256x1024 _ (by unfold at1 placed; blk_ext [idx1 t]) hg hv

/-! ## `w_q` -/

/-- What the launch reads. -/
def shard2 : Shard 128 256 1024 := ⟨rfl, V c main_arg8, V c main_arg9, V c main_arg10, V c main_arg11⟩

theorem idx2 : ∀ t : Fin cfg2.N, win2_0.index t = ![0, t.val, 0] ∧ win2_1.index t = ![t.val, 0, 0]
    ∧ win2_2.index t = ![0, t.val, 0] ∧ win2_3.index t = ![0, t.val, 0] ∧ win2_4.index t = ![0, t.val, 0]
    ∧ win2_5.index t = ![0, t.val, 0] ∧ win2_6.index t = ![0, t.val, 0] ∧ win2_7.index t = ![0, t.val, 0] := by
  decide +kernel

section
variable (t : Fin cfg2.N) (y : S1x128x1024.Idx)

abbrev at2 : S1x256x1024.Idx := placed (n := 2) (o := 128) rfl t y

theorem read2 : iblk2 V c 0 t y = (shard2 V c).w (at2 t y) ∧ iblk2 V c 1 t y = (shard2 V c).grad (at2 t y)
    ∧ iblk2 V c 2 t y = (shard2 V c).m (at2 t y) ∧ iblk2 V c 3 t y = (shard2 V c).v (at2 t y) := by
  unfold at2 placed Shard.grad stacked shard2
  refine ⟨?_, ?_, ?_, ?_⟩
  all_goals blk_point [iblk2, idx2 t]

end

set_option maxHeartbeats 2000000 in
theorem final2 : (dat2 V c).arrAt 4 cfg2.N = (shard2 V c).grad ∧ (dat2 V c).arrAt 5 cfg2.N = (shard2 V c).delta
    ∧ (dat2 V c).arrAt 6 cfg2.N = (shard2 V c).mean ∧ (dat2 V c).arrAt 7 cfg2.N = (shard2 V c).spread := by
  refine ⟨?_, ?_, ?_, ?_⟩
  all_goals
    refine (dat2 V c).arrAt_eq_of_covers _ _ (by decide +kernel) fun t hf y => ?_
    obtain ⟨hw, hg, hm, hv⟩ := read2 V c t y
    blk_simp
    simp only [after2_4, after2_5, after2_6, after2_7]
    frame_out
  · exact grad_at shapeCasts_S1x128x1024_S128x1024 shapeCasts_S128x1024_S1x128x1024 _ (by unfold at2 placed; blk_ext [idx2 t]) hg
  · exact delta_at shapeCasts_S1x128x1024_S128x1024 shapeCasts_S128x1024_S1x128x1024 _ (by unfold at2 placed; blk_ext [idx2 t]) hw hg hm hv
  · exact mean_at shapeCasts_S1x128x1024_S128x1024 shapeCasts_S128x1024_S1x128x1024 _ (by unfold at2 placed; blk_ext [idx2 t]) hg hm
  · exact spread_at shapeCasts_S1x128x1024_S128x1024 shapeCasts_S128x1024_S1x128x1024 _ (by unfold at2 placed; blk_ext [idx2 t]) hg hv

/-! ## `w_kv` -/

/-- What the launch reads. -/
def shard3 : Shard 512 1024 512 := ⟨rfl, V c main_arg12, V c main_arg13, V c main_arg14, V c main_arg15⟩

theorem idx3 : ∀ t : Fin cfg3.N, win3_0.index t = ![0, t.val, 0] ∧ win3_1.index t = ![t.val, 0, 0]
    ∧ win3_2.index t = ![0, t.val, 0] ∧ win3_3.index t = ![0, t.val, 0] ∧ win3_4.index t = ![0, t.val, 0]
    ∧ win3_5.index t = ![0, t.val, 0] ∧ win3_6.index t = ![0, t.val, 0] ∧ win3_7.index t = ![0, t.val, 0] := by
  decide +kernel

section
variable (t : Fin cfg3.N) (y : S1x512x512.Idx)

abbrev at3 : S1x1024x512.Idx := placed (n := 2) (o := 512) rfl t y

theorem read3 : iblk3 V c 0 t y = (shard3 V c).w (at3 t y) ∧ iblk3 V c 1 t y = (shard3 V c).grad (at3 t y)
    ∧ iblk3 V c 2 t y = (shard3 V c).m (at3 t y) ∧ iblk3 V c 3 t y = (shard3 V c).v (at3 t y) := by
  unfold at3 placed Shard.grad stacked shard3
  refine ⟨?_, ?_, ?_, ?_⟩
  all_goals blk_point [iblk3, idx3 t]

end

set_option maxHeartbeats 2000000 in
theorem final3 : (dat3 V c).arrAt 4 cfg3.N = (shard3 V c).grad ∧ (dat3 V c).arrAt 5 cfg3.N = (shard3 V c).delta
    ∧ (dat3 V c).arrAt 6 cfg3.N = (shard3 V c).mean ∧ (dat3 V c).arrAt 7 cfg3.N = (shard3 V c).spread := by
  refine ⟨?_, ?_, ?_, ?_⟩
  all_goals
    refine (dat3 V c).arrAt_eq_of_covers _ _ (by decide +kernel) fun t hf y => ?_
    obtain ⟨hw, hg, hm, hv⟩ := read3 V c t y
    blk_simp
    simp only [after3_4, after3_5, after3_6, after3_7]
    frame_out
  · exact grad_at shapeCasts_S1x512x512_S512x512 shapeCasts_S512x512_S1x512x512 _ (by unfold at3 placed; blk_ext [idx3 t]) hg
  · exact delta_at shapeCasts_S1x512x512_S512x512 shapeCasts_S512x512_S1x512x512 _ (by unfold at3 placed; blk_ext [idx3 t]) hw hg hm hv
  · exact mean_at shapeCasts_S1x512x512_S512x512 shapeCasts_S512x512_S1x512x512 _ (by unfold at3 placed; blk_ext [idx3 t]) hg hm
  · exact spread_at shapeCasts_S1x512x512_S512x512 shapeCasts_S512x512_S1x512x512 _ (by unfold at3 placed; blk_ext [idx3 t]) hg hv

/-! ## `w_o` -/

/-- What the launch reads. -/
def shard4 : Shard 128 256 1024 := ⟨rfl, V c main_arg16, V c main_arg17, V c main_arg18, V c main_arg19⟩

theorem idx4 : ∀ t : Fin cfg4.N, win4_0.index t = ![0, t.val, 0] ∧ win4_1.index t = ![t.val, 0, 0]
    ∧ win4_2.index t = ![0, t.val, 0] ∧ win4_3.index t = ![0, t.val, 0] ∧ win4_4.index t = ![0, t.val, 0]
    ∧ win4_5.index t = ![0, t.val, 0] ∧ win4_6.index t = ![0, t.val, 0] ∧ win4_7.index t = ![0, t.val, 0] := by
  decide +kernel

section
variable (t : Fin cfg4.N) (y : S1x128x1024.Idx)

abbrev at4 : S1x256x1024.Idx := placed (n := 2) (o := 128) rfl t y

theorem read4 : iblk4 V c 0 t y = (shard4 V c).w (at4 t y) ∧ iblk4 V c 1 t y = (shard4 V c).grad (at4 t y)
    ∧ iblk4 V c 2 t y = (shard4 V c).m (at4 t y) ∧ iblk4 V c 3 t y = (shard4 V c).v (at4 t y) := by
  unfold at4 placed Shard.grad stacked shard4
  refine ⟨?_, ?_, ?_, ?_⟩
  all_goals blk_point [iblk4, idx4 t]

end

set_option maxHeartbeats 2000000 in
theorem final4 : (dat4 V c).arrAt 4 cfg4.N = (shard4 V c).grad ∧ (dat4 V c).arrAt 5 cfg4.N = (shard4 V c).delta
    ∧ (dat4 V c).arrAt 6 cfg4.N = (shard4 V c).mean ∧ (dat4 V c).arrAt 7 cfg4.N = (shard4 V c).spread := by
  refine ⟨?_, ?_, ?_, ?_⟩
  all_goals
    refine (dat4 V c).arrAt_eq_of_covers _ _ (by decide +kernel) fun t hf y => ?_
    obtain ⟨hw, hg, hm, hv⟩ := read4 V c t y
    blk_simp
    simp only [after4_4, after4_5, after4_6, after4_7]
    frame_out
  · exact grad_at shapeCasts_S1x128x1024_S128x1024 shapeCasts_S128x1024_S1x128x1024 _ (by unfold at4 placed; blk_ext [idx4 t]) hg
  · exact delta_at shapeCasts_S1x128x1024_S128x1024 shapeCasts_S128x1024_S1x128x1024 _ (by unfold at4 placed; blk_ext [idx4 t]) hw hg hm hv
  · exact mean_at shapeCasts_S1x128x1024_S128x1024 shapeCasts_S128x1024_S1x128x1024 _ (by unfold at4 placed; blk_ext [idx4 t]) hg hm
  · exact spread_at shapeCasts_S1x128x1024_S128x1024 shapeCasts_S128x1024_S1x128x1024 _ (by unfold at4 placed; blk_ext [idx4 t]) hg hv

/-! ## `w_gate` -/

/-- What the launch reads. -/
def shard5 : Shard 352 704 1024 := ⟨rfl, V c main_arg20, V c main_arg21, V c main_arg22, V c main_arg23⟩

theorem idx5 : ∀ t : Fin cfg5.N, win5_0.index t = ![0, t.val, 0] ∧ win5_1.index t = ![t.val, 0, 0]
    ∧ win5_2.index t = ![0, t.val, 0] ∧ win5_3.index t = ![0, t.val, 0] ∧ win5_4.index t = ![0, t.val, 0]
    ∧ win5_5.index t = ![0, t.val, 0] ∧ win5_6.index t = ![0, t.val, 0] ∧ win5_7.index t = ![0, t.val, 0] := by
  decide +kernel

section
variable (t : Fin cfg5.N) (y : S1x352x1024.Idx)

abbrev at5 : S1x704x1024.Idx := placed (n := 2) (o := 352) rfl t y

theorem read5 : iblk5 V c 0 t y = (shard5 V c).w (at5 t y) ∧ iblk5 V c 1 t y = (shard5 V c).grad (at5 t y)
    ∧ iblk5 V c 2 t y = (shard5 V c).m (at5 t y) ∧ iblk5 V c 3 t y = (shard5 V c).v (at5 t y) := by
  unfold at5 placed Shard.grad stacked shard5
  refine ⟨?_, ?_, ?_, ?_⟩
  all_goals blk_point [iblk5, idx5 t]

end

set_option maxHeartbeats 2000000 in
theorem final5 : (dat5 V c).arrAt 4 cfg5.N = (shard5 V c).grad ∧ (dat5 V c).arrAt 5 cfg5.N = (shard5 V c).delta
    ∧ (dat5 V c).arrAt 6 cfg5.N = (shard5 V c).mean ∧ (dat5 V c).arrAt 7 cfg5.N = (shard5 V c).spread := by
  refine ⟨?_, ?_, ?_, ?_⟩
  all_goals
    refine (dat5 V c).arrAt_eq_of_covers _ _ (by decide +kernel) fun t hf y => ?_
    obtain ⟨hw, hg, hm, hv⟩ := read5 V c t y
    blk_simp
    simp only [after5_4, after5_5, after5_6, after5_7]
    frame_out
  · exact grad_at shapeCasts_S1x352x1024_S352x1024 shapeCasts_S352x1024_S1x352x1024 _ (by unfold at5 placed; blk_ext [idx5 t]) hg
  · exact delta_at shapeCasts_S1x352x1024_S352x1024 shapeCasts_S352x1024_S1x352x1024 _ (by unfold at5 placed; blk_ext [idx5 t]) hw hg hm hv
  · exact mean_at shapeCasts_S1x352x1024_S352x1024 shapeCasts_S352x1024_S1x352x1024 _ (by unfold at5 placed; blk_ext [idx5 t]) hg hm
  · exact spread_at shapeCasts_S1x352x1024_S352x1024 shapeCasts_S352x1024_S1x352x1024 _ (by unfold at5 placed; blk_ext [idx5 t]) hg hv

/-! ## `w_up` -/

/-- What the launch reads. -/
def shard6 : Shard 352 704 1024 := ⟨rfl, V c main_arg24, V c main_arg25, V c main_arg26, V c main_arg27⟩

theorem idx6 : ∀ t : Fin cfg6.N, win6_0.index t = ![0, t.val, 0] ∧ win6_1.index t = ![t.val, 0, 0]
    ∧ win6_2.index t = ![0, t.val, 0] ∧ win6_3.index t = ![0, t.val, 0] ∧ win6_4.index t = ![0, t.val, 0]
    ∧ win6_5.index t = ![0, t.val, 0] ∧ win6_6.index t = ![0, t.val, 0] ∧ win6_7.index t = ![0, t.val, 0] := by
  decide +kernel

section
variable (t : Fin cfg6.N) (y : S1x352x1024.Idx)

abbrev at6 : S1x704x1024.Idx := placed (n := 2) (o := 352) rfl t y

theorem read6 : iblk6 V c 0 t y = (shard6 V c).w (at6 t y) ∧ iblk6 V c 1 t y = (shard6 V c).grad (at6 t y)
    ∧ iblk6 V c 2 t y = (shard6 V c).m (at6 t y) ∧ iblk6 V c 3 t y = (shard6 V c).v (at6 t y) := by
  unfold at6 placed Shard.grad stacked shard6
  refine ⟨?_, ?_, ?_, ?_⟩
  all_goals blk_point [iblk6, idx6 t]

end

set_option maxHeartbeats 2000000 in
theorem final6 : (dat6 V c).arrAt 4 cfg6.N = (shard6 V c).grad ∧ (dat6 V c).arrAt 5 cfg6.N = (shard6 V c).delta
    ∧ (dat6 V c).arrAt 6 cfg6.N = (shard6 V c).mean ∧ (dat6 V c).arrAt 7 cfg6.N = (shard6 V c).spread := by
  refine ⟨?_, ?_, ?_, ?_⟩
  all_goals
    refine (dat6 V c).arrAt_eq_of_covers _ _ (by decide +kernel) fun t hf y => ?_
    obtain ⟨hw, hg, hm, hv⟩ := read6 V c t y
    blk_simp
    simp only [after6_4, after6_5, after6_6, after6_7]
    frame_out
  · exact grad_at shapeCasts_S1x352x1024_S352x1024 shapeCasts_S352x1024_S1x352x1024 _ (by unfold at6 placed; blk_ext [idx6 t]) hg
  · exact delta_at shapeCasts_S1x352x1024_S352x1024 shapeCasts_S352x1024_S1x352x1024 _ (by unfold at6 placed; blk_ext [idx6 t]) hw hg hm hv
  · exact mean_at shapeCasts_S1x352x1024_S352x1024 shapeCasts_S352x1024_S1x352x1024 _ (by unfold at6 placed; blk_ext [idx6 t]) hg hm
  · exact spread_at shapeCasts_S1x352x1024_S352x1024 shapeCasts_S352x1024_S1x352x1024 _ (by unfold at6 placed; blk_ext [idx6 t]) hg hv

/-! ## `w_down` -/

/-- What the launch reads. -/
def shard7 : Shard 352 704 1024 := ⟨rfl, V c main_arg28, V c main_arg29, V c main_arg30, V c main_arg31⟩

theorem idx7 : ∀ t : Fin cfg7.N, win7_0.index t = ![0, t.val, 0] ∧ win7_1.index t = ![t.val, 0, 0]
    ∧ win7_2.index t = ![0, t.val, 0] ∧ win7_3.index t = ![0, t.val, 0] ∧ win7_4.index t = ![0, t.val, 0]
    ∧ win7_5.index t = ![0, t.val, 0] ∧ win7_6.index t = ![0, t.val, 0] ∧ win7_7.index t = ![0, t.val, 0] := by
  decide +kernel

section
variable (t : Fin cfg7.N) (y : S1x352x1024.Idx)

abbrev at7 : S1x704x1024.Idx := placed (n := 2) (o := 352) rfl t y

theorem read7 : iblk7 V c 0 t y = (shard7 V c).w (at7 t y) ∧ iblk7 V c 1 t y = (shard7 V c).grad (at7 t y)
    ∧ iblk7 V c 2 t y = (shard7 V c).m (at7 t y) ∧ iblk7 V c 3 t y = (shard7 V c).v (at7 t y) := by
  unfold at7 placed Shard.grad stacked shard7
  refine ⟨?_, ?_, ?_, ?_⟩
  all_goals blk_point [iblk7, idx7 t]

end

set_option maxHeartbeats 2000000 in
theorem final7 : (dat7 V c).arrAt 4 cfg7.N = (shard7 V c).grad ∧ (dat7 V c).arrAt 5 cfg7.N = (shard7 V c).delta
    ∧ (dat7 V c).arrAt 6 cfg7.N = (shard7 V c).mean ∧ (dat7 V c).arrAt 7 cfg7.N = (shard7 V c).spread := by
  refine ⟨?_, ?_, ?_, ?_⟩
  all_goals
    refine (dat7 V c).arrAt_eq_of_covers _ _ (by decide +kernel) fun t hf y => ?_
    obtain ⟨hw, hg, hm, hv⟩ := read7 V c t y
    blk_simp
    simp only [after7_4, after7_5, after7_6, after7_7]
    frame_out
  · exact grad_at shapeCasts_S1x352x1024_S352x1024 shapeCasts_S352x1024_S1x352x1024 _ (by unfold at7 placed; blk_ext [idx7 t]) hg
  · exact delta_at shapeCasts_S1x352x1024_S352x1024 shapeCasts_S352x1024_S1x352x1024 _ (by unfold at7 placed; blk_ext [idx7 t]) hw hg hm hv
  · exact mean_at shapeCasts_S1x352x1024_S352x1024 shapeCasts_S352x1024_S1x352x1024 _ (by unfold at7 placed; blk_ext [idx7 t]) hg hm
  · exact spread_at shapeCasts_S1x352x1024_S352x1024 shapeCasts_S352x1024_S1x352x1024 _ (by unfold at7 placed; blk_ext [idx7 t]) hg hv

end Cert.Kernel6Ideal.Arrays

end
-- ==== Proof.OptimiserRun.lean ====
/-
  What every buffer of the optimiser's program holds at the end: the step (Optimiser.lean) of the arguments' shards.
-/
module

public import proofs.«01_k».proof.Proof.OptimiserArrays

@[expose] public section

set_option maxRecDepth 16384

noncomputable section

namespace Cert.Kernel6Ideal.Arrays

open Cert.Kernel6Ideal Cert.Kernel6Ideal.Gen Cert.Optimiser
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The shards, as a memory holds them -/

section
variable (c : Dev nD)

/-- `w_in` -/
def arg0 : Shard 512 1024 1156 := ⟨rfl, m ((c : Thread nD τ).loc main_arg0), m ((c : Thread nD τ).loc main_arg1),
  m ((c : Thread nD τ).loc main_arg2), m ((c : Thread nD τ).loc main_arg3)⟩

theorem shard_arg0 : shard0 (V0 m ρ) c = arg0 m c := by
  have hw : V0 m ρ c main_arg0 = m ((c : Thread nD τ).loc main_arg0) := W0_args m ρ c main_arg0 (by decide)
  have hg : V0 m ρ c main_arg1 = m ((c : Thread nD τ).loc main_arg1) := W0_args m ρ c main_arg1 (by decide)
  have hm : V0 m ρ c main_arg2 = m ((c : Thread nD τ).loc main_arg2) := W0_args m ρ c main_arg2 (by decide)
  have hv : V0 m ρ c main_arg3 = m ((c : Thread nD τ).loc main_arg3) := W0_args m ρ c main_arg3 (by decide)
  unfold shard0 arg0
  rw [hw, hg, hm, hv]

/-- `w_out` -/
def arg1 : Shard 256 512 1024 := ⟨rfl, m ((c : Thread nD τ).loc main_arg4), m ((c : Thread nD τ).loc main_arg5),
  m ((c : Thread nD τ).loc main_arg6), m ((c : Thread nD τ).loc main_arg7)⟩

theorem shard_arg1 : shard1 (V1 m ρ) c = arg1 m c := by
  have hw : V1 m ρ c main_arg4 = m ((c : Thread nD τ).loc main_arg4) := W1_args m ρ c main_arg4 (by decide)
  have hg : V1 m ρ c main_arg5 = m ((c : Thread nD τ).loc main_arg5) := W1_args m ρ c main_arg5 (by decide)
  have hm : V1 m ρ c main_arg6 = m ((c : Thread nD τ).loc main_arg6) := W1_args m ρ c main_arg6 (by decide)
  have hv : V1 m ρ c main_arg7 = m ((c : Thread nD τ).loc main_arg7) := W1_args m ρ c main_arg7 (by decide)
  unfold shard1 arg1
  rw [hw, hg, hm, hv]

/-- `w_q` -/
def arg2 : Shard 128 256 1024 := ⟨rfl, m ((c : Thread nD τ).loc main_arg8), m ((c : Thread nD τ).loc main_arg9),
  m ((c : Thread nD τ).loc main_arg10), m ((c : Thread nD τ).loc main_arg11)⟩

theorem shard_arg2 : shard2 (V2 m ρ) c = arg2 m c := by
  have hw : V2 m ρ c main_arg8 = m ((c : Thread nD τ).loc main_arg8) := W2_args m ρ c main_arg8 (by decide)
  have hg : V2 m ρ c main_arg9 = m ((c : Thread nD τ).loc main_arg9) := W2_args m ρ c main_arg9 (by decide)
  have hm : V2 m ρ c main_arg10 = m ((c : Thread nD τ).loc main_arg10) := W2_args m ρ c main_arg10 (by decide)
  have hv : V2 m ρ c main_arg11 = m ((c : Thread nD τ).loc main_arg11) := W2_args m ρ c main_arg11 (by decide)
  unfold shard2 arg2
  rw [hw, hg, hm, hv]

/-- `w_kv` -/
def arg3 : Shard 512 1024 512 := ⟨rfl, m ((c : Thread nD τ).loc main_arg12), m ((c : Thread nD τ).loc main_arg13),
  m ((c : Thread nD τ).loc main_arg14), m ((c : Thread nD τ).loc main_arg15)⟩

theorem shard_arg3 : shard3 (V3 m ρ) c = arg3 m c := by
  have hw : V3 m ρ c main_arg12 = m ((c : Thread nD τ).loc main_arg12) := W3_args m ρ c main_arg12 (by decide)
  have hg : V3 m ρ c main_arg13 = m ((c : Thread nD τ).loc main_arg13) := W3_args m ρ c main_arg13 (by decide)
  have hm : V3 m ρ c main_arg14 = m ((c : Thread nD τ).loc main_arg14) := W3_args m ρ c main_arg14 (by decide)
  have hv : V3 m ρ c main_arg15 = m ((c : Thread nD τ).loc main_arg15) := W3_args m ρ c main_arg15 (by decide)
  unfold shard3 arg3
  rw [hw, hg, hm, hv]

/-- `w_o` -/
def arg4 : Shard 128 256 1024 := ⟨rfl, m ((c : Thread nD τ).loc main_arg16), m ((c : Thread nD τ).loc main_arg17),
  m ((c : Thread nD τ).loc main_arg18), m ((c : Thread nD τ).loc main_arg19)⟩

theorem shard_arg4 : shard4 (V4 m ρ) c = arg4 m c := by
  have hw : V4 m ρ c main_arg16 = m ((c : Thread nD τ).loc main_arg16) := W4_args m ρ c main_arg16 (by decide)
  have hg : V4 m ρ c main_arg17 = m ((c : Thread nD τ).loc main_arg17) := W4_args m ρ c main_arg17 (by decide)
  have hm : V4 m ρ c main_arg18 = m ((c : Thread nD τ).loc main_arg18) := W4_args m ρ c main_arg18 (by decide)
  have hv : V4 m ρ c main_arg19 = m ((c : Thread nD τ).loc main_arg19) := W4_args m ρ c main_arg19 (by decide)
  unfold shard4 arg4
  rw [hw, hg, hm, hv]

/-- `w_gate` -/
def arg5 : Shard 352 704 1024 := ⟨rfl, m ((c : Thread nD τ).loc main_arg20), m ((c : Thread nD τ).loc main_arg21),
  m ((c : Thread nD τ).loc main_arg22), m ((c : Thread nD τ).loc main_arg23)⟩

theorem shard_arg5 : shard5 (V5 m ρ) c = arg5 m c := by
  have hw : V5 m ρ c main_arg20 = m ((c : Thread nD τ).loc main_arg20) := W5_args m ρ c main_arg20 (by decide)
  have hg : V5 m ρ c main_arg21 = m ((c : Thread nD τ).loc main_arg21) := W5_args m ρ c main_arg21 (by decide)
  have hm : V5 m ρ c main_arg22 = m ((c : Thread nD τ).loc main_arg22) := W5_args m ρ c main_arg22 (by decide)
  have hv : V5 m ρ c main_arg23 = m ((c : Thread nD τ).loc main_arg23) := W5_args m ρ c main_arg23 (by decide)
  unfold shard5 arg5
  rw [hw, hg, hm, hv]

/-- `w_up` -/
def arg6 : Shard 352 704 1024 := ⟨rfl, m ((c : Thread nD τ).loc main_arg24), m ((c : Thread nD τ).loc main_arg25),
  m ((c : Thread nD τ).loc main_arg26), m ((c : Thread nD τ).loc main_arg27)⟩

theorem shard_arg6 : shard6 (V6 m ρ) c = arg6 m c := by
  have hw : V6 m ρ c main_arg24 = m ((c : Thread nD τ).loc main_arg24) := W6_args m ρ c main_arg24 (by decide)
  have hg : V6 m ρ c main_arg25 = m ((c : Thread nD τ).loc main_arg25) := W6_args m ρ c main_arg25 (by decide)
  have hm : V6 m ρ c main_arg26 = m ((c : Thread nD τ).loc main_arg26) := W6_args m ρ c main_arg26 (by decide)
  have hv : V6 m ρ c main_arg27 = m ((c : Thread nD τ).loc main_arg27) := W6_args m ρ c main_arg27 (by decide)
  unfold shard6 arg6
  rw [hw, hg, hm, hv]

/-- `w_down` -/
def arg7 : Shard 352 704 1024 := ⟨rfl, m ((c : Thread nD τ).loc main_arg28), m ((c : Thread nD τ).loc main_arg29),
  m ((c : Thread nD τ).loc main_arg30), m ((c : Thread nD τ).loc main_arg31)⟩

theorem shard_arg7 : shard7 (V7 m ρ) c = arg7 m c := by
  have hw : V7 m ρ c main_arg28 = m ((c : Thread nD τ).loc main_arg28) := W7_args m ρ c main_arg28 (by decide)
  have hg : V7 m ρ c main_arg29 = m ((c : Thread nD τ).loc main_arg29) := W7_args m ρ c main_arg29 (by decide)
  have hm : V7 m ρ c main_arg30 = m ((c : Thread nD τ).loc main_arg30) := W7_args m ρ c main_arg30 (by decide)
  have hv : V7 m ρ c main_arg31 = m ((c : Thread nD τ).loc main_arg31) := W7_args m ρ c main_arg31 (by decide)
  unfold shard7 arg7
  rw [hw, hg, hm, hv]

end

/-! ## The results, each untouched by the launches after its own -/

section
variable (c : Dev nD)

theorem at_end0 : W8 m ρ c (Proc.devRef .tc main_v0_0) = (arg0 m c).grad
    ∧ W8 m ρ c (Proc.devRef .tc main_v0_1) = (arg0 m c).delta
    ∧ W8 m ρ c (Proc.devRef .tc main_v0_2) = (arg0 m c).mean
    ∧ W8 m ρ c (Proc.devRef .tc main_v0_3) = (arg0 m c).spread := by
  rw [← shard_arg0 m ρ c]
  obtain ⟨hg, hd, hm, hs⟩ := final0 (V0 m ρ) c
  refine ⟨?_, ?_, ?_, ?_⟩
  · rw [W8_of m ρ c main_v0_0 (by decide),
      W7_of m ρ c main_v0_0 (by decide),
      W6_of m ρ c main_v0_0 (by decide),
      W5_of m ρ c main_v0_0 (by decide),
      W4_of m ρ c main_v0_0 (by decide),
      W3_of m ρ c main_v0_0 (by decide),
      W2_of m ρ c main_v0_0 (by decide)]
    exact (W1_arr m ρ c 4).trans hg
  · rw [W8_of m ρ c main_v0_1 (by decide),
      W7_of m ρ c main_v0_1 (by decide),
      W6_of m ρ c main_v0_1 (by decide),
      W5_of m ρ c main_v0_1 (by decide),
      W4_of m ρ c main_v0_1 (by decide),
      W3_of m ρ c main_v0_1 (by decide),
      W2_of m ρ c main_v0_1 (by decide)]
    exact (W1_arr m ρ c 5).trans hd
  · rw [W8_of m ρ c main_v0_2 (by decide),
      W7_of m ρ c main_v0_2 (by decide),
      W6_of m ρ c main_v0_2 (by decide),
      W5_of m ρ c main_v0_2 (by decide),
      W4_of m ρ c main_v0_2 (by decide),
      W3_of m ρ c main_v0_2 (by decide),
      W2_of m ρ c main_v0_2 (by decide)]
    exact (W1_arr m ρ c 6).trans hm
  · rw [W8_of m ρ c main_v0_3 (by decide),
      W7_of m ρ c main_v0_3 (by decide),
      W6_of m ρ c main_v0_3 (by decide),
      W5_of m ρ c main_v0_3 (by decide),
      W4_of m ρ c main_v0_3 (by decide),
      W3_of m ρ c main_v0_3 (by decide),
      W2_of m ρ c main_v0_3 (by decide)]
    exact (W1_arr m ρ c 7).trans hs

theorem at_end1 : W8 m ρ c (Proc.devRef .tc main_v1_0) = (arg1 m c).grad
    ∧ W8 m ρ c (Proc.devRef .tc main_v1_1) = (arg1 m c).delta
    ∧ W8 m ρ c (Proc.devRef .tc main_v1_2) = (arg1 m c).mean
    ∧ W8 m ρ c (Proc.devRef .tc main_v1_3) = (arg1 m c).spread := by
  rw [← shard_arg1 m ρ c]
  obtain ⟨hg, hd, hm, hs⟩ := final1 (V1 m ρ) c
  refine ⟨?_, ?_, ?_, ?_⟩
  · rw [W8_of m ρ c main_v1_0 (by decide),
      W7_of m ρ c main_v1_0 (by decide),
      W6_of m ρ c main_v1_0 (by decide),
      W5_of m ρ c main_v1_0 (by decide),
      W4_of m ρ c main_v1_0 (by decide),
      W3_of m ρ c main_v1_0 (by decide)]
    exact (W2_arr m ρ c 4).trans hg
  · rw [W8_of m ρ c main_v1_1 (by decide),
      W7_of m ρ c main_v1_1 (by decide),
      W6_of m ρ c main_v1_1 (by decide),
      W5_of m ρ c main_v1_1 (by decide),
      W4_of m ρ c main_v1_1 (by decide),
      W3_of m ρ c main_v1_1 (by decide)]
    exact (W2_arr m ρ c 5).trans hd
  · rw [W8_of m ρ c main_v1_2 (by decide),
      W7_of m ρ c main_v1_2 (by decide),
      W6_of m ρ c main_v1_2 (by decide),
      W5_of m ρ c main_v1_2 (by decide),
      W4_of m ρ c main_v1_2 (by decide),
      W3_of m ρ c main_v1_2 (by decide)]
    exact (W2_arr m ρ c 6).trans hm
  · rw [W8_of m ρ c main_v1_3 (by decide),
      W7_of m ρ c main_v1_3 (by decide),
      W6_of m ρ c main_v1_3 (by decide),
      W5_of m ρ c main_v1_3 (by decide),
      W4_of m ρ c main_v1_3 (by decide),
      W3_of m ρ c main_v1_3 (by decide)]
    exact (W2_arr m ρ c 7).trans hs

theorem at_end2 : W8 m ρ c (Proc.devRef .tc main_v2_0) = (arg2 m c).grad
    ∧ W8 m ρ c (Proc.devRef .tc main_v2_1) = (arg2 m c).delta
    ∧ W8 m ρ c (Proc.devRef .tc main_v2_2) = (arg2 m c).mean
    ∧ W8 m ρ c (Proc.devRef .tc main_v2_3) = (arg2 m c).spread := by
  rw [← shard_arg2 m ρ c]
  obtain ⟨hg, hd, hm, hs⟩ := final2 (V2 m ρ) c
  refine ⟨?_, ?_, ?_, ?_⟩
  · rw [W8_of m ρ c main_v2_0 (by decide),
      W7_of m ρ c main_v2_0 (by decide),
      W6_of m ρ c main_v2_0 (by decide),
      W5_of m ρ c main_v2_0 (by decide),
      W4_of m ρ c main_v2_0 (by decide)]
    exact (W3_arr m ρ c 4).trans hg
  · rw [W8_of m ρ c main_v2_1 (by decide),
      W7_of m ρ c main_v2_1 (by decide),
      W6_of m ρ c main_v2_1 (by decide),
      W5_of m ρ c main_v2_1 (by decide),
      W4_of m ρ c main_v2_1 (by decide)]
    exact (W3_arr m ρ c 5).trans hd
  · rw [W8_of m ρ c main_v2_2 (by decide),
      W7_of m ρ c main_v2_2 (by decide),
      W6_of m ρ c main_v2_2 (by decide),
      W5_of m ρ c main_v2_2 (by decide),
      W4_of m ρ c main_v2_2 (by decide)]
    exact (W3_arr m ρ c 6).trans hm
  · rw [W8_of m ρ c main_v2_3 (by decide),
      W7_of m ρ c main_v2_3 (by decide),
      W6_of m ρ c main_v2_3 (by decide),
      W5_of m ρ c main_v2_3 (by decide),
      W4_of m ρ c main_v2_3 (by decide)]
    exact (W3_arr m ρ c 7).trans hs

theorem at_end3 : W8 m ρ c (Proc.devRef .tc main_v3_0) = (arg3 m c).grad
    ∧ W8 m ρ c (Proc.devRef .tc main_v3_1) = (arg3 m c).delta
    ∧ W8 m ρ c (Proc.devRef .tc main_v3_2) = (arg3 m c).mean
    ∧ W8 m ρ c (Proc.devRef .tc main_v3_3) = (arg3 m c).spread := by
  rw [← shard_arg3 m ρ c]
  obtain ⟨hg, hd, hm, hs⟩ := final3 (V3 m ρ) c
  refine ⟨?_, ?_, ?_, ?_⟩
  · rw [W8_of m ρ c main_v3_0 (by decide),
      W7_of m ρ c main_v3_0 (by decide),
      W6_of m ρ c main_v3_0 (by decide),
      W5_of m ρ c main_v3_0 (by decide)]
    exact (W4_arr m ρ c 4).trans hg
  · rw [W8_of m ρ c main_v3_1 (by decide),
      W7_of m ρ c main_v3_1 (by decide),
      W6_of m ρ c main_v3_1 (by decide),
      W5_of m ρ c main_v3_1 (by decide)]
    exact (W4_arr m ρ c 5).trans hd
  · rw [W8_of m ρ c main_v3_2 (by decide),
      W7_of m ρ c main_v3_2 (by decide),
      W6_of m ρ c main_v3_2 (by decide),
      W5_of m ρ c main_v3_2 (by decide)]
    exact (W4_arr m ρ c 6).trans hm
  · rw [W8_of m ρ c main_v3_3 (by decide),
      W7_of m ρ c main_v3_3 (by decide),
      W6_of m ρ c main_v3_3 (by decide),
      W5_of m ρ c main_v3_3 (by decide)]
    exact (W4_arr m ρ c 7).trans hs

theorem at_end4 : W8 m ρ c (Proc.devRef .tc main_v4_0) = (arg4 m c).grad
    ∧ W8 m ρ c (Proc.devRef .tc main_v4_1) = (arg4 m c).delta
    ∧ W8 m ρ c (Proc.devRef .tc main_v4_2) = (arg4 m c).mean
    ∧ W8 m ρ c (Proc.devRef .tc main_v4_3) = (arg4 m c).spread := by
  rw [← shard_arg4 m ρ c]
  obtain ⟨hg, hd, hm, hs⟩ := final4 (V4 m ρ) c
  refine ⟨?_, ?_, ?_, ?_⟩
  · rw [W8_of m ρ c main_v4_0 (by decide),
      W7_of m ρ c main_v4_0 (by decide),
      W6_of m ρ c main_v4_0 (by decide)]
    exact (W5_arr m ρ c 4).trans hg
  · rw [W8_of m ρ c main_v4_1 (by decide),
      W7_of m ρ c main_v4_1 (by decide),
      W6_of m ρ c main_v4_1 (by decide)]
    exact (W5_arr m ρ c 5).trans hd
  · rw [W8_of m ρ c main_v4_2 (by decide),
      W7_of m ρ c main_v4_2 (by decide),
      W6_of m ρ c main_v4_2 (by decide)]
    exact (W5_arr m ρ c 6).trans hm
  · rw [W8_of m ρ c main_v4_3 (by decide),
      W7_of m ρ c main_v4_3 (by decide),
      W6_of m ρ c main_v4_3 (by decide)]
    exact (W5_arr m ρ c 7).trans hs

theorem at_end5 : W8 m ρ c (Proc.devRef .tc main_v5_0) = (arg5 m c).grad
    ∧ W8 m ρ c (Proc.devRef .tc main_v5_1) = (arg5 m c).delta
    ∧ W8 m ρ c (Proc.devRef .tc main_v5_2) = (arg5 m c).mean
    ∧ W8 m ρ c (Proc.devRef .tc main_v5_3) = (arg5 m c).spread := by
  rw [← shard_arg5 m ρ c]
  obtain ⟨hg, hd, hm, hs⟩ := final5 (V5 m ρ) c
  refine ⟨?_, ?_, ?_, ?_⟩
  · rw [W8_of m ρ c main_v5_0 (by decide),
      W7_of m ρ c main_v5_0 (by decide)]
    exact (W6_arr m ρ c 4).trans hg
  · rw [W8_of m ρ c main_v5_1 (by decide),
      W7_of m ρ c main_v5_1 (by decide)]
    exact (W6_arr m ρ c 5).trans hd
  · rw [W8_of m ρ c main_v5_2 (by decide),
      W7_of m ρ c main_v5_2 (by decide)]
    exact (W6_arr m ρ c 6).trans hm
  · rw [W8_of m ρ c main_v5_3 (by decide),
      W7_of m ρ c main_v5_3 (by decide)]
    exact (W6_arr m ρ c 7).trans hs

theorem at_end6 : W8 m ρ c (Proc.devRef .tc main_v6_0) = (arg6 m c).grad
    ∧ W8 m ρ c (Proc.devRef .tc main_v6_1) = (arg6 m c).delta
    ∧ W8 m ρ c (Proc.devRef .tc main_v6_2) = (arg6 m c).mean
    ∧ W8 m ρ c (Proc.devRef .tc main_v6_3) = (arg6 m c).spread := by
  rw [← shard_arg6 m ρ c]
  obtain ⟨hg, hd, hm, hs⟩ := final6 (V6 m ρ) c
  refine ⟨?_, ?_, ?_, ?_⟩
  · rw [W8_of m ρ c main_v6_0 (by decide)]
    exact (W7_arr m ρ c 4).trans hg
  · rw [W8_of m ρ c main_v6_1 (by decide)]
    exact (W7_arr m ρ c 5).trans hd
  · rw [W8_of m ρ c main_v6_2 (by decide)]
    exact (W7_arr m ρ c 6).trans hm
  · rw [W8_of m ρ c main_v6_3 (by decide)]
    exact (W7_arr m ρ c 7).trans hs

theorem at_end7 : W8 m ρ c (Proc.devRef .tc main_v7_0) = (arg7 m c).grad
    ∧ W8 m ρ c (Proc.devRef .tc main_v7_1) = (arg7 m c).delta
    ∧ W8 m ρ c (Proc.devRef .tc main_v7_2) = (arg7 m c).mean
    ∧ W8 m ρ c (Proc.devRef .tc main_v7_3) = (arg7 m c).spread := by
  rw [← shard_arg7 m ρ c]
  obtain ⟨hg, hd, hm, hs⟩ := final7 (V7 m ρ) c
  refine ⟨?_, ?_, ?_, ?_⟩
  · exact (W8_arr m ρ c 4).trans hg
  · exact (W8_arr m ρ c 5).trans hd
  · exact (W8_arr m ρ c 6).trans hm
  · exact (W8_arr m ρ c 7).trans hs

end

set_option backward.isDefEq.respectTransparency.types false in
/-- The run, its final state read at every unscoped buffer. -/
theorem run_contents : θ_run defs (onTc (τ := τ) (main (F := Ideal))) ⟨m, fun _ => 0, ρ⟩ (fun r => ∀ c : Dev nD,
    ∀ b ∈ Pipeline.ucRefs τ sig, r.2.mem ((c : Thread nD τ).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

set_option maxHeartbeats 1000000 in
/-- The run, its final state read at the results and the arguments. -/
theorem run_values : θ_run defs (onTc (τ := τ) (main (F := Ideal))) ⟨m, fun _ => 0, ρ⟩ (fun r => ∀ c : Dev nD,
      r.2.mem ((c.tc : Thread nD τ).loc main_v0_0) = (arg0 m c).grad
      ∧ r.2.mem ((c.tc : Thread nD τ).loc main_v0_1) = (arg0 m c).delta
      ∧ r.2.mem ((c.tc : Thread nD τ).loc main_v0_2) = (arg0 m c).mean
      ∧ r.2.mem ((c.tc : Thread nD τ).loc main_v0_3) = (arg0 m c).spread
      ∧ r.2.mem ((c.tc : Thread nD τ).loc main_v1_0) = (arg1 m c).grad
      ∧ r.2.mem ((c.tc : Thread nD τ).loc main_v1_1) = (arg1 m c).delta
      ∧ r.2.mem ((c.tc : Thread nD τ).loc main_v1_2) = (arg1 m c).mean
      ∧ r.2.mem ((c.tc : Thread nD τ).loc main_v1_3) = (arg1 m c).spread
      ∧ r.2.mem ((c.tc : Thread nD τ).loc main_v2_0) = (arg2 m c).grad
      ∧ r.2.mem ((c.tc : Thread nD τ).loc main_v2_1) = (arg2 m c).delta
      ∧ r.2.mem ((c.tc : Thread nD τ).loc main_v2_2) = (arg2 m c).mean
      ∧ r.2.mem ((c.tc : Thread nD τ).loc main_v2_3) = (arg2 m c).spread
      ∧ r.2.mem ((c.tc : Thread nD τ).loc main_v3_0) = (arg3 m c).grad
      ∧ r.2.mem ((c.tc : Thread nD τ).loc main_v3_1) = (arg3 m c).delta
      ∧ r.2.mem ((c.tc : Thread nD τ).loc main_v3_2) = (arg3 m c).mean
      ∧ r.2.mem ((c.tc : Thread nD τ).loc main_v3_3) = (arg3 m c).spread
      ∧ r.2.mem ((c.tc : Thread nD τ).loc main_v4_0) = (arg4 m c).grad
      ∧ r.2.mem ((c.tc : Thread nD τ).loc main_v4_1) = (arg4 m c).delta
      ∧ r.2.mem ((c.tc : Thread nD τ).loc main_v4_2) = (arg4 m c).mean
      ∧ r.2.mem ((c.tc : Thread nD τ).loc main_v4_3) = (arg4 m c).spread
      ∧ r.2.mem ((c.tc : Thread nD τ).loc main_v5_0) = (arg5 m c).grad
      ∧ r.2.mem ((c.tc : Thread nD τ).loc main_v5_1) = (arg5 m c).delta
      ∧ r.2.mem ((c.tc : Thread nD τ).loc main_v5_2) = (arg5 m c).mean
      ∧ r.2.mem ((c.tc : Thread nD τ).loc main_v5_3) = (arg5 m c).spread
      ∧ r.2.mem ((c.tc : Thread nD τ).loc main_v6_0) = (arg6 m c).grad
      ∧ r.2.mem ((c.tc : Thread nD τ).loc main_v6_1) = (arg6 m c).delta
      ∧ r.2.mem ((c.tc : Thread nD τ).loc main_v6_2) = (arg6 m c).mean
      ∧ r.2.mem ((c.tc : Thread nD τ).loc main_v6_3) = (arg6 m c).spread
      ∧ r.2.mem ((c.tc : Thread nD τ).loc main_v7_0) = (arg7 m c).grad
      ∧ r.2.mem ((c.tc : Thread nD τ).loc main_v7_1) = (arg7 m c).delta
      ∧ r.2.mem ((c.tc : Thread nD τ).loc main_v7_2) = (arg7 m c).mean
      ∧ r.2.mem ((c.tc : Thread nD τ).loc main_v7_3) = (arg7 m c).spread
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨(h c _ (mem_uc main_v0_0 (by decide))).trans (at_end0 m ρ c).1,
     (h c _ (mem_uc main_v0_1 (by decide))).trans (at_end0 m ρ c).2.1,
     (h c _ (mem_uc main_v0_2 (by decide))).trans (at_end0 m ρ c).2.2.1,
     (h c _ (mem_uc main_v0_3 (by decide))).trans (at_end0 m ρ c).2.2.2,
     (h c _ (mem_uc main_v1_0 (by decide))).trans (at_end1 m ρ c).1,
     (h c _ (mem_uc main_v1_1 (by decide))).trans (at_end1 m ρ c).2.1,
     (h c _ (mem_uc main_v1_2 (by decide))).trans (at_end1 m ρ c).2.2.1,
     (h c _ (mem_uc main_v1_3 (by decide))).trans (at_end1 m ρ c).2.2.2,
     (h c _ (mem_uc main_v2_0 (by decide))).trans (at_end2 m ρ c).1,
     (h c _ (mem_uc main_v2_1 (by decide))).trans (at_end2 m ρ c).2.1,
     (h c _ (mem_uc main_v2_2 (by decide))).trans (at_end2 m ρ c).2.2.1,
     (h c _ (mem_uc main_v2_3 (by decide))).trans (at_end2 m ρ c).2.2.2,
     (h c _ (mem_uc main_v3_0 (by decide))).trans (at_end3 m ρ c).1,
     (h c _ (mem_uc main_v3_1 (by decide))).trans (at_end3 m ρ c).2.1,
     (h c _ (mem_uc main_v3_2 (by decide))).trans (at_end3 m ρ c).2.2.1,
     (h c _ (mem_uc main_v3_3 (by decide))).trans (at_end3 m ρ c).2.2.2,
     (h c _ (mem_uc main_v4_0 (by decide))).trans (at_end4 m ρ c).1,
     (h c _ (mem_uc main_v4_1 (by decide))).trans (at_end4 m ρ c).2.1,
     (h c _ (mem_uc main_v4_2 (by decide))).trans (at_end4 m ρ c).2.2.1,
     (h c _ (mem_uc main_v4_3 (by decide))).trans (at_end4 m ρ c).2.2.2,
     (h c _ (mem_uc main_v5_0 (by decide))).trans (at_end5 m ρ c).1,
     (h c _ (mem_uc main_v5_1 (by decide))).trans (at_end5 m ρ c).2.1,
     (h c _ (mem_uc main_v5_2 (by decide))).trans (at_end5 m ρ c).2.2.1,
     (h c _ (mem_uc main_v5_3 (by decide))).trans (at_end5 m ρ c).2.2.2,
     (h c _ (mem_uc main_v6_0 (by decide))).trans (at_end6 m ρ c).1,
     (h c _ (mem_uc main_v6_1 (by decide))).trans (at_end6 m ρ c).2.1,
     (h c _ (mem_uc main_v6_2 (by decide))).trans (at_end6 m ρ c).2.2.1,
     (h c _ (mem_uc main_v6_3 (by decide))).trans (at_end6 m ρ c).2.2.2,
     (h c _ (mem_uc main_v7_0 (by decide))).trans (at_end7 m ρ c).1,
     (h c _ (mem_uc main_v7_1 (by decide))).trans (at_end7 m ρ c).2.1,
     (h c _ (mem_uc main_v7_2 (by decide))).trans (at_end7 m ρ c).2.2.1,
     (h c _ (mem_uc main_v7_3 (by decide))).trans (at_end7 m ρ c).2.2.2,
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c),
     (h c _ (mem_uc main_arg18 (by decide))).trans (W8_main_arg18 m ρ c),
     (h c _ (mem_uc main_arg19 (by decide))).trans (W8_main_arg19 m ρ c),
     (h c _ (mem_uc main_arg20 (by decide))).trans (W8_main_arg20 m ρ c),
     (h c _ (mem_uc main_arg21 (by decide))).trans (W8_main_arg21 m ρ c),
     (h c _ (mem_uc main_arg22 (by decide))).trans (W8_main_arg22 m ρ c),
     (h c _ (mem_uc main_arg23 (by decide))).trans (W8_main_arg23 m ρ c),
     (h c _ (mem_uc main_arg24 (by decide))).trans (W8_main_arg24 m ρ c),
     (h c _ (mem_uc main_arg25 (by decide))).trans (W8_main_arg25 m ρ c),
     (h c _ (mem_uc main_arg26 (by decide))).trans (W8_main_arg26 m ρ c),
     (h c _ (mem_uc main_arg27 (by decide))).trans (W8_main_arg27 m ρ c),
     (h c _ (mem_uc main_arg28 (by decide))).trans (W8_main_arg28 m ρ c),
     (h c _ (mem_uc main_arg29 (by decide))).trans (W8_main_arg29 m ρ c),
     (h c _ (mem_uc main_arg30 (by decide))).trans (W8_main_arg30 m ρ c),
     (h c _ (mem_uc main_arg31 (by decide))).trans (W8_main_arg31 m ρ c)⟩) (run_contents m ρ)

end Cert.Kernel6Ideal.Arrays

end
-- ==== Proof.Reference6Value.lean ====
/-
  The reference's optimiser, result by result: the step (Optimiser.lean) of each shard.
-/
module

public import proofs.«01_k».proof.Proof.Gen.Reference6Ideal.Read
public import proofs.«01_k».proof.Proof.Optimiser

@[expose] public section

noncomputable section

namespace Cert.Reference6Ideal.Entries

open Cert.Reference6Ideal Cert.Reference6Ideal.Gen Cert.Reference6Ideal.Read Cert.Optimiser Idealize.ShloMosaic
open Idealize.ShloMosaic.Pointwise

/-! ## `w_in` -/

section
variable (s : Shard 512 1024 1156)

theorem grad0 : val_main_v0 (F := Ideal) s.g = s.grad := by
  funext j
  pointwise [val_main_v0, Shard.grad, stacked]

theorem delta0 : val_main_v24 (F := Ideal) s.w s.g s.m s.v = s.delta := by
  unfold Shard.delta
  rw [← grad0]
  rfl

theorem mean0 : val_main_v5 (F := Ideal) s.g s.m = s.mean := by
  unfold Shard.mean
  rw [← grad0]
  rfl

theorem spread0 : val_main_v11 (F := Ideal) s.g s.v = s.spread := by
  unfold Shard.spread
  rw [← grad0]
  rfl

end

/-! ## `w_out` -/

section
variable (s : Shard 256 512 1024)

theorem grad1 : val_main_v25 (F := Ideal) s.g = s.grad := by
  funext j
  pointwise [val_main_v25, Shard.grad, stacked]

theorem delta1 : val_main_v49 (F := Ideal) s.w s.g s.m s.v = s.delta := by
  unfold Shard.delta
  rw [← grad1]
  rfl

theorem mean1 : val_main_v30 (F := Ideal) s.g s.m = s.mean := by
  unfold Shard.mean
  rw [← grad1]
  rfl

theorem spread1 : val_main_v36 (F := Ideal) s.g s.v = s.spread := by
  unfold Shard.spread
  rw [← grad1]
  rfl

end

/-! ## `w_q`, and at the same shapes `w_o` -/

section
variable (s : Shard 128 256 1024)

theorem grad2 : val_main_v50 (F := Ideal) s.g = s.grad := by
  funext j
  pointwise [val_main_v50, Shard.grad, stacked]

theorem delta2 : val_main_v74 (F := Ideal) s.w s.g s.m s.v = s.delta := by
  unfold Shard.delta
  rw [← grad2]
  rfl

theorem mean2 : val_main_v55 (F := Ideal) s.g s.m = s.mean := by
  unfold Shard.mean
  rw [← grad2]
  rfl

theorem spread2 : val_main_v61 (F := Ideal) s.g s.v = s.spread := by
  unfold Shard.spread
  rw [← grad2]
  rfl

end

/-! ## `w_kv` -/

section
variable (s : Shard 512 1024 512)

theorem grad3 : val_main_v75 (F := Ideal) s.g = s.grad := by
  funext j
  pointwise [val_main_v75, Shard.grad, stacked]

theorem delta3 : val_main_v99 (F := Ideal) s.w s.g s.m s.v = s.delta := by
  unfold Shard.delta
  rw [← grad3]
  rfl

theorem mean3 : val_main_v80 (F := Ideal) s.g s.m = s.mean := by
  unfold Shard.mean
  rw [← grad3]
  rfl

theorem spread3 : val_main_v86 (F := Ideal) s.g s.v = s.spread := by
  unfold Shard.spread
  rw [← grad3]
  rfl

end

/-! ## `w_gate`, and at the same shapes `w_up` and `w_down` -/

section
variable (s : Shard 352 704 1024)

theorem grad5 : val_main_v125 (F := Ideal) s.g = s.grad := by
  funext j
  pointwise [val_main_v125, Shard.grad, stacked]

theorem delta5 : val_main_v149 (F := Ideal) s.w s.g s.m s.v = s.delta := by
  unfold Shard.delta
  rw [← grad5]
  rfl

theorem mean5 : val_main_v130 (F := Ideal) s.g s.m = s.mean := by
  unfold Shard.mean
  rw [← grad5]
  rfl

theorem spread5 : val_main_v136 (F := Ideal) s.g s.v = s.spread := by
  unfold Shard.spread
  rw [← grad5]
  rfl

end

end Cert.Reference6Ideal.Entries

end
-- ==== Proof.Columns.lean ====
/-
  One step of the optimiser on a shard that is a quarter of the columns: each of four devices reads its quarter of the
  summed gradient, by its number, and makes of it and of its shard what Optimiser.lean says.
-/
module

public import proofs.«01_k».proof.Proof.Optimiser

@[expose] public section

noncomputable section

namespace Cert.Optimiser

open Idealize.ShloMosaic Idealize.ShloMosaic.Pointwise

/-- What a step reads of one weight's quarter: the device's number, the weight, the whole gradient and the running means. -/
structure Quarter (R C N : Nat) where
  columns : N = 4 * C
  chip : Fin 4
  w : Cube 1 R C
  g : (⟨2, ![R, N]⟩ : Shape).Idx → EReal
  m : Cube 1 R C
  v : Cube 1 R C

/-- The device a word numbers. -/
def device (b : BitVec 32) : Fin 4 := Fin.ofNat 4 b.toNat

theorem device_val {b : BitVec 32} (h : b.toNat < 4) : (device b).val = b.toNat := Nat.mod_eq_of_lt h

/-- An array of one element has one index. -/
theorem only (i : (⟨1, ![1]⟩ : Shape).Idx) : i = ix1 0 := by
  funext a
  obtain rfl : a = 0 := Subsingleton.elim _ _
  exact Subsingleton.elim (α := Fin 1) _ _

/-- The preconditions' two comparisons of a word: it numbers a device. -/
theorem lt_of_compared (b : BitVec 32) (h : IntOp.andi (IntOp.cmpi .sge b 0#32) (IntOp.cmpi .slt b 4#32) = 1#1) :
    b.toNat < 4 := by
  have andi_one (x y : BitVec 1) : IntOp.andi x y = 1#1 ↔ x = 1#1 ∧ y = 1#1 := by revert x y; decide
  have ofBool_eq_one (p : Bool) : (BitVec.ofBool p = 1#1) ↔ p = true := by cases p <;> decide
  rw [andi_one] at h
  simp only [ofBool_eq_one, IntOp.cmpi, BitVec.sle, BitVec.slt, decide_eq_true_eq, BitVec.toInt, BitVec.toNat_ofNat] at h
  omega

section
variable {R C N : Nat} (x : Quarter R C N)

/-- A quarter of the gradient, by its number. -/
def Quarter.part (k : Fin 4) : Cube 1 R C := fun j => x.g (ix2 (j 1) ⟨k.val * C + (j 2).val, by
  have h : (j 2).val < C := (j 2).isLt
  have := Nat.mul_le_mul_right C (Nat.succ_le_of_lt k.isLt)
  rw [Nat.succ_mul] at this
  have := x.columns
  omega⟩)

/-- The device's quarter, -/
def Quarter.grad : Cube 1 R C := x.part x.chip
/-- the change of the weight, -/
def Quarter.delta : Cube 1 R C := fun j => Optimiser.delta (x.w j) (x.grad j) (x.m j) (x.v j)
/-- and the running means after it. -/
def Quarter.mean : Cube 1 R C := fun j => Optimiser.mean (x.grad j) (x.m j)
def Quarter.spread : Cube 1 R C := fun j => Optimiser.spread (x.grad j) (x.v j)

end

/-! The kernel reads the gradient's block as the matrix it is, the other blocks as in Optimiser.lean. Each result's block at
a place, when what the block read there is the quarter's. -/

section
variable {s t : Shape} (hs : s.ShapeCasts t) (ht : t.ShapeCasts s) {w m v : Vec Ideal s .f32} {g : Vec Ideal t .f32} {y : s.Idx}
variable {R C N : Nat} (x : Quarter R C N) {p : (⟨3, ![1, R, C]⟩ : Shape).Idx}

theorem Quarter.mean_at (hg : shapeCast s g ht y = x.grad p) (hm : m y = x.m p) :
    Optimiser.mean (shapeCast s g ht y) (copyBlock hs ht m y) = x.mean p := by
  rw [copyBlock_apply, hg, hm]
  rfl

theorem Quarter.spread_at (hg : shapeCast s g ht y = x.grad p) (hv : v y = x.v p) :
    Optimiser.spread (shapeCast s g ht y) (copyBlock hs ht v y) = x.spread p := by
  rw [copyBlock_apply, hg, hv]
  rfl

theorem Quarter.delta_at (hw : w y = x.w p) (hg : shapeCast s g ht y = x.grad p) (hm : m y = x.m p) (hv : v y = x.v p) :
    Optimiser.delta (copyBlock hs ht w y) (shapeCast s g ht y) (copyBlock hs ht m y) (copyBlock hs ht v y) = x.delta p := by
  rw [copyBlock_apply, copyBlock_apply, copyBlock_apply, hw, hg, hm, hv]
  rfl

end

/-! ## The reference's choice -/

/-- The columns from a quarter's first. -/
theorem Quarter.sliced {R C N : Nat} (x : Quarter R C N) (k : Fin 4) {o : Nat} (ho : o = k.val * C)
    (hs : (⟨2, ![R, N]⟩ : Shape).Slices ![0, o] ⟨2, ![R, C]⟩) (j : (⟨3, ![1, R, C]⟩ : Shape).Idx) :
    extractStridedSlice ⟨2, ![R, C]⟩ ![0, o] x.g hs (fun a => j a.succ) = x.part k j := by
  subst ho
  refine congrArg x.g ?_
  funext a
  refine Fin.ext ?_
  fin_cases a
  · exact Nat.zero_add _
  · rfl

/-- The reference finds a device's quarter among the four by two comparisons of its number. -/
theorem chosen {α : Type} {b : BitVec 32} (h : b.toNat < 4) (q : Fin 4 → α) :
    (if IntOp.cmpi .slt b 2#32 = 1 then if IntOp.cmpi .slt b 1#32 = 1 then q 0 else q 1
      else if IntOp.cmpi .slt b 3#32 = 1 then q 2 else q 3) = q (device b) := by
  have hb : b = BitVec.ofNat 32 b.toNat := (BitVec.ofNat_toNat 32 b).symm.trans (by rw [BitVec.ofNat_toNat])
  generalize b.toNat = n at h hb
  subst hb
  interval_cases n <;> rfl

end Cert.Optimiser

end
-- ==== Proof.Columns7.lean ====
/-
  The optimiser's launch for the weight `ssd_conv_w`: it runs for a device's number, and leaves in its result arrays the
  step (Columns.lean) of the quarter it is entered with.
-/
module

public import proofs.«01_k».proof.Proof.Gen.Kernel7Ideal.Frame
public import proofs.«01_k».proof.Proof.Gen.Kernel7.Frame
public import proofs.«01_k».proof.Pre_chip_number
public import proofs.«01_k».proof.Proof.Columns
public import Idealize.ShloMosaic.Lib.Pipeline.ValueKit

@[expose] public section

noncomputable section

namespace Cert.Pre_chip_number

open Idealize.ShloMosaic Cert.Optimiser

theorem facts : Facts where
  bcast_S_S1 := by decide

/-- The precondition, read. -/
theorem lt [Facts] {F : FTy → Type} [FloatOps F] {b : IVec S1 32} {w g m v} (h : fn (F := F) b w g m v = fun _ => 1#1) :
    (b (ix1 0)).toNat < 4 := lt_of_compared _ (congrFun h (ix1 0))

end Cert.Pre_chip_number

namespace Cert.Kernel7.Arrays

open Cert.Kernel7 Cert.Kernel7.Gen Cert.Optimiser Idealize.ShloMosaic Idealize.ShloMosaic.TcCoe

/-- For a device's number the launch with floating-point arithmetic runs, too. -/
theorem ok (m : (ℓ : Loc nD τ sig) → Buf (Elt Bits) ℓ)
    (h : (m (((0 : Dev nD) : Thread nD τ).loc main_arg0) (ix1 0)).toNat < 4) : Ok m := fun i => by
  have e : (tbl m).at 0 (Rect.unit (s := S1) ![0] S1.size inb_S1_S1_0) numel1_S1 = m (((0 : Dev nD) : Thread nD τ).loc main_arg0) (ix1 0) :=
    congrArg (m (((0 : Dev nD) : Thread nD τ).loc main_arg0)) (only _)
  refine ⟨fun a => ?_, Or.inl rfl⟩
  unfold cc0_transform_1
  rw [e]
  fin_cases a
  · show (0 + 1) * 4 ≤ 4
    omega
  · show ((m (((0 : Dev nD) : Thread nD τ).loc main_arg0) (ix1 0)).toNat + 1) * 384 ≤ 1536
    omega

end Cert.Kernel7.Arrays

namespace Cert.Kernel7Ideal.Arrays

open Cert.Kernel7Ideal Cert.Kernel7Ideal.Gen Cert.Optimiser Idealize.ShloMosaic
open Idealize.ShloMosaic.TcCoe Idealize.ShloMosaic.Pointwise Idealize.SL.Sem
open Idealize.ShloMosaic.Pipeline (Dat)

variable (m : (ℓ : Loc nD τ sig) → Buf (Elt Ideal) ℓ)

/-- The device's number. -/
abbrev word (c : Dev nD) : BitVec 32 := m ((c : Thread nD τ).loc main_arg0) (ix1 0)

/-- What the launch reads. -/
def arg (c : Dev nD) : Quarter 4 384 1536 := ⟨rfl, device (word m c), m ((c : Thread nD τ).loc main_arg1),
  m ((c : Thread nD τ).loc main_arg2), m ((c : Thread nD τ).loc main_arg3), m ((c : Thread nD τ).loc main_arg4)⟩

theorem at_word (i : grid0.Coords) :
    cc0_transform_1 inb_S1_S1_0 numel1_S1 (tbl m) i = ![0, (word m 0).toNat] := by
  have e : (tbl m).at 0 (Rect.unit (s := S1) ![0] S1.size inb_S1_S1_0) numel1_S1 = word m 0 :=
    congrArg (m (((0 : Dev nD) : Thread nD τ).loc main_arg0)) (only _)
  unfold cc0_transform_1
  rw [e]
  rfl

/-- A device's number names a block of the gradient. -/
theorem ok (h : (word m 0).toNat < 4) : Ok m := fun i =>
  ⟨fun a => by
    rw [at_word]
    fin_cases a
    · show (0 + 1) * 4 ≤ 4
      omega
    · show ((word m 0).toNat + 1) * 384 ≤ 1536
      omega, Or.inl rfl⟩

section
variable (hO : Ok m) (t : Fin (cfgM m hO).N) (y : S1x4x384.Idx)

/-! Every block but the gradient's is its array. -/

theorem emb0 : (((cfgM m hO).win 0).blk t).view.emb y = y := by
  funext a
  refine Fin.ext ((Pipeline.Window.rect_emb_val ((cfgM m hO).win 0) t y a rfl).trans ?_)
  fin_cases a
  all_goals exact (congrArg (· + _) (Nat.zero_mul _)).trans (Nat.zero_add _)

theorem emb2 : (((cfgM m hO).win 2).blk t).view.emb y = y := by
  funext a
  refine Fin.ext ((Pipeline.Window.rect_emb_val ((cfgM m hO).win 2) t y a rfl).trans ?_)
  fin_cases a
  all_goals exact (congrArg (· + _) (Nat.zero_mul _)).trans (Nat.zero_add _)

theorem emb3 : (((cfgM m hO).win 3).blk t).view.emb y = y := by
  funext a
  refine Fin.ext ((Pipeline.Window.rect_emb_val ((cfgM m hO).win 3) t y a rfl).trans ?_)
  fin_cases a
  all_goals exact (congrArg (· + _) (Nat.zero_mul _)).trans (Nat.zero_add _)

theorem emb4 : (((cfgM m hO).win 4).blk t).view.emb y = y := by
  funext a
  refine Fin.ext ((Pipeline.Window.rect_emb_val ((cfgM m hO).win 4) t y a rfl).trans ?_)
  fin_cases a
  all_goals exact (congrArg (· + _) (Nat.zero_mul _)).trans (Nat.zero_add _)

theorem emb5 : (((cfgM m hO).win 5).blk t).view.emb y = y := by
  funext a
  refine Fin.ext ((Pipeline.Window.rect_emb_val ((cfgM m hO).win 5) t y a rfl).trans ?_)
  fin_cases a
  all_goals exact (congrArg (· + _) (Nat.zero_mul _)).trans (Nat.zero_add _)

theorem emb6 : (((cfgM m hO).win 6).blk t).view.emb y = y := by
  funext a
  refine Fin.ext ((Pipeline.Window.rect_emb_val ((cfgM m hO).win 6) t y a rfl).trans ?_)
  fin_cases a
  all_goals exact (congrArg (· + _) (Nat.zero_mul _)).trans (Nat.zero_add _)

theorem emb7 : (((cfgM m hO).win 7).blk t).view.emb y = y := by
  funext a
  refine Fin.ext ((Pipeline.Window.rect_emb_val ((cfgM m hO).win 7) t y a rfl).trans ?_)
  fin_cases a
  all_goals exact (congrArg (· + _) (Nat.zero_mul _)).trans (Nat.zero_add _)

/-- The gradient's is the device's quarter of the columns. -/
theorem emb1 (z : S4x384.Idx) (a : Fin 2) :
    ((((cfgM m hO).win 1).blk t).view.emb z a).val = ![0, (word m 0).toNat] a * S4x384.size a + (z a).val := by
  refine (Pipeline.Window.rect_emb_val ((cfgM m hO).win 1) t z a rfl).trans ?_
  show cc0_transform_1 inb_S1_S1_0 numel1_S1 (tbl m) (grid0.coords t) a * _ + _ = _
  rw [at_word]
  rfl

variable (h : (word m 0).toNat < 4) (c : Dev nD)

theorem read_w : iblk m hO c 0 t y = (arg m c).w y := congrArg (m ((c : Thread nD τ).loc main_arg1)) (emb0 m hO t y)
theorem read_m : iblk m hO c 2 t y = (arg m c).m y := congrArg (m ((c : Thread nD τ).loc main_arg3)) (emb2 m hO t y)
theorem read_v : iblk m hO c 3 t y = (arg m c).v y := congrArg (m ((c : Thread nD τ).loc main_arg4)) (emb3 m hO t y)

include h in
theorem read_g : shapeCast S1x4x384 (iblk m hO c 1 t) shapeCasts_S4x384_S1x4x384 y = (arg m c).grad y := by
  obtain rfl : c = 0 := Subsingleton.elim _ _
  refine (shapeCast_addUnit_apply ![4, 384] _ _ y).trans (congrArg (m (((0 : Dev nD) : Thread nD τ).loc main_arg2)) ?_)
  funext a
  refine Fin.ext ((emb1 m hO t _ a).trans ?_)
  fin_cases a
  · exact (congrArg (· + _) (Nat.zero_mul _)).trans (Nat.zero_add _)
  · show (word m 0).toNat * 384 + _ = (device (word m 0)).val * 384 + _
    rw [device_val h]
    rfl

end

theorem covers (hO : Ok m) : ((cfgM m hO).win 4).Covers ∧ ((cfgM m hO).win 5).Covers ∧ ((cfgM m hO).win 6).Covers
    ∧ ((cfgM m hO).win 7).Covers := by
  refine ⟨?_, ?_, ?_, ?_⟩
  all_goals
    refine ⟨fun a => by fin_cases a <;> exact Nat.succ_pos _, fun β => ⟨(⟨0, by decide⟩ : Fin grid0.N), ?_, fun a => ?_⟩⟩
    · first | exact flush0_4 _ _ | exact flush0_5 _ _ | exact flush0_6 _ _ | exact flush0_7 _ _
    · refine ⟨?_, Or.inl rfl⟩
      have hb : (β a).val < 1 := lt_of_lt_of_eq (β a).isLt
        ((by decide : ∀ a : Fin 3, (S1x4x384.size a + S1x4x384.size a - 1) / S1x4x384.size a = 1) a)
      exact Eq.trans (by fin_cases a <;> rfl) (Nat.lt_one_iff.mp hb).symm

variable (h : (word m 0).toNat < 4) (hO : Ok m) (c : Dev nD)

include h in
theorem final : (dats m hO 0 c).arrAt 4 (cfgM m hO).N = (arg m c).grad
    ∧ (dats m hO 0 c).arrAt 5 (cfgM m hO).N = (arg m c).delta
    ∧ (dats m hO 0 c).arrAt 6 (cfgM m hO).N = (arg m c).mean
    ∧ (dats m hO 0 c).arrAt 7 (cfgM m hO).N = (arg m c).spread := by
  obtain ⟨c4, c5, c6, c7⟩ := covers m hO
  refine ⟨?_, ?_, ?_, ?_⟩
  · refine (dats m hO 0 c).arrAt_eq_of_covers _ _ c4 fun t hf y => ?_
    rw [emb4 m hO t y]
    blk_simp
    simp only [after0_4, outsAt0]
    frame_out
    refine (congrFun (congrArg k0_pay4 ((hs0_1 m hO t).read_unread _)) y).trans ?_
    exact read_g m hO t y h c
  · refine (dats m hO 0 c).arrAt_eq_of_covers _ _ c5 fun t hf y => ?_
    rw [emb5 m hO t y]
    blk_simp
    simp only [after0_5, outsAt0]
    frame_out
    refine (congrFun (congrArg (k0_pay1 · _) (congr (congr (congr (congrArg k0_pay7 ((hs0_0 m hO t).read_unread _)) ((hs0_1 m hO t).read_unread _)) ((hs0_2 m hO t).read_unread _))
      ((hs0_3 m hO t).read_unread _))) y).trans ?_
    exact (arg m c).delta_at shapeCasts_S1x4x384_S4x384 shapeCasts_S4x384_S1x4x384 (read_w m hO t y c) (read_g m hO t y h c)
      (read_m m hO t y c) (read_v m hO t y c)
  · refine (dats m hO 0 c).arrAt_eq_of_covers _ _ c6 fun t hf y => ?_
    rw [emb6 m hO t y]
    blk_simp
    simp only [after0_6, outsAt0]
    frame_out
    refine (congrFun (congrArg k0_pay2 (congr (congrArg k0_pay5 ((hs0_1 m hO t).read_unread _)) ((hs0_2 m hO t).read_unread _))) y).trans ?_
    exact (arg m c).mean_at shapeCasts_S1x4x384_S4x384 shapeCasts_S4x384_S1x4x384 (read_g m hO t y h c) (read_m m hO t y c)
  · refine (dats m hO 0 c).arrAt_eq_of_covers _ _ c7 fun t hf y => ?_
    rw [emb7 m hO t y]
    blk_simp
    simp only [after0_7, outsAt0]
    frame_out
    refine (congrFun (congrArg k0_pay3 (congr (congrArg k0_pay6 ((hs0_1 m hO t).read_unread _)) ((hs0_3 m hO t).read_unread _))) y).trans ?_
    exact (arg m c).spread_at shapeCasts_S1x4x384_S4x384 shapeCasts_S4x384_S1x4x384 (read_g m hO t y h c) (read_v m hO t y c)

/-- Every run leaves the step of the arguments in the results, and the arguments as they were. -/
theorem run_values (ρ : Dev nD → PrngReg) (h : (word m 0).toNat < 4) :
    θ_run defs (onTc (τ := τ) (main (F := Ideal))) ⟨m, fun _ => 0, ρ⟩ (fun r => ∀ c : Dev nD,
      r.2.mem ((c.tc : Thread nD τ).loc main_v0_0) = (arg m c).grad
      ∧ r.2.mem ((c.tc : Thread nD τ).loc main_v0_1) = (arg m c).delta
      ∧ r.2.mem ((c.tc : Thread nD τ).loc main_v0_2) = (arg m c).mean
      ∧ r.2.mem ((c.tc : Thread nD τ).loc main_v0_3) = (arg m c).spread
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO := ok m h
  refine (θ_run defs _ _).mono (fun r hr c => ?_) (θ_run_and (run_main m ρ hO) (unchanged m ρ hO))
  obtain ⟨f4, f5, f6, f7⟩ := final m h hO c
  exact ⟨((hr.1 c).1 4).trans f4, ((hr.1 c).1 5).trans f5, ((hr.1 c).1 6).trans f6, ((hr.1 c).1 7).trans f7, hr.2 c⟩

end Cert.Kernel7Ideal.Arrays

end
-- ==== Proof.Reference7Value.lean ====
/-
  The reference's step for the weight `ssd_conv_w`, result by result: the step (Columns.lean) of the quarter.
-/
module

public import proofs.«01_k».proof.Proof.Gen.Reference7Ideal.Read
public import proofs.«01_k».proof.Proof.Columns

@[expose] public section

noncomputable section

namespace Cert.Reference7Ideal.Entries

open Cert.Reference7Ideal Cert.Reference7Ideal.Gen Cert.Reference7Ideal.Read Cert.Optimiser Idealize.ShloMosaic
open Idealize.ShloMosaic.Pointwise

variable (x : Quarter 4 384 1536) (b : IVec S1 32) (h : (b (ix1 0)).toNat < 4) (e : x.chip = device (b (ix1 0)))

include h e in
theorem grad : val_main_v14 (F := Ideal) b x.g = x.grad := by
  funext j
  refine (shapeCast_addUnit_apply ![4, 384] _ _ j).trans ?_
  refine Eq.trans ?_ ((chosen h (x.part · j)).trans (congrArg (x.part · j) e.symm))
  rw [← x.sliced 0 rfl slices_S4x1536_S4x384_0_0 j, ← x.sliced 1 rfl slices_S4x1536_S4x384_0_384 j,
    ← x.sliced 2 rfl slices_S4x1536_S4x384_0_768 j, ← x.sliced 3 rfl slices_S4x1536_S4x384_0_1152 j]
  rw [← (fun i => congrArg b (only _) : ∀ i, val_main_v0 (F := Ideal) b i = b (ix1 0)) fun a => a.elim0]
  rfl

include h e in
theorem delta : val_main_v38 (F := Ideal) b x.w x.g x.m x.v = x.delta := by
  unfold Quarter.delta
  rw [← grad x b h e]
  rfl

include h e in
theorem mean : val_main_v19 (F := Ideal) b x.g x.m = x.mean := by
  unfold Quarter.mean
  rw [← grad x b h e]
  rfl

include h e in
theorem spread : val_main_v25 (F := Ideal) b x.g x.v = x.spread := by
  unfold Quarter.spread
  rw [← grad x b h e]
  rfl

end Cert.Reference7Ideal.Entries

end
-- ==== Proof.Columns8.lean ====
/-
  The optimiser's launch for the weight `cf_conv_w`: it runs for a device's number, and leaves in its result arrays the
  step (Columns.lean) of the quarter it is entered with.
-/
module

public import proofs.«01_k».proof.Proof.Gen.Kernel8Ideal.Frame
public import proofs.«01_k».proof.Proof.Gen.Kernel8.Frame
public import proofs.«01_k».proof.Pre_chip_number8
public import proofs.«01_k».proof.Proof.Columns
public import Idealize.ShloMosaic.Lib.Pipeline.ValueKit

@[expose] public section

noncomputable section

namespace Cert.Pre_chip_number8

open Idealize.ShloMosaic Cert.Optimiser

theorem facts : Facts where
  bcast_S_S1 := by decide

/-- The precondition, read. -/
theorem lt [Facts] {F : FTy → Type} [FloatOps F] {b : IVec S1 32} {w g m v} (h : fn (F := F) b w g m v = fun _ => 1#1) :
    (b (ix1 0)).toNat < 4 := lt_of_compared _ (congrFun h (ix1 0))

end Cert.Pre_chip_number8

namespace Cert.Kernel8.Arrays

open Cert.Kernel8 Cert.Kernel8.Gen Cert.Optimiser Idealize.ShloMosaic Idealize.ShloMosaic.TcCoe

/-- For a device's number the launch with floating-point arithmetic runs, too. -/
theorem ok (m : (ℓ : Loc nD τ sig) → Buf (Elt Bits) ℓ)
    (h : (m (((0 : Dev nD) : Thread nD τ).loc main_arg0) (ix1 0)).toNat < 4) : Ok m := fun i => by
  have e : (tbl m).at 0 (Rect.unit (s := S1) ![0] S1.size inb_S1_S1_0) numel1_S1 = m (((0 : Dev nD) : Thread nD τ).loc main_arg0) (ix1 0) :=
    congrArg (m (((0 : Dev nD) : Thread nD τ).loc main_arg0)) (only _)
  refine ⟨fun a => ?_, Or.inl rfl⟩
  unfold cc0_transform_1
  rw [e]
  fin_cases a
  · show (0 + 1) * 31 ≤ 31
    omega
  · show ((m (((0 : Dev nD) : Thread nD τ).loc main_arg0) (ix1 0)).toNat + 1) * 256 ≤ 1024
    omega

end Cert.Kernel8.Arrays

namespace Cert.Kernel8Ideal.Arrays

open Cert.Kernel8Ideal Cert.Kernel8Ideal.Gen Cert.Optimiser Idealize.ShloMosaic
open Idealize.ShloMosaic.TcCoe Idealize.ShloMosaic.Pointwise Idealize.SL.Sem
open Idealize.ShloMosaic.Pipeline (Dat)

variable (m : (ℓ : Loc nD τ sig) → Buf (Elt Ideal) ℓ)

/-- The device's number. -/
abbrev word (c : Dev nD) : BitVec 32 := m ((c : Thread nD τ).loc main_arg0) (ix1 0)

/-- What the launch reads. -/
def arg (c : Dev nD) : Quarter 31 256 1024 := ⟨rfl, device (word m c), m ((c : Thread nD τ).loc main_arg1),
  m ((c : Thread nD τ).loc main_arg2), m ((c : Thread nD τ).loc main_arg3), m ((c : Thread nD τ).loc main_arg4)⟩

theorem at_word (i : grid0.Coords) :
    cc0_transform_1 inb_S1_S1_0 numel1_S1 (tbl m) i = ![0, (word m 0).toNat] := by
  have e : (tbl m).at 0 (Rect.unit (s := S1) ![0] S1.size inb_S1_S1_0) numel1_S1 = word m 0 :=
    congrArg (m (((0 : Dev nD) : Thread nD τ).loc main_arg0)) (only _)
  unfold cc0_transform_1
  rw [e]
  rfl

/-- A device's number names a block of the gradient. -/
theorem ok (h : (word m 0).toNat < 4) : Ok m := fun i =>
  ⟨fun a => by
    rw [at_word]
    fin_cases a
    · show (0 + 1) * 31 ≤ 31
      omega
    · show ((word m 0).toNat + 1) * 256 ≤ 1024
      omega, Or.inl rfl⟩

section
variable (hO : Ok m) (t : Fin (cfgM m hO).N) (y : S1x31x256.Idx)

/-! Every block but the gradient's is its array. -/

theorem emb0 : (((cfgM m hO).win 0).blk t).view.emb y = y := by
  funext a
  refine Fin.ext ((Pipeline.Window.rect_emb_val ((cfgM m hO).win 0) t y a rfl).trans ?_)
  fin_cases a
  all_goals exact (congrArg (· + _) (Nat.zero_mul _)).trans (Nat.zero_add _)

theorem emb2 : (((cfgM m hO).win 2).blk t).view.emb y = y := by
  funext a
  refine Fin.ext ((Pipeline.Window.rect_emb_val ((cfgM m hO).win 2) t y a rfl).trans ?_)
  fin_cases a
  all_goals exact (congrArg (· + _) (Nat.zero_mul _)).trans (Nat.zero_add _)

theorem emb3 : (((cfgM m hO).win 3).blk t).view.emb y = y := by
  funext a
  refine Fin.ext ((Pipeline.Window.rect_emb_val ((cfgM m hO).win 3) t y a rfl).trans ?_)
  fin_cases a
  all_goals exact (congrArg (· + _) (Nat.zero_mul _)).trans (Nat.zero_add _)

theorem emb4 : (((cfgM m hO).win 4).blk t).view.emb y = y := by
  funext a
  refine Fin.ext ((Pipeline.Window.rect_emb_val ((cfgM m hO).win 4) t y a rfl).trans ?_)
  fin_cases a
  all_goals exact (congrArg (· + _) (Nat.zero_mul _)).trans (Nat.zero_add _)

theorem emb5 : (((cfgM m hO).win 5).blk t).view.emb y = y := by
  funext a
  refine Fin.ext ((Pipeline.Window.rect_emb_val ((cfgM m hO).win 5) t y a rfl).trans ?_)
  fin_cases a
  all_goals exact (congrArg (· + _) (Nat.zero_mul _)).trans (Nat.zero_add _)

theorem emb6 : (((cfgM m hO).win 6).blk t).view.emb y = y := by
  funext a
  refine Fin.ext ((Pipeline.Window.rect_emb_val ((cfgM m hO).win 6) t y a rfl).trans ?_)
  fin_cases a
  all_goals exact (congrArg (· + _) (Nat.zero_mul _)).trans (Nat.zero_add _)

theorem emb7 : (((cfgM m hO).win 7).blk t).view.emb y = y := by
  funext a
  refine Fin.ext ((Pipeline.Window.rect_emb_val ((cfgM m hO).win 7) t y a rfl).trans ?_)
  fin_cases a
  all_goals exact (congrArg (· + _) (Nat.zero_mul _)).trans (Nat.zero_add _)

/-- The gradient's is the device's quarter of the columns. -/
theorem emb1 (z : S31x256.Idx) (a : Fin 2) :
    ((((cfgM m hO).win 1).blk t).view.emb z a).val = ![0, (word m 0).toNat] a * S31x256.size a + (z a).val := by
  refine (Pipeline.Window.rect_emb_val ((cfgM m hO).win 1) t z a rfl).trans ?_
  show cc0_transform_1 inb_S1_S1_0 numel1_S1 (tbl m) (grid0.coords t) a * _ + _ = _
  rw [at_word]
  rfl

variable (h : (word m 0).toNat < 4) (c : Dev nD)

theorem read_w : iblk m hO c 0 t y = (arg m c).w y := congrArg (m ((c : Thread nD τ).loc main_arg1)) (emb0 m hO t y)
theorem read_m : iblk m hO c 2 t y = (arg m c).m y := congrArg (m ((c : Thread nD τ).loc main_arg3)) (emb2 m hO t y)
theorem read_v : iblk m hO c 3 t y = (arg m c).v y := congrArg (m ((c : Thread nD τ).loc main_arg4)) (emb3 m hO t y)

include h in
theorem read_g : shapeCast S1x31x256 (iblk m hO c 1 t) shapeCasts_S31x256_S1x31x256 y = (arg m c).grad y := by
  obtain rfl : c = 0 := Subsingleton.elim _ _
  refine (shapeCast_addUnit_apply ![31, 256] _ _ y).trans (congrArg (m (((0 : Dev nD) : Thread nD τ).loc main_arg2)) ?_)
  funext a
  refine Fin.ext ((emb1 m hO t _ a).trans ?_)
  fin_cases a
  · exact (congrArg (· + _) (Nat.zero_mul _)).trans (Nat.zero_add _)
  · show (word m 0).toNat * 256 + _ = (device (word m 0)).val * 256 + _
    rw [device_val h]
    rfl

end

theorem covers (hO : Ok m) : ((cfgM m hO).win 4).Covers ∧ ((cfgM m hO).win 5).Covers ∧ ((cfgM m hO).win 6).Covers
    ∧ ((cfgM m hO).win 7).Covers := by
  refine ⟨?_, ?_, ?_, ?_⟩
  all_goals
    refine ⟨fun a => by fin_cases a <;> exact Nat.succ_pos _, fun β => ⟨(⟨0, by decide⟩ : Fin grid0.N), ?_, fun a => ?_⟩⟩
    · first | exact flush0_4 _ _ | exact flush0_5 _ _ | exact flush0_6 _ _ | exact flush0_7 _ _
    · refine ⟨?_, Or.inl rfl⟩
      have hb : (β a).val < 1 := lt_of_lt_of_eq (β a).isLt
        ((by decide : ∀ a : Fin 3, (S1x31x256.size a + S1x31x256.size a - 1) / S1x31x256.size a = 1) a)
      exact Eq.trans (by fin_cases a <;> rfl) (Nat.lt_one_iff.mp hb).symm

variable (h : (word m 0).toNat < 4) (hO : Ok m) (c : Dev nD)

include h in
theorem final : (dats m hO 0 c).arrAt 4 (cfgM m hO).N = (arg m c).grad
    ∧ (dats m hO 0 c).arrAt 5 (cfgM m hO).N = (arg m c).delta
    ∧ (dats m hO 0 c).arrAt 6 (cfgM m hO).N = (arg m c).mean
    ∧ (dats m hO 0 c).arrAt 7 (cfgM m hO).N = (arg m c).spread := by
  obtain ⟨c4, c5, c6, c7⟩ := covers m hO
  refine ⟨?_, ?_, ?_, ?_⟩
  · refine (dats m hO 0 c).arrAt_eq_of_covers _ _ c4 fun t hf y => ?_
    rw [emb4 m hO t y]
    blk_simp
    simp only [after0_4, outsAt0]
    frame_out
    refine (congrFun (congrArg k0_pay4 ((hs0_1 m hO t).read_unread _)) y).trans ?_
    exact read_g m hO t y h c
  · refine (dats m hO 0 c).arrAt_eq_of_covers _ _ c5 fun t hf y => ?_
    rw [emb5 m hO t y]
    blk_simp
    simp only [after0_5, outsAt0]
    frame_out
    refine (congrFun (congrArg (k0_pay1 · _) (congr (congr (congr (congrArg k0_pay7 ((hs0_0 m hO t).read_unread _)) ((hs0_1 m hO t).read_unread _)) ((hs0_2 m hO t).read_unread _))
      ((hs0_3 m hO t).read_unread _))) y).trans ?_
    exact (arg m c).delta_at shapeCasts_S1x31x256_S31x256 shapeCasts_S31x256_S1x31x256 (read_w m hO t y c) (read_g m hO t y h c)
      (read_m m hO t y c) (read_v m hO t y c)
  · refine (dats m hO 0 c).arrAt_eq_of_covers _ _ c6 fun t hf y => ?_
    rw [emb6 m hO t y]
    blk_simp
    simp only [after0_6, outsAt0]
    frame_out
    refine (congrFun (congrArg k0_pay2 (congr (congrArg k0_pay5 ((hs0_1 m hO t).read_unread _)) ((hs0_2 m hO t).read_unread _))) y).trans ?_
    exact (arg m c).mean_at shapeCasts_S1x31x256_S31x256 shapeCasts_S31x256_S1x31x256 (read_g m hO t y h c) (read_m m hO t y c)
  · refine (dats m hO 0 c).arrAt_eq_of_covers _ _ c7 fun t hf y => ?_
    rw [emb7 m hO t y]
    blk_simp
    simp only [after0_7, outsAt0]
    frame_out
    refine (congrFun (congrArg k0_pay3 (congr (congrArg k0_pay6 ((hs0_1 m hO t).read_unread _)) ((hs0_3 m hO t).read_unread _))) y).trans ?_
    exact (arg m c).spread_at shapeCasts_S1x31x256_S31x256 shapeCasts_S31x256_S1x31x256 (read_g m hO t y h c) (read_v m hO t y c)

/-- Every run leaves the step of the arguments in the results, and the arguments as they were. -/
theorem run_values (ρ : Dev nD → PrngReg) (h : (word m 0).toNat < 4) :
    θ_run defs (onTc (τ := τ) (main (F := Ideal))) ⟨m, fun _ => 0, ρ⟩ (fun r => ∀ c : Dev nD,
      r.2.mem ((c.tc : Thread nD τ).loc main_v0_0) = (arg m c).grad
      ∧ r.2.mem ((c.tc : Thread nD τ).loc main_v0_1) = (arg m c).delta
      ∧ r.2.mem ((c.tc : Thread nD τ).loc main_v0_2) = (arg m c).mean
      ∧ r.2.mem ((c.tc : Thread nD τ).loc main_v0_3) = (arg m c).spread
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO := ok m h
  refine (θ_run defs _ _).mono (fun r hr c => ?_) (θ_run_and (run_main m ρ hO) (unchanged m ρ hO))
  obtain ⟨f4, f5, f6, f7⟩ := final m h hO c
  exact ⟨((hr.1 c).1 4).trans f4, ((hr.1 c).1 5).trans f5, ((hr.1 c).1 6).trans f6, ((hr.1 c).1 7).trans f7, hr.2 c⟩

end Cert.Kernel8Ideal.Arrays

end
-- ==== Proof.Reference8Value.lean ====
/-
  The reference's step for the weight `cf_conv_w`, result by result: the step (Columns.lean) of the quarter.
-/
module

public import proofs.«01_k».proof.Proof.Gen.Reference8Ideal.Read
public import proofs.«01_k».proof.Proof.Columns

@[expose] public section

noncomputable section

namespace Cert.Reference8Ideal.Entries

open Cert.Reference8Ideal Cert.Reference8Ideal.Gen Cert.Reference8Ideal.Read Cert.Optimiser Idealize.ShloMosaic
open Idealize.ShloMosaic.Pointwise

variable (x : Quarter 31 256 1024) (b : IVec S1 32) (h : (b (ix1 0)).toNat < 4) (e : x.chip = device (b (ix1 0)))

include h e in
theorem grad : val_main_v14 (F := Ideal) b x.g = x.grad := by
  funext j
  refine (shapeCast_addUnit_apply ![31, 256] _ _ j).trans ?_
  refine Eq.trans ?_ ((chosen h (x.part · j)).trans (congrArg (x.part · j) e.symm))
  rw [← x.sliced 0 rfl slices_S31x1024_S31x256_0_0 j, ← x.sliced 1 rfl slices_S31x1024_S31x256_0_256 j,
    ← x.sliced 2 rfl slices_S31x1024_S31x256_0_512 j, ← x.sliced 3 rfl slices_S31x1024_S31x256_0_768 j]
  rw [← (fun i => congrArg b (only _) : ∀ i, val_main_v0 (F := Ideal) b i = b (ix1 0)) fun a => a.elim0]
  rfl

include h e in
theorem delta : val_main_v38 (F := Ideal) b x.w x.g x.m x.v = x.delta := by
  unfold Quarter.delta
  rw [← grad x b h e]
  rfl

include h e in
theorem mean : val_main_v19 (F := Ideal) b x.g x.m = x.mean := by
  unfold Quarter.mean
  rw [← grad x b h e]
  rfl

include h e in
theorem spread : val_main_v25 (F := Ideal) b x.g x.v = x.spread := by
  unfold Quarter.spread
  rw [← grad x b h e]
  rfl

end Cert.Reference8Ideal.Entries

end
-- ==== Proof.lean ====
/-
  The proof of `Cert.Claim`: the attention-backward kernel returns jax's gradient of the softmax attention; the kernels of
  the output projection, the feed-forward layer and the loss, forward and backward, return the loss and jax's gradients of it; the kernels
  of the mixer's input projection and those of its output projection and of the projections to queries, keys and values return,
  forward and backward, the projections and jax's gradients; the attention's forward kernel returns the softmax attention; and
  the optimiser's kernels return the step of each shard, of rows or of columns.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5Ideal
public import proofs.«01_k».proof.Proof.Gen.Kernel5Ideal.Frame
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.KernelValue
public import proofs.«01_k».proof.Proof.RefValue
public import proofs.«01_k».proof.Proof.Finite
public import proofs.«01_k».proof.Proof.FiniteArguments
public import proofs.«01_k».proof.Proof.LayersRun
public import proofs.«01_k».proof.Proof.Reference2Value
public import proofs.«01_k».proof.Proof.InputRun
public import proofs.«01_k».proof.Proof.Reference3Value
public import proofs.«01_k».proof.Proof.MemoryRun
public import proofs.«01_k».proof.Proof.Reference4Value
public import proofs.«01_k».proof.Proof.Attention
public import proofs.«01_k».proof.Proof.Reference5Value
public import proofs.«01_k».proof.Proof.OptimiserRun
public import proofs.«01_k».proof.Proof.Reference6Value
public import proofs.«01_k».proof.Proof.Columns7
public import proofs.«01_k».proof.Proof.Reference7Value
public import proofs.«01_k».proof.Proof.Columns8
public import proofs.«01_k».proof.Proof.Reference8Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

instance : Cert.Pre_finite_logits.Facts := Cert.Pre_finite_logits.facts

theorem frame_reference : Cert.quiescent_ReferenceIdeal := fun m g _ =>
  (θ_run Cert.ReferenceIdeal.defs _ _).mono (fun r h => And.intro (fun c => (h c).2.2)
      (Idealize.ShloMosaic.sem_eq_zero_of_no_sems (by decide) r.2))
    (Cert.ReferenceIdeal.Value.run (F := Ideal) m g)

/-- Both programs return `gradRows` and `gradTokens` of the arguments. -/
theorem algebraic : Cert.algebraic_KernelIdeal_ReferenceIdeal_pre_finite_logits := by
  intro m g m' g' hpre hagree
  refine ⟨fun c => (Cert.KernelIdeal.Gen.dats m 0 c).arrAt 3 Cert.KernelIdeal.cfg0.N,
    fun c => (Cert.KernelIdeal.Gen.dats m 0 c).arrAt 4 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨h1, h2, h3⟩ := h c
  have hs := Cert.Pre_finite_logits.logits_real _ _ _ (hpre c).1 (hpre c).2
  obtain ⟨a0, a1, a2⟩ := hagree c
  refine ⟨h1.trans ?_, h2.trans ?_, h3⟩
  · rw [Cert.ReferenceIdeal.Read.val_main_v66_eq, a0, a1, a2]
    refine Eq.trans ?_ (Cert.KernelIdeal.Arrays.final_3 m c).symm
    exact Cert.ReferenceIdeal.Entries.rows_eq _ _ _ hs
  · rw [Cert.ReferenceIdeal.Read.val_main_v65_eq, a0, a1, a2]
    refine Eq.trans ?_ (Cert.KernelIdeal.Arrays.final_4 m c).symm
    exact Cert.ReferenceIdeal.Entries.tokens_eq _ _ _ hs

instance : Cert.Pre_finite_arguments.Facts := Cert.Pre_finite_arguments.facts

theorem frame_reference2 : Cert.quiescent_Reference2Ideal := fun m g _ =>
  (θ_run Cert.Reference2Ideal.defs _ _).mono (fun r h => And.intro (fun c => (h c).2.2.2.2.2.2.2.2.2)
      (Idealize.ShloMosaic.sem_eq_zero_of_no_sems (by decide) r.2))
    (Cert.Reference2Ideal.Value.run (F := Ideal) m g)

open Cert.Layers Cert.Kernel2Ideal.Arrays in
/-- Both programs return the loss and gradients of `Args`. -/
theorem algebraic2 : Cert.algebraic_Kernel2Ideal_Reference2Ideal_pre_finite_arguments := by
  intro m g m' g' hpre hagree
  refine ⟨fun c => (fun _ => loss (args m c).x3 (args m c).gl (args m c).tgt : Mat 1 128), fun c => (args m c).dx2,
    fun c => (args m c).do', fun c => (args m c).dwo, fun c => (args m c).dgf, fun c => (args m c).dwg, fun c => (args m c).dwu,
    fun c => (args m c).dwd, fun c => (args m c).dgl, run_values m g, ?_⟩
  refine (θ_run Cert.Reference2Ideal.defs _ _).mono (fun r h c => ?_) (Cert.Reference2Ideal.Value.run (F := Ideal) m' g')
  obtain ⟨h0, h1, h2, h3, h4, h5, h6, h7, h8, h9⟩ := h c
  obtain ⟨p0, p1, p2, p3, p4, p5, p6, p7, p8⟩ := hpre c
  have hr : (args m c).Real := Cert.Pre_finite_arguments.args_real (args m c) p0 p1 p2 p3 p4 p5 p6 p7 p8
  obtain ⟨a0, a1, a2, a3, a4, a5, a6, a7, a8⟩ := hagree c
  refine ⟨h0.trans ?_, h1.trans ?_, h2.trans ?_, h3.trans ?_, h4.trans ?_, h5.trans ?_, h6.trans ?_, h7.trans ?_, h8.trans ?_, h9⟩
  · rw [Cert.Reference2Ideal.Read.val_main_v117_eq]
    simp only [StableHlo.launchContents_devRef, a0, a1, a2, a3, a4, a5, a6, a7, a8]
    exact Cert.Reference2Ideal.Entries.loss_eq (args m c)
  · rw [Cert.Reference2Ideal.Read.val_main_v113_eq]
    simp only [StableHlo.launchContents_devRef, a0, a1, a2, a3, a4, a5, a6, a7, a8]
    exact Cert.Reference2Ideal.Entries.dx2_eq (args m c) hr
  · rw [Cert.Reference2Ideal.Read.val_main_v116_eq]
    simp only [StableHlo.launchContents_devRef, a0, a1, a2, a3, a4, a5, a6, a7, a8]
    exact Cert.Reference2Ideal.Entries.do_eq (args m c) hr
  · rw [Cert.Reference2Ideal.Read.val_main_v115_eq]
    simp only [StableHlo.launchContents_devRef, a0, a1, a2, a3, a4, a5, a6, a7, a8]
    exact Cert.Reference2Ideal.Entries.dwo_eq (args m c) hr
  · rw [Cert.Reference2Ideal.Read.val_main_v96_eq]
    simp only [StableHlo.launchContents_devRef, a0, a1, a2, a3, a4, a5, a6, a7, a8]
    exact Cert.Reference2Ideal.Entries.dgf_eq (args m c) hr
  · rw [Cert.Reference2Ideal.Read.val_main_v93_eq]
    simp only [StableHlo.launchContents_devRef, a0, a1, a2, a3, a4, a5, a6, a7, a8]
    exact Cert.Reference2Ideal.Entries.dwg_eq (args m c) hr
  · rw [Cert.Reference2Ideal.Read.val_main_v87_eq]
    simp only [StableHlo.launchContents_devRef, a0, a1, a2, a3, a4, a5, a6, a7, a8]
    exact Cert.Reference2Ideal.Entries.dwu_eq (args m c) hr
  · rw [Cert.Reference2Ideal.Read.val_main_v80_eq]
    simp only [StableHlo.launchContents_devRef, a0, a1, a2, a3, a4, a5, a6, a7, a8]
    exact Cert.Reference2Ideal.Entries.dwd_eq (args m c) hr
  · rw [Cert.Reference2Ideal.Read.val_main_v62_eq]
    simp only [StableHlo.launchContents_devRef, a0, a1, a2, a3, a4, a5, a6, a7, a8]
    exact Cert.Reference2Ideal.Entries.dgl_eq (args m c)

theorem frame_reference3 : Cert.quiescent_Reference3Ideal := fun m g _ =>
  (θ_run Cert.Reference3Ideal.defs _ _).mono (fun r h => And.intro (fun c => (h c).2.2.2.2)
      (Idealize.ShloMosaic.sem_eq_zero_of_no_sems (by decide) r.2))
    (Cert.Reference3Ideal.Value.run (F := Ideal) m g)

open Cert.Layers Cert.Kernel3Ideal.Arrays in
/-- Both programs return the results of `InputArgs`. -/
theorem algebraic3 : Cert.algebraic_Kernel3Ideal_Reference3Ideal := by
  intro m g m' g' _ hagree
  refine ⟨fun c => (args m c).proj, fun c => (args m c).dx, fun c => (args m c).dgm, fun c => (args m c).dw,
    run_values m g, ?_⟩
  refine (θ_run Cert.Reference3Ideal.defs _ _).mono (fun r h c => ?_) (Cert.Reference3Ideal.Value.run (F := Ideal) m' g')
  obtain ⟨h0, h1, h2, h3, h4⟩ := h c
  obtain ⟨a0, a1, a2, a3, a4, a5, a6, a7, a8⟩ := hagree c
  refine ⟨h0.trans ?_, h1.trans ?_, h2.trans ?_, h3.trans ?_, h4⟩
  · rw [Cert.Reference3Ideal.Read.val_main_v21_eq]
    simp only [StableHlo.launchContents_devRef, a0, a1, a2, a3, a4, a5, a6, a7, a8]
    exact Cert.Reference3Ideal.Entries.proj_eq (args m c)
  · rw [Cert.Reference3Ideal.Read.val_main_v45_eq]
    simp only [StableHlo.launchContents_devRef, a0, a1, a2, a3, a4, a5, a6, a7, a8]
    exact Cert.Reference3Ideal.Entries.dx_eq (args m c)
  · rw [Cert.Reference3Ideal.Read.val_main_v28_eq]
    simp only [StableHlo.launchContents_devRef, a0, a1, a2, a3, a4, a5, a6, a7, a8]
    exact Cert.Reference3Ideal.Entries.dgm_eq (args m c)
  · rw [Cert.Reference3Ideal.Read.val_main_v24_eq]
    simp only [StableHlo.launchContents_devRef, a0, a1, a2, a3, a4, a5, a6, a7, a8]
    exact Cert.Reference3Ideal.Entries.dw_eq (args m c)

theorem frame_reference4 : Cert.quiescent_Reference4Ideal := fun m g _ =>
  (θ_run Cert.Reference4Ideal.defs _ _).mono (fun r h => And.intro (fun c => (h c).2.2.2.2.2.2.2.2.2.2)
      (Idealize.ShloMosaic.sem_eq_zero_of_no_sems (by decide) r.2))
    (Cert.Reference4Ideal.Value.run (F := Ideal) m g)

open Cert.Layers Cert.Kernel4Ideal.Arrays in
/-- Both programs return the results of `MemoryArgs`. -/
theorem algebraic4 : Cert.algebraic_Kernel4Ideal_Reference4Ideal := by
  intro m g m' g' _ hagree
  refine ⟨fun c => (args m c).x1, fun c => (args m c).q, fun c => (args m c).kv, fun c => (args m c).dx1, fun c => (args m c).dmix, fun c => (args m c).dwo, fun c => (args m c).dgx, fun c => (args m c).dwq, fun c => (args m c).dgm, fun c => (args m c).dwkv,
    run_values m g, ?_⟩
  refine (θ_run Cert.Reference4Ideal.defs _ _).mono (fun r h c => ?_) (Cert.Reference4Ideal.Value.run (F := Ideal) m' g')
  obtain ⟨h0, h1, h2, h3, h4, h5, h6, h7, h8, h9, h10⟩ := h c
  obtain ⟨a0, a1, a2, a3, a4, a5, a6, a7, a8, a9, a10⟩ := hagree c
  refine ⟨h0.trans ?_, h1.trans ?_, h2.trans ?_, h3.trans ?_, h4.trans ?_, h5.trans ?_, h6.trans ?_, h7.trans ?_, h8.trans ?_, h9.trans ?_, h10⟩
  · rw [Cert.Reference4Ideal.Read.val_main_v6_eq]
    simp only [StableHlo.launchContents_devRef, a0, a1, a2, a3, a4, a5, a6, a7, a8, a9, a10]
    exact Cert.Reference4Ideal.Entries.x1_eq (args m c)
  · rw [Cert.Reference4Ideal.Read.val_main_v22_eq]
    simp only [StableHlo.launchContents_devRef, a0, a1, a2, a3, a4, a5, a6, a7, a8, a9, a10]
    exact Cert.Reference4Ideal.Entries.q_eq (args m c)
  · rw [Cert.Reference4Ideal.Read.val_main_v35_eq]
    simp only [StableHlo.launchContents_devRef, a0, a1, a2, a3, a4, a5, a6, a7, a8, a9, a10]
    exact Cert.Reference4Ideal.Entries.kv_eq (args m c)
  · rw [Cert.Reference4Ideal.Read.val_main_v64_eq]
    simp only [StableHlo.launchContents_devRef, a0, a1, a2, a3, a4, a5, a6, a7, a8, a9, a10]
    exact Cert.Reference4Ideal.Entries.dx1_eq (args m c)
  · rw [Cert.Reference4Ideal.Read.val_main_v68_eq]
    simp only [StableHlo.launchContents_devRef, a0, a1, a2, a3, a4, a5, a6, a7, a8, a9, a10]
    exact Cert.Reference4Ideal.Entries.dmix_eq (args m c)
  · rw [Cert.Reference4Ideal.Read.val_main_v67_eq]
    simp only [StableHlo.launchContents_devRef, a0, a1, a2, a3, a4, a5, a6, a7, a8, a9, a10]
    exact Cert.Reference4Ideal.Entries.dwo_eq (args m c)
  · rw [Cert.Reference4Ideal.Read.val_main_v47_eq]
    simp only [StableHlo.launchContents_devRef, a0, a1, a2, a3, a4, a5, a6, a7, a8, a9, a10]
    exact Cert.Reference4Ideal.Entries.dgx_eq (args m c)
  · rw [Cert.Reference4Ideal.Read.val_main_v43_eq]
    simp only [StableHlo.launchContents_devRef, a0, a1, a2, a3, a4, a5, a6, a7, a8, a9, a10]
    exact Cert.Reference4Ideal.Entries.dwq_eq (args m c)
  · rw [Cert.Reference4Ideal.Read.val_main_v41_eq]
    simp only [StableHlo.launchContents_devRef, a0, a1, a2, a3, a4, a5, a6, a7, a8, a9, a10]
    exact Cert.Reference4Ideal.Entries.dgm_eq (args m c)
  · rw [Cert.Reference4Ideal.Read.val_main_v37_eq]
    simp only [StableHlo.launchContents_devRef, a0, a1, a2, a3, a4, a5, a6, a7, a8, a9, a10]
    exact Cert.Reference4Ideal.Entries.dwkv_eq (args m c)

theorem frame_reference5 : Cert.quiescent_Reference5Ideal := fun m g _ =>
  (θ_run Cert.Reference5Ideal.defs _ _).mono (fun r h => And.intro (fun c => (h c).2)
      (Idealize.ShloMosaic.sem_eq_zero_of_no_sems (by decide) r.2))
    (Cert.Reference5Ideal.Value.run (F := Ideal) m g)

/-- Both programs return `attended` of the arguments. -/
theorem algebraic5 : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨h1, h2⟩ := h c
  obtain ⟨a0, a1⟩ := hagree c
  refine ⟨h1.trans ?_, h2⟩
  rw [Cert.Reference5Ideal.Read.val_main_v22_eq, a0, a1]
  exact (Cert.Reference5Ideal.Entries.result_eq _ _).trans (Cert.Kernel5Ideal.Arrays.final_2 m c).symm

theorem frame_reference6 : Cert.quiescent_Reference6Ideal := fun m g _ =>
  (θ_run Cert.Reference6Ideal.defs _ _).mono (fun r h => And.intro (fun c => (h c).2.2.2.2.2.2.2.2.2.2.2.2.2.2.2.2.2.2.2.2.2.2.2.2.2.2.2.2.2.2.2.2)
      (Idealize.ShloMosaic.sem_eq_zero_of_no_sems (by decide) r.2))
    (Cert.Reference6Ideal.Value.run (F := Ideal) m g)

open Cert.Kernel6Ideal.Arrays Cert.Reference6Ideal.Read Cert.Reference6Ideal.Entries in
/-- Both programs return the steps of the arguments' shards. -/
theorem algebraic6 : Cert.algebraic_Kernel6Ideal_Reference6Ideal := by
  intro m g m' g' _ hagree
  refine ⟨fun c => (arg0 m c).grad, fun c => (arg0 m c).delta, fun c => (arg0 m c).mean, fun c => (arg0 m c).spread, fun c
    => (arg1 m c).grad, fun c => (arg1 m c).delta, fun c => (arg1 m c).mean, fun c => (arg1 m c).spread, fun c =>
    (arg2 m c).grad, fun c => (arg2 m c).delta, fun c => (arg2 m c).mean, fun c => (arg2 m c).spread, fun c => (arg3
    m c).grad, fun c => (arg3 m c).delta, fun c => (arg3 m c).mean, fun c => (arg3 m c).spread, fun c => (arg4 m
    c).grad, fun c => (arg4 m c).delta, fun c => (arg4 m c).mean, fun c => (arg4 m c).spread, fun c => (arg5 m
    c).grad, fun c => (arg5 m c).delta, fun c => (arg5 m c).mean, fun c => (arg5 m c).spread, fun c => (arg6 m
    c).grad, fun c => (arg6 m c).delta, fun c => (arg6 m c).mean, fun c => (arg6 m c).spread, fun c => (arg7 m
    c).grad, fun c => (arg7 m c).delta, fun c => (arg7 m c).mean, fun c => (arg7 m c).spread,
    run_values m g, ?_⟩
  refine (θ_run Cert.Reference6Ideal.defs _ _).mono (fun r h c => ?_) (Cert.Reference6Ideal.Value.run (F := Ideal) m' g')
  obtain ⟨h0, h1, h2, h3, h4, h5, h6, h7, h8, h9, h10, h11, h12, h13, h14, h15, h16, h17, h18, h19, h20, h21, h22, h23,
    h24, h25, h26, h27, h28, h29, h30, h31, h32⟩ := h c
  obtain ⟨a0, a1, a2, a3, a4, a5, a6, a7, a8, a9, a10, a11, a12, a13, a14, a15, a16, a17, a18, a19, a20, a21, a22, a23,
    a24, a25, a26, a27, a28, a29, a30, a31⟩ := hagree c
  refine ⟨h0.trans ?_, h1.trans ?_, h2.trans ?_, h3.trans ?_, h4.trans ?_, h5.trans ?_, h6.trans ?_, h7.trans ?_, h8.trans
    ?_, h9.trans ?_, h10.trans ?_, h11.trans ?_, h12.trans ?_, h13.trans ?_, h14.trans ?_, h15.trans ?_, h16.trans
    ?_, h17.trans ?_, h18.trans ?_, h19.trans ?_, h20.trans ?_, h21.trans ?_, h22.trans ?_, h23.trans ?_, h24.trans
    ?_, h25.trans ?_, h26.trans ?_, h27.trans ?_, h28.trans ?_, h29.trans ?_, h30.trans ?_, h31.trans ?_, h32⟩
  · rw [val_main_v0_eq]; simp only [StableHlo.launchContents_devRef, a1]; exact grad0 (arg0 m c)
  · rw [val_main_v24_eq]; simp only [StableHlo.launchContents_devRef, a0, a1, a2, a3]; exact delta0 (arg0 m c)
  · rw [val_main_v5_eq]; simp only [StableHlo.launchContents_devRef, a1, a2]; exact mean0 (arg0 m c)
  · rw [val_main_v11_eq]; simp only [StableHlo.launchContents_devRef, a1, a3]; exact spread0 (arg0 m c)
  · rw [val_main_v25_eq]; simp only [StableHlo.launchContents_devRef, a5]; exact grad1 (arg1 m c)
  · rw [val_main_v49_eq]; simp only [StableHlo.launchContents_devRef, a4, a5, a6, a7]; exact delta1 (arg1 m c)
  · rw [val_main_v30_eq]; simp only [StableHlo.launchContents_devRef, a5, a6]; exact mean1 (arg1 m c)
  · rw [val_main_v36_eq]; simp only [StableHlo.launchContents_devRef, a5, a7]; exact spread1 (arg1 m c)
  · rw [val_main_v50_eq]; simp only [StableHlo.launchContents_devRef, a9]; exact grad2 (arg2 m c)
  · rw [val_main_v74_eq]; simp only [StableHlo.launchContents_devRef, a8, a9, a10, a11]; exact delta2 (arg2 m c)
  · rw [val_main_v55_eq]; simp only [StableHlo.launchContents_devRef, a9, a10]; exact mean2 (arg2 m c)
  · rw [val_main_v61_eq]; simp only [StableHlo.launchContents_devRef, a9, a11]; exact spread2 (arg2 m c)
  · rw [val_main_v75_eq]; simp only [StableHlo.launchContents_devRef, a13]; exact grad3 (arg3 m c)
  · rw [val_main_v99_eq]; simp only [StableHlo.launchContents_devRef, a12, a13, a14, a15]; exact delta3 (arg3 m c)
  · rw [val_main_v80_eq]; simp only [StableHlo.launchContents_devRef, a13, a14]; exact mean3 (arg3 m c)
  · rw [val_main_v86_eq]; simp only [StableHlo.launchContents_devRef, a13, a15]; exact spread3 (arg3 m c)
  · rw [val_main_v100_eq]; simp only [StableHlo.launchContents_devRef, a17]; exact grad2 (arg4 m c)
  · rw [val_main_v124_eq]; simp only [StableHlo.launchContents_devRef, a16, a17, a18, a19]; exact delta2 (arg4 m c)
  · rw [val_main_v105_eq]; simp only [StableHlo.launchContents_devRef, a17, a18]; exact mean2 (arg4 m c)
  · rw [val_main_v111_eq]; simp only [StableHlo.launchContents_devRef, a17, a19]; exact spread2 (arg4 m c)
  · rw [val_main_v125_eq]; simp only [StableHlo.launchContents_devRef, a21]; exact grad5 (arg5 m c)
  · rw [val_main_v149_eq]; simp only [StableHlo.launchContents_devRef, a20, a21, a22, a23]; exact delta5 (arg5 m c)
  · rw [val_main_v130_eq]; simp only [StableHlo.launchContents_devRef, a21, a22]; exact mean5 (arg5 m c)
  · rw [val_main_v136_eq]; simp only [StableHlo.launchContents_devRef, a21, a23]; exact spread5 (arg5 m c)
  · rw [val_main_v150_eq]; simp only [StableHlo.launchContents_devRef, a25]; exact grad5 (arg6 m c)
  · rw [val_main_v174_eq]; simp only [StableHlo.launchContents_devRef, a24, a25, a26, a27]; exact delta5 (arg6 m c)
  · rw [val_main_v155_eq]; simp only [StableHlo.launchContents_devRef, a25, a26]; exact mean5 (arg6 m c)
  · rw [val_main_v161_eq]; simp only [StableHlo.launchContents_devRef, a25, a27]; exact spread5 (arg6 m c)
  · rw [val_main_v175_eq]; simp only [StableHlo.launchContents_devRef, a29]; exact grad5 (arg7 m c)
  · rw [val_main_v199_eq]; simp only [StableHlo.launchContents_devRef, a28, a29, a30, a31]; exact delta5 (arg7 m c)
  · rw [val_main_v180_eq]; simp only [StableHlo.launchContents_devRef, a29, a30]; exact mean5 (arg7 m c)
  · rw [val_main_v186_eq]; simp only [StableHlo.launchContents_devRef, a29, a31]; exact spread5 (arg7 m c)

instance : Cert.Pre_chip_number.Facts := Cert.Pre_chip_number.facts

theorem frame_reference7 : Cert.quiescent_Reference7Ideal := fun m g _ =>
  (θ_run Cert.Reference7Ideal.defs _ _).mono (fun r h => And.intro (fun c => (h c).2.2.2.2)
      (Idealize.ShloMosaic.sem_eq_zero_of_no_sems (by decide) r.2))
    (Cert.Reference7Ideal.Value.run (F := Ideal) m g)

open Cert.Kernel7Ideal.Arrays Cert.Reference7Ideal.Read Cert.Reference7Ideal.Entries in
/-- Both programs return the step of the device's quarter. -/
theorem algebraic7 : Cert.algebraic_Kernel7Ideal_Reference7Ideal := by
  intro m g m' g' hpre hagree
  have hw : ∀ c, (word m c).toNat < 4 := fun c => Cert.Pre_chip_number.lt (hpre c)
  refine ⟨fun c => (arg m c).grad, fun c => (arg m c).delta, fun c => (arg m c).mean, fun c => (arg m c).spread,
    run_values m g (hw 0), ?_⟩
  refine (θ_run Cert.Reference7Ideal.defs _ _).mono (fun r h c => ?_) (Cert.Reference7Ideal.Value.run (F := Ideal) m' g')
  obtain ⟨h0, h1, h2, h3, h4⟩ := h c
  obtain ⟨a0, a1, a2, a3, a4⟩ := hagree c
  refine ⟨h0.trans ?_, h1.trans ?_, h2.trans ?_, h3.trans ?_, h4⟩
  · rw [val_main_v14_eq]; simp only [StableHlo.launchContents_devRef, a0, a2]; exact grad (arg m c) _ (hw c) rfl
  · rw [val_main_v38_eq]; simp only [StableHlo.launchContents_devRef, a0, a1, a2, a3, a4]; exact delta (arg m c) _ (hw c) rfl
  · rw [val_main_v19_eq]; simp only [StableHlo.launchContents_devRef, a0, a2, a3]; exact mean (arg m c) _ (hw c) rfl
  · rw [val_main_v25_eq]; simp only [StableHlo.launchContents_devRef, a0, a2, a4]; exact spread (arg m c) _ (hw c) rfl

instance : Cert.Pre_chip_number8.Facts := Cert.Pre_chip_number8.facts

theorem frame_reference8 : Cert.quiescent_Reference8Ideal := fun m g _ =>
  (θ_run Cert.Reference8Ideal.defs _ _).mono (fun r h => And.intro (fun c => (h c).2.2.2.2)
      (Idealize.ShloMosaic.sem_eq_zero_of_no_sems (by decide) r.2))
    (Cert.Reference8Ideal.Value.run (F := Ideal) m g)

open Cert.Kernel8Ideal.Arrays Cert.Reference8Ideal.Read Cert.Reference8Ideal.Entries in
/-- Both programs return the step of the device's quarter. -/
theorem algebraic8 : Cert.algebraic_Kernel8Ideal_Reference8Ideal := by
  intro m g m' g' hpre hagree
  have hw : ∀ c, (word m c).toNat < 4 := fun c => Cert.Pre_chip_number8.lt (hpre c)
  refine ⟨fun c => (arg m c).grad, fun c => (arg m c).delta, fun c => (arg m c).mean, fun c => (arg m c).spread,
    run_values m g (hw 0), ?_⟩
  refine (θ_run Cert.Reference8Ideal.defs _ _).mono (fun r h c => ?_) (Cert.Reference8Ideal.Value.run (F := Ideal) m' g')
  obtain ⟨h0, h1, h2, h3, h4⟩ := h c
  obtain ⟨a0, a1, a2, a3, a4⟩ := hagree c
  refine ⟨h0.trans ?_, h1.trans ?_, h2.trans ?_, h3.trans ?_, h4⟩
  · rw [val_main_v14_eq]; simp only [StableHlo.launchContents_devRef, a0, a2]; exact grad (arg m c) _ (hw c) rfl
  · rw [val_main_v38_eq]; simp only [StableHlo.launchContents_devRef, a0, a1, a2, a3, a4]; exact delta (arg m c) _ (hw c) rfl
  · rw [val_main_v19_eq]; simp only [StableHlo.launchContents_devRef, a0, a2, a3]; exact mean (arg m c) _ (hw c) rfl
  · rw [val_main_v25_eq]; simp only [StableHlo.launchContents_devRef, a0, a2, a4]; exact spread (arg m c) _ (hw c) rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Pre_finite_logits.facts, Cert.Pre_finite_arguments.facts, Cert.Pre_chip_number.facts, Cert.Pre_chip_number8.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g,
    fun m g _ => Cert.Kernel2Ideal.Gen.frame m g, frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g h => Cert.Kernel7.Gen.frame m g (Cert.Kernel7.Arrays.ok m (Cert.Pre_chip_number.lt (h 0))),
    fun m g h => Cert.Kernel7Ideal.Gen.frame m g (Cert.Kernel7Ideal.Arrays.ok m (Cert.Pre_chip_number.lt (h 0))),
    frame_reference7, fun m g _ => frame_reference7 m g trivial,
    fun m g h => Cert.Kernel8.Gen.frame m g (Cert.Kernel8.Arrays.ok m (Cert.Pre_chip_number8.lt (h 0))),
    fun m g h => Cert.Kernel8Ideal.Gen.frame m g (Cert.Kernel8Ideal.Arrays.ok m (Cert.Pre_chip_number8.lt (h 0))),
    frame_reference8, fun m g _ => frame_reference8 m g trivial,
    trivial, algebraic, trivial, algebraic2, trivial, algebraic3, trivial, algebraic4, trivial, algebraic5,
    trivial, algebraic6, trivial, algebraic7, trivial, algebraic8⟩

end Cert.Proof

end
